-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_v157) = v2 c
          ∧ r.2.mem ((c.tc : Thread Cert.ReferenceIdeal.nD Cert.ReferenceIdeal.τ).loc Cert.ReferenceIdeal.main_v132) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)) (v1 : (c : Dev Cert.Kernel2Ideal.nD) → Buf (Elt Ideal) ((c.tc : Thread Cert.Kernel2Ideal.nD Cert.Kernel2Ideal.τ).loc Cert.Kernel2Ideal.main_v5)) (v2 : (c : Dev Cert.Kernel2Ideal.nD) → Buf (Elt Ideal) ((c.tc : Thread Cert.Kernel2Ideal.nD Cert.Kernel2Ideal.τ).loc Cert.Kernel2Ideal.main_v8)) (v3 : (c : Dev Cert.Kernel2Ideal.nD) → Buf (Elt Ideal) ((c.tc : Thread Cert.Kernel2Ideal.nD Cert.Kernel2Ideal.τ).loc Cert.Kernel2Ideal.main_v9)) (v4 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_v5) = v1 c
          ∧ r.2.mem ((c.tc : Thread Cert.Kernel2Ideal.nD Cert.Kernel2Ideal.τ).loc Cert.Kernel2Ideal.main_v8) = v2 c
          ∧ r.2.mem ((c.tc : Thread Cert.Kernel2Ideal.nD Cert.Kernel2Ideal.τ).loc Cert.Kernel2Ideal.main_v9) = v3 c
          ∧ r.2.mem ((c.tc : Thread Cert.Kernel2Ideal.nD Cert.Kernel2Ideal.τ).loc Cert.Kernel2Ideal.main_v11) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_v23) = v3 c
          ∧ r.2.mem ((c.tc : Thread Cert.Reference2Ideal.nD Cert.Reference2Ideal.τ).loc Cert.Reference2Ideal.main_v30) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)) (v1 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_v1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v7)) (v1 : (c : Dev Cert.Kernel5Ideal.nD) → Buf (Elt Ideal) ((c.tc : Thread Cert.Kernel5Ideal.nD Cert.Kernel5Ideal.τ).loc Cert.Kernel5Ideal.main_v9)) (v2 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_v9) = v1 c
          ∧ r.2.mem ((c.tc : Thread Cert.Kernel5Ideal.nD Cert.Kernel5Ideal.τ).loc Cert.Kernel5Ideal.main_v10) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v57) = v1 c
          ∧ r.2.mem ((c.tc : Thread Cert.Reference5Ideal.nD Cert.Reference5Ideal.τ).loc Cert.Reference5Ideal.main_v59) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v0)) (v1 : (c : Dev Cert.Kernel6Ideal.nD) → Buf (Elt Ideal) ((c.tc : Thread Cert.Kernel6Ideal.nD Cert.Kernel6Ideal.τ).loc Cert.Kernel6Ideal.main_v1)) (v2 : (c : Dev Cert.Kernel6Ideal.nD) → Buf (Elt Ideal) ((c.tc : Thread Cert.Kernel6Ideal.nD Cert.Kernel6Ideal.τ).loc Cert.Kernel6Ideal.main_v2)) (v3 : (c : Dev Cert.Kernel6Ideal.nD) → Buf (Elt Ideal) ((c.tc : Thread Cert.Kernel6Ideal.nD Cert.Kernel6Ideal.τ).loc Cert.Kernel6Ideal.main_v3)) (v4 : (c : Dev Cert.Kernel6Ideal.nD) → Buf (Elt Ideal) ((c.tc : Thread Cert.Kernel6Ideal.nD Cert.Kernel6Ideal.τ).loc Cert.Kernel6Ideal.main_v4)) (v5 : (c : Dev Cert.Kernel6Ideal.nD) → Buf (Elt Ideal) ((c.tc : Thread Cert.Kernel6Ideal.nD Cert.Kernel6Ideal.τ).loc Cert.Kernel6Ideal.main_v5)) (v6 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_v1) = v1 c
          ∧ r.2.mem ((c.tc : Thread Cert.Kernel6Ideal.nD Cert.Kernel6Ideal.τ).loc Cert.Kernel6Ideal.main_v2) = v2 c
          ∧ r.2.mem ((c.tc : Thread Cert.Kernel6Ideal.nD Cert.Kernel6Ideal.τ).loc Cert.Kernel6Ideal.main_v3) = v3 c
          ∧ r.2.mem ((c.tc : Thread Cert.Kernel6Ideal.nD Cert.Kernel6Ideal.τ).loc Cert.Kernel6Ideal.main_v4) = v4 c
          ∧ r.2.mem ((c.tc : Thread Cert.Kernel6Ideal.nD Cert.Kernel6Ideal.τ).loc Cert.Kernel6Ideal.main_v5) = v5 c
          ∧ r.2.mem ((c.tc : Thread Cert.Kernel6Ideal.nD Cert.Kernel6Ideal.τ).loc Cert.Kernel6Ideal.main_v7) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v34) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v27) = v2 c
          ∧ r.2.mem ((c.tc : Thread Cert.Reference6Ideal.nD Cert.Reference6Ideal.τ).loc Cert.Reference6Ideal.main_v24) = v3 c
          ∧ r.2.mem ((c.tc : Thread Cert.Reference6Ideal.nD Cert.Reference6Ideal.τ).loc Cert.Reference6Ideal.main_v35) = v4 c
          ∧ r.2.mem ((c.tc : Thread Cert.Reference6Ideal.nD Cert.Reference6Ideal.τ).loc Cert.Reference6Ideal.main_v36) = v5 c
          ∧ r.2.mem ((c.tc : Thread Cert.Reference6Ideal.nD Cert.Reference6Ideal.τ).loc Cert.Reference6Ideal.main_v29) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  IdealRules.named_const.Statement Cert.Kernel7Ideal.κ "mask" .f32 0xF149F2CA#32 ⊥

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v89) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite.lean ====
abbrev S4096x12288 : Shape := ⟨2, ![4096, 12288]⟩
abbrev S8x257 : Shape := ⟨2, ![8, 257]⟩
abbrev S4096x1024 : Shape := ⟨2, ![4096, 1024]⟩
abbrev S4096x2048 : Shape := ⟨2, ![4096, 2048]⟩
abbrev S_ : Shape := ⟨0, ![]⟩

class Facts : Prop where
  slices_S4096x12288_S4096x2048_0_2048 : S4096x12288.Slices ![0, 2048] S4096x2048
  bcast_S_S4096x2048 : S_.BroadcastsInDim S4096x2048 (![] : Fin 0 → Fin S4096x2048.rank)
  bcast_S_S8x257 : S_.BroadcastsInDim S8x257 (![] : Fin 0 → Fin S8x257.rank)

variable [Facts]

def fn {F : FTy → Type} [FloatOps F] (main_arg0 : FVec F S4096x12288 .f32) (main_arg1 : FVec F S8x257 .f32) (main_arg2 : FVec F S4096x1024 .bf16) : IVec S4096x2048 1 × IVec S8x257 1 :=
  let main_v0 : FVec F S4096x2048 .f32 := (extractStridedSlice S4096x2048 ![0, 2048] · slices_S4096x12288_S4096x2048_0_2048) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S8x257 .f32 := Host.absf main_arg1
  let main_cst_0 : FVec F S_ .f32 := constant S_ .f32 0x7F800000#32
  let main_v5 : FVec F S8x257 .f32 := broadcastInDim S8x257 ![] bcast_S_S8x257 main_cst_0
  let main_v6 : IVec S8x257 1 := cmpf .olt main_v4 main_v5
  (main_v3, main_v6)
-- ==== Pre_finite7.lean ====
abbrev S4096x12288 : Shape := ⟨2, ![4096, 12288]⟩
abbrev S8x257 : Shape := ⟨2, ![8, 257]⟩
abbrev S4096x2048 : Shape := ⟨2, ![4096, 2048]⟩
abbrev S_ : Shape := ⟨0, ![]⟩

class Facts : Prop where
  slices_S4096x12288_S4096x2048_0_2048 : S4096x12288.Slices ![0, 2048] S4096x2048
  bcast_S_S4096x2048 : S_.BroadcastsInDim S4096x2048 (![] : Fin 0 → Fin S4096x2048.rank)
  bcast_S_S8x257 : S_.BroadcastsInDim S8x257 (![] : Fin 0 → Fin S8x257.rank)

variable [Facts]

def fn {F : FTy → Type} [FloatOps F] (main_arg0 : FVec F S4096x12288 .f32) (main_arg1 : FVec F S8x257 .f32) : IVec S4096x2048 1 × IVec S8x257 1 :=
  let main_v0 : FVec F S4096x2048 .f32 := (extractStridedSlice S4096x2048 ![0, 2048] · slices_S4096x12288_S4096x2048_0_2048) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S8x257 .f32 := Host.absf main_arg1
  let main_cst_0 : FVec F S_ .f32 := constant S_ .f32 0x7F800000#32
  let main_v5 : FVec F S8x257 .f32 := broadcastInDim S8x257 ![] bcast_S_S8x257 main_cst_0
  let main_v6 : IVec S8x257 1 := cmpf .olt main_v4 main_v5
  (main_v3, main_v6)
-- ==== Kernel.lean ====
abbrev S4096x12288 : Shape := ⟨2, ![4096, 12288]⟩
abbrev S8x257 : Shape := ⟨2, ![8, 257]⟩
abbrev S4096x1024 : Shape := ⟨2, ![4096, 1024]⟩
abbrev S8x1 : Shape := ⟨2, ![8, 1]⟩
abbrev S8x448 : Shape := ⟨2, ![8, 448]⟩
abbrev S8x191 : Shape := ⟨2, ![8, 191]⟩
abbrev S_ : Shape := ⟨0, ![]⟩
abbrev S8x129 : Shape := ⟨2, ![8, 129]⟩
abbrev S8x768 : Shape := ⟨2, ![8, 768]⟩
abbrev S8x1x768 : Shape := ⟨3, ![8, 1, 768]⟩
abbrev S4096x128 : Shape := ⟨2, ![4096, 128]⟩
abbrev S1x1x768 : Shape := ⟨3, ![1, 1, 768]⟩
abbrev S4608x128 : Shape := ⟨2, ![4608, 128]⟩
abbrev S256x768 : Shape := ⟨2, ![256, 768]⟩
abbrev S512x128 : Shape := ⟨2, ![512, 128]⟩
abbrev S1x768 : Shape := ⟨2, ![1, 768]⟩
abbrev S1x256 : Shape := ⟨2, ![1, 256]⟩
abbrev S1x1024 : Shape := ⟨2, ![1, 1024]⟩
abbrev S256x1024 : Shape := ⟨2, ![256, 1024]⟩
abbrev S256x128 : Shape := ⟨2, ![256, 128]⟩
abbrev S768x128 : Shape := ⟨2, ![768, 128]⟩
abbrev S256 : Shape := ⟨1, ![256]⟩
abbrev S256x1 : Shape := ⟨2, ![256, 1]⟩
abbrev S256x256 : Shape := ⟨2, ![256, 256]⟩
abbrev S768 : Shape := ⟨1, ![768]⟩
abbrev S8 : Shape := ⟨1, ![8]⟩

abbrev nBuf : Space → Nat
  | .hbm => 31
  | .vmem => 23
  | .smem => 0
  | _ => 0

abbrev bufTy : (tb : Table) → Fin (tcTables nBuf tb) → BufTy
  | .hbm, ⟨0, _⟩ => ⟨S4096x12288, .f32⟩
  | .hbm, ⟨1, _⟩ => ⟨S8x257, .f32⟩
  | .hbm, ⟨2, _⟩ => ⟨S4096x1024, .bf16⟩
  | .hbm, ⟨3, _⟩ => ⟨S8x1, .f32⟩
  | .hbm, ⟨4, _⟩ => ⟨S8x448, .f32⟩
  | .hbm, ⟨5, _⟩ => ⟨S8x191, .f32⟩
  | .hbm, ⟨6, _⟩ => ⟨S8x191, .f32⟩
  | .hbm, ⟨7, _⟩ => ⟨S_, .f32⟩
  | .hbm, ⟨8, _⟩ => ⟨S8x129, .f32⟩
  | .hbm, ⟨9, _⟩ => ⟨S8x768, .f32⟩
  | .hbm, ⟨10, _⟩ => ⟨S_, .f32⟩
  | .hbm, ⟨11, _⟩ => ⟨S8x129, .f32⟩
  | .hbm, ⟨12, _⟩ => ⟨S8x1x768, .f32⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S8x1x768, .f32⟩
  | .hbm, ⟨17, _⟩ => ⟨S_, .f32⟩
  | .hbm, ⟨18, _⟩ => ⟨S8x768, .f32⟩
  | .hbm, ⟨19, _⟩ => ⟨S8x448, .f32⟩
  | .hbm, ⟨20, _⟩ => ⟨S8x191, .f32⟩
  | .hbm, ⟨21, _⟩ => ⟨S8x129, .f32⟩
  | .hbm, ⟨22, _⟩ => ⟨S8x191, .f32⟩
  | .hbm, ⟨23, _⟩ => ⟨S_, .f32⟩
  | .hbm, ⟨24, _⟩ => ⟨S8x257, .f32⟩
  | .hbm, ⟨25, _⟩ => ⟨S_, .f32⟩
  | .hbm, ⟨26, _⟩ => ⟨S8, .f32⟩
  | .hbm, ⟨27, _⟩ => ⟨S8x1, .f32⟩
  | .hbm, ⟨28, _⟩ => ⟨S_, .f32⟩
  | .hbm, ⟨29, _⟩ => ⟨S8x257, .f32⟩
  | .hbm, ⟨30, _⟩ => ⟨S8x257, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1x768, .f32⟩
  | .local _ .vmem, ⟨7, _⟩ => ⟨S1x1x768, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S1x1x768, .f32⟩
  | .local _ .vmem, ⟨17, _⟩ => ⟨S1x1x768, .f32⟩
  | .local _ .vmem, ⟨18, _⟩ => ⟨S4608x128, .bf16⟩
  | .local _ .vmem, ⟨19, _⟩ => ⟨S4608x128, .bf16⟩
  | .local _ .vmem, ⟨20, _⟩ => ⟨S4608x128, .f32⟩
  | .local _ .vmem, ⟨21, _⟩ => ⟨S4608x128, .f32⟩
  | .local _ .vmem, ⟨22, _⟩ => ⟨S256x768, .f32⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_29 : BitVec 32 := 0#32
  let c16_i32 : BitVec 32 := 16#32
  let v71 : BitVec 32 := Scalar.addi c0_i32_29 c16_i32
  let c1_i32_30 : BitVec 32 := 1#32
  ⟨c0_i32_29, v71, c1_i32_30⟩
def k0_mult1 (k0_t1 : Fin k0_t1_loop.trips) : BitVec 32 :=
  let c0_i32_29 : BitVec 32 := 0#32
  let c1_i32_30 : BitVec 32 := 1#32
  let arg15 : BitVec 32 := Scf.iv c0_i32_29 c1_i32_30 k0_t1
  let c256_i32 : BitVec 32 := 256#32
  let v96 : BitVec 32 := Scalar.muli arg15 c256_i32
  v96
def k0_off1 (k0_t1 : Fin k0_t1_loop.trips) : Fin 2 → Nat :=
  let c0_i32_29 : BitVec 32 := 0#32
  let c1_i32_30 : BitVec 32 := 1#32
  let arg15 : BitVec 32 := Scf.iv c0_i32_29 c1_i32_30 k0_t1
  let c256_i32 : BitVec 32 := 256#32
  let v96 : BitVec 32 := Scalar.muli arg15 c256_i32
  let v97 : BitVec 32 := v96
  let v98 : Index := Scalar.indexCast v97
  let c0_48 : Index := 0#32
  ![v98.toNat, 0]
def k0_off2 (k0_t1 : Fin k0_t1_loop.trips) : Fin 2 → Nat :=
  let c0_i32_29 : BitVec 32 := 0#32
  let c1_i32_30 : BitVec 32 := 1#32
  let arg15 : BitVec 32 := Scf.iv c0_i32_29 c1_i32_30 k0_t1
  let c256_i32 : BitVec 32 := 256#32
  let v96 : BitVec 32 := Scalar.muli arg15 c256_i32
  let v97 : BitVec 32 := v96
  let v101 : Index := Scalar.indexCast v97
  let c0_49 : Index := 0#32
  ![v101.toNat, 0]
def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x12288 : Shape := ⟨2, ![4096, 12288]⟩
abbrev S8x257 : Shape := ⟨2, ![8, 257]⟩
abbrev S4096x1024 : Shape := ⟨2, ![4096, 1024]⟩
abbrev S1x4096x1024 : Shape := ⟨3, ![1, 4096, 1024]⟩
abbrev S1x64x64x8x128 : Shape := ⟨5, ![1, 64, 64, 8, 128]⟩
abbrev S_ : Shape := ⟨0, ![]⟩
abbrev S1x8x64x8x128 : Shape := ⟨5, ![1, 8, 64, 8, 128]⟩
abbrev S1x72x64x8x128 : Shape := ⟨5, ![1, 72, 64, 8, 128]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S1x64x9x64x8x128 : Shape := ⟨6, ![1, 64, 9, 64, 8, 128]⟩
abbrev S1x64x576x8x128 : Shape := ⟨5, ![1, 64, 576, 8, 128]⟩
abbrev S1x64x8x64x576 : Shape := ⟨5, ![1, 64, 8, 64, 576]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x64x1x1x576 : Shape := ⟨5, ![1, 64, 1, 1, 576]⟩
abbrev S1x1x8x64x576 : Shape := ⟨5, ![1, 1, 8, 64, 576]⟩
abbrev S1x64x8x64 : Shape := ⟨4, ![1, 64, 8, 64]⟩
abbrev S1x64x8x64x1 : Shape := ⟨5, ![1, 64, 8, 64, 1]⟩
abbrev S1x64x8x128x64 : Shape := ⟨5, ![1, 64, 8, 128, 64]⟩
abbrev S1x64x8x128x576 : Shape := ⟨5, ![1, 64, 8, 128, 576]⟩
abbrev S64x8x64 : Shape := ⟨3, ![64, 8, 64]⟩
abbrev S1x8x64x576 : Shape := ⟨4, ![1, 8, 64, 576]⟩
abbrev S1x64x8x576x128 : Shape := ⟨5, ![1, 64, 8, 576, 128]⟩
abbrev S1x64x8x64x128 : Shape := ⟨5, ![1, 64, 8, 64, 128]⟩

abbrev nBuf : Space → Nat
  | .hbm => 209
  | .vmem => 0
  | .smem => 0
  | _ => 0

abbrev hbmTy0_0 (i : Nat) : BufTy := match i % 128 with
  | 0 => ⟨S4096x12288, .f32⟩
  | 1 => ⟨S8x257, .f32⟩
  | 2 => ⟨S4096x1024, .bf16⟩
  | 3 => ⟨S4096x1024, .f32⟩
  | 4 => ⟨S1x4096x1024, .f32⟩
  | 5 => ⟨S4096x1024, .f32⟩
  | 6 => ⟨S1x4096x1024, .f32⟩
  | 7 => ⟨S4096x1024, .f32⟩
  | 8 => ⟨S1x4096x1024, .f32⟩
  | 9 => ⟨S1x64x64x8x128, .f32⟩
  | 10 => ⟨S_, .f32⟩
  | 11 => ⟨S1x8x64x8x128, .f32⟩
  | 12 => ⟨S1x64x64x8x128, .f32⟩
  | 13 => ⟨S1x72x64x8x128, .f32⟩
  | 14 => ⟨S_, .f32⟩
  | 15 => ⟨S1x8x64x8x128, .f32⟩
  | 16 => ⟨S1x64x64x8x128, .f32⟩
  | 17 => ⟨S1x72x64x8x128, .f32⟩
  | 18 => ⟨S_, .f32⟩
  | 19 => ⟨S1x8x64x8x128, .f32⟩
  | 20 => ⟨S64, .i32⟩
  | 21 => ⟨S64x1, .i32⟩
  | 22 => ⟨S9, .i32⟩
  | 23 => ⟨S1x9, .i32⟩
  | 24 => ⟨S64x9, .i32⟩
  | 25 => ⟨S64x9, .i32⟩
  | 26 => ⟨S64x9, .i32⟩
  | 27 => ⟨S_, .i32⟩
  | 28 => ⟨S64x9, .i32⟩
  | 29 => ⟨S64x9, .i1⟩
  | 30 => ⟨S_, .i32⟩
  | 31 => ⟨S64x9, .i32⟩
  | 32 => ⟨S64x9, .i32⟩
  | 33 => ⟨S64x9, .i32⟩
  | 34 => ⟨S64x9x1, .i32⟩
  | 35 => ⟨S1x64x9x64x8x128, .f32⟩
  | 36 => ⟨S1x64x576x8x128, .f32⟩
  | 37 => ⟨S_, .i32⟩
  | 38 => ⟨S64x9, .i32⟩
  | 39 => ⟨S64x9, .i1⟩
  | 40 => ⟨S_, .i32⟩
  | 41 => ⟨S64x9, .i32⟩
  | 42 => ⟨S64x9, .i32⟩
  | 43 => ⟨S64x9, .i32⟩
  | 44 => ⟨S64x9x1, .i32⟩
  | 45 => ⟨S1x64x9x64x8x128, .f32⟩
  | 46 => ⟨S1x64x576x8x128, .f32⟩
  | 47 => ⟨S1x64x8x64x576, .f32⟩
  | 48 => ⟨S_, .f32⟩
  | 49 => ⟨S1x64x8x64x576, .f32⟩
  | 50 => ⟨S1x64x8x64x576, .f32⟩
  | 51 => ⟨S64, .i32⟩
  | 52 => ⟨S_, .i32⟩
  | 53 => ⟨S64, .i32⟩
  | 54 => ⟨S64, .i32⟩
  | 55 => ⟨S576, .i32⟩
  | 56 => ⟨S64x1, .i32⟩
  | 57 => ⟨S1x576, .i32⟩
  | 58 => ⟨S64x576, .i32⟩
  | 59 => ⟨S64x576, .i32⟩
  | 60 => ⟨S64x576, .i32⟩
  | 61 => ⟨S_, .i32⟩
  | 62 => ⟨S_, .i32⟩
  | 63 => ⟨S_, .i32⟩
  | 64 => ⟨S64x576, .i32⟩
  | 65 => ⟨S64x576, .i32⟩
  | 66 => ⟨S_, .i32⟩
  | 67 => ⟨S64x576, .i32⟩
  | 68 => ⟨S64x576, .i32⟩
  | 69 => ⟨S_, .i32⟩
  | 70 => ⟨S64x576, .i32⟩
  | 71 => ⟨S64x576, .i32⟩
  | 72 => ⟨S_, .i32⟩
  | 73 => ⟨S64x576, .i32⟩
  | 74 => ⟨S64x576, .i1⟩
  | 75 => ⟨S_, .i32⟩
  | 76 => ⟨S64x576, .i32⟩
  | 77 => ⟨S64x576, .i32⟩
  | 78 => ⟨S64x576, .i32⟩
  | 79 => ⟨S64x576x1, .i32⟩
  | 80 => ⟨S8x64x576, .f32⟩
  | 81 => ⟨S64, .i32⟩
  | 82 => ⟨S64x1, .i32⟩
  | 83 => ⟨S_, .i32⟩
  | 84 => ⟨S64x1, .i32⟩
  | 85 => ⟨S64x1, .i32⟩
  | 86 => ⟨S_, .i32⟩
  | 87 => ⟨S64x1, .i32⟩
  | 88 => ⟨S64x1, .i32⟩
  | 89 => ⟨S1x576, .i32⟩
  | 90 => ⟨S64x576, .i32⟩
  | 91 => ⟨S64x576, .i32⟩
  | 92 => ⟨S64x576, .i32⟩
  | 93 => ⟨S_, .i32⟩
  | 94 => ⟨S64x576, .i32⟩
  | 95 => ⟨S64x576, .i1⟩
  | 96 => ⟨S1x64x1x1x576, .i1⟩
  | 97 => ⟨S1x1x8x64x576, .f32⟩
  | 98 => ⟨S1x64x8x64x576, .f32⟩
  | 99 => ⟨S1x64x8x64x576, .f32⟩
  | 100 => ⟨S_, .f32⟩
  | 101 => ⟨S_, .f32⟩
  | 102 => ⟨S1x64x8x64x576, .i1⟩
  | 103 => ⟨S1x64x8x64x576, .f32⟩
  | 104 => ⟨S1x64x8x64x576, .f32⟩
  | 105 => ⟨S_, .f32⟩
  | 106 => ⟨S1x64x8x64x576, .f32⟩
  | 107 => ⟨S_, .f32⟩
  | 108 => ⟨S1x64x8x64, .f32⟩
  | 109 => ⟨S1x64x8x64x1, .f32⟩
  | 110 => ⟨S1x64x8x64x576, .f32⟩
  | 111 => ⟨S1x64x8x64x576, .i1⟩
  | 112 => ⟨S1x64x8x64x576, .f32⟩
  | 113 => ⟨S_, .f32⟩
  | 114 => ⟨S1x64x8x64, .f32⟩
  | 115 => ⟨S_, .f32⟩
  | 116 => ⟨S1x64x8x64, .f32⟩
  | 117 => ⟨S1x64x8x64, .f32⟩
  | 118 => ⟨S_, .f32⟩
  | 119 => ⟨S1x64x8x64, .f32⟩
  | 120 => ⟨S1x64x8x64, .i1⟩
  | 121 => ⟨S_, .f32⟩
  | 122 => ⟨S1x64x8x64, .f32⟩
  | 123 => ⟨S1x64x8x64, .i1⟩
  | 124 => ⟨S_, .f32⟩
  | 125 => ⟨S1x64x8x64, .f32⟩
  | 126 => ⟨S_, .f32⟩
  | 127 => ⟨S1x64x8x64, .f32⟩
  | _ => ⟨S4096x12288, .f32⟩

abbrev hbmTy0_1 (i : Nat) : BufTy := match i % 128 with
  | 0 => ⟨S_, .f32⟩
  | 1 => ⟨S1x64x8x64, .f32⟩
  | 2 => ⟨S1x64x8x64, .f32⟩
  | 3 => ⟨S1x64x8x64, .f32⟩
  | 4 => ⟨S1x64x8x64x1, .f32⟩
  | 5 => ⟨S1x64x8x64x576, .f32⟩
  | 6 => ⟨S1x64x8x64x576, .f32⟩
  | 7 => ⟨S1x64x8x64x576, .f32⟩
  | 8 => ⟨S_, .f32⟩
  | 9 => ⟨S1x64x8x64, .f32⟩
  | 10 => ⟨S1x64x8x64x1, .f32⟩
  | 11 => ⟨S1x64x8x64x576, .f32⟩
  | 12 => ⟨S1x64x8x64x576, .f32⟩
  | 13 => ⟨S1x64x8x64x1, .f32⟩
  | 14 => ⟨S_, .f32⟩
  | 15 => ⟨S1x64x8x64x1, .f32⟩
  | 16 => ⟨S1x64x8x64x1, .f32⟩
  | 17 => ⟨S1x64x8x128x64, .f32⟩
  | 18 => ⟨S1x64x64x8x128, .f32⟩
  | 19 => ⟨S1x4096x1024, .f32⟩
  | 20 => ⟨S1x4096x1024, .bf16⟩
  | 21 => ⟨S1x4096x1024, .f32⟩
  | 22 => ⟨S1x64x64x8x128, .f32⟩
  | 23 => ⟨S1x64x8x128x64, .f32⟩
  | 24 => ⟨S1x64x8x64x576, .f32⟩
  | 25 => ⟨S1x64x8x128x576, .f32⟩
  | 26 => ⟨S1x64x576x8x128, .f32⟩
  | 27 => ⟨S1x64x8x64x576, .f32⟩
  | 28 => ⟨S1x64x8x64x576, .f32⟩
  | 29 => ⟨S1x64x8x64x576, .f32⟩
  | 30 => ⟨S_, .f32⟩
  | 31 => ⟨S1x64x8x64, .f32⟩
  | 32 => ⟨S1x64x8x64x1, .f32⟩
  | 33 => ⟨S1x64x8x64x1, .f32⟩
  | 34 => ⟨S1x64x8x64x576, .f32⟩
  | 35 => ⟨S1x64x8x64x576, .f32⟩
  | 36 => ⟨S_, .f32⟩
  | 37 => ⟨S64x8x64, .f32⟩
  | 38 => ⟨S1x64x8x64, .f32⟩
  | 39 => ⟨S1x64x8x64x576, .f32⟩
  | 40 => ⟨S1x64x8x64x576, .f32⟩
  | 41 => ⟨S1x64x8x64x576, .f32⟩
  | 42 => ⟨S_, .f32⟩
  | 43 => ⟨S1x64x8x64x576, .f32⟩
  | 44 => ⟨S1x64x8x64x576, .f32⟩
  | 45 => ⟨S_, .f32⟩
  | 46 => ⟨S1x8x64x576, .f32⟩
  | 47 => ⟨S1x1x8x64x576, .f32⟩
  | 48 => ⟨S_, .f32⟩
  | 49 => ⟨S8x64x576, .f32⟩
  | 50 => ⟨S_, .f32⟩
  | 51 => ⟨S8x257, .f32⟩
  | 52 => ⟨S8x257, .f32⟩
  | 53 => ⟨S_, .f32⟩
  | 54 => ⟨S1x64x8x64x576, .f32⟩
  | 55 => ⟨S1x64x8x64x576, .f32⟩
  | 56 => ⟨S1x64x8x576x128, .f32⟩
  | 57 => ⟨S1x64x576x8x128, .f32⟩
  | 58 => ⟨S1x64x8x64x128, .f32⟩
  | 59 => ⟨S1x64x64x8x128, .f32⟩
  | 60 => ⟨S1x64x9x64x8x128, .f32⟩
  | 61 => ⟨S_, .f32⟩
  | 62 => ⟨S1x72x64x8x128, .f32⟩
  | 63 => ⟨S1x72x64x8x128, .f32⟩
  | 64 => ⟨S1x64x9x64x8x128, .f32⟩
  | 65 => ⟨S_, .f32⟩
  | 66 => ⟨S1x72x64x8x128, .f32⟩
  | 67 => ⟨S1x72x64x8x128, .f32⟩
  | 68 => ⟨S1x8x64x8x128, .f32⟩
  | 69 => ⟨S1x64x64x8x128, .f32⟩
  | 70 => ⟨S1x4096x1024, .f32⟩
  | 71 => ⟨S1x8x64x8x128, .f32⟩
  | 72 => ⟨S1x64x64x8x128, .f32⟩
  | 73 => ⟨S1x4096x1024, .f32⟩
  | 74 => ⟨S1x4096x1024, .f32⟩
  | 75 => ⟨S4096x1024, .f32⟩
  | 76 => ⟨S4096x1024, .bf16⟩
  | 77 => ⟨S4096x1024, .f32⟩
  | 78 => ⟨S4096x1024, .bf16⟩
  | 79 => ⟨S4096x1024, .f32⟩
  | 80 => ⟨S4096x1024, .bf16⟩
  | _ => ⟨S4096x12288, .f32⟩

abbrev hbmTy (i : Nat) : BufTy := match i / 128 with
  | 0 => hbmTy0_0 i
  | 1 => hbmTy0_1 i
  | _ => ⟨S4096x12288, .f32⟩

abbrev bufTy : (tb : Table) → Fin (tcTables nBuf tb) → BufTy
  | .hbm, ⟨i, _⟩ => hbmTy i
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_3 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_7 : Ref sig .tc := ⟨.hbm, 61, rfl⟩
abbrev main_c_8 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_call1_v0 : Ref sig .tc := ⟨.hbm, 101, rfl⟩
abbrev main_v75_1 : Ref sig .tc := ⟨.hbm, 102, rfl⟩
abbrev main_call1_v2 : Ref sig .tc := ⟨.hbm, 103, rfl⟩
abbrev main_v75_0 : Ref sig .tc := ⟨.hbm, 104, rfl⟩
abbrev main_call1_cst : Ref sig .tc := ⟨.hbm, 105, rfl⟩
abbrev main_v75_2 : Ref sig .tc := ⟨.hbm, 106, rfl⟩
abbrev main_cst_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_17 : Ref sig .tc := ⟨.hbm, 113, rfl⟩
abbrev main_v81 : Ref sig .tc := ⟨.hbm, 114, rfl⟩
abbrev main_cst_18 : Ref sig .tc := ⟨.hbm, 115, rfl⟩
abbrev main_v82 : Ref sig .tc := ⟨.hbm, 116, rfl⟩
abbrev main_v83 : Ref sig .tc := ⟨.hbm, 117, rfl⟩
abbrev main_cst_19 : Ref sig .tc := ⟨.hbm, 118, rfl⟩
abbrev main_v84 : Ref sig .tc := ⟨.hbm, 119, rfl⟩
abbrev main_v85 : Ref sig .tc := ⟨.hbm, 120, rfl⟩
abbrev main_cst_20 : Ref sig .tc := ⟨.hbm, 121, rfl⟩
abbrev main_v86 : Ref sig .tc := ⟨.hbm, 122, rfl⟩
abbrev main_v87 : Ref sig .tc := ⟨.hbm, 123, rfl⟩
abbrev main_cst_21 : Ref sig .tc := ⟨.hbm, 124, rfl⟩
abbrev main_v88 : Ref sig .tc := ⟨.hbm, 125, rfl⟩
abbrev main_cst_22 : Ref sig .tc := ⟨.hbm, 126, rfl⟩
abbrev main_v89 : Ref sig .tc := ⟨.hbm, 127, rfl⟩
abbrev main_cst_23 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_24 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_25 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_26 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_27 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_call2_cst : Ref sig .tc := ⟨.hbm, 170, rfl⟩
abbrev main_call2_v0 : Ref sig .tc := ⟨.hbm, 171, rfl⟩
abbrev main_v127 : Ref sig .tc := ⟨.hbm, 172, rfl⟩
abbrev main_cst_28 : Ref sig .tc := ⟨.hbm, 173, rfl⟩
abbrev main_v128 : Ref sig .tc := ⟨.hbm, 174, rfl⟩
abbrev main_v129 : Ref sig .tc := ⟨.hbm, 175, rfl⟩
abbrev main_cst_29 : Ref sig .tc := ⟨.hbm, 176, rfl⟩
abbrev main_v130 : Ref sig .tc := ⟨.hbm, 177, rfl⟩
abbrev main_cst_30 : Ref sig .tc := ⟨.hbm, 178, rfl⟩
abbrev main_v131 : Ref sig .tc := ⟨.hbm, 179, rfl⟩
abbrev main_v132 : Ref sig .tc := ⟨.hbm, 180, rfl⟩
abbrev main_cst_31 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_32 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_cst_33 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩

abbrev nD : Nat := 1
abbrev τ : Topo := Topo.v7x

variable {F : FTy → Type} [FloatOps F]
-- ==== Kernel2.lean ====
abbrev S4096x2048 : Shape := ⟨2, ![4096, 2048]⟩
abbrev S4x2048x5632 : Shape := ⟨3, ![4, 2048, 5632]⟩
abbrev S4x5632x2048 : Shape := ⟨3, ![4, 5632, 2048]⟩
abbrev S4096x5632 : Shape := ⟨2, ![4096, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩
abbrev S256x5632 : Shape := ⟨2, ![256, 5632]⟩
abbrev S16x256 : Shape := ⟨2, ![16, 256]⟩
abbrev S512x5632 : Shape := ⟨2, ![512, 5632]⟩
abbrev S1x5632x1024 : Shape := ⟨3, ![1, 5632, 1024]⟩
abbrev S512x1024 : Shape := ⟨2, ![512, 1024]⟩
abbrev S5632x1024 : Shape := ⟨2, ![5632, 1024]⟩
abbrev S5632x2048 : Shape := ⟨2, ![5632, 2048]⟩
abbrev S4096x512 : Shape := ⟨2, ![4096, 512]⟩
abbrev S4096x1024 : Shape := ⟨2, ![4096, 1024]⟩
abbrev S1x1408x2048 : Shape := ⟨3, ![1, 1408, 2048]⟩
abbrev S1408x2048 : Shape := ⟨2, ![1408, 2048]⟩
abbrev S128x5632 : Shape := ⟨2, ![128, 5632]⟩
abbrev S2048x5632 : Shape := ⟨2, ![2048, 5632]⟩
abbrev S4096x1408 : Shape := ⟨2, ![4096, 1408]⟩
abbrev S512x1408 : Shape := ⟨2, ![512, 1408]⟩
abbrev S1x1024x5632 : Shape := ⟨3, ![1, 1024, 5632]⟩
abbrev S1024x5632 : Shape := ⟨2, ![1024, 5632]⟩

abbrev nBuf : Space → Nat
  | .hbm => 19
  | .vmem => 74
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4x2048x5632, .bf16⟩
  | .hbm, ⟨3, _⟩ => ⟨S4x2048x5632, .bf16⟩
  | .hbm, ⟨4, _⟩ => ⟨S4x5632x2048, .bf16⟩
  | .hbm, ⟨5, _⟩ => ⟨S4096x2048, .f32⟩
  | .hbm, ⟨6, _⟩ => ⟨S4096x5632, .bf16⟩
  | .hbm, ⟨7, _⟩ => ⟨S4096x5632, .bf16⟩
  | .hbm, ⟨8, _⟩ => ⟨S4096x5632, .bf16⟩
  | .hbm, ⟨9, _⟩ => ⟨S4096x2048, .f32⟩
  | .hbm, ⟨10, _⟩ => ⟨S4096x2048, .bf16⟩
  | .hbm, ⟨11, _⟩ => ⟨S5632x2048, .f32⟩
  | .hbm, ⟨12, _⟩ => ⟨S4096x5632, .bf16⟩
  | .hbm, ⟨13, _⟩ => ⟨S4096x5632, .bf16⟩
  | .hbm, ⟨14, _⟩ => ⟨S4096x5632, .bf16⟩
  | .hbm, ⟨15, _⟩ => ⟨S2048x5632, .f32⟩
  | .hbm, ⟨16, _⟩ => ⟨S2048x5632, .f32⟩
  | .hbm, ⟨17, _⟩ => ⟨S4096x2048, .f32⟩
  | .hbm, ⟨18, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048x1408, .bf16⟩
  | .local _ .vmem, ⟨9, _⟩ => ⟨S1x2048x1408, .bf16⟩
  | .local _ .vmem, ⟨10, _⟩ => ⟨S1024x1408, .bf16⟩
  | .local _ .vmem, ⟨11, _⟩ => ⟨S1024x1408, .bf16⟩
  | .local _ .vmem, ⟨12, _⟩ => ⟨S256x5632, .bf16⟩
  | .local _ .vmem, ⟨13, _⟩ => ⟨S256x5632, .bf16⟩
  | .local _ .vmem, ⟨14, _⟩ => ⟨S256x5632, .bf16⟩
  | .local _ .vmem, ⟨15, _⟩ => ⟨S256x5632, .bf16⟩
  | .local _ .vmem, ⟨16, _⟩ => ⟨S256x5632, .bf16⟩
  | .local _ .vmem, ⟨17, _⟩ => ⟨S256x5632, .bf16⟩
  | .local _ .vmem, ⟨18, _⟩ => ⟨S512x5632, .bf16⟩
  | .local _ .vmem, ⟨19, _⟩ => ⟨S512x5632, .bf16⟩
  | .local _ .vmem, ⟨20, _⟩ => ⟨S1x5632x1024, .bf16⟩
  | .local _ .vmem, ⟨21, _⟩ => ⟨S1x5632x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S4096x512, .bf16⟩
  | .local _ .vmem, ⟨27, _⟩ => ⟨S4096x512, .bf16⟩
  | .local _ .vmem, ⟨28, _⟩ => ⟨S4096x1024, .bf16⟩
  | .local _ .vmem, ⟨29, _⟩ => ⟨S4096x1024, .bf16⟩
  | .local _ .vmem, ⟨30, _⟩ => ⟨S512x1024, .f32⟩
  | .local _ .vmem, ⟨31, _⟩ => ⟨S512x1024, .f32⟩
  | .local _ .vmem, ⟨32, _⟩ => ⟨S1024x2048, .bf16⟩
  | .local _ .vmem, ⟨33, _⟩ => ⟨S1024x2048, .bf16⟩
  | .local _ .vmem, ⟨34, _⟩ => ⟨S1x1408x2048, .bf16⟩
  | .local _ .vmem, ⟨35, _⟩ => ⟨S1x1408x2048, .bf16⟩
  | .local _ .vmem, ⟨36, _⟩ => ⟨S1024x1408, .bf16⟩
  | .local _ .vmem, ⟨37, _⟩ => ⟨S1024x1408, .bf16⟩
  | .local _ .vmem, ⟨38, _⟩ => ⟨S128x5632, .bf16⟩
  | .local _ .vmem, ⟨39, _⟩ => ⟨S128x5632, .bf16⟩
  | .local _ .vmem, ⟨40, _⟩ => ⟨S128x5632, .bf16⟩
  | .local _ .vmem, ⟨41, _⟩ => ⟨S128x5632, .bf16⟩
  | .local _ .vmem, ⟨42, _⟩ => ⟨S128x5632, .bf16⟩
  | .local _ .vmem, ⟨43, _⟩ => ⟨S128x5632, .bf16⟩
  | .local _ .vmem, ⟨44, _⟩ => ⟨S128x5632, .bf16⟩
  | .local _ .vmem, ⟨45, _⟩ => ⟨S128x5632, .bf16⟩
  | .local _ .vmem, ⟨46, _⟩ => ⟨S128x5632, .bf16⟩
  | .local _ .vmem, ⟨47, _⟩ => ⟨S128x5632, .bf16⟩
  | .local _ .vmem, ⟨48, _⟩ => ⟨S4096x512, .bf16⟩
  | .local _ .vmem, ⟨49, _⟩ => ⟨S4096x512, .bf16⟩
  | .local _ .vmem, ⟨50, _⟩ => ⟨S4096x1408, .bf16⟩
  | .local _ .vmem, ⟨51, _⟩ => ⟨S4096x1408, .bf16⟩
  | .local _ .vmem, ⟨52, _⟩ => ⟨S512x1408, .f32⟩
  | .local _ .vmem, ⟨53, _⟩ => ⟨S512x1408, .f32⟩
  | .local _ .vmem, ⟨54, _⟩ => ⟨S4096x512, .bf16⟩
  | .local _ .vmem, ⟨55, _⟩ => ⟨S4096x512, .bf16⟩
  | .local _ .vmem, ⟨56, _⟩ => ⟨S4096x1408, .bf16⟩
  | .local _ .vmem, ⟨57, _⟩ => ⟨S4096x1408, .bf16⟩
  | .local _ .vmem, ⟨58, _⟩ => ⟨S512x1408, .f32⟩
  | .local _ .vmem, ⟨59, _⟩ => ⟨S512x1408, .f32⟩
  | .local _ .vmem, ⟨60, _⟩ => ⟨S512x5632, .bf16⟩
  | .local _ .vmem, ⟨61, _⟩ => ⟨S512x5632, .bf16⟩
  | .local _ .vmem, ⟨62, _⟩ => ⟨S1x1024x5632, .bf16⟩
  | .local _ .vmem, ⟨63, _⟩ => ⟨S1x1024x5632, .bf16⟩
  | .local _ .vmem, ⟨64, _⟩ => ⟨S512x1024, .f32⟩
  | .local _ .vmem, ⟨65, _⟩ => ⟨S512x1024, .f32⟩
  | .local _ .vmem, ⟨66, _⟩ => ⟨S512x5632, .bf16⟩
  | .local _ .vmem, ⟨67, _⟩ => ⟨S512x5632, .bf16⟩
  | .local _ .vmem, ⟨68, _⟩ => ⟨S1x1024x5632, .bf16⟩
  | .local _ .vmem, ⟨69, _⟩ => ⟨S1x1024x5632, .bf16⟩
  | .local _ .vmem, ⟨70, _⟩ => ⟨S512x1024, .f32⟩
  | .local _ .vmem, ⟨71, _⟩ => ⟨S512x1024, .f32⟩
  | .local _ .vmem, ⟨72, _⟩ => ⟨S512x1024, .bf16⟩
  | .local _ .vmem, ⟨73, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg3_1 : Ref sig .tc := ⟨.vmem, 45, rfl⟩
abbrev cc6_stg4_0 : Ref sig .tc := ⟨.vmem, 46, rfl⟩
abbrev cc6_stg4_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg2_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg1_1 : Ref sig .tc := ⟨.vmem, 57, rfl⟩
abbrev cc8_stg2_0 : Ref sig .tc := ⟨.vmem, 58, rfl⟩
abbrev cc8_stg2_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg1_1 : Ref sig .tc := ⟨.vmem, 63, rfl⟩
abbrev cc9_stg2_0 : Ref sig .tc := ⟨.vmem, 64, rfl⟩
abbrev cc9_stg2_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg1_1 : Ref sig .tc := ⟨.vmem, 69, rfl⟩
abbrev cc10_stg2_0 : Ref sig .tc := ⟨.vmem, 70, rfl⟩
abbrev cc10_stg2_1 : Ref sig .tc := ⟨.vmem, 71, rfl⟩
abbrev cc10_stg3_0 : Ref sig .tc := ⟨.vmem, 72, rfl⟩
abbrev cc10_stg3_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem3_1 : DmaSem sig := 45
abbrev cc6_sem4_0 : DmaSem sig := 46
abbrev cc6_sem4_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53
abbrev cc8_sem0_0 : DmaSem sig := 54
abbrev cc8_sem0_1 : DmaSem sig := 55
abbrev cc8_sem1_0 : DmaSem sig := 56
abbrev cc8_sem1_1 : DmaSem sig := 57
abbrev cc8_sem2_0 : DmaSem sig := 58
abbrev cc8_sem2_1 : DmaSem sig := 59
abbrev cc9_sem0_0 : DmaSem sig := 60
abbrev cc9_sem0_1 : DmaSem sig := 61
abbrev cc9_sem1_0 : DmaSem sig := 62
abbrev cc9_sem1_1 : DmaSem sig := 63
abbrev cc9_sem2_0 : DmaSem sig := 64
abbrev cc9_sem2_1 : DmaSem sig := 65
abbrev cc10_sem0_0 : DmaSem sig := 66
abbrev cc10_sem0_1 : DmaSem sig := 67
abbrev cc10_sem1_0 : DmaSem sig := 68
abbrev cc10_sem1_1 : DmaSem sig := 69
abbrev cc10_sem2_0 : DmaSem sig := 70
abbrev cc10_sem2_1 : DmaSem sig := 71
abbrev cc10_sem3_0 : DmaSem sig := 72
abbrev cc10_sem3_1 : DmaSem sig := 73

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c3_i32 : BitVec 32 := 3#32
  let c0_i32_1 : BitVec 32 := 0#32
  ![c3_i32.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c3_i32 : BitVec 32 := 3#32
  let c0_i32_1 : BitVec 32 := 0#32
  ![c3_i32.toNat, v0.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x2048x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![16], ![false]⟩

@[reducible] def k2_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k2_mult1 (k2_t1 : Fin k2_t1_loop.trips) : BitVec 32 :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  v1
def k2_off1 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v3 : Index := Scalar.indexCast v2
  let c0 : Index := 0#32
  ![v3.toNat, 0]
def k2_off2 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v17 : Index := Scalar.indexCast v2
  let c256 : Index := 256#32
  ![v17.toNat, 256]
def k2_off3 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v31 : Index := Scalar.indexCast v2
  let c512 : Index := 512#32
  ![v31.toNat, 512]
def k2_off4 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v45 : Index := Scalar.indexCast v2
  let c768 : Index := 768#32
  ![v45.toNat, 768]
def k2_off5 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v59 : Index := Scalar.indexCast v2
  let c1024 : Index := 1024#32
  ![v59.toNat, 1024]
def k2_off6 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v73 : Index := Scalar.indexCast v2
  let c1280 : Index := 1280#32
  ![v73.toNat, 1280]
def k2_off7 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v87 : Index := Scalar.indexCast v2
  let c1536 : Index := 1536#32
  ![v87.toNat, 1536]
def k2_off8 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v101 : Index := Scalar.indexCast v2
  let c1792 : Index := 1792#32
  ![v101.toNat, 1792]
def k2_off9 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v115 : Index := Scalar.indexCast v2
  let c2048 : Index := 2048#32
  ![v115.toNat, 2048]
def k2_off10 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v129 : Index := Scalar.indexCast v2
  let c2304 : Index := 2304#32
  ![v129.toNat, 2304]
def k2_off11 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v143 : Index := Scalar.indexCast v2
  let c2560 : Index := 2560#32
  ![v143.toNat, 2560]
def k2_off12 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v157 : Index := Scalar.indexCast v2
  let c2816 : Index := 2816#32
  ![v157.toNat, 2816]
def k2_off13 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v171 : Index := Scalar.indexCast v2
  let c3072 : Index := 3072#32
  ![v171.toNat, 3072]
def k2_off14 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v185 : Index := Scalar.indexCast v2
  let c3328 : Index := 3328#32
  ![v185.toNat, 3328]
def k2_off15 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v199 : Index := Scalar.indexCast v2
  let c3584 : Index := 3584#32
  ![v199.toNat, 3584]
def k2_off16 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v213 : Index := Scalar.indexCast v2
  let c3840 : Index := 3840#32
  ![v213.toNat, 3840]
def k2_off17 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v227 : Index := Scalar.indexCast v2
  let c4096 : Index := 4096#32
  ![v227.toNat, 4096]
def k2_off18 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v241 : Index := Scalar.indexCast v2
  let c4352 : Index := 4352#32
  ![v241.toNat, 4352]
def k2_off19 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v255 : Index := Scalar.indexCast v2
  let c4608 : Index := 4608#32
  ![v255.toNat, 4608]
def k2_off20 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v269 : Index := Scalar.indexCast v2
  let c4864 : Index := 4864#32
  ![v269.toNat, 4864]
def k2_off21 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v283 : Index := Scalar.indexCast v2
  let c5120 : Index := 5120#32
  ![v283.toNat, 5120]
def k2_off22 (k2_t1 : Fin k2_t1_loop.trips) : Fin 2 → Nat :=
  let c0_i32 : BitVec 32 := 0#32
  let c1_i32 : BitVec 32 := 1#32
  let arg4 : BitVec 32 := Scf.iv c0_i32 c1_i32 k2_t1
  let c16_i32_1 : BitVec 32 := 16#32
  let v1 : BitVec 32 := Scalar.muli arg4 c16_i32_1
  let v2 : BitVec 32 := v1
  let v297 : Index := Scalar.indexCast v2
  let c5376 : Index := 5376#32
  ![v297.toNat, 5376]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x5632 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x5632 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![8, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c3_i32 : BitVec 32 := 3#32
  let c0_i32_1 : BitVec 32 := 0#32
  ![c3_i32.toNat, v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x5632 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x5632x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![11, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c3_i32 : BitVec 32 := 3#32
  let c0_i32_1 : BitVec 32 := 0#32
  ![c3_i32.toNat, v0.toNat, v1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x1408x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![32], ![false]⟩

@[reducible] def k6_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k6_mult1 (k6_t1 : Fin k6_t1_loop.trips) : BitVec 32 :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  v1
def k6_off1 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v3 : Index := Scalar.indexCast v2
  let c0 : Index := 0#32
  ![v3.toNat, 0]
def k6_off2 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v32 : Index := Scalar.indexCast v2
  let c256 : Index := 256#32
  ![v32.toNat, 256]
def k6_off3 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v61 : Index := Scalar.indexCast v2
  let c512 : Index := 512#32
  ![v61.toNat, 512]
def k6_off4 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v90 : Index := Scalar.indexCast v2
  let c768 : Index := 768#32
  ![v90.toNat, 768]
def k6_off5 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v119 : Index := Scalar.indexCast v2
  let c1024 : Index := 1024#32
  ![v119.toNat, 1024]
def k6_off6 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v148 : Index := Scalar.indexCast v2
  let c1280 : Index := 1280#32
  ![v148.toNat, 1280]
def k6_off7 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v177 : Index := Scalar.indexCast v2
  let c1536 : Index := 1536#32
  ![v177.toNat, 1536]
def k6_off8 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v206 : Index := Scalar.indexCast v2
  let c1792 : Index := 1792#32
  ![v206.toNat, 1792]
def k6_off9 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v235 : Index := Scalar.indexCast v2
  let c2048 : Index := 2048#32
  ![v235.toNat, 2048]
def k6_off10 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v264 : Index := Scalar.indexCast v2
  let c2304 : Index := 2304#32
  ![v264.toNat, 2304]
def k6_off11 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v293 : Index := Scalar.indexCast v2
  let c2560 : Index := 2560#32
  ![v293.toNat, 2560]
def k6_off12 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v322 : Index := Scalar.indexCast v2
  let c2816 : Index := 2816#32
  ![v322.toNat, 2816]
def k6_off13 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v351 : Index := Scalar.indexCast v2
  let c3072 : Index := 3072#32
  ![v351.toNat, 3072]
def k6_off14 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v380 : Index := Scalar.indexCast v2
  let c3328 : Index := 3328#32
  ![v380.toNat, 3328]
def k6_off15 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v409 : Index := Scalar.indexCast v2
  let c3584 : Index := 3584#32
  ![v409.toNat, 3584]
def k6_off16 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v438 : Index := Scalar.indexCast v2
  let c3840 : Index := 3840#32
  ![v438.toNat, 3840]
def k6_off17 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v467 : Index := Scalar.indexCast v2
  let c4096 : Index := 4096#32
  ![v467.toNat, 4096]
def k6_off18 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v496 : Index := Scalar.indexCast v2
  let c4352 : Index := 4352#32
  ![v496.toNat, 4352]
def k6_off19 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v525 : Index := Scalar.indexCast v2
  let c4608 : Index := 4608#32
  ![v525.toNat, 4608]
def k6_off20 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v554 : Index := Scalar.indexCast v2
  let c4864 : Index := 4864#32
  ![v554.toNat, 4864]
def k6_off21 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v583 : Index := Scalar.indexCast v2
  let c5120 : Index := 5120#32
  ![v583.toNat, 5120]
def k6_off22 (k6_t1 : Fin k6_t1_loop.trips) : Fin 2 → Nat :=
  let c0_i32 : BitVec 32 := 0#32
  let c1_i32 : BitVec 32 := 1#32
  let arg6 : BitVec 32 := Scf.iv c0_i32 c1_i32 k6_t1
  let c16_i32 : BitVec 32 := 16#32
  let v1 : BitVec 32 := Scalar.muli arg6 c16_i32
  let v2 : BitVec 32 := v1
  let v612 : Index := Scalar.indexCast v2
  let c5376 : Index := 5376#32
  ![v612.toNat, 5376]
def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S128x5632 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S128x5632 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S128x5632 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S128x5632 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S128x5632 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨3, ![4, 4, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S4096x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S4096x1408 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S512x1408 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![4, 4, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S4096x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S4096x1408 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S512x1408 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![8, 2, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc9_transform_1 (i : grid9.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c3_i32 : BitVec 32 := 3#32
  let c0_i32_1 : BitVec 32 := 0#32
  ![c3_i32.toNat, v0.toNat, v1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S512x5632 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S1x1024x5632 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S512x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![8, 2, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc10_transform_1 (i : grid10.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c3_i32 : BitVec 32 := 3#32
  let c0_i32_1 : BitVec 32 := 0#32
  ![c3_i32.toNat, v0.toNat, v1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc10_transform_3 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 2 → Memref sig .tc .vmem S512x5632 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false, true]

abbrev stage10_1 : Fin 2 → Memref sig .tc .vmem S1x1024x5632 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S512x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev stage10_3 : Fin 2 → Memref sig .tc .vmem S512x1024 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true, false]
-- ==== Reference2Ideal.lean ====
abbrev S4096x2048 : Shape := ⟨2, ![4096, 2048]⟩
abbrev S4x2048x5632 : Shape := ⟨3, ![4, 2048, 5632]⟩
abbrev S4x5632x2048 : Shape := ⟨3, ![4, 5632, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .hbm, ⟨2, _⟩ => ⟨S4x2048x5632, .bf16⟩
  | .hbm, ⟨3, _⟩ => ⟨S4x2048x5632, .bf16⟩
  | .hbm, ⟨4, _⟩ => ⟨S4x5632x2048, .bf16⟩
  | .hbm, ⟨5, _⟩ => ⟨S4096x2048, .f32⟩
  | .hbm, ⟨6, _⟩ => ⟨S4096x2048, .f32⟩
  | .hbm, ⟨7, _⟩ => ⟨S1x2048x5632, .bf16⟩
  | .hbm, ⟨8, _⟩ => ⟨S2048x5632, .bf16⟩
  | .hbm, ⟨9, _⟩ => ⟨S2048x5632, .f32⟩
  | .hbm, ⟨10, _⟩ => ⟨S1x2048x5632, .bf16⟩
  | .hbm, ⟨11, _⟩ => ⟨S2048x5632, .bf16⟩
  | .hbm, ⟨12, _⟩ => ⟨S2048x5632, .f32⟩
  | .hbm, ⟨13, _⟩ => ⟨S1x5632x2048, .bf16⟩
  | .hbm, ⟨14, _⟩ => ⟨S5632x2048, .bf16⟩
  | .hbm, ⟨15, _⟩ => ⟨S5632x2048, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S_, .f32⟩
  | .hbm, ⟨23, _⟩ => ⟨S4096x5632, .f32⟩
  | .hbm, ⟨24, _⟩ => ⟨S4096x5632, .f32⟩
  | .hbm, ⟨25, _⟩ => ⟨S_, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S2048x5632, .f32⟩
  | .hbm, ⟨36, _⟩ => ⟨S5632x2048, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S5632x2048, .f32⟩
  | .hbm, ⟨41, _⟩ => ⟨S2048x5632, .f32⟩
  | .hbm, ⟨42, _⟩ => ⟨S4096x2048, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S5632x2048, .f32⟩
  | .hbm, ⟨48, _⟩ => ⟨S2048x5632, .f32⟩
  | .hbm, ⟨49, _⟩ => ⟨S4096x2048, .f32⟩
  | .hbm, ⟨50, _⟩ => ⟨S4096x2048, .f32⟩
  | .hbm, ⟨51, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v11_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v11_1 : Ref sig .tc := ⟨.hbm, 28, rfl⟩
abbrev main_v11_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]
-- ==== Kernel3.lean ====
abbrev S4096x2048 : Shape := ⟨2, ![4096, 2048]⟩
abbrev S4x2048x12288 : Shape := ⟨3, ![4, 2048, 12288]⟩
abbrev S4096x12288 : Shape := ⟨2, ![4096, 12288]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S2048x12288 : Shape := ⟨2, ![2048, 12288]⟩
abbrev S4096x1024 : Shape := ⟨2, ![4096, 1024]⟩

abbrev nBuf : Space → Nat
  | .hbm => 5
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4x2048x12288, .bf16⟩
  | .hbm, ⟨2, _⟩ => ⟨S4096x12288, .bf16⟩
  | .hbm, ⟨3, _⟩ => ⟨S4096x12288, .f32⟩
  | .hbm, ⟨4, _⟩ => ⟨S2048x12288, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S4096x1024, .bf16⟩
  | .local _ .vmem, ⟨7, _⟩ => ⟨S4096x1024, .bf16⟩
  | .local _ .vmem, ⟨8, _⟩ => ⟨S4096x1024, .bf16⟩
  | .local _ .vmem, ⟨9, _⟩ => ⟨S4096x1024, .bf16⟩
  | .local _ .vmem, ⟨10, _⟩ => ⟨S1024x1024, .f32⟩
  | .local _ .vmem, ⟨11, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c3_i32 : BitVec 32 := 3#32
  let c0_i32_1 : BitVec 32 := 0#32
  ![c3_i32.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 12, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S4096x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference3Ideal.lean ====
abbrev S4096x2048 : Shape := ⟨2, ![4096, 2048]⟩
abbrev S4x2048x12288 : Shape := ⟨3, ![4, 2048, 12288]⟩
abbrev S4096x12288 : Shape := ⟨2, ![4096, 12288]⟩
abbrev S1x2048x12288 : Shape := ⟨3, ![1, 2048, 12288]⟩
abbrev S2048x12288 : Shape := ⟨2, ![2048, 12288]⟩
abbrev S12288x2048 : Shape := ⟨2, ![12288, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x12288, .bf16⟩
  | .hbm, ⟨2, _⟩ => ⟨S4096x12288, .bf16⟩
  | .hbm, ⟨3, _⟩ => ⟨S4096x2048, .f32⟩
  | .hbm, ⟨4, _⟩ => ⟨S1x2048x12288, .bf16⟩
  | .hbm, ⟨5, _⟩ => ⟨S2048x12288, .bf16⟩
  | .hbm, ⟨6, _⟩ => ⟨S2048x12288, .f32⟩
  | .hbm, ⟨7, _⟩ => ⟨S4096x12288, .f32⟩
  | .hbm, ⟨8, _⟩ => ⟨S4096x12288, .f32⟩
  | .hbm, ⟨9, _⟩ => ⟨S12288x2048, .f32⟩
  | .hbm, ⟨10, _⟩ => ⟨S2048x12288, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x12288 : Shape := ⟨2, ![4096, 12288]⟩
abbrev S4x2048x12288 : Shape := ⟨3, ![4, 2048, 12288]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S4x2048x12288, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 6], ![false, false, false]⟩

def k0_cond3 (i : grid0.Coords) : BitVec 1 :=
  let arg2 : BitVec 32 := BitVec.ofNat 32 (i 2).val
  let c5_i32_3 : BitVec 32 := 5#32
  let v8 : BitVec 1 := Scalar.cmpi .eq arg2 c5_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c3_i32 : BitVec 32 := 3#32
  let c0_i32_1 : BitVec 32 := 0#32
  ![c3_i32.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x12288 : Shape := ⟨2, ![4096, 12288]⟩
abbrev S4x2048x12288 : Shape := ⟨3, ![4, 2048, 12288]⟩
abbrev S1x2048x12288 : Shape := ⟨3, ![1, 2048, 12288]⟩
abbrev S2048x12288 : Shape := ⟨2, ![2048, 12288]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4x2048x12288, .bf16⟩
  | .hbm, ⟨2, _⟩ => ⟨S1x2048x12288, .bf16⟩
  | .hbm, ⟨3, _⟩ => ⟨S2048x12288, .bf16⟩
  | .hbm, ⟨4, _⟩ => ⟨S2048x12288, .f32⟩
  | .hbm, ⟨5, _⟩ => ⟨S4096x12288, .f32⟩
  | .hbm, ⟨6, _⟩ => ⟨S4096x2048, .f32⟩
  | .hbm, ⟨7, _⟩ => ⟨S4096x2048, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S4096x12288 : Shape := ⟨2, ![4096, 12288]⟩
abbrev S4096x2048 : Shape := ⟨2, ![4096, 2048]⟩
abbrev S12x1024x2048 : Shape := ⟨3, ![12, 1024, 2048]⟩
abbrev S4x1024x2048 : Shape := ⟨3, ![4, 1024, 2048]⟩
abbrev S4x3x2048 : Shape := ⟨3, ![4, 3, 2048]⟩
abbrev S4x2048x2048 : Shape := ⟨3, ![4, 2048, 2048]⟩
abbrev S1024x1024 : Shape := ⟨2, ![1024, 1024]⟩
abbrev S1x1024x1024 : Shape := ⟨3, ![1, 1024, 1024]⟩
abbrev S1x3x2048 : Shape := ⟨3, ![1, 3, 2048]⟩
abbrev S3x2048 : Shape := ⟨2, ![3, 2048]⟩
abbrev S256x2048 : Shape := ⟨2, ![256, 2048]⟩
abbrev S16x256 : Shape := ⟨2, ![16, 256]⟩
abbrev S3x256 : Shape := ⟨2, ![3, 256]⟩
abbrev S1x256 : Shape := ⟨2, ![1, 256]⟩
abbrev S1024x2048 : Shape := ⟨2, ![1024, 2048]⟩
abbrev S1x2048x1024 : Shape := ⟨3, ![1, 2048, 1024]⟩
abbrev S2048x1024 : Shape := ⟨2, ![2048, 1024]⟩
abbrev S2048x2048 : Shape := ⟨2, ![2048, 2048]⟩
abbrev S1x1024x2048 : Shape := ⟨3, ![1, 1024, 2048]⟩

abbrev nBuf : Space → Nat
  | .hbm => 21
  | .vmem => 61
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x12288, .f32⟩
  | .hbm, ⟨4, _⟩ => ⟨S4096x2048, .f32⟩
  | .hbm, ⟨5, _⟩ => ⟨S12x1024x2048, .bf16⟩
  | .hbm, ⟨6, _⟩ => ⟨S4x1024x2048, .bf16⟩
  | .hbm, ⟨7, _⟩ => ⟨S4x3x2048, .f32⟩
  | .hbm, ⟨8, _⟩ => ⟨S4x2048x2048, .bf16⟩
  | .hbm, ⟨9, _⟩ => ⟨S4096x2048, .f32⟩
  | .hbm, ⟨10, _⟩ => ⟨S4096x2048, .bf16⟩
  | .hbm, ⟨11, _⟩ => ⟨S4096x2048, .bf16⟩
  | .hbm, ⟨12, _⟩ => ⟨S4096x2048, .bf16⟩
  | .hbm, ⟨13, _⟩ => ⟨S4096x2048, .bf16⟩
  | .hbm, ⟨14, _⟩ => ⟨S1x3x2048, .f32⟩
  | .hbm, ⟨15, _⟩ => ⟨S3x2048, .f32⟩
  | .hbm, ⟨16, _⟩ => ⟨S4096x2048, .bf16⟩
  | .hbm, ⟨17, _⟩ => ⟨S4096x2048, .f32⟩
  | .hbm, ⟨18, _⟩ => ⟨S4096x2048, .bf16⟩
  | .hbm, ⟨19, _⟩ => ⟨S2048x2048, .f32⟩
  | .hbm, ⟨20, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x1024x1024, .bf16⟩
  | .local _ .vmem, ⟨21, _⟩ => ⟨S1x1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S256x2048, .bf16⟩
  | .local _ .vmem, ⟨25, _⟩ => ⟨S256x2048, .bf16⟩
  | .local _ .vmem, ⟨26, _⟩ => ⟨S256x2048, .bf16⟩
  | .local _ .vmem, ⟨27, _⟩ => ⟨S256x2048, .bf16⟩
  | .local _ .vmem, ⟨28, _⟩ => ⟨S256x2048, .bf16⟩
  | .local _ .vmem, ⟨29, _⟩ => ⟨S256x2048, .bf16⟩
  | .local _ .vmem, ⟨30, _⟩ => ⟨S256x2048, .bf16⟩
  | .local _ .vmem, ⟨31, _⟩ => ⟨S256x2048, .bf16⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S256x2048, .f32⟩
  | .local _ .vmem, ⟨36, _⟩ => ⟨S256x2048, .f32⟩
  | .local _ .vmem, ⟨37, _⟩ => ⟨S256x2048, .f32⟩
  | .local _ .vmem, ⟨38, _⟩ => ⟨S3x2048, .f32⟩
  | .local _ .vmem, ⟨39, _⟩ => ⟨S256x2048, .bf16⟩
  | .local _ .vmem, ⟨40, _⟩ => ⟨S256x2048, .bf16⟩
  | .local _ .vmem, ⟨41, _⟩ => ⟨S1024x2048, .bf16⟩
  | .local _ .vmem, ⟨42, _⟩ => ⟨S1024x2048, .bf16⟩
  | .local _ .vmem, ⟨43, _⟩ => ⟨S1x2048x1024, .bf16⟩
  | .local _ .vmem, ⟨44, _⟩ => ⟨S1x2048x1024, .bf16⟩
  | .local _ .vmem, ⟨45, _⟩ => ⟨S1024x1024, .f32⟩
  | .local _ .vmem, ⟨46, _⟩ => ⟨S1024x1024, .f32⟩
  | .local _ .vmem, ⟨47, _⟩ => ⟨S1024x1024, .f32⟩
  | .local _ .vmem, ⟨48, _⟩ => ⟨S1024x1024, .f32⟩
  | .local _ .vmem, ⟨49, _⟩ => ⟨S4096x1024, .bf16⟩
  | .local _ .vmem, ⟨50, _⟩ => ⟨S4096x1024, .bf16⟩
  | .local _ .vmem, ⟨51, _⟩ => ⟨S4096x1024, .bf16⟩
  | .local _ .vmem, ⟨52, _⟩ => ⟨S4096x1024, .bf16⟩
  | .local _ .vmem, ⟨53, _⟩ => ⟨S1024x1024, .f32⟩
  | .local _ .vmem, ⟨54, _⟩ => ⟨S1024x1024, .f32⟩
  | .local _ .vmem, ⟨55, _⟩ => ⟨S1024x2048, .bf16⟩
  | .local _ .vmem, ⟨56, _⟩ => ⟨S1024x2048, .bf16⟩
  | .local _ .vmem, ⟨57, _⟩ => ⟨S1x1024x2048, .bf16⟩
  | .local _ .vmem, ⟨58, _⟩ => ⟨S1x1024x2048, .bf16⟩
  | .local _ .vmem, ⟨59, _⟩ => ⟨S1024x1024, .bf16⟩
  | .local _ .vmem, ⟨60, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg5_1 : Ref sig .tc := ⟨.vmem, 35, rfl⟩
abbrev cc4_stg6_0 : Ref sig .tc := ⟨.vmem, 36, rfl⟩
abbrev cc4_stg6_1 : Ref sig .tc := ⟨.vmem, 37, rfl⟩
abbrev cc4_stg7_0 : Ref sig .tc := ⟨.vmem, 38, rfl⟩
abbrev cc4_stg8_0 : Ref sig .tc := ⟨.vmem, 39, rfl⟩
abbrev cc4_stg8_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg3_1 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg1_1 : Ref sig .tc := ⟨.vmem, 52, rfl⟩
abbrev cc6_stg2_0 : Ref sig .tc := ⟨.vmem, 53, rfl⟩
abbrev cc6_stg2_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc4_sem4_0 : DmaSem sig := 32
abbrev cc4_sem4_1 : DmaSem sig := 33
abbrev cc4_sem5_0 : DmaSem sig := 34
abbrev cc4_sem5_1 : DmaSem sig := 35
abbrev cc4_sem6_0 : DmaSem sig := 36
abbrev cc4_sem6_1 : DmaSem sig := 37
abbrev cc4_sem7_0 : DmaSem sig := 38
abbrev cc4_sem8_0 : DmaSem sig := 39
abbrev cc4_sem8_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem3_1 : DmaSem sig := 48
abbrev cc6_sem0_0 : DmaSem sig := 49
abbrev cc6_sem0_1 : DmaSem sig := 50
abbrev cc6_sem1_0 : DmaSem sig := 51
abbrev cc6_sem1_1 : DmaSem sig := 52
abbrev cc6_sem2_0 : DmaSem sig := 53
abbrev cc6_sem2_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c9_i32 : BitVec 32 := 9#32
  let c0_i32_1 : BitVec 32 := 0#32
  ![c9_i32.toNat, v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c10_i32 : BitVec 32 := 10#32
  let c0_i32_1 : BitVec 32 := 0#32
  ![c10_i32.toNat, v0.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c11_i32 : BitVec 32 := 11#32
  let c0_i32_1 : BitVec 32 := 0#32
  ![c11_i32.toNat, v0.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c3_i32 : BitVec 32 := 3#32
  let c0_i32_1 : BitVec 32 := 0#32
  ![c3_i32.toNat, v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![16], ![false]⟩

@[reducible] def k4_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k4_mult1 (k4_t1 : Fin k4_t1_loop.trips) : BitVec 32 :=
  let c0_i32 : BitVec 32 := 0#32
  let c1_i32 : BitVec 32 := 1#32
  let arg10 : BitVec 32 := Scf.iv c0_i32 c1_i32 k4_t1
  let c16_i32_1 : BitVec 32 := 16#32
  let v1 : BitVec 32 := Scalar.muli arg10 c16_i32_1
  v1
def k4_off1 (k4_t1 : Fin k4_t1_loop.trips) : Fin 2 → Nat :=
  let c0_i32 : BitVec 32 := 0#32
  let c1_i32 : BitVec 32 := 1#32
  let arg10 : BitVec 32 := Scf.iv c0_i32 c1_i32 k4_t1
  let c16_i32_1 : BitVec 32 := 16#32
  let v1 : BitVec 32 := Scalar.muli arg10 c16_i32_1
  let v2 : BitVec 32 := v1
  let v3 : Index := Scalar.indexCast v2
  let c0 : Index := 0#32
  ![v3.toNat, 0]
def k4_off2 (k4_t1 : Fin k4_t1_loop.trips) : Fin 2 → Nat :=
  let c0_i32 : BitVec 32 := 0#32
  let c1_i32 : BitVec 32 := 1#32
  let arg10 : BitVec 32 := Scf.iv c0_i32 c1_i32 k4_t1
  let c16_i32_1 : BitVec 32 := 16#32
  let v1 : BitVec 32 := Scalar.muli arg10 c16_i32_1
  let v2 : BitVec 32 := v1
  let v49 : Index := Scalar.indexCast v2
  let c256 : Index := 256#32
  ![v49.toNat, 256]
def k4_off3 (k4_t1 : Fin k4_t1_loop.trips) : Fin 2 → Nat :=
  let c0_i32 : BitVec 32 := 0#32
  let c1_i32 : BitVec 32 := 1#32
  let arg10 : BitVec 32 := Scf.iv c0_i32 c1_i32 k4_t1
  let c16_i32_1 : BitVec 32 := 16#32
  let v1 : BitVec 32 := Scalar.muli arg10 c16_i32_1
  let v2 : BitVec 32 := v1
  let v95 : Index := Scalar.indexCast v2
  let c512 : Index := 512#32
  ![v95.toNat, 512]
def k4_off4 (k4_t1 : Fin k4_t1_loop.trips) : Fin 2 → Nat :=
  let c0_i32 : BitVec 32 := 0#32
  let c1_i32 : BitVec 32 := 1#32
  let arg10 : BitVec 32 := Scf.iv c0_i32 c1_i32 k4_t1
  let c16_i32_1 : BitVec 32 := 16#32
  let v1 : BitVec 32 := Scalar.muli arg10 c16_i32_1
  let v2 : BitVec 32 := v1
  let v141 : Index := Scalar.indexCast v2
  let c768 : Index := 768#32
  ![v141.toNat, 768]
def k4_off5 (k4_t1 : Fin k4_t1_loop.trips) : Fin 2 → Nat :=
  let c0_i32 : BitVec 32 := 0#32
  let c1_i32 : BitVec 32 := 1#32
  let arg10 : BitVec 32 := Scf.iv c0_i32 c1_i32 k4_t1
  let c16_i32_1 : BitVec 32 := 16#32
  let v1 : BitVec 32 := Scalar.muli arg10 c16_i32_1
  let v2 : BitVec 32 := v1
  let v187 : Index := Scalar.indexCast v2
  let c1024 : Index := 1024#32
  ![v187.toNat, 1024]
def k4_off6 (k4_t1 : Fin k4_t1_loop.trips) : Fin 2 → Nat :=
  let c0_i32 : BitVec 32 := 0#32
  let c1_i32 : BitVec 32 := 1#32
  let arg10 : BitVec 32 := Scf.iv c0_i32 c1_i32 k4_t1
  let c16_i32_1 : BitVec 32 := 16#32
  let v1 : BitVec 32 := Scalar.muli arg10 c16_i32_1
  let v2 : BitVec 32 := v1
  let v233 : Index := Scalar.indexCast v2
  let c1280 : Index := 1280#32
  ![v233.toNat, 1280]
def k4_off7 (k4_t1 : Fin k4_t1_loop.trips) : Fin 2 → Nat :=
  let c0_i32 : BitVec 32 := 0#32
  let c1_i32 : BitVec 32 := 1#32
  let arg10 : BitVec 32 := Scf.iv c0_i32 c1_i32 k4_t1
  let c16_i32_1 : BitVec 32 := 16#32
  let v1 : BitVec 32 := Scalar.muli arg10 c16_i32_1
  let v2 : BitVec 32 := v1
  let v279 : Index := Scalar.indexCast v2
  let c1536 : Index := 1536#32
  ![v279.toNat, 1536]
def k4_off8 (k4_t1 : Fin k4_t1_loop.trips) : Fin 2 → Nat :=
  let c0_i32 : BitVec 32 := 0#32
  let c1_i32 : BitVec 32 := 1#32
  let arg10 : BitVec 32 := Scf.iv c0_i32 c1_i32 k4_t1
  let c16_i32_1 : BitVec 32 := 16#32
  let v1 : BitVec 32 := Scalar.muli arg10 c16_i32_1
  let v2 : BitVec 32 := v1
  let v325 : Index := Scalar.indexCast v2
  let c1792 : Index := 1792#32
  ![v325.toNat, 1792]
def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c3_i32 : BitVec 32 := 3#32
  let c0_i32 : BitVec 32 := 0#32
  ![arg0.toNat, c3_i32.toNat]

def cc4_transform_5 (i : grid4.Coords) : Fin 2 → Nat :=
  let arg0 : BitVec 32 := BitVec.ofNat 32 (i 0).val
  let c4_i32 : BitVec 32 := 4#32
  let c0_i32 : BitVec 32 := 0#32
  ![arg0.toNat, c4_i32.toNat]

def cc4_transform_6 (i : grid4.Coords) : Fin 2 → Nat :=
  let arg0 : BitVec 32 := BitVec.ofNat 32 (i 0).val
  let c5_i32 : BitVec 32 := 5#32
  let c0_i32 : BitVec 32 := 0#32
  ![arg0.toNat, c5_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x2048 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S3x2048 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S256x2048 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨3, ![4, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c3_i32 : BitVec 32 := 3#32
  let c0_i32_1 : BitVec 32 := 0#32
  ![c3_i32.toNat, v0.toNat, v1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1x2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev grid6 : Pipeline.Grid := ⟨3, ![2, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S4096x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c3_i32 : BitVec 32 := 3#32
  let c0_i32_1 : BitVec 32 := 0#32
  ![c3_i32.toNat, v0.toNat, v1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1x1024x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== Reference5Ideal.lean ====
abbrev S4096x1024 : Shape := ⟨2, ![4096, 1024]⟩
abbrev S4096x12288 : Shape := ⟨2, ![4096, 12288]⟩
abbrev S4096x2048 : Shape := ⟨2, ![4096, 2048]⟩
abbrev S12x1024x2048 : Shape := ⟨3, ![12, 1024, 2048]⟩
abbrev S4x1024x2048 : Shape := ⟨3, ![4, 1024, 2048]⟩
abbrev S4x3x2048 : Shape := ⟨3, ![4, 3, 2048]⟩
abbrev S4x2048x2048 : Shape := ⟨3, ![4, 2048, 2048]⟩
abbrev S1x1024x2048 : Shape := ⟨3, ![1, 1024, 2048]⟩
abbrev S1024x2048 : Shape := ⟨2, ![1024, 2048]⟩
abbrev S_ : Shape := ⟨0, ![]⟩
abbrev S4096x6144 : Shape := ⟨2, ![4096, 6144]⟩
abbrev S4096x3x2048 : Shape := ⟨3, ![4096, 3, 2048]⟩
abbrev S1x3x2048 : Shape := ⟨3, ![1, 3, 2048]⟩
abbrev S3x2048 : Shape := ⟨2, ![3, 2048]⟩
abbrev S4096x1x2048 : Shape := ⟨3, ![4096, 1, 2048]⟩
abbrev S1x2048x2048 : Shape := ⟨3, ![1, 2048, 2048]⟩
abbrev S2048x2048 : Shape := ⟨2, ![2048, 2048]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x12288, .f32⟩
  | .hbm, ⟨4, _⟩ => ⟨S4096x2048, .f32⟩
  | .hbm, ⟨5, _⟩ => ⟨S12x1024x2048, .bf16⟩
  | .hbm, ⟨6, _⟩ => ⟨S4x1024x2048, .bf16⟩
  | .hbm, ⟨7, _⟩ => ⟨S4x3x2048, .f32⟩
  | .hbm, ⟨8, _⟩ => ⟨S4x2048x2048, .bf16⟩
  | .hbm, ⟨9, _⟩ => ⟨S4096x2048, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024x2048, .bf16⟩
  | .hbm, ⟨14, _⟩ => ⟨S1024x2048, .bf16⟩
  | .hbm, ⟨15, _⟩ => ⟨S1024x2048, .f32⟩
  | .hbm, ⟨16, _⟩ => ⟨S1x1024x2048, .bf16⟩
  | .hbm, ⟨17, _⟩ => ⟨S1024x2048, .bf16⟩
  | .hbm, ⟨18, _⟩ => ⟨S1024x2048, .f32⟩
  | .hbm, ⟨19, _⟩ => ⟨S1x1024x2048, .bf16⟩
  | .hbm, ⟨20, _⟩ => ⟨S1024x2048, .bf16⟩
  | .hbm, ⟨21, _⟩ => ⟨S1024x2048, .f32⟩
  | .hbm, ⟨22, _⟩ => ⟨S1x1024x2048, .bf16⟩
  | .hbm, ⟨23, _⟩ => ⟨S1024x2048, .bf16⟩
  | .hbm, ⟨24, _⟩ => ⟨S1024x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x6144, .f32⟩
  | .hbm, ⟨39, _⟩ => ⟨S4096x3x2048, .f32⟩
  | .hbm, ⟨40, _⟩ => ⟨S1x3x2048, .f32⟩
  | .hbm, ⟨41, _⟩ => ⟨S3x2048, .f32⟩
  | .hbm, ⟨42, _⟩ => ⟨S1x3x2048, .f32⟩
  | .hbm, ⟨43, _⟩ => ⟨S4096x3x2048, .f32⟩
  | .hbm, ⟨44, _⟩ => ⟨S4096x3x2048, .f32⟩
  | .hbm, ⟨45, _⟩ => ⟨S4096x3x2048, .f32⟩
  | .hbm, ⟨46, _⟩ => ⟨S4096x3x2048, .f32⟩
  | .hbm, ⟨47, _⟩ => ⟨S_, .f32⟩
  | .hbm, ⟨48, _⟩ => ⟨S4096x3x2048, .f32⟩
  | .hbm, ⟨49, _⟩ => ⟨S4096x3x2048, .f32⟩
  | .hbm, ⟨50, _⟩ => ⟨S_, .f32⟩
  | .hbm, ⟨51, _⟩ => ⟨S4096x3x2048, .f32⟩
  | .hbm, ⟨52, _⟩ => ⟨S4096x3x2048, .f32⟩
  | .hbm, ⟨53, _⟩ => ⟨S4096x1x2048, .f32⟩
  | .hbm, ⟨54, _⟩ => ⟨S4096x2048, .f32⟩
  | .hbm, ⟨55, _⟩ => ⟨S4096x2048, .f32⟩
  | .hbm, ⟨56, _⟩ => ⟨S4096x1x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x1x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S1x2048x2048, .bf16⟩
  | .hbm, ⟨65, _⟩ => ⟨S2048x2048, .bf16⟩
  | .hbm, ⟨66, _⟩ => ⟨S2048x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S2048x2048, .f32⟩
  | .hbm, ⟨71, _⟩ => ⟨S2048x2048, .f32⟩
  | .hbm, ⟨72, _⟩ => ⟨S4096x2048, .f32⟩
  | .hbm, ⟨73, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_1 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Kernel6.lean ====
abbrev S4096x1024 : Shape := ⟨2, ![4096, 1024]⟩
abbrev S12x1024x2048 : Shape := ⟨3, ![12, 1024, 2048]⟩
abbrev S4x1024x2048 : Shape := ⟨3, ![4, 1024, 2048]⟩
abbrev S4096x2048 : Shape := ⟨2, ![4096, 2048]⟩
abbrev S1024x2048 : Shape := ⟨2, ![1024, 2048]⟩
abbrev S1024x1024 : Shape := ⟨2, ![1024, 1024]⟩
abbrev S1x1024x2048 : Shape := ⟨3, ![1, 1024, 2048]⟩

abbrev nBuf : Space → Nat
  | .hbm => 17
  | .vmem => 42
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S12x1024x2048, .bf16⟩
  | .hbm, ⟨4, _⟩ => ⟨S4x1024x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S1024x2048, .f32⟩
  | .hbm, ⟨13, _⟩ => ⟨S4096x1024, .f32⟩
  | .hbm, ⟨14, _⟩ => ⟨S4096x1024, .bf16⟩
  | .hbm, ⟨15, _⟩ => ⟨S4096x1024, .f32⟩
  | .hbm, ⟨16, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | .local _ .vmem, ⟨5, _⟩ => ⟨S4096x1024, .bf16⟩
  | .local _ .vmem, ⟨6, _⟩ => ⟨S4096x1024, .bf16⟩
  | .local _ .vmem, ⟨7, _⟩ => ⟨S4096x1024, .bf16⟩
  | .local _ .vmem, ⟨8, _⟩ => ⟨S1024x1024, .f32⟩
  | .local _ .vmem, ⟨9, _⟩ => ⟨S1024x1024, .f32⟩
  | .local _ .vmem, ⟨10, _⟩ => ⟨S4096x1024, .bf16⟩
  | .local _ .vmem, ⟨11, _⟩ => ⟨S4096x1024, .bf16⟩
  | .local _ .vmem, ⟨12, _⟩ => ⟨S4096x1024, .bf16⟩
  | .local _ .vmem, ⟨13, _⟩ => ⟨S1024x1024, .f32⟩
  | .local _ .vmem, ⟨14, _⟩ => ⟨S1024x1024, .f32⟩
  | .local _ .vmem, ⟨15, _⟩ => ⟨S4096x1024, .bf16⟩
  | .local _ .vmem, ⟨16, _⟩ => ⟨S4096x1024, .bf16⟩
  | .local _ .vmem, ⟨17, _⟩ => ⟨S4096x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x2048, .bf16⟩
  | .local _ .vmem, ⟨21, _⟩ => ⟨S1024x2048, .bf16⟩
  | .local _ .vmem, ⟨22, _⟩ => ⟨S1x1024x2048, .bf16⟩
  | .local _ .vmem, ⟨23, _⟩ => ⟨S1024x1024, .f32⟩
  | .local _ .vmem, ⟨24, _⟩ => ⟨S1024x1024, .f32⟩
  | .local _ .vmem, ⟨25, _⟩ => ⟨S1024x2048, .bf16⟩
  | .local _ .vmem, ⟨26, _⟩ => ⟨S1024x2048, .bf16⟩
  | .local _ .vmem, ⟨27, _⟩ => ⟨S1x1024x2048, .bf16⟩
  | .local _ .vmem, ⟨28, _⟩ => ⟨S1024x1024, .bf16⟩
  | .local _ .vmem, ⟨29, _⟩ => ⟨S1024x1024, .bf16⟩
  | .local _ .vmem, ⟨30, _⟩ => ⟨S1024x2048, .bf16⟩
  | .local _ .vmem, ⟨31, _⟩ => ⟨S1024x2048, .bf16⟩
  | .local _ .vmem, ⟨32, _⟩ => ⟨S1x1024x2048, .bf16⟩
  | .local _ .vmem, ⟨33, _⟩ => ⟨S1024x1024, .f32⟩
  | .local _ .vmem, ⟨34, _⟩ => ⟨S1024x1024, .f32⟩
  | .local _ .vmem, ⟨35, _⟩ => ⟨S1024x2048, .bf16⟩
  | .local _ .vmem, ⟨36, _⟩ => ⟨S1024x2048, .bf16⟩
  | .local _ .vmem, ⟨37, _⟩ => ⟨S1x1024x2048, .bf16⟩
  | .local _ .vmem, ⟨38, _⟩ => ⟨S1024x1024, .f32⟩
  | .local _ .vmem, ⟨39, _⟩ => ⟨S1024x1024, .f32⟩
  | .local _ .vmem, ⟨40, _⟩ => ⟨S1024x1024, .f32⟩
  | .local _ .vmem, ⟨41, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc7_stg3_0 : Ref sig .tc := ⟨.vmem, 40, rfl⟩
abbrev cc7_stg3_1 : Ref sig .tc := ⟨.vmem, 41, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc7_sem3_0 : DmaSem sig := 40
abbrev cc7_sem3_1 : DmaSem sig := 41

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg1
  let c0_i32_1 : BitVec 32 := 0#32
  ![v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c9_i32 : BitVec 32 := 9#32
  let c0_i32_1 : BitVec 32 := 0#32
  ![c9_i32.toNat, v0.toNat, v1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S1x1024x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c10_i32 : BitVec 32 := 10#32
  let c0_i32_1 : BitVec 32 := 0#32
  ![c10_i32.toNat, v0.toNat, v1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S1x1024x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 1, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc6_transform_1 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c11_i32 : BitVec 32 := 11#32
  let c0_i32_1 : BitVec 32 := 0#32
  ![c11_i32.toNat, v0.toNat, v1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 1 → Memref sig .tc .vmem S1x1024x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc7_transform_1 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let v1 : BitVec 32 := Scalar.addi c0_i32_0 arg2
  let c3_i32 : BitVec 32 := 3#32
  let c0_i32_1 : BitVec 32 := 0#32
  ![c3_i32.toNat, v0.toNat, v1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 1 → Memref sig .tc .vmem S1x1024x2048 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false, true, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S1024x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]
-- ==== Reference6Ideal.lean ====
abbrev S4096x1024 : Shape := ⟨2, ![4096, 1024]⟩
abbrev S12x1024x2048 : Shape := ⟨3, ![12, 1024, 2048]⟩
abbrev S4x1024x2048 : Shape := ⟨3, ![4, 1024, 2048]⟩
abbrev S4096x2048 : Shape := ⟨2, ![4096, 2048]⟩
abbrev S1x1024x2048 : Shape := ⟨3, ![1, 1024, 2048]⟩
abbrev S1024x2048 : Shape := ⟨2, ![1024, 2048]⟩
abbrev S2048x1024 : Shape := ⟨2, ![2048, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S12x1024x2048, .bf16⟩
  | .hbm, ⟨4, _⟩ => ⟨S4x1024x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x1024x2048, .bf16⟩
  | .hbm, ⟨13, _⟩ => ⟨S1024x2048, .bf16⟩
  | .hbm, ⟨14, _⟩ => ⟨S1024x2048, .f32⟩
  | .hbm, ⟨15, _⟩ => ⟨S1x1024x2048, .bf16⟩
  | .hbm, ⟨16, _⟩ => ⟨S1024x2048, .bf16⟩
  | .hbm, ⟨17, _⟩ => ⟨S1024x2048, .f32⟩
  | .hbm, ⟨18, _⟩ => ⟨S1x1024x2048, .bf16⟩
  | .hbm, ⟨19, _⟩ => ⟨S1024x2048, .bf16⟩
  | .hbm, ⟨20, _⟩ => ⟨S1024x2048, .f32⟩
  | .hbm, ⟨21, _⟩ => ⟨S1x1024x2048, .bf16⟩
  | .hbm, ⟨22, _⟩ => ⟨S1024x2048, .bf16⟩
  | .hbm, ⟨23, _⟩ => ⟨S1024x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S2048x1024, .f32⟩
  | .hbm, ⟨33, _⟩ => ⟨S1024x2048, .f32⟩
  | .hbm, ⟨34, _⟩ => ⟨S4096x1024, .f32⟩
  | .hbm, ⟨35, _⟩ => ⟨S2048x1024, .f32⟩
  | .hbm, ⟨36, _⟩ => ⟨S1024x2048, .f32⟩
  | .hbm, ⟨37, _⟩ => ⟨S4096x1024, .f32⟩
  | .hbm, ⟨38, _⟩ => ⟨S4096x1024, .f32⟩
  | .hbm, ⟨39, _⟩ => ⟨S2048x1024, .f32⟩
  | .hbm, ⟨40, _⟩ => ⟨S1024x2048, .f32⟩
  | .hbm, ⟨41, _⟩ => ⟨S4096x1024, .f32⟩
  | .hbm, ⟨42, _⟩ => ⟨S2048x1024, .f32⟩
  | .hbm, ⟨43, _⟩ => ⟨S1024x2048, .f32⟩
  | .hbm, ⟨44, _⟩ => ⟨S4096x1024, .f32⟩
  | .hbm, ⟨45, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== Kernel7.lean ====
abbrev S4096x12288 : Shape := ⟨2, ![4096, 12288]⟩
abbrev S8x257 : Shape := ⟨2, ![8, 257]⟩
abbrev S8x1 : Shape := ⟨2, ![8, 1]⟩
abbrev S8x448 : Shape := ⟨2, ![8, 448]⟩
abbrev S8x191 : Shape := ⟨2, ![8, 191]⟩
abbrev S_ : Shape := ⟨0, ![]⟩
abbrev S8x129 : Shape := ⟨2, ![8, 129]⟩
abbrev S8x768 : Shape := ⟨2, ![8, 768]⟩
abbrev S8x1x768 : Shape := ⟨3, ![8, 1, 768]⟩
abbrev S4096x1024 : Shape := ⟨2, ![4096, 1024]⟩
abbrev S4096x128 : Shape := ⟨2, ![4096, 128]⟩
abbrev S1x1x768 : Shape := ⟨3, ![1, 1, 768]⟩
abbrev S4608x128 : Shape := ⟨2, ![4608, 128]⟩
abbrev S512x128 : Shape := ⟨2, ![512, 128]⟩
abbrev S1x768 : Shape := ⟨2, ![1, 768]⟩
abbrev S1x256 : Shape := ⟨2, ![1, 256]⟩
abbrev S1x1024 : Shape := ⟨2, ![1, 1024]⟩
abbrev S256x1024 : Shape := ⟨2, ![256, 1024]⟩
abbrev S256x768 : Shape := ⟨2, ![256, 768]⟩
abbrev S256x128 : Shape := ⟨2, ![256, 128]⟩
abbrev S768x128 : Shape := ⟨2, ![768, 128]⟩
abbrev S256 : Shape := ⟨1, ![256]⟩
abbrev S256x1 : Shape := ⟨2, ![256, 1]⟩

abbrev nBuf : Space → Nat
  | .hbm => 11
  | .vmem => 12
  | .smem => 0
  | _ => 0

abbrev bufTy : (tb : Table) → Fin (tcTables nBuf tb) → BufTy
  | .hbm, ⟨0, _⟩ => ⟨S4096x12288, .f32⟩
  | .hbm, ⟨1, _⟩ => ⟨S8x257, .f32⟩
  | .hbm, ⟨2, _⟩ => ⟨S8x1, .f32⟩
  | .hbm, ⟨3, _⟩ => ⟨S8x448, .f32⟩
  | .hbm, ⟨4, _⟩ => ⟨S8x191, .f32⟩
  | .hbm, ⟨5, _⟩ => ⟨S8x191, .f32⟩
  | .hbm, ⟨6, _⟩ => ⟨S_, .f32⟩
  | .hbm, ⟨7, _⟩ => ⟨S8x129, .f32⟩
  | .hbm, ⟨8, _⟩ => ⟨S8x768, .f32⟩
  | .hbm, ⟨9, _⟩ => ⟨S8x1x768, .f32⟩
  | .hbm, ⟨10, _⟩ => ⟨S4096x1024, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1x768, .f32⟩
  | .local _ .vmem, ⟨7, _⟩ => ⟨S1x1x768, .f32⟩
  | .local _ .vmem, ⟨8, _⟩ => ⟨S4096x128, .bf16⟩
  | .local _ .vmem, ⟨9, _⟩ => ⟨S4096x128, .bf16⟩
  | .local _ .vmem, ⟨10, _⟩ => ⟨S4608x128, .bf16⟩
  | .local _ .vmem, ⟨11, _⟩ => ⟨S4608x128, .bf16⟩
  | _, _ => ⟨S4096x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_20 : BitVec 32 := 0#32
  let c16_i32 : BitVec 32 := 16#32
  let v59 : BitVec 32 := Scalar.addi c0_i32_20 c16_i32
  let c1_i32_21 : BitVec 32 := 1#32
  ⟨c0_i32_20, v59, c1_i32_21⟩
def k0_mult1 (k0_t1 : Fin k0_t1_loop.trips) : BitVec 32 :=
  let c0_i32_20 : BitVec 32 := 0#32
  let c1_i32_21 : BitVec 32 := 1#32
  let arg8 : BitVec 32 := Scf.iv c0_i32_20 c1_i32_21 k0_t1
  let c256_i32 : BitVec 32 := 256#32
  let v60 : BitVec 32 := Scalar.muli arg8 c256_i32
  v60
def k0_off1 (k0_t1 : Fin k0_t1_loop.trips) : Fin 2 → Nat :=
  let c0_i32_20 : BitVec 32 := 0#32
  let c1_i32_21 : BitVec 32 := 1#32
  let arg8 : BitVec 32 := Scf.iv c0_i32_20 c1_i32_21 k0_t1
  let c256_i32 : BitVec 32 := 256#32
  let v60 : BitVec 32 := Scalar.muli arg8 c256_i32
  let v61 : BitVec 32 := v60
  let v62 : Index := Scalar.indexCast v61
  let c0_23 : Index := 0#32
  ![v62.toNat, 0]
def k0_off2 (k0_t1 : Fin k0_t1_loop.trips) : Fin 2 → Nat :=
  let c0_i32_20 : BitVec 32 := 0#32
  let c1_i32_21 : BitVec 32 := 1#32
  let arg8 : BitVec 32 := Scf.iv c0_i32_20 c1_i32_21 k0_t1
  let c256_i32 : BitVec 32 := 256#32
  let v60 : BitVec 32 := Scalar.muli arg8 c256_i32
  let v61 : BitVec 32 := v60
  let v65 : Index := Scalar.indexCast v61
  let c0_24 : Index := 0#32
  ![v65.toNat, 0]
def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel7Ideal.lean ====
variable {F : FTy → Type} [FloatOps F] [Named F]
def κ : String → Option EReal := fun
  | "mask" => some ⊥
  | _ => none
-- ==== Reference7Ideal.lean ====
abbrev S4096x12288 : Shape := ⟨2, ![4096, 12288]⟩
abbrev S8x257 : Shape := ⟨2, ![8, 257]⟩
abbrev S4096x1024 : Shape := ⟨2, ![4096, 1024]⟩
abbrev S1x4096x1024 : Shape := ⟨3, ![1, 4096, 1024]⟩
abbrev S1x64x64x8x128 : Shape := ⟨5, ![1, 64, 64, 8, 128]⟩
abbrev S_ : Shape := ⟨0, ![]⟩
abbrev S1x8x64x8x128 : Shape := ⟨5, ![1, 8, 64, 8, 128]⟩
abbrev S1x72x64x8x128 : Shape := ⟨5, ![1, 72, 64, 8, 128]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S1x64x9x64x8x128 : Shape := ⟨6, ![1, 64, 9, 64, 8, 128]⟩
abbrev S1x64x576x8x128 : Shape := ⟨5, ![1, 64, 576, 8, 128]⟩
abbrev S1x64x8x64x576 : Shape := ⟨5, ![1, 64, 8, 64, 576]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x64x1x1x576 : Shape := ⟨5, ![1, 64, 1, 1, 576]⟩
abbrev S1x1x8x64x576 : Shape := ⟨5, ![1, 1, 8, 64, 576]⟩
abbrev S1x64x8x64 : Shape := ⟨4, ![1, 64, 8, 64]⟩
abbrev S1x64x8x64x1 : Shape := ⟨5, ![1, 64, 8, 64, 1]⟩
abbrev S1x64x8x128x64 : Shape := ⟨5, ![1, 64, 8, 128, 64]⟩

abbrev nBuf : Space → Nat
  | .hbm => 119
  | .vmem => 0
  | .smem => 0
  | _ => 0

abbrev bufTy : (tb : Table) → Fin (tcTables nBuf tb) → BufTy
  | .hbm, ⟨0, _⟩ => ⟨S4096x12288, .f32⟩
  | .hbm, ⟨1, _⟩ => ⟨S8x257, .f32⟩
  | .hbm, ⟨2, _⟩ => ⟨S4096x1024, .f32⟩
  | .hbm, ⟨3, _⟩ => ⟨S1x4096x1024, .f32⟩
  | .hbm, ⟨4, _⟩ => ⟨S4096x1024, .f32⟩
  | .hbm, ⟨5, _⟩ => ⟨S1x4096x1024, .f32⟩
  | .hbm, ⟨6, _⟩ => ⟨S4096x1024, .f32⟩
  | .hbm, ⟨7, _⟩ => ⟨S1x4096x1024, .f32⟩
  | .hbm, ⟨8, _⟩ => ⟨S1x64x64x8x128, .f32⟩
  | .hbm, ⟨9, _⟩ => ⟨S_, .f32⟩
  | .hbm, ⟨10, _⟩ => ⟨S1x8x64x8x128, .f32⟩
  | .hbm, ⟨11, _⟩ => ⟨S1x64x64x8x128, .f32⟩
  | .hbm, ⟨12, _⟩ => ⟨S1x72x64x8x128, .f32⟩
  | .hbm, ⟨13, _⟩ => ⟨S1x64x64x8x128, .f32⟩
  | .hbm, ⟨14, _⟩ => ⟨S1x72x64x8x128, .f32⟩
  | .hbm, ⟨15, _⟩ => ⟨S64, .i32⟩
  | .hbm, ⟨16, _⟩ => ⟨S64x1, .i32⟩
  | .hbm, ⟨17, _⟩ => ⟨S9, .i32⟩
  | .hbm, ⟨18, _⟩ => ⟨S1x9, .i32⟩
  | .hbm, ⟨19, _⟩ => ⟨S64x9, .i32⟩
  | .hbm, ⟨20, _⟩ => ⟨S64x9, .i32⟩
  | .hbm, ⟨21, _⟩ => ⟨S64x9, .i32⟩
  | .hbm, ⟨22, _⟩ => ⟨S_, .i32⟩
  | .hbm, ⟨23, _⟩ => ⟨S64x9, .i32⟩
  | .hbm, ⟨24, _⟩ => ⟨S64x9, .i1⟩
  | .hbm, ⟨25, _⟩ => ⟨S_, .i32⟩
  | .hbm, ⟨26, _⟩ => ⟨S64x9, .i32⟩
  | .hbm, ⟨27, _⟩ => ⟨S64x9, .i32⟩
  | .hbm, ⟨28, _⟩ => ⟨S64x9, .i32⟩
  | .hbm, ⟨29, _⟩ => ⟨S64x9x1, .i32⟩
  | .hbm, ⟨30, _⟩ => ⟨S1x64x9x64x8x128, .f32⟩
  | .hbm, ⟨31, _⟩ => ⟨S1x64x576x8x128, .f32⟩
  | .hbm, ⟨32, _⟩ => ⟨S_, .i32⟩
  | .hbm, ⟨33, _⟩ => ⟨S64x9, .i32⟩
  | .hbm, ⟨34, _⟩ => ⟨S64x9, .i1⟩
  | .hbm, ⟨35, _⟩ => ⟨S_, .i32⟩
  | .hbm, ⟨36, _⟩ => ⟨S64x9, .i32⟩
  | .hbm, ⟨37, _⟩ => ⟨S64x9, .i32⟩
  | .hbm, ⟨38, _⟩ => ⟨S64x9, .i32⟩
  | .hbm, ⟨39, _⟩ => ⟨S64x9x1, .i32⟩
  | .hbm, ⟨40, _⟩ => ⟨S1x64x9x64x8x128, .f32⟩
  | .hbm, ⟨41, _⟩ => ⟨S1x64x576x8x128, .f32⟩
  | .hbm, ⟨42, _⟩ => ⟨S1x64x8x64x576, .f32⟩
  | .hbm, ⟨43, _⟩ => ⟨S_, .f32⟩
  | .hbm, ⟨44, _⟩ => ⟨S1x64x8x64x576, .f32⟩
  | .hbm, ⟨45, _⟩ => ⟨S1x64x8x64x576, .f32⟩
  | .hbm, ⟨46, _⟩ => ⟨S64, .i32⟩
  | .hbm, ⟨47, _⟩ => ⟨S_, .i32⟩
  | .hbm, ⟨48, _⟩ => ⟨S64, .i32⟩
  | .hbm, ⟨49, _⟩ => ⟨S64, .i32⟩
  | .hbm, ⟨50, _⟩ => ⟨S576, .i32⟩
  | .hbm, ⟨51, _⟩ => ⟨S64x1, .i32⟩
  | .hbm, ⟨52, _⟩ => ⟨S1x576, .i32⟩
  | .hbm, ⟨53, _⟩ => ⟨S64x576, .i32⟩
  | .hbm, ⟨54, _⟩ => ⟨S64x576, .i32⟩
  | .hbm, ⟨55, _⟩ => ⟨S64x576, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S64x576, .i32⟩
  | .hbm, ⟨60, _⟩ => ⟨S64x576, .i32⟩
  | .hbm, ⟨61, _⟩ => ⟨S_, .i32⟩
  | .hbm, ⟨62, _⟩ => ⟨S64x576, .i32⟩
  | .hbm, ⟨63, _⟩ => ⟨S64x576, .i32⟩
  | .hbm, ⟨64, _⟩ => ⟨S_, .i32⟩
  | .hbm, ⟨65, _⟩ => ⟨S64x576, .i32⟩
  | .hbm, ⟨66, _⟩ => ⟨S64x576, .i32⟩
  | .hbm, ⟨67, _⟩ => ⟨S_, .i32⟩
  | .hbm, ⟨68, _⟩ => ⟨S64x576, .i32⟩
  | .hbm, ⟨69, _⟩ => ⟨S64x576, .i1⟩
  | .hbm, ⟨70, _⟩ => ⟨S_, .i32⟩
  | .hbm, ⟨71, _⟩ => ⟨S64x576, .i32⟩
  | .hbm, ⟨72, _⟩ => ⟨S64x576, .i32⟩
  | .hbm, ⟨73, _⟩ => ⟨S64x576, .i32⟩
  | .hbm, ⟨74, _⟩ => ⟨S64x576x1, .i32⟩
  | .hbm, ⟨75, _⟩ => ⟨S8x64x576, .f32⟩
  | .hbm, ⟨76, _⟩ => ⟨S64, .i32⟩
  | .hbm, ⟨77, _⟩ => ⟨S64x1, .i32⟩
  | .hbm, ⟨78, _⟩ => ⟨S_, .i32⟩
  | .hbm, ⟨79, _⟩ => ⟨S64x1, .i32⟩
  | .hbm, ⟨80, _⟩ => ⟨S64x1, .i32⟩
  | .hbm, ⟨81, _⟩ => ⟨S_, .i32⟩
  | .hbm, ⟨82, _⟩ => ⟨S64x1, .i32⟩
  | .hbm, ⟨83, _⟩ => ⟨S64x1, .i32⟩
  | .hbm, ⟨84, _⟩ => ⟨S1x576, .i32⟩
  | .hbm, ⟨85, _⟩ => ⟨S64x576, .i32⟩
  | .hbm, ⟨86, _⟩ => ⟨S64x576, .i32⟩
  | .hbm, ⟨87, _⟩ => ⟨S64x576, .i32⟩
  | .hbm, ⟨88, _⟩ => ⟨S_, .i32⟩
  | .hbm, ⟨89, _⟩ => ⟨S64x576, .i32⟩
  | .hbm, ⟨90, _⟩ => ⟨S64x576, .i1⟩
  | .hbm, ⟨91, _⟩ => ⟨S1x64x1x1x576, .i1⟩
  | .hbm, ⟨92, _⟩ => ⟨S1x1x8x64x576, .f32⟩
  | .hbm, ⟨93, _⟩ => ⟨S1x64x8x64x576, .f32⟩
  | .hbm, ⟨94, _⟩ => ⟨S1x64x8x64x576, .f32⟩
  | .hbm, ⟨95, _⟩ => ⟨S_, .f32⟩
  | .hbm, ⟨96, _⟩ => ⟨S_, .f32⟩
  | .hbm, ⟨97, _⟩ => ⟨S1x64x8x64x576, .i1⟩
  | .hbm, ⟨98, _⟩ => ⟨S1x64x8x64x576, .f32⟩
  | .hbm, ⟨99, _⟩ => ⟨S1x64x8x64x576, .f32⟩
  | .hbm, ⟨100, _⟩ => ⟨S_, .f32⟩
  | .hbm, ⟨101, _⟩ => ⟨S1x64x8x64, .f32⟩
  | .hbm, ⟨102, _⟩ => ⟨S_, .f32⟩
  | .hbm, ⟨103, _⟩ => ⟨S1x64x8x64, .f32⟩
  | .hbm, ⟨104, _⟩ => ⟨S1x64x8x64, .f32⟩
  | .hbm, ⟨105, _⟩ => ⟨S1x64x8x64x1, .f32⟩
  | .hbm, ⟨106, _⟩ => ⟨S1x64x8x64x576, .f32⟩
  | .hbm, ⟨107, _⟩ => ⟨S1x64x8x64x576, .f32⟩
  | .hbm, ⟨108, _⟩ => ⟨S1x64x8x64x576, .f32⟩
  | .hbm, ⟨109, _⟩ => ⟨S_, .f32⟩
  | .hbm, ⟨110, _⟩ => ⟨S1x64x8x64, .f32⟩
  | .hbm, ⟨111, _⟩ => ⟨S1x64x8x64x1, .f32⟩
  | .hbm, ⟨112, _⟩ => ⟨S1x64x8x64x576, .f32⟩
  | .hbm, ⟨113, _⟩ => ⟨S1x64x8x64x576, .f32⟩
  | .hbm, ⟨114, _⟩ => ⟨S1x64x8x128x64, .f32⟩
  | .hbm, ⟨115, _⟩ => ⟨S1x64x64x8x128, .f32⟩
  | .hbm, ⟨116, _⟩ => ⟨S1x4096x1024, .f32⟩
  | .hbm, ⟨117, _⟩ => ⟨S4096x1024, .f32⟩
  | .hbm, ⟨118, _⟩ => ⟨S4096x1024, .bf16⟩
  | _, _ => ⟨S4096x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_v19 : Ref sig .tc := ⟨.hbm, 23, rfl⟩
abbrev main_v20 : Ref sig .tc := ⟨.hbm, 24, rfl⟩
abbrev main_c_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_1 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_c_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_5 : Ref sig .tc := ⟨.hbm, 56, rfl⟩
abbrev main_c_6 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v47 : Ref sig .tc := ⟨.hbm, 63, rfl⟩
abbrev main_c_7 : Ref sig .tc := ⟨.hbm, 64, rfl⟩
abbrev main_v48 : Ref sig .tc := ⟨.hbm, 65, rfl⟩
abbrev main_v49 : Ref sig .tc := ⟨.hbm, 66, rfl⟩
abbrev main_c_8 : Ref sig .tc := ⟨.hbm, 67, rfl⟩
abbrev main_v50 : Ref sig .tc := ⟨.hbm, 68, rfl⟩
abbrev main_v51 : Ref sig .tc := ⟨.hbm, 69, rfl⟩
abbrev main_c_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_10 : Ref sig .tc := ⟨.hbm, 78, rfl⟩
abbrev main_v59 : Ref sig .tc := ⟨.hbm, 79, rfl⟩
abbrev main_v60 : Ref sig .tc := ⟨.hbm, 80, rfl⟩
abbrev main_c_11 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_13 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩

abbrev nD : Nat := 1
abbrev τ : Topo := Topo.v7x

variable {F : FTy → Type} [FloatOps F]
-- ==== Proof.Trip.lean ====
module

public import proofs.«01_k».proof.Proof.Gen.KernelIdeal.Loops
public import Idealize.ShloMosaic.Lib.VecWindow
public import Idealize.ShloMosaic.Lib.WritesUnit
public import Idealize.ShloMosaic.Lib.Tactic

@[expose] public section

set_option maxRecDepth 16384

noncomputable section

namespace Cert.KernelIdeal.Att

open Idealize.ShloMosaic Idealize.ShloMosaic.TcCoe
open Cert.KernelIdeal Cert.KernelIdeal.Gen

variable {F : FTy → Type} [FloatOps F] [Named F]

/-- What the loop over the blocks of 256 queries of one head carries: the rows of `dq` written so far, the sums for
    `dk` and `dv` over the padded keys, and the sum of the blocks of `ds`. -/
structure St (F : FTy → Type) where
  /-- the rows of `dq` -/
  dq : Vec F S4096x128 .bf16
  /-- the sums for `dk`, at the padded keys -/
  dk : Vec F S4608x128 .f32
  /-- the sums for `dv`, at the padded keys -/
  dv : Vec F S4608x128 .f32
  /-- the sum of the blocks of `ds` -/
  db : Vec F S256x768 .f32

/-- A block of 256 rows, at trip `k`. -/
def rowsQ {e : EltTy} (x : Vec F S4096x128 e) (k : Fin k0_t1_loop.trips) : Vec F S256x128 e :=
  VecWindow.window x (k0_off1 k) S256x128.size (k0_off1_inb k)

/-- A block of 768 padded rows, at trip `k`. -/
def rowsK {e : EltTy} (x : Vec F S4608x128 e) (k : Fin k0_t1_loop.trips) : Vec F S768x128 e :=
  VecWindow.window x (k0_off2 k) S768x128.size (k0_off2_inb k)

variable (bias : FVec F S256x768 .f32) (mask : IVec S256x768 1) (a b : BitVec 32)
  (qv : Vec F S4096x128 .f32) (dov : Vec F S4096x128 .bf16) (kv vv : Vec F S4608x128 .bf16)

/-- The probabilities of trip `k`. -/
def probs (k : Fin k0_t1_loop.trips) : FVec F S256x768 .f32 :=
  k0_pay10 bias mask a b k (rowsQ qv k) (rowsK kv k)

/-- The gradient of the scores of trip `k`. -/
def dscore (k : Fin k0_t1_loop.trips) : FVec F S256x768 .f32 :=
  k0_pay11 bias mask a b k (rowsQ qv k) (rowsK kv k) (rowsK vv k) (rowsQ dov k)

/-- One trip of the loop, on what it carries. -/
def step (k : Fin k0_t1_loop.trips) (s : St F) : St F where
  dq := VecWindow.put s.dq (k0_off1 k) S256x128.size (k0_pay3 (rowsK kv k) (dscore bias mask a b qv dov kv vv k))
  dk := VecWindow.put s.dk (k0_off2 k) S768x128.size
    (k0_pay4 (k0_pay9 (rowsQ qv k)) (dscore bias mask a b qv dov kv vv k) (rowsK s.dk k))
  dv := VecWindow.put s.dv (k0_off2 k) S768x128.size
    (k0_pay5 (rowsQ dov k) (probs bias mask a b qv kv k) (rowsK s.dv k))
  db := k0_pay1 (k0_pay12 bias mask a b k (rowsQ qv k) (rowsK kv k) (rowsK vv k) (rowsQ dov k) s.db)

/-- What the loop carries before trip `n`. -/
def iter (s : St F) : ℕ → St F
  | 0 => s
  | n + 1 => if h : n < k0_t1_loop.trips then step bias mask a b qv dov kv vv ⟨n, h⟩ (iter s n) else iter s n

set_option maxHeartbeats 1000000 in
/-- One trip, run on any contents, leaves what `step` says of what the contents read. -/
theorem trip_reads (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x1x768 .f32) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S1x1x768 .f32) (harg9 : arg9.IsWhole) (arg10 : Memref sig .tc .vmem S4608x128 .bf16) (harg10 : arg10.IsWhole) (arg11 : Memref sig .tc .vmem S4608x128 .bf16) (harg11 : arg11.IsWhole) (arg12 : Memref sig .tc .vmem S4608x128 .f32) (harg12 : arg12.IsWhole) (arg13 : Memref sig .tc .vmem S4608x128 .f32) (harg13 : arg13.IsWhole) (arg14 : Memref sig .tc .vmem S256x768 .f32) (harg14 : arg14.IsWhole) (bias : FVec F S256x768 .f32) (mask : IVec S256x768 1) (a : BitVec 32) (b : BitVec 32) (X_arg1 : BufTy.Contents (Elt F) arg1.view.ty) (X_arg5 : BufTy.Contents (Elt F) arg5.view.ty) (X_arg10 : BufTy.Contents (Elt F) arg10.view.ty) (X_arg11 : BufTy.Contents (Elt F) arg11.view.ty)
    (qv : Vec F S4096x128 .f32) (dov : Vec F S4096x128 .bf16) (kv vv : Vec F S4608x128 .bf16)
    (h1 : arg1.view.read (Elt F) X_arg1 = qv) (h5 : arg5.view.read (Elt F) X_arg5 = dov)
    (h10 : arg10.view.read (Elt F) X_arg10 = kv) (h11 : arg11.view.read (Elt F) X_arg11 = vv)
    (k : Fin k0_t1_loop.trips) (f_arg6 : BufTy.Contents (Elt F) arg6.view.ty) (f_arg12 : BufTy.Contents (Elt F) arg12.view.ty) (f_arg13 : BufTy.Contents (Elt F) arg13.view.ty) (f_arg14 : BufTy.Contents (Elt F) arg14.view.ty) (s : St F)
    (h6 : arg6.view.read (Elt F) f_arg6 = s.dq) (h12 : arg12.view.read (Elt F) f_arg12 = s.dk)
    (h13 : arg13.view.read (Elt F) f_arg13 = s.dv) (h14 : arg14.view.read (Elt F) f_arg14 = s.db) :
    let t := tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 bias mask a b X_arg1 X_arg5 X_arg10 X_arg11 k f_arg6 f_arg12 f_arg13 f_arg14
    let s' := step bias mask a b qv dov kv vv k s
    arg6.view.read (Elt F) (arg6.view.writes (Elt F) f_arg6 t.1) = s'.dq
      ∧ arg12.view.read (Elt F) (arg12.view.writes (Elt F) f_arg12 t.2.1) = s'.dk
      ∧ arg13.view.read (Elt F) (arg13.view.writes (Elt F) f_arg13 t.2.2.1) = s'.dv
      ∧ arg14.view.read (Elt F) (arg14.view.writes (Elt F) f_arg14 t.2.2.2) = s'.db := by
  subst h1 h5 h10 h11
  unfold tripL_k0_t1 trip_k0_t1
  dsimp only
  have e5 : trip_k0_t1.sl.r_5 arg1 arg5 arg10 arg11 arg14 bias mask a b X_arg1 X_arg5 X_arg10 X_arg11 k f_arg14
      = k0_pay12 bias mask a b k (rowsQ (arg1.view.read (Elt F) X_arg1) k) (rowsK (arg10.view.read (Elt F) X_arg10) k)
        (rowsK (arg11.view.read (Elt F) X_arg11) k) (rowsQ (arg5.view.read (Elt F) X_arg5) k) s.db :=
    congrArg (k0_pay12 bias mask a b k (rowsQ (arg1.view.read (Elt F) X_arg1) k) (rowsK (arg10.view.read (Elt F) X_arg10) k)
        (rowsK (arg11.view.read (Elt F) X_arg11) k) (rowsQ (arg5.view.read (Elt F) X_arg5) k))
      ((View.readAt_full _ _ inb_S256x768_S256x768_0_0).trans h14)
  have e12 : arg12.view.readAt (Elt F) (Rect.unit (s := S4608x128) (k0_off2 k) S768x128.size (k0_off2_inb k)).toLoadRect f_arg12
      = rowsK s.dk k := by rw [← h12]; rfl
  have e13 : arg13.view.readAt (Elt F) (Rect.unit (s := S4608x128) (k0_off2 k) S768x128.size (k0_off2_inb k)).toLoadRect f_arg13
      = rowsK s.dv k := by rw [← h13]; rfl
  rw [e5, e12, e13]
  refine ⟨?_, ?_, ?_, ?_⟩
  · rw [View.read_writes_cons_put _ _ _ _ _ rfl, View.writes_nil, h6]
    rfl
  · rw [View.read_writes_cons_put _ _ _ _ _ rfl, View.writes_nil, h12]
    rfl
  · rw [View.read_writes_cons_put _ _ _ _ _ rfl, View.writes_nil, h13]
    rfl
  · rw [View.read_writes_full]
    rfl

/-- The trips before `n`, run from contents reading `s`, leave what `iter` says. -/
theorem pb_reads (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x1x768 .f32) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S1x1x768 .f32) (harg9 : arg9.IsWhole) (arg10 : Memref sig .tc .vmem S4608x128 .bf16) (harg10 : arg10.IsWhole) (arg11 : Memref sig .tc .vmem S4608x128 .bf16) (harg11 : arg11.IsWhole) (arg12 : Memref sig .tc .vmem S4608x128 .f32) (harg12 : arg12.IsWhole) (arg13 : Memref sig .tc .vmem S4608x128 .f32) (harg13 : arg13.IsWhole) (arg14 : Memref sig .tc .vmem S256x768 .f32) (harg14 : arg14.IsWhole) (bias : FVec F S256x768 .f32) (mask : IVec S256x768 1) (a : BitVec 32) (b : BitVec 32) (X_arg1 : BufTy.Contents (Elt F) arg1.view.ty) (X_arg5 : BufTy.Contents (Elt F) arg5.view.ty) (X_arg10 : BufTy.Contents (Elt F) arg10.view.ty) (X_arg11 : BufTy.Contents (Elt F) arg11.view.ty) (G_arg6 : BufTy.Contents (Elt F) arg6.view.ty) (G_arg12 : BufTy.Contents (Elt F) arg12.view.ty) (G_arg13 : BufTy.Contents (Elt F) arg13.view.ty) (G_arg14 : BufTy.Contents (Elt F) arg14.view.ty)
    (qv : Vec F S4096x128 .f32) (dov : Vec F S4096x128 .bf16) (kv vv : Vec F S4608x128 .bf16)
    (h1 : arg1.view.read (Elt F) X_arg1 = qv) (h5 : arg5.view.read (Elt F) X_arg5 = dov)
    (h10 : arg10.view.read (Elt F) X_arg10 = kv) (h11 : arg11.view.read (Elt F) X_arg11 = vv) (s : St F)
    (h6 : arg6.view.read (Elt F) G_arg6 = s.dq) (h12 : arg12.view.read (Elt F) G_arg12 = s.dk)
    (h13 : arg13.view.read (Elt F) G_arg13 = s.dv) (h14 : arg14.view.read (Elt F) G_arg14 = s.db) (n : ℕ) (hn : n ≤ k0_t1_loop.trips) :
    ∀ t, pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 bias mask a b X_arg1 X_arg5 X_arg10 X_arg11 G_arg6 G_arg12 G_arg13 G_arg14 n = t → ∀ s', iter bias mask a b qv dov kv vv s n = s' →
    arg6.view.read (Elt F) (arg6.view.writes (Elt F) G_arg6 t.1) = s'.dq
      ∧ arg12.view.read (Elt F) (arg12.view.writes (Elt F) G_arg12 t.2.1) = s'.dk
      ∧ arg13.view.read (Elt F) (arg13.view.writes (Elt F) G_arg13 t.2.2.1) = s'.dv
      ∧ arg14.view.read (Elt F) (arg14.view.writes (Elt F) G_arg14 t.2.2.2) = s'.db := by
  induction n with
  | zero => intro t ht s' hs; subst ht; subst hs; exact ⟨h6, h12, h13, h14⟩
  | succ n ih =>
    obtain ⟨i6, i12, i13, i14⟩ := ih (Nat.le_of_succ_le hn) _ rfl _ rfl
    intro t ht s' hs
    have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 bias mask a b X_arg1 X_arg5 X_arg10 X_arg11 G_arg6 G_arg12 G_arg13 G_arg14 ⟨n, hn⟩
    have st := trip_reads 𝒱 c bd i arg1 harg1 arg2 harg2 arg3 harg3 arg4 harg4 arg5 harg5 arg6 harg6 arg7 harg7 arg8 harg8 arg9 harg9 arg10 harg10 arg11 harg11 arg12 harg12 arg13 harg13 arg14 harg14 bias mask a b X_arg1 X_arg5 X_arg10 X_arg11 qv dov kv vv h1 h5 h10 h11 ⟨n, hn⟩ _ _ _ _
      (iter bias mask a b qv dov kv vv s n) i6 i12 i13 i14
    have ht' := ht.symm.trans e
    have hs' : step bias mask a b qv dov kv vv ⟨n, hn⟩ (iter bias mask a b qv dov kv vv s n) = s' :=
      (dif_pos (c := n < k0_t1_loop.trips) hn).symm.trans hs
    clear e ht hs
    subst hs'
    subst ht'
    simp only [View.writes_append]
    exact st
/-- The same, with the trips named: the trips before `n`, run from contents reading `s`, leave what `iter` says. -/
theorem pb_reads4 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x1x768 .f32) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S1x1x768 .f32) (harg9 : arg9.IsWhole) (arg10 : Memref sig .tc .vmem S4608x128 .bf16) (harg10 : arg10.IsWhole) (arg11 : Memref sig .tc .vmem S4608x128 .bf16) (harg11 : arg11.IsWhole) (arg12 : Memref sig .tc .vmem S4608x128 .f32) (harg12 : arg12.IsWhole) (arg13 : Memref sig .tc .vmem S4608x128 .f32) (harg13 : arg13.IsWhole) (arg14 : Memref sig .tc .vmem S256x768 .f32) (harg14 : arg14.IsWhole) (bias : FVec F S256x768 .f32) (mask : IVec S256x768 1) (a : BitVec 32) (b : BitVec 32) (X_arg1 : BufTy.Contents (Elt F) arg1.view.ty) (X_arg5 : BufTy.Contents (Elt F) arg5.view.ty) (X_arg10 : BufTy.Contents (Elt F) arg10.view.ty) (X_arg11 : BufTy.Contents (Elt F) arg11.view.ty) (G_arg6 : BufTy.Contents (Elt F) arg6.view.ty) (G_arg12 : BufTy.Contents (Elt F) arg12.view.ty) (G_arg13 : BufTy.Contents (Elt F) arg13.view.ty) (G_arg14 : BufTy.Contents (Elt F) arg14.view.ty)
    (qv : Vec F S4096x128 .f32) (dov : Vec F S4096x128 .bf16) (kv vv : Vec F S4608x128 .bf16)
    (h1 : arg1.view.read (Elt F) X_arg1 = qv) (h5 : arg5.view.read (Elt F) X_arg5 = dov)
    (h10 : arg10.view.read (Elt F) X_arg10 = kv) (h11 : arg11.view.read (Elt F) X_arg11 = vv) (s : St F)
    (h6 : arg6.view.read (Elt F) G_arg6 = s.dq) (h12 : arg12.view.read (Elt F) G_arg12 = s.dk)
    (h13 : arg13.view.read (Elt F) G_arg13 = s.dv) (h14 : arg14.view.read (Elt F) G_arg14 = s.db) (n : ℕ) (hn : n ≤ k0_t1_loop.trips) :
    let t := pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 bias mask a b X_arg1 X_arg5 X_arg10 X_arg11 G_arg6 G_arg12 G_arg13 G_arg14 n
    let s' := iter bias mask a b qv dov kv vv s n
    arg6.view.read (Elt F) (arg6.view.writes (Elt F) G_arg6 t.1) = s'.dq
      ∧ arg12.view.read (Elt F) (arg12.view.writes (Elt F) G_arg12 t.2.1) = s'.dk
      ∧ arg13.view.read (Elt F) (arg13.view.writes (Elt F) G_arg13 t.2.2.1) = s'.dv
      ∧ arg14.view.read (Elt F) (arg14.view.writes (Elt F) G_arg14 t.2.2.2) = s'.db :=
  pb_reads 𝒱 c bd i arg1 harg1 arg2 harg2 arg3 harg3 arg4 harg4 arg5 harg5 arg6 harg6 arg7 harg7 arg8 harg8 arg9 harg9 arg10 harg10 arg11 harg11 arg12 harg12 arg13 harg13 arg14 harg14 bias mask a b X_arg1 X_arg5 X_arg10 X_arg11 G_arg6 G_arg12 G_arg13 G_arg14 qv dov kv vv h1 h5 h10 h11 s h6 h12 h13 h14 n hn _ rfl _ rfl

end Cert.KernelIdeal.Att

end
-- ==== Proof.RunBody.lean ====
module

public import proofs.«01_k».proof.Proof.Gen.KernelIdeal.Frame.Runs
public import proofs.«01_k».proof.Proof.Trip

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- The rows of a head's keys (or values) below 512 rows of zeros. -/
def padded (z : Vec F S512x128 .bf16) (w : Vec F S4096x128 .bf16) : Vec F S4608x128 .bf16 :=
  VecWindow.put (VecWindow.put (s := S4608x128) (fun _ => (Scalar.ofBits .bf16 0x0000#16 : F .bf16)) ![0, 0] S512x128.size z)
    ![512, 0] S4096x128.size w

/-- The keys of one head, as the loop reads them. -/
def kpad (x1 : Vec F S4096x128 .f32) : Vec F S4608x128 .bf16 := padded k0_pay13 (k0_pay15 x1)
/-- The values of one head, as the loop reads them. -/
def vpad (x2 : Vec F S4096x128 .f32) : Vec F S4608x128 .bf16 := padded k0_pay14 (k0_pay16 x2)

/-- What the loop carries after its last trip, from `d` in the block of `dq`. -/
def fin (x0 : Vec F S4096x128 .f32) (x1 : Vec F S4096x128 .f32) (x2 : Vec F S4096x128 .f32) (x3 : Vec F S1x1x768 .f32) (x4 : Vec F S4096x128 .bf16)
    (d : Vec F S4096x128 .bf16) : St F :=
  iter (k0_pay20 x3) k0_pay21 0#32 1#32 x0 x4 (kpad x1) (vpad x2) ⟨d, k0_pay17, k0_pay18, k0_pay19⟩ k0_t1_loop.trips

/-- The block of `dk` written for one head. -/
def outDk (s : St F) : Vec F S4096x128 .bf16 := k0_pay6 (VecWindow.window (s := S4608x128) s.dk ![512, 0] S4096x128.size inb_S4608x128_S4096x128_512_0)
/-- The block of `dv` written for one head. -/
def outDv (s : St F) : Vec F S4096x128 .bf16 := k0_pay7 (VecWindow.window (s := S4608x128) s.dv ![512, 0] S4096x128.size inb_S4608x128_S4096x128_512_0)
/-- The row of the gradient of the bias band written for one head. -/
def outDb (s : St F) : Vec F S1x1x768 .f32 := k0_pay8 s.db

/-- What lay under the two stores that fill the padded rows does not matter. -/
theorem padded_base (x : Vec F S4608x128 .bf16) (z : Vec F S512x128 .bf16) (w : Vec F S4096x128 .bf16) :
    VecWindow.put (VecWindow.put (s := S4608x128) x ![0, 0] S512x128.size z) ![512, 0] S4096x128.size w = padded z w := by
  funext y
  unfold padded VecWindow.put
  by_cases h : ∀ a : Fin S4608x128.rank, (![512, 0] : Fin 2 → ℕ) a ≤ (y a).val ∧ (y a).val < (![512, 0] : Fin 2 → ℕ) a + S4096x128.size a
  · rw [dif_pos h, dif_pos h]
  · rw [dif_neg h, dif_neg h]
    have h' : ∀ a : Fin S4608x128.rank, (![0, 0] : Fin 2 → ℕ) a ≤ (y a).val ∧ (y a).val < (![0, 0] : Fin 2 → ℕ) a + S512x128.size a := by
      have h0 : (y 0).val < 4608 := (y 0).isLt
      have h1 : (y 1).val < 128 := (y 1).isLt
      have : (y 0).val < 512 := by
        by_contra hc
        exact h (Fin.forall_fin_two.mpr ⟨⟨by show 512 ≤ _; omega, by show _ < 512 + 4096; omega⟩, ⟨Nat.zero_le _, by show _ < 0 + 128; omega⟩⟩)
      exact Fin.forall_fin_two.mpr ⟨⟨Nat.zero_le _, by show _ < 0 + 512; omega⟩, ⟨Nat.zero_le _, by show _ < 0 + 128; omega⟩⟩
    rw [dif_pos h', dif_pos h']

set_option maxHeartbeats 1000000 in
/-- The kernel's body at one head: from the head's blocks in the inputs' buffers it leaves in the outputs' buffers the
    results of the loop. -/
theorem run_body (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x1x768 .f32) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S1x1x768 .f32) (harg9 : arg9.IsWhole) (arg10 : Memref sig .tc .vmem S4608x128 .bf16) (harg10 : arg10.IsWhole) (arg11 : Memref sig .tc .vmem S4608x128 .bf16) (harg11 : arg11.IsWhole) (arg12 : Memref sig .tc .vmem S4608x128 .f32) (harg12 : arg12.IsWhole) (arg13 : Memref sig .tc .vmem S4608x128 .f32) (harg13 : arg13.IsWhole) (arg14 : Memref sig .tc .vmem S256x768 .f32) (harg14 : arg14.IsWhole)
    (x0 : Vec F S4096x128 .f32) (x1 : Vec F S4096x128 .f32) (x2 : Vec F S4096x128 .f32) (x3 : Vec F S1x1x768 .f32) (x4 : Vec F S4096x128 .bf16)
    (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
              ∗ (∃ d, owns (c : Thread nD τ) arg6 fullShare (fin x0 x1 x2 x3 x4 d).dq) ∗ (∃ d, owns (c : Thread nD τ) arg7 fullShare (outDk (fin x0 x1 x2 x3 x4 d))) ∗ (∃ d, owns (c : Thread nD τ) arg8 fullShare (outDv (fin x0 x1 x2 x3 x4 d))) ∗ (∃ d, owns (c : Thread nD τ) arg9 fullShare (outDb (fin x0 x1 x2 x3 x4 d)))
              ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14) K := by
    simp only [cc0_attn_bwd_eq_skeleton]; unfold cc0_attn_bwd_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    have hb : run_body.sl.r c arg4 harg4 x3 = k0_pay20 x3 := by
      sl_unfold_words
      rw [View.readAt_full, hf3]
    have h10 : arg10.view.read (Elt F) (arg10.view.writes (Elt F) arg10.view.junk (run_body.sl.HS0_2 c arg2 harg2 x1)) = kpad x1 := by
      sl_unfold_words
      rw [View.read_writes_cons_put _ _ _ _ _ rfl, View.read_writes_cons_put _ _ _ _ _ rfl, View.writes_nil, View.readAt_full, hf1]
      exact padded_base _ _ _
    have h11 : arg11.view.read (Elt F) (arg11.view.writes (Elt F) arg11.view.junk (run_body.sl.HS1_2 c arg3 harg3 x2)) = vpad x2 := by
      sl_unfold_words
      rw [View.read_writes_cons_put _ _ _ _ _ rfl, View.read_writes_cons_put _ _ _ _ _ rfl, View.writes_nil, View.readAt_full, hf2]
      exact padded_base _ _ _
    have h12 : arg12.view.read (Elt F) (arg12.view.writes (Elt F) arg12.view.junk run_body.sl.HS2_1) = k0_pay17 (F := F) := by
      sl_unfold_words
      rw [View.read_writes_full]
    have h13 : arg13.view.read (Elt F) (arg13.view.writes (Elt F) arg13.view.junk run_body.sl.HS3_1) = k0_pay18 (F := F) := by
      sl_unfold_words
      rw [View.read_writes_full]
    have h14 : arg14.view.read (Elt F) (arg14.view.writes (Elt F) arg14.view.junk run_body.sl.HS4_1) = k0_pay19 (F := F) := by
      sl_unfold_words
      rw [View.read_writes_full]
    have key := pb_reads4 Variants.none c none i arg1 harg1 arg2 harg2 arg3 harg3 arg4 harg4 arg5 harg5 arg6 harg6 arg7 harg7 arg8 harg8 arg9 harg9 arg10 harg10 arg11 harg11 arg12 harg12 arg13 harg13 arg14 harg14 (k0_pay20 x3) k0_pay21 0#32 1#32 (harg1.unread x0) (harg5.unread x4) _ _ f5 _ _ _
      x0 x4 (kpad x1) (vpad x2) hf0 hf4 h10 h11 ⟨_, k0_pay17, k0_pay18, k0_pay19⟩ rfl h12 h13 h14 _ le_rfl
    clear hf0 hf1 hf2 hf3 hf4
    isplitl [H5]
    · iexists (arg6.view.read (Elt F) f5), _; isplitr; swap; · iexact H5
      ipureintro
      rw [hb]
      exact key.1
    isplitl [H6]
    · iexists (arg6.view.read (Elt F) f5), _; isplitr; swap; · iexact H6
      ipureintro
      rw [View.read_writes_full]
      unfold run_body.sl.v72 View.readCov
      rw [hb, View.writes_append]
      refine congrArg k0_pay6 ?_
      refine (View.readAt_unit _ _ _ rfl inb_S4608x128_S4096x128_512_0).trans ?_
      exact congrArg (fun z => VecWindow.window (s := S4608x128) z ![512, 0] S4096x128.size inb_S4608x128_S4096x128_512_0) key.2.1
    isplitl [H7]
    · iexists (arg6.view.read (Elt F) f5), _; isplitr; swap; · iexact H7
      ipureintro
      rw [View.read_writes_full]
      unfold run_body.sl.v75 View.readCov
      rw [hb, View.writes_append]
      refine congrArg k0_pay7 ?_
      refine (View.readAt_unit _ _ _ rfl inb_S4608x128_S4096x128_512_0).trans ?_
      exact congrArg (fun z => VecWindow.window (s := S4608x128) z ![512, 0] S4096x128.size inb_S4608x128_S4096x128_512_0) key.2.2.1
    isplitl [H8]
    · iexists (arg6.view.read (Elt F) f5), _; isplitr; swap; · iexact H8
      ipureintro
      rw [View.read_writes_full]
      unfold run_body.sl.v78 View.readCov
      rw [hb, View.writes_append]
      refine congrArg k0_pay8 ?_
      exact (View.readAt_full _ _ _).trans key.2.2.2
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Att

end
-- ==== Proof.LoopFacts.lean ====
module

public import proofs.«01_k».proof.Proof.Trip
public import Idealize.ShloMosaic.Lib.Pointwise

@[expose] public section

set_option maxRecDepth 16384

noncomputable section

namespace Cert.KernelIdeal.Att

open Idealize.ShloMosaic
open Cert.KernelIdeal Cert.KernelIdeal.Gen

/-- The loop has sixteen trips. -/
theorem trips_eq : k0_t1_loop.trips = 16 := by decide

/-- Trip `k` reads and writes the queries from row `256 k` on. -/
theorem off1_eq (k : Fin k0_t1_loop.trips) : k0_off1 k = ![256 * k.val, 0] := by
  revert k; decide

/-- Trip `k` reads and writes the padded keys from row `256 k` on. -/
theorem off2_eq (k : Fin k0_t1_loop.trips) : k0_off2 k = ![256 * k.val, 0] := by
  revert k; decide

/-- A window of whole rows put into a matrix, read at an entry. -/
theorem put_rows {α : Type} {R N n : ℕ} (x : (⟨2, ![R, N]⟩ : Shape).Idx → α) (o : ℕ) (off size : Fin 2 → ℕ)
    (hoff : off = ![o, 0]) (hsize : size = ![n, N])
    (w : (⟨2, ![n, N]⟩ : Shape).Idx → α) (w' : ((a : Fin 2) → Fin (size a)) → α)
    (hw : ∀ y : (a : Fin 2) → Fin (size a), w' y = w (ix2 ((y 0).cast (by subst hsize; rfl)) ((y 1).cast (by subst hsize; rfl))))
    (i : Fin R) (j : Fin N) :
    VecWindow.put (s := ⟨2, ![R, N]⟩) x off size w' (ix2 i j)
      = if h : o ≤ i.val ∧ i.val < o + n then w (ix2 ⟨i.val - o, by omega⟩ j) else x (ix2 i j) := by
  subst hoff hsize
  unfold VecWindow.put
  by_cases h : o ≤ i.val ∧ i.val < o + n
  · have h' : ∀ a : Fin 2, (![o, 0] : Fin 2 → ℕ) a ≤ ((ix2 i j : (⟨2, ![R, N]⟩ : Shape).Idx) a).val
        ∧ ((ix2 i j : (⟨2, ![R, N]⟩ : Shape).Idx) a).val < (![o, 0] : Fin 2 → ℕ) a + (![n, N] : Fin 2 → ℕ) a :=
      Fin.forall_fin_two.mpr ⟨h, ⟨Nat.zero_le _, by show j.val < 0 + N; omega⟩⟩
    rw [dif_pos h', dif_pos h, hw]
    rfl
  · have h' : ¬ ∀ a : Fin 2, (![o, 0] : Fin 2 → ℕ) a ≤ ((ix2 i j : (⟨2, ![R, N]⟩ : Shape).Idx) a).val
        ∧ ((ix2 i j : (⟨2, ![R, N]⟩ : Shape).Idx) a).val < (![o, 0] : Fin 2 → ℕ) a + (![n, N] : Fin 2 → ℕ) a :=
      fun hall => h (hall 0)
    rw [dif_neg h', dif_neg h]

/-- A window of whole rows of a matrix, read at an entry. -/
theorem window_rows {α : Type} {R N n : ℕ} (x : (⟨2, ![R, N]⟩ : Shape).Idx → α) (o : ℕ) (off : Fin 2 → ℕ)
    (inb : ∀ a, off a + (![n, N] : Fin 2 → ℕ) a ≤ (![R, N] : Fin 2 → ℕ) a)
    (hoff : off = ![o, 0]) (i : Fin n) (j : Fin N) (h : o + i.val < R) :
    VecWindow.window (s := ⟨2, ![R, N]⟩) x off ![n, N] inb (ix2 i j) = x (ix2 ⟨o + i.val, h⟩ j) := by
  subst hoff
  unfold VecWindow.window
  refine congrArg x (funext (Fin.forall_fin_two.mpr ⟨Fin.ext ?_, Fin.ext ?_⟩))
  · show o + 1 * i.val = o + i.val; omega
  · show 0 + 1 * j.val = j.val; omega

variable {F : FTy → Type} [FloatOps F] [Named F]

/-- A block of 256 rows, at an entry. -/
theorem rowsQ_apply {e : EltTy} (x : Vec F S4096x128 e) (k : Fin k0_t1_loop.trips) (i : Fin 256) (j : Fin 128) :
    rowsQ x k (ix2 i j) = x (ix2 ⟨256 * k.val + i.val, by have := k.isLt.trans_eq trips_eq; omega⟩ j) :=
  window_rows x (256 * k.val) _ _ (off1_eq k) i j _

/-- A block of 768 padded rows, at an entry. -/
theorem rowsK_apply {e : EltTy} (x : Vec F S4608x128 e) (k : Fin k0_t1_loop.trips) (i : Fin 768) (j : Fin 128) :
    rowsK x k (ix2 i j) = x (ix2 ⟨256 * k.val + i.val, by have := k.isLt.trans_eq trips_eq; omega⟩ j) :=
  window_rows x (256 * k.val) _ _ (off2_eq k) i j _

variable (bias : FVec F S256x768 .f32) (mask : IVec S256x768 1) (a b : BitVec 32)
  (qv : Vec F S4096x128 .f32) (dov : Vec F S4096x128 .bf16) (kv vv : Vec F S4608x128 .bf16)

/-- One more trip. -/
theorem iter_succ (s : St F) (n : ℕ) (h : n < k0_t1_loop.trips) :
    iter bias mask a b qv dov kv vv s (n + 1) = step bias mask a b qv dov kv vv ⟨n, h⟩ (iter bias mask a b qv dov kv vv s n) :=
  dif_pos h

/-- After `n` trips the rows of `dq` below `256 n` are the trips' products. -/
theorem iter_dq (s : St F) (n : ℕ) (hn : n ≤ k0_t1_loop.trips) (k : Fin k0_t1_loop.trips) (hk : k.val < n) (i : Fin 256) (j : Fin 128)
    (hr : 256 * k.val + i.val < 4096) :
    (iter bias mask a b qv dov kv vv s n).dq (ix2 ⟨256 * k.val + i.val, hr⟩ j)
      = k0_pay3 (rowsK kv k) (dscore bias mask a b qv dov kv vv k) (ix2 i j) := by
  induction n with
  | zero => omega
  | succ n ih =>
    rw [iter_succ _ _ _ _ _ _ _ _ _ n hn]
    unfold step
    dsimp only
    rw [put_rows _ (256 * n) _ _ (off1_eq ⟨n, hn⟩) rfl (k0_pay3 (rowsK kv ⟨n, hn⟩) (dscore bias mask a b qv dov kv vv ⟨n, hn⟩)) _
      (fun y => congrArg _ (eq_ix2 _))]
    by_cases h : k.val = n
    · rw [dif_pos (by simp only; omega)]
      have : k = ⟨n, hn⟩ := Fin.ext h
      subst this
      exact congrArg _ (congrArg (fun z => ix2 z j) (Fin.ext (by simp)))
    · rw [dif_neg (by simp only; omega)]
      exact ih (by omega) (by omega)

/-- The rows of `dq` in the carried state do not reach the rest of it. -/
theorem iter_rest (s s' : St F) (h1 : s.dk = s'.dk) (h2 : s.dv = s'.dv) (h3 : s.db = s'.db) (n : ℕ) :
    (iter bias mask a b qv dov kv vv s n).dk = (iter bias mask a b qv dov kv vv s' n).dk
      ∧ (iter bias mask a b qv dov kv vv s n).dv = (iter bias mask a b qv dov kv vv s' n).dv
      ∧ (iter bias mask a b qv dov kv vv s n).db = (iter bias mask a b qv dov kv vv s' n).db := by
  induction n with
  | zero => exact ⟨h1, h2, h3⟩
  | succ n ih =>
    by_cases h : n < k0_t1_loop.trips
    · rw [iter_succ _ _ _ _ _ _ _ _ _ n h, iter_succ _ _ _ _ _ _ _ _ _ n h]
      unfold step
      dsimp only
      rw [ih.1, ih.2.1, ih.2.2]
      exact ⟨rfl, rfl, rfl⟩
    · have e : ∀ s, iter bias mask a b qv dov kv vv s (n + 1) = iter bias mask a b qv dov kv vv s n := fun s => dif_neg h
      rw [e, e]
      exact ih

/-- Whatever lay in the block of `dq` before, the loop leaves the same. -/
theorem iter_base (d d' : Vec F S4096x128 .bf16) (dk dv : Vec F S4608x128 .f32) (db : Vec F S256x768 .f32) :
    iter bias mask a b qv dov kv vv ⟨d, dk, dv, db⟩ k0_t1_loop.trips = iter bias mask a b qv dov kv vv ⟨d', dk, dv, db⟩ k0_t1_loop.trips := by
  obtain ⟨e1, e2, e3⟩ := iter_rest bias mask a b qv dov kv vv ⟨d, dk, dv, db⟩ ⟨d', dk, dv, db⟩ rfl rfl rfl k0_t1_loop.trips
  have e0 : (iter bias mask a b qv dov kv vv ⟨d, dk, dv, db⟩ k0_t1_loop.trips).dq
      = (iter bias mask a b qv dov kv vv ⟨d', dk, dv, db⟩ k0_t1_loop.trips).dq := by
    funext y
    obtain ⟨t, j, rfl⟩ : ∃ (t : Fin 4096) (j : Fin 128), y = ix2 t j := ⟨y 0, y 1, eq_ix2 y⟩
    have ht := t.isLt
    have hk : t.val / 256 < k0_t1_loop.trips := by rw [trips_eq]; omega
    have e : t = ⟨256 * (t.val / 256) + t.val % 256, by omega⟩ := Fin.ext (by simp only; omega)
    have r := fun d => iter_dq bias mask a b qv dov kv vv ⟨d, dk, dv, db⟩ k0_t1_loop.trips le_rfl ⟨t.val / 256, hk⟩ hk ⟨t.val % 256, by omega⟩ j (by simp only; omega)
    simp only at r
    rw [e]
    exact (r d).trans (r d').symm
  generalize iter bias mask a b qv dov kv vv ⟨d, dk, dv, db⟩ k0_t1_loop.trips = u at *
  generalize iter bias mask a b qv dov kv vv ⟨d', dk, dv, db⟩ k0_t1_loop.trips = u' at *
  cases u; cases u'
  simp only at e0 e1 e2 e3
  rw [e0, e1, e2, e3]

end Cert.KernelIdeal.Att

end
-- ==== Proof.LaunchRun.lean ====
module

public import proofs.«01_k».proof.Proof.RunBody
public import proofs.«01_k».proof.Proof.LoopFacts
public import Idealize.ShloMosaic.Lib.Claim

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the loop of a head carries at its end; the block of `dq` it started from does not matter. -/
def final (x0 : Vec F S4096x128 .f32) (x1 : Vec F S4096x128 .f32) (x2 : Vec F S4096x128 .f32) (x3 : Vec F S1x1x768 .f32) (x4 : Vec F S4096x128 .bf16) : St F :=
  fin x0 x1 x2 x3 x4 (fun _ => (Scalar.ofBits .bf16 0x0000#16 : F .bf16))

theorem fin_eq (x0 : Vec F S4096x128 .f32) (x1 : Vec F S4096x128 .f32) (x2 : Vec F S4096x128 .f32) (x3 : Vec F S1x1x768 .f32) (x4 : Vec F S4096x128 .bf16)
    (d : Vec F S4096x128 .bf16) : fin x0 x1 x2 x3 x4 d = final x0 x1 x2 x3 x4 := iter_base _ _ _ _ _ _ _ _ _ _ _ _ _

/-- What the loop carries at its end, at point `t`: of the point's blocks. -/
def stAt (c : Dev nD) (t : Fin cfg0.N) : St F :=
  final (iblk m c 0 t) (iblk m c 1 t) (iblk m c 2 t) (iblk m c 3 t) (iblk m c 4 t)

/-- The proof data: each input's buffer holds its block, each output's what the loop leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (stAt m c t).dq
    | ⟨6, _⟩ => outDk (stAt m c t)
    | ⟨7, _⟩ => outDv (stAt m c t)
    | ⟨8, _⟩ => outDb (stAt m c t)
  Φ _ := Pipeline.ΦA spec0 c
  q w := Pipeline.shareOf spec0 w
  owed _ := 0

/-- The arrays are what the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (stAt m c t).dq := by dsimp only [dats]
theorem after0_6 (c : Dev nD) (t : Fin cfg0.N) : (dats m 0 c).after 6 t = outDk (stAt m c t) := by dsimp only [dats]
theorem after0_7 (c : Dev nD) (t : Fin cfg0.N) : (dats m 0 c).after 7 t = outDv (stAt m c t) := by dsimp only [dats]
theorem after0_8 (c : Dev nD) (t : Fin cfg0.N) : (dats m 0 c).after 8 t = outDb (stAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1200000 in
/-- The body at any point, from the inputs' blocks to the results of the loop. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold stAt
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_body c (grid0.coords t) _ _ _ _ _ _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS0]; · iexact HS0
  isplitl [HS1]; · iexact HS1
  isplitl [HS2]; · iexact HS2
  isplitl [HS3]; · iexact HS3
  isplitl [HS4]; · iexact HS4
  simp only [fin_eq]
  iintro ⟨H0, H1, H2, H3, H4, ⟨%e5, H5⟩, ⟨%e6, H6⟩, ⟨%e7, H7⟩, ⟨%e8, H8⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Att

end
-- ==== Proof.Band.lean ====
module

public import Idealize.ShloMosaic.Lib.Pointwise

@[expose] public section

noncomputable section

namespace Cert.Band

open Idealize.ShloMosaic

/-- The factor of the scores. -/
def scale : EReal := Ideal.ofBits .f32 0x3DB504F3#32

/-- One head of the attention: its queries, keys, values and result's gradient by row, and its position bias by the query's and the key's place in the band. -/
structure Head where
  Q : ℕ → Fin 128 → EReal
  K : ℕ → Fin 128 → EReal
  V : ℕ → Fin 128 → EReal
  D : ℕ → Fin 128 → EReal
  B : ℕ → ℕ → EReal

/-- The rows behind 512 rows of zeros. -/
def padRows (X : ℕ → Fin 128 → EReal) (u : ℕ) (d : Fin 128) : EReal := if u < 512 then 0 else X (u - 512) d

namespace Head

variable (H : Head)

/-- The score of query `q` of chunk `c` against place `k` of its band, `⊥` where the place lies before the first key. -/
def logit (c q k : ℕ) : EReal :=
  if 512 ≤ 64 * c + k then (∑ d : Fin 128, H.Q (64 * c + q) d * padRows H.K (64 * c + k) d) * scale + H.B q k else ⊥

/-- The greatest score of a query. -/
def top (c q : ℕ) : EReal := Finset.univ.fold max ⊥ (fun k : Fin 576 => H.logit c q k)

/-- The exponential of a score less the greatest one. -/
def ex (c q k : ℕ) : EReal := Ideal.exp (H.logit c q k - H.top c q)

/-- The sum of a query's exponentials. -/
def tot (c q : ℕ) : EReal := ∑ k : Fin 576, H.ex c q k

/-- The weight of a query on a place of its band. -/
def prob (c q k : ℕ) : EReal := Ideal.div (H.ex c q k) (H.tot c q)

/-- The gradient of a weight. -/
def dp (c q k : ℕ) : EReal := ∑ d : Fin 128, H.D (64 * c + q) d * padRows H.V (64 * c + k) d

/-- The gradient of a score. -/
def ds (c q k : ℕ) : EReal := H.prob c q k * (H.dp c q k - ∑ k' : Fin 576, H.prob c q k' * H.dp c q k')

/-- The gradient of the queries. -/
def dQ (c q : ℕ) (d : Fin 128) : EReal := ∑ k : Fin 576, H.ds c q k * scale * padRows H.K (64 * c + k) d

/-- The gradient of the padded keys: what every query with the key in its band adds. -/
def dK (u : ℕ) (d : Fin 128) : EReal :=
  ∑ c : Fin 64, ∑ q : Fin 64, if 64 * c.val ≤ u ∧ u < 64 * c.val + 576 then H.ds c q (u - 64 * c.val) * scale * H.Q (64 * c.val + q.val) d else 0

/-- The gradient of the padded values. -/
def dV (u : ℕ) (d : Fin 128) : EReal :=
  ∑ c : Fin 64, ∑ q : Fin 64, if 64 * c.val ≤ u ∧ u < 64 * c.val + 576 then H.prob c q (u - 64 * c.val) * H.D (64 * c.val + q.val) d else 0

/-- Queries, keys and position bias are real numbers. -/
structure Real : Prop where
  q : ∀ n d, ∃ x : ℝ, H.Q n d = x
  k : ∀ n d, ∃ x : ℝ, H.K n d = x
  b : ∀ q k, ∃ x : ℝ, H.B q k = x

end Head

/-- A sum of real numbers, in the extended reals. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A sum of real numbers is a real number. -/
theorem real_sum {ι : Type} (s : Finset ι) (f : ι → EReal) (h : ∀ i, ∃ x : ℝ, f i = x) : ∃ x : ℝ, ∑ i ∈ s, f i = x := by
  choose g hg using h
  exact ⟨∑ i ∈ s, g i, by rw [coe_sum]; exact Finset.sum_congr rfl fun i _ => hg i⟩

/-- A nonnegative real factor goes into a sum. -/
theorem mul_sum_nonneg {ι : Type} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top _) _ _

namespace Head

variable {H : Head} (hH : H.Real)
include hH

/-- A score before the first key is `⊥`, any other a real number. -/
theorem logit_real (hs : ∃ x : ℝ, scale = x) (c q k : ℕ) (h : 512 ≤ 64 * c + k) : ∃ x : ℝ, H.logit c q k = x := by
  unfold logit
  rw [if_pos h]
  have h1 : ∃ x : ℝ, (∑ d : Fin 128, H.Q (64 * c + q) d * padRows H.K (64 * c + k) d) = x := by
    refine real_sum _ _ fun d => ?_
    obtain ⟨x, hx⟩ := hH.q (64 * c + q) d
    obtain ⟨y, hy⟩ := hH.k (64 * c + k - 512) d
    refine ⟨x * y, ?_⟩
    unfold padRows
    rw [if_neg (by omega), hx, hy, EReal.coe_mul]
  obtain ⟨x, hx⟩ := h1
  obtain ⟨y, hy⟩ := hs
  obtain ⟨z, hz⟩ := hH.b q k
  exact ⟨x * y + z, by rw [hx, hy, hz]; push_cast; rfl⟩

theorem top_real (hs : ∃ x : ℝ, scale = x) (c q : ℕ) : ∃ x : ℝ, H.top c q = x := by
  have h1 : H.top c q ≠ ⊤ := by
    refine ne_of_lt ?_
    unfold top
    rw [Finset.fold_max_lt]
    refine ⟨bot_lt_top, fun k _ => ?_⟩
    by_cases h : 512 ≤ 64 * c + k.val
    · obtain ⟨x, hx⟩ := logit_real hH hs c q k h
      rw [hx]; exact EReal.coe_lt_top x
    · unfold logit; rw [if_neg h]; exact bot_lt_top
  have h2 : H.top c q ≠ ⊥ := by
    refine ne_of_gt ?_
    unfold top
    rw [Finset.lt_fold_max]
    refine Or.inr ⟨⟨575, by omega⟩, Finset.mem_univ _, ?_⟩
    obtain ⟨x, hx⟩ := logit_real hH hs c q 575 (by omega)
    rw [hx]; exact EReal.bot_lt_coe x
  exact ⟨(H.top c q).toReal, (EReal.coe_toReal h1 h2).symm⟩

theorem ex_real (hs : ∃ x : ℝ, scale = x) (c q k : ℕ) :
    ∃ x : ℝ, H.ex c q k = x ∧ 0 ≤ x ∧ (512 ≤ 64 * c + k → 0 < x) ∧ (¬ 512 ≤ 64 * c + k → x = 0) := by
  obtain ⟨t, ht⟩ := top_real hH hs c q
  unfold ex
  rw [ht]
  by_cases h : 512 ≤ 64 * c + k
  · obtain ⟨x, hx⟩ := logit_real hH hs c q k h
    rw [hx]
    exact ⟨Real.exp (x - t), by rw [← EReal.coe_sub, Ideal.exp_coe], (Real.exp_pos _).le, fun _ => Real.exp_pos _, fun h' => absurd h h'⟩
  · refine ⟨0, ?_, le_rfl, fun h' => absurd h' h, fun _ => rfl⟩
    unfold logit
    rw [if_neg h, EReal.bot_sub, Ideal.exp_bot]
    rfl

/-- The sum of a query's exponentials is a positive real number. -/
theorem tot_real (hs : ∃ x : ℝ, scale = x) (c q : ℕ) : ∃ x : ℝ, H.tot c q = x ∧ 0 < x := by
  choose e he h0 hp hz using fun k => ex_real hH hs c q k
  refine ⟨∑ k : Fin 576, e k, ?_, ?_⟩
  · unfold tot
    rw [coe_sum]
    exact Finset.sum_congr rfl fun k _ => he k
  · exact Finset.sum_pos' (fun k _ => h0 k) ⟨⟨575, by omega⟩, Finset.mem_univ _, hp 575 (by omega)⟩

/-- The weight is zero before the first key. -/
theorem prob_zero (hs : ∃ x : ℝ, scale = x) (c q k : ℕ) (h : ¬ 512 ≤ 64 * c + k) : H.prob c q k = 0 := by
  obtain ⟨e, he, -, -, hz⟩ := ex_real hH hs c q k
  obtain ⟨S, hS, hS0⟩ := tot_real hH hs c q
  unfold prob
  rw [he, hz h, hS, Ideal.div_coe hS0.ne', EReal.coe_zero, zero_mul]

/-- The gradient of a score as the derivative of the quotient states it. -/
theorem ds_quotient (hs : ∃ x : ℝ, scale = x) (c q k : ℕ) (h : 512 ≤ 64 * c + k) :
    (Ideal.div (H.dp c q k) (H.tot c q)
        + -(∑ k' : Fin 576, H.dp c q k' * Ideal.div 1 (H.tot c q * H.tot c q) * H.ex c q k')) * H.ex c q k
      = H.ds c q k := by
  choose e he h0 hp hz using fun k => ex_real hH hs c q k
  obtain ⟨S, hS, hS0⟩ := tot_real hH hs c q
  unfold ds prob
  rw [hS, he k]
  have hSS : Ideal.div 1 ((S : EReal) * (S : EReal)) = ((1 / S : ℝ) : EReal) * ((1 / S : ℝ) : EReal) := by
    rw [← EReal.coe_mul, Ideal.div_coe (by positivity), one_mul, ← EReal.coe_mul]
    congr 1
    field_simp
  rw [hSS, Ideal.div_coe hS0.ne', Ideal.div_coe hS0.ne']
  have hc : (0 : ℝ) ≤ 1 / S := by positivity
  have hX : (∑ k' : Fin 576, H.dp c q k' * (((1 / S : ℝ) : EReal) * ((1 / S : ℝ) : EReal)) * H.ex c q k')
      = ((1 / S : ℝ) : EReal) * ∑ k' : Fin 576, Ideal.div (H.ex c q k') (S : EReal) * H.dp c q k' := by
    rw [mul_sum_nonneg _ _ _ hc]
    refine Finset.sum_congr rfl fun k' _ => ?_
    rw [Ideal.div_coe hS0.ne']
    ac_rfl
  rw [hX]
  generalize (∑ k' : Fin 576, Ideal.div (H.ex c q k') (S : EReal) * H.dp c q k') = X
  rw [← mul_neg, mul_comm (H.dp c q k) _,
    ← EReal.left_distrib_of_nonneg_of_ne_top (by exact_mod_cast hc) (EReal.coe_ne_top _), sub_eq_add_neg]
  ac_rfl

end Head

/-- The column of the bias table for query `q` and place `k` of the band: the distance cut at 128, counted from 0. -/
def rel (q k : ℕ) : Fin 257 := ⟨min (640 + q - k) 256, by omega⟩

/-- Head `h` of the arrays: queries, keys and values are three column blocks of `x`, the gradient of the result a column block of `o`, the bias read off the table `b`. -/
def headOf (x : (⟨2, ![4096, 12288]⟩ : Shape).Idx → EReal) (b : (⟨2, ![8, 257]⟩ : Shape).Idx → EReal) (o : (⟨2, ![4096, 1024]⟩ : Shape).Idx → EReal)
    (h : Fin 8) : Head where
  Q n d := if hn : n < 4096 then x (ix2 ⟨n, hn⟩ ⟨2048 + (h.val * 128 + d.val), by omega⟩) else 0
  K n d := if hn : n < 4096 then x (ix2 ⟨n, hn⟩ ⟨3072 + (h.val * 128 + d.val), by omega⟩) else 0
  V n d := if hn : n < 4096 then x (ix2 ⟨n, hn⟩ ⟨4096 + (h.val * 128 + d.val), by omega⟩) else 0
  D n d := if hn : n < 4096 then o (ix2 ⟨n, hn⟩ ⟨h.val * 128 + d.val, by omega⟩) else 0
  B q k := b (ix2 h (rel q k))

end Cert.Band

end
-- ==== Proof.Pay.lean ====
module

public import proofs.«01_k».proof.Proof.RunBody
public import proofs.«01_k».proof.Proof.LoopFacts
public import proofs.«01_k».proof.Proof.Band
public import Idealize.ShloMosaic.Lib.Pointwise

@[expose] public section

set_option maxRecDepth 16384
set_option pp.deepTerms false
set_option pp.maxSteps 1500

noncomputable section

namespace Cert.KernelIdeal.Att

open Idealize.ShloMosaic Idealize.ShloMosaic.TcCoe
open Cert.KernelIdeal Cert.KernelIdeal.Gen
open Cert.Band

/-! ## The comparisons of words -/

/-- A small natural number as a word, read signed. -/
theorem toInt_nat (n : ℕ) (h : n < 2 ^ 31) : (BitVec.ofNat 32 n).toInt = n := by
  rw [BitVec.toInt_ofNat', Int.bmod_def]
  norm_num
  omega

theorem cmpi_sge_nat (a b : ℕ) (ha : a < 2 ^ 31) (hb : b < 2 ^ 31) :
    IntOp.cmpi .sge (BitVec.ofNat 32 a) (BitVec.ofNat 32 b) = BitVec.ofBool (decide (b ≤ a)) := by
  show BitVec.ofBool (decide ((BitVec.ofNat 32 b).toInt ≤ (BitVec.ofNat 32 a).toInt)) = _
  rw [toInt_nat a ha, toInt_nat b hb]
  congr 1
  exact decide_eq_decide.2 (by omega)

theorem cmpi_slt_nat (a b : ℕ) (ha : a < 2 ^ 31) (hb : b < 2 ^ 31) :
    IntOp.cmpi .slt (BitVec.ofNat 32 a) (BitVec.ofNat 32 b) = BitVec.ofBool (decide (a < b)) := by
  show BitVec.ofBool (decide ((BitVec.ofNat 32 a).toInt < (BitVec.ofNat 32 b).toInt)) = _
  rw [toInt_nat a ha, toInt_nat b hb]
  congr 1
  exact decide_eq_decide.2 (by omega)

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem select_prop {α : Type} (p : Prop) [Decidable p] (x y : α) : Scalar.select (BitVec.ofBool (decide p)) x y = if p then x else y := by
  by_cases h : p <;> simp [h, Scalar.select]

/-- The row's chunk within its block of 256 queries, as the kernel's words compute it. -/
theorem first_word (r : Fin 256) : (Scalar.select
            (IntOp.andi
              (IntOp.cmpi CmpIPredicate.ne
                (IntOp.subi (BitVec.setWidth 32 (IntOp.cmpi CmpIPredicate.sgt (BitVec.ofNat 32 r.val) 0#32))
                  (BitVec.setWidth 32 (IntOp.cmpi CmpIPredicate.slt (BitVec.ofNat 32 r.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 r.val) 64#32) 0#32))
            (IntOp.subi (IntOp.divsi ArithUnit.vector (BitVec.ofNat 32 r.val) 64#32) 1#32)
            (IntOp.divsi ArithUnit.vector (BitVec.ofNat 32 r.val) 64#32)) = BitVec.ofNat 32 (r.val / 64) := by
  revert r; decide +kernel

/-- The mask of the lanes of a row's band. -/
theorem mask_apply (r : Fin 256) (c : Fin 768) :
    k0_pay21 (ix2 r c) = BitVec.ofBool (decide (64 * (r.val / 64) ≤ c.val ∧ c.val < 64 * (r.val / 64) + 576)) := by
  pointwise [k0_pay21]
  rw [first_word, show IntOp.muli (BitVec.ofNat 32 (r.val / 64)) 64#32 = BitVec.ofNat 32 (r.val / 64 * 64) from (BitVec.ofNat_mul _ _).symm,
    show IntOp.addi (BitVec.ofNat 32 (r.val / 64 * 64)) 576#32 = BitVec.ofNat 32 (r.val / 64 * 64 + 576) from (BitVec.ofNat_add _ _).symm,
    cmpi_sge_nat _ _ (by omega) (by omega), cmpi_slt_nat _ _ (by omega) (by omega), andi_ofBool]
  congr 1
  exact decide_eq_decide.2 (by omega)

/-- The word that cuts the lanes before the first key. -/
theorem cut_word (k : Fin k0_t1_loop.trips) (c : Fin 768) :
   IntOp.cmpi CmpIPredicate.sge (BitVec.ofNat 32 c.val) (Scalar.subi (512#32) (Scalar.muli (Scf.iv 0#32 1#32 k.val) 256#32))
     = BitVec.ofBool (decide (512 ≤ 256 * k.val + c.val)) := by
  have h : ∀ k : Fin k0_t1_loop.trips, (Scalar.subi (512#32) (Scalar.muli (Scf.iv 0#32 1#32 k.val) 256#32)).toInt = 512 - 256 * (k.val : ℤ) := by decide
  show BitVec.ofBool (decide ((Scalar.subi (512#32) (Scalar.muli (Scf.iv 0#32 1#32 k.val) 256#32)).toInt ≤ (BitVec.ofNat 32 c.val).toInt)) = _
  rw [h k, toInt_nat _ (by omega)]
  congr 1
  exact decide_eq_decide.2 (by omega)

/-- The word of negative infinity. -/
theorem bits_bot : Ideal.ofBits .f32 0xFF800000#32 = ⊥ := by
  simp [Ideal.ofBits, Ideal.ieee]

/-! ## The payloads, read at one element -/

theorem pay2_apply (x : FVec Ideal S256x768 .f32) (r : Fin 256) (c : Fin 768) : k0_pay2 x (ix2 r c) = x (ix2 r c) * scale := by
  pointwise [k0_pay2]
  rfl

theorem pay3_apply (kb : Vec Ideal S768x128 .bf16) (x : FVec Ideal S256x768 .f32) (r : Fin 256) (d : Fin 128) :
    k0_pay3 kb x (ix2 r d) = ∑ c : Fin 768, x (ix2 r c) * scale * kb (ix2 c d) := by
  pointwise [k0_pay3]
  simp only [pay2_apply]

theorem pay4_apply (q : FVec Ideal S256x128 .bf16) (x : FVec Ideal S256x768 .f32) (d : Vec Ideal S768x128 .f32) (c : Fin 768) (j : Fin 128) :
    k0_pay4 q x d (ix2 c j) = d (ix2 c j) + ∑ r : Fin 256, x (ix2 r c) * scale * q (ix2 r j) := by
  pointwise [k0_pay4]
  simp only [pay2_apply]

theorem pay5_apply (o : Vec Ideal S256x128 .bf16) (x : FVec Ideal S256x768 .f32) (d : Vec Ideal S768x128 .f32) (c : Fin 768) (j : Fin 128) :
    k0_pay5 o x d (ix2 c j) = d (ix2 c j) + ∑ r : Fin 256, x (ix2 r c) * o (ix2 r j) := by
  pointwise [k0_pay5]

theorem pay9_apply (q : Vec Ideal S256x128 .f32) (r : Fin 256) (j : Fin 128) : k0_pay9 q (ix2 r j) = q (ix2 r j) := by
  pointwise [k0_pay9]

/-- A row's score at a lane, off the band and before the first key `⊥`. -/
def lane (bias : FVec Ideal S256x768 .f32) (k : Fin k0_t1_loop.trips) (q : Vec Ideal S256x128 .f32) (kb : Vec Ideal S768x128 .bf16) (r : Fin 256) (c : Fin 768) : EReal :=
  if (64 * (r.val / 64) ≤ c.val ∧ c.val < 64 * (r.val / 64) + 576) ∧ 512 ≤ 256 * k.val + c.val then
    (∑ x : Fin 128, q (ix2 r x) * kb (ix2 c x)) * scale + bias (ix2 r c)
  else ⊥

theorem pay10_apply (bias : FVec Ideal S256x768 .f32) (k : Fin k0_t1_loop.trips) (q : Vec Ideal S256x128 .f32) (kb : Vec Ideal S768x128 .bf16) (r : Fin 256) (c : Fin 768) :
    k0_pay10 bias k0_pay21 0#32 1#32 k q kb (ix2 r c) =
      Ideal.div (Ideal.exp (lane bias k q kb r c - Finset.univ.fold max ⊥ (fun x => lane bias k q kb r x)))
        (∑ y : Fin 768, Ideal.exp (lane bias k q kb r y - Finset.univ.fold max ⊥ (fun x => lane bias k q kb r x))) := by
  have hl : ∀ c : Fin 768, Scalar.select (IntOp.andi (k0_pay21 (ix2 r c)) (IntOp.cmpi .sge (BitVec.ofNat 32 c.val) (Scalar.subi 512#32 (Scalar.muli (Scf.iv 0#32 1#32 k.val) 256#32))))
      ((∑ x : Fin 128, q (ix2 r x) * kb (ix2 c x)) * Ideal.ofBits .f32 0x3DB504F3#32 + bias (ix2 r c)) (Named.named (F := Ideal) (φ := .f32) κ "mask" 4048155338#32) = lane bias k q kb r c := by
    intro c
    rw [mask_apply, cut_word, andi_ofBool, select_prop]
    rfl
  pointwise [k0_pay10, k0_pay9]
  simp only [hl, bits_bot]

theorem pay11_apply (bias : FVec Ideal S256x768 .f32) (k : Fin k0_t1_loop.trips) (q : Vec Ideal S256x128 .f32) (kb vb : Vec Ideal S768x128 .bf16) (o : Vec Ideal S256x128 .bf16) (r : Fin 256) (c : Fin 768) :
    k0_pay11 bias k0_pay21 0#32 1#32 k q kb vb o (ix2 r c) =
      k0_pay10 bias k0_pay21 0#32 1#32 k q kb (ix2 r c) * ((∑ x : Fin 128, o (ix2 r x) * vb (ix2 c x)) -
        ∑ y : Fin 768, k0_pay10 bias k0_pay21 0#32 1#32 k q kb (ix2 r y) * ∑ x : Fin 128, o (ix2 r x) * vb (ix2 y x)) := by
  pointwise [k0_pay11]

theorem pay12_apply (bias : FVec Ideal S256x768 .f32) (k : Fin k0_t1_loop.trips) (q : Vec Ideal S256x128 .f32) (kb vb : Vec Ideal S768x128 .bf16) (o : Vec Ideal S256x128 .bf16) (d : Vec Ideal S256x768 .f32) (r : Fin 256) (c : Fin 768) :
    k0_pay1 (k0_pay12 bias k0_pay21 0#32 1#32 k q kb vb o d) (ix2 r c) = d (ix2 r c) + k0_pay11 bias k0_pay21 0#32 1#32 k q kb vb o (ix2 r c) := by
  pointwise [k0_pay12, k0_pay1]

theorem pay20_apply (x : Vec Ideal S1x1x768 .f32) (r : Fin 256) (c : Fin 768) (h : c.val + 63 - r.val < 768) (hr : r.val ≤ c.val + 63) :
    k0_pay20 x (ix2 r c) = x (ix3 0 0 ⟨c.val + 63 - r.val, h⟩) := by
  pointwise [k0_pay20]
  have e : (c.val + 1024 - (961 + r.val) % 1024) % 1024 = c.val + 63 - r.val := by omega
  rw [dif_pos (by omega)]
  congr 2
  exact Fin.ext e

theorem pay13_apply (r : Fin 512) (c : Fin 128) : k0_pay13 (F := Ideal) (ix2 r c) = 0 := by
  pointwise [k0_pay13]
theorem pay14_apply (r : Fin 512) (c : Fin 128) : k0_pay14 (F := Ideal) (ix2 r c) = 0 := by
  pointwise [k0_pay14]
theorem pay15_apply (x : Vec Ideal S4096x128 .f32) (r : Fin 4096) (c : Fin 128) : k0_pay15 x (ix2 r c) = x (ix2 r c) := by
  pointwise [k0_pay15]
theorem pay16_apply (x : Vec Ideal S4096x128 .f32) (r : Fin 4096) (c : Fin 128) : k0_pay16 x (ix2 r c) = x (ix2 r c) := by
  pointwise [k0_pay16]
theorem pay17_apply (r : Fin 4608) (c : Fin 128) : k0_pay17 (F := Ideal) (ix2 r c) = 0 := by
  pointwise [k0_pay17]
theorem pay18_apply (r : Fin 4608) (c : Fin 128) : k0_pay18 (F := Ideal) (ix2 r c) = 0 := by
  pointwise [k0_pay18]
theorem pay19_apply (r : Fin 256) (c : Fin 768) : k0_pay19 (F := Ideal) (ix2 r c) = 0 := by
  pointwise [k0_pay19]
theorem pay6_apply (x : Vec Ideal S4096x128 .f32) (r : Fin 4096) (c : Fin 128) : k0_pay6 x (ix2 r c) = x (ix2 r c) := by
  pointwise [k0_pay6]
theorem pay7_apply (x : Vec Ideal S4096x128 .f32) (r : Fin 4096) (c : Fin 128) : k0_pay7 x (ix2 r c) = x (ix2 r c) := by
  pointwise [k0_pay7]

/-- The padded keys: 512 rows of zeros, then the rows. -/
theorem kpad_apply (x : Vec Ideal S4096x128 .f32) (X : ℕ → Fin 128 → EReal) (hX : ∀ (n : Fin 4096) d, x (ix2 n d) = X n d) (u : Fin 4608) (d : Fin 128) :
    kpad x (ix2 u d) = padRows X u d := by
  unfold kpad padded
  rw [put_rows _ 512 _ _ rfl rfl (k0_pay15 x) _ (fun y => congrArg (k0_pay15 x) (eq_ix2 y))]
  unfold padRows
  by_cases h : u.val < 512
  · rw [dif_neg (by omega), if_pos h, put_rows _ 0 _ _ rfl rfl (k0_pay13 (F := Ideal)) _ (fun y => congrArg (k0_pay13 (F := Ideal)) (eq_ix2 y)), dif_pos (by omega)]
    exact pay13_apply _ _
  · rw [dif_pos (by omega), if_neg h, pay15_apply, hX]

/-- The padded values: 512 rows of zeros, then the rows. -/
theorem vpad_apply (x : Vec Ideal S4096x128 .f32) (X : ℕ → Fin 128 → EReal) (hX : ∀ (n : Fin 4096) d, x (ix2 n d) = X n d) (u : Fin 4608) (d : Fin 128) :
    vpad x (ix2 u d) = padRows X u d := by
  unfold vpad padded
  rw [put_rows _ 512 _ _ rfl rfl (k0_pay16 x) _ (fun y => congrArg (k0_pay16 x) (eq_ix2 y))]
  unfold padRows
  by_cases h : u.val < 512
  · rw [dif_neg (by omega), if_pos h, put_rows _ 0 _ _ rfl rfl (k0_pay14 (F := Ideal)) _ (fun y => congrArg (k0_pay14 (F := Ideal)) (eq_ix2 y)), dif_pos (by omega)]
    exact pay14_apply _ _
  · rw [dif_pos (by omega), if_neg h, pay16_apply, hX]

/-- The indicator of the rows that mirror each other. -/
theorem mirror_word (a b : Fin 256) : FloatOps.sitofp (F := Ideal) .f32 (BitVec.setWidth 32 (IntOp.cmpi .eq (IntOp.addi (BitVec.ofNat 32 a.val) (BitVec.ofNat 32 b.val)) 255#32)) = if b = a.rev then (1 : EReal) else 0 := by
  have e : (BitVec.ofNat 32 a.val + BitVec.ofNat 32 b.val = 255#32) ↔ b = a.rev := by
    rw [← BitVec.toNat_inj, Fin.ext_iff]
    simp only [BitVec.toNat_add, BitVec.toNat_ofNat, Fin.val_rev]
    omega
  unfold IntOp.cmpi IntOp.addi
  by_cases h : b = a.rev
  · rw [if_pos h]
    simp only [e.2 h]
    show (((BitVec.setWidth 32 (BitVec.ofBool ((255#32 : BitVec 32) == 255#32))).toInt : ℝ) : EReal) = 1
    have : (BitVec.setWidth 32 (BitVec.ofBool ((255#32 : BitVec 32) == 255#32))).toInt = 1 := by decide
    rw [this]
    norm_num
  · rw [if_neg h]
    have : ¬ (BitVec.ofNat 32 a.val + BitVec.ofNat 32 b.val = 255#32) := fun q => h (e.1 q)
    have e' : (BitVec.ofNat 32 a.val + BitVec.ofNat 32 b.val == 255#32) = false := by simpa using this
    simp only [e']
    show (((BitVec.setWidth 32 (BitVec.ofBool false)).toInt : ℝ) : EReal) = 0
    have : (BitVec.setWidth 32 (BitVec.ofBool false)).toInt = 0 := by decide
    rw [this]
    norm_num

/-- A row of the sums over the diagonals of a block. -/
theorem pay8_apply (x : Vec Ideal S256x768 .f32) (o : Fin 768) :
    k0_pay8 x (ix3 0 0 o) = ∑ r : Fin 256, if h : 63 ≤ o.val + r.val ∧ o.val + r.val - 63 < 768 then x (ix2 r ⟨o.val + r.val - 63, h.2⟩) else 0 := by
  pointwise [k0_pay8]
  rw [← Equiv.sum_comp Fin.revPerm]
  refine Finset.sum_congr rfl fun r _ => ?_
  have hr := r.isLt
  have ho := o.isLt
  have hrev : (Fin.revPerm r).val = 255 - r.val := by simp [Fin.revPerm, Fin.rev]; try omega
  by_cases h : 63 ≤ o.val + r.val ∧ o.val + r.val - 63 < 768
  · rw [dif_pos h, dif_pos (by omega), Finset.sum_eq_single r]
    · rw [mirror_word, if_pos (by simp), one_mul]
      refine congrArg (fun k => x (ix2 r k)) (Fin.ext ?_)
      simp only
      omega
    · intro b _ hb
      rw [mirror_word, if_neg (by simpa using hb), zero_mul]
    · intro hh
      exact absurd (Finset.mem_univ _) hh
  · rw [dif_neg h, dif_neg (by omega)]

end Cert.KernelIdeal.Att

end
-- ==== Proof.HeadVal.lean ====
module

public import proofs.«01_k».proof.Proof.Pay

@[expose] public section

set_option maxRecDepth 16384
set_option pp.deepTerms false
set_option pp.maxSteps 1500

noncomputable section

namespace Cert.KernelIdeal.Att

open Idealize.ShloMosaic Idealize.ShloMosaic.TcCoe
open Cert.KernelIdeal Cert.KernelIdeal.Gen
open Cert.Band

/-! ## Sums over lanes and rows -/

/-- A sum over the lanes that is zero off a band is the sum over the band. -/
theorem sum_lanes (a : ℕ) (ha : a < 4) (f : ℕ → EReal) :
    (∑ c : Fin 768, if 64 * a ≤ c.val ∧ c.val < 64 * a + 576 then f (c.val - 64 * a) else 0) = ∑ k : Fin 576, f k := by
  rw [← Finset.sum_filter]
  refine Finset.sum_bij' (fun c hc => ⟨c.val - 64 * a, by have := (Finset.mem_filter.1 hc).2; omega⟩) (fun k _ => ⟨64 * a + k.val, by omega⟩) ?_ ?_ ?_ ?_ ?_
  · intro c hc
    exact Finset.mem_univ _
  · intro k _
    refine Finset.mem_filter.2 ⟨Finset.mem_univ _, ?_⟩
    simp only
    omega
  · intro c hc
    have := (Finset.mem_filter.1 hc).2
    refine Fin.ext ?_
    simp only
    omega
  · intro k _
    refine Fin.ext ?_
    simp only
    omega
  · intro c hc
    rfl

/-- The greatest of the lanes that are `⊥` off a band is the greatest of the band. -/
theorem top_lanes (a : ℕ) (ha : a < 4) (f : ℕ → EReal) :
    Finset.univ.fold max ⊥ (fun c : Fin 768 => if 64 * a ≤ c.val ∧ c.val < 64 * a + 576 then f (c.val - 64 * a) else ⊥) =
      Finset.univ.fold max ⊥ (fun k : Fin 576 => f k) := by
  apply le_antisymm
  · refine (Finset.fold_max_le _).2 ⟨bot_le, fun c _ => ?_⟩
    by_cases h : 64 * a ≤ c.val ∧ c.val < 64 * a + 576
    · rw [if_pos h]
      exact (Finset.le_fold_max _).2 (Or.inr ⟨⟨c.val - 64 * a, by omega⟩, Finset.mem_univ _, le_rfl⟩)
    · rw [if_neg h]
      exact bot_le
  · refine (Finset.fold_max_le _).2 ⟨bot_le, fun k _ => ?_⟩
    refine (Finset.le_fold_max _).2 (Or.inr ⟨⟨64 * a + k.val, by omega⟩, Finset.mem_univ _, ?_⟩)
    simp only
    rw [if_pos (by omega), Nat.add_sub_cancel_left]

/-- A sum over `m * n` numbers, in `m` runs of `n`. -/
theorem sum_runs (m n : ℕ) (f : ℕ → EReal) : ∑ i : Fin (m * n), f i = ∑ a : Fin m, ∑ b : Fin n, f (n * a.val + b.val) := by
  rw [← Finset.sum_product', Finset.univ_product_univ, ← finProdFinEquiv.sum_comp]
  refine Finset.sum_congr rfl fun p _ => ?_
  congr 1
  simp [finProdFinEquiv]
  ring

/-! ## One head's blocks -/

/-- The blocks that the kernel reads at one grid point hold one head. -/
structure Blocks (H : Head) (x0 x1 x2 : Vec Ideal S4096x128 .f32) (x3 : Vec Ideal S1x1x768 .f32) (x4 : Vec Ideal S4096x128 .bf16) : Prop where
  q : ∀ (n : Fin 4096) d, x0 (ix2 n d) = H.Q n d
  k : ∀ (n : Fin 4096) d, x1 (ix2 n d) = H.K n d
  v : ∀ (n : Fin 4096) d, x2 (ix2 n d) = H.V n d
  b : ∀ (q : Fin 64) (k : Fin 576) (h : k.val + 63 - q.val < 768), x3 (ix3 0 0 ⟨k.val + 63 - q.val, h⟩) = H.B q k
  o : ∀ (n : Fin 4096) d, x4 (ix2 n d) = H.D n d

/-- A number for each query and place of its band, by block, row and lane: zero off the row's band. -/
def spread (f : ℕ → ℕ → ℕ → EReal) (k r c : ℕ) : EReal :=
  if 64 * (r / 64) ≤ c ∧ c < 64 * (r / 64) + 576 then f (4 * k + r / 64) (r % 64) (c - 64 * (r / 64)) else 0

section Values

variable {H : Head} {x0 x1 x2 : Vec Ideal S4096x128 .f32} {x3 : Vec Ideal S1x1x768 .f32} {x4 : Vec Ideal S4096x128 .bf16}
  (B : Blocks H x0 x1 x2 x3 x4) (hr : H.Real) (hs : ∃ x : ℝ, scale = x)

include B

theorem lane_eq (k : Fin k0_t1_loop.trips) (r : Fin 256) (c : Fin 768) :
    lane (k0_pay20 x3) k (rowsQ x0 k) (rowsK (kpad x1) k) r c =
      if 64 * (r.val / 64) ≤ c.val ∧ c.val < 64 * (r.val / 64) + 576 then H.logit (4 * k.val + r.val / 64) (r.val % 64) (c.val - 64 * (r.val / 64)) else ⊥ := by
  have hk := k.isLt.trans_eq trips_eq
  unfold lane
  by_cases hb : 64 * (r.val / 64) ≤ c.val ∧ c.val < 64 * (r.val / 64) + 576
  · rw [if_pos hb]
    unfold Head.logit
    by_cases hv : 512 ≤ 256 * k.val + c.val
    · rw [if_pos ⟨hb, hv⟩, if_pos (by omega), pay20_apply x3 r c (by omega) (by omega)]
      have e : (ix3 0 0 ⟨c.val + 63 - r.val, by omega⟩ : S1x1x768.Idx) = ix3 0 0 ⟨(c.val - 64 * (r.val / 64)) + 63 - r.val % 64, by omega⟩ := by
        congr 1
        exact Fin.ext (by show c.val + 63 - r.val = (c.val - 64 * (r.val / 64)) + 63 - r.val % 64; omega)
      rw [e, B.b ⟨r.val % 64, by omega⟩ ⟨c.val - 64 * (r.val / 64), by omega⟩]
      congr 2
      refine Finset.sum_congr rfl fun d _ => ?_
      rw [rowsQ_apply, rowsK_apply, B.q, kpad_apply x1 H.K B.k]
      congr 2
      · show 256 * k.val + r.val = _; omega
      · show 256 * k.val + c.val = _; omega
    · rw [if_neg (fun h => hv h.2), if_neg (by omega)]
  · rw [if_neg hb, if_neg (fun h => hb h.1)]

include hr hs

/-- The probabilities of a block of queries, by row and lane. -/
theorem probs_eq (k : Fin k0_t1_loop.trips) (r : Fin 256) (c : Fin 768) :
    probs (k0_pay20 x3) k0_pay21 0#32 1#32 x0 (kpad x1) k (ix2 r c) = spread H.prob k r c := by
  have hk := k.isLt.trans_eq trips_eq
  unfold probs
  rw [pay10_apply]
  have htop : Finset.univ.fold max ⊥ (fun x => lane (k0_pay20 x3) k (rowsQ x0 k) (rowsK (kpad x1) k) r x) = H.top (4 * k.val + r.val / 64) (r.val % 64) := by
    simp only [lane_eq B]
    exact top_lanes (r.val / 64) (by omega) (H.logit (4 * k.val + r.val / 64) (r.val % 64))
  rw [htop]
  have hex : ∀ c : Fin 768, Ideal.exp (lane (k0_pay20 x3) k (rowsQ x0 k) (rowsK (kpad x1) k) r c - H.top (4 * k.val + r.val / 64) (r.val % 64)) = spread H.ex k r c := by
    intro c
    rw [lane_eq B]
    unfold spread Head.ex
    split_ifs
    · rfl
    · rw [EReal.bot_sub, Ideal.exp_bot]
  simp only [hex]
  have htot : ∑ c : Fin 768, spread H.ex k r c = H.tot (4 * k.val + r.val / 64) (r.val % 64) :=
    sum_lanes (r.val / 64) (by omega) (H.ex (4 * k.val + r.val / 64) (r.val % 64))
  rw [htot]
  unfold spread
  split_ifs
  · rfl
  · obtain ⟨S, hS, hS0⟩ := Head.tot_real hr hs (4 * k.val + r.val / 64) (r.val % 64)
    rw [hS, Ideal.div_coe hS0.ne', zero_mul]

/-- The gradient of the scores of a block of queries, by row and lane. -/
theorem dscore_eq (k : Fin k0_t1_loop.trips) (r : Fin 256) (c : Fin 768) :
    dscore (k0_pay20 x3) k0_pay21 0#32 1#32 x0 x4 (kpad x1) (vpad x2) k (ix2 r c) = spread H.ds k r c := by
  have hk := k.isLt.trans_eq trips_eq
  unfold dscore
  rw [pay11_apply]
  have hp := probs_eq B hr hs k r
  unfold probs at hp
  simp only [hp]
  have hd : ∀ c : Fin 768, 64 * (r.val / 64) ≤ c.val ∧ c.val < 64 * (r.val / 64) + 576 → (∑ x : Fin 128, rowsQ x4 k (ix2 r x) * rowsK (vpad x2) k (ix2 c x)) =
      H.dp (4 * k.val + r.val / 64) (r.val % 64) (c.val - 64 * (r.val / 64)) := by
    intro c hc
    unfold Head.dp
    refine Finset.sum_congr rfl fun d _ => ?_
    rw [rowsQ_apply, rowsK_apply, B.o, vpad_apply x2 H.V B.v]
    congr 2
    · show 256 * k.val + r.val = _; omega
    · show 256 * k.val + c.val = _; omega
  have hsum : (∑ y : Fin 768, spread H.prob k r y * ∑ x : Fin 128, rowsQ x4 k (ix2 r x) * rowsK (vpad x2) k (ix2 y x)) =
      ∑ k' : Fin 576, H.prob (4 * k.val + r.val / 64) (r.val % 64) k' * H.dp (4 * k.val + r.val / 64) (r.val % 64) k' := by
    rw [← sum_lanes (r.val / 64) (by omega) (fun k' => H.prob (4 * k.val + r.val / 64) (r.val % 64) k' * H.dp (4 * k.val + r.val / 64) (r.val % 64) k')]
    refine Finset.sum_congr rfl fun y _ => ?_
    unfold spread
    split_ifs with h
    · rw [hd y h]
    · rw [zero_mul]
  rw [hsum]
  unfold spread
  split_ifs with h
  · rw [hd c h]
    rfl
  · rw [zero_mul]

/-- The block of the queries' gradient. -/
theorem dq_eq (d0 : Vec Ideal S4096x128 .bf16) (n : Fin 4096) (j : Fin 128) :
    (fin x0 x1 x2 x3 x4 d0).dq (ix2 n j) = H.dQ (n.val / 64) (n.val % 64) j := by
  have hn := n.isLt
  have ht : n.val / 256 < k0_t1_loop.trips := by rw [trips_eq]; omega
  unfold fin
  have e := iter_dq (k0_pay20 x3) k0_pay21 0#32 1#32 x0 x4 (kpad x1) (vpad x2) ⟨d0, k0_pay17 (F := Ideal), k0_pay18 (F := Ideal), k0_pay19 (F := Ideal)⟩ k0_t1_loop.trips le_rfl ⟨n.val / 256, ht⟩ ht
    ⟨n.val % 256, by omega⟩ j (by show 256 * (n.val / 256) + n.val % 256 < 4096; omega)
  have en : (⟨256 * (n.val / 256) + n.val % 256, by omega⟩ : Fin 4096) = n := Fin.ext (by simp only; omega)
  rw [show (⟨256 * (⟨n.val / 256, ht⟩ : Fin k0_t1_loop.trips).val + (⟨n.val % 256, by omega⟩ : Fin 256).val, _⟩ : Fin 4096) = n from en] at e
  rw [e, pay3_apply]
  simp only [dscore_eq B hr hs]
  unfold Head.dQ
  rw [← sum_lanes (n.val % 256 / 64) (by omega) (fun k => H.ds (n.val / 64) (n.val % 64) k * scale * padRows H.K (64 * (n.val / 64) + k) j)]
  refine Finset.sum_congr rfl fun c _ => ?_
  unfold spread
  by_cases h : 64 * (n.val % 256 / 64) ≤ c.val ∧ c.val < 64 * (n.val % 256 / 64) + 576
  · rw [if_pos h, if_pos h, rowsK_apply, kpad_apply x1 H.K B.k]
    have e1 : 4 * (n.val / 256) + n.val % 256 / 64 = n.val / 64 := by omega
    have e2 : n.val % 256 % 64 = n.val % 64 := by omega
    have e3 : 256 * (n.val / 256) + c.val = 64 * (n.val / 64) + (c.val - 64 * (n.val % 256 / 64)) := by omega
    rw [e1, e2]
    simp only
    rw [e3]
  · rw [if_neg h, if_neg h, zero_mul, zero_mul]

/-- What the trips before `n` add to the keys' gradient at a padded row. -/
theorem dk_iter (s : St Ideal) (n : ℕ) (hn : n ≤ k0_t1_loop.trips) (u : Fin 4608) (j : Fin 128) :
    (iter (k0_pay20 x3) k0_pay21 0#32 1#32 x0 x4 (kpad x1) (vpad x2) s n).dk (ix2 u j) = s.dk (ix2 u j) +
      ∑ k ∈ Finset.range n, if 256 * k ≤ u.val ∧ u.val < 256 * k + 768 then ∑ r : Fin 256, spread H.ds k r (u.val - 256 * k) * scale * H.Q (256 * k + r.val) j else 0 := by
  induction n with
  | zero => simp [iter]
  | succ n ih =>
    have hlt := hn
    rw [trips_eq] at hlt
    rw [iter_succ _ _ _ _ _ _ _ _ _ n hn]
    unfold step
    simp only
    rw [put_rows _ (256 * n) _ _ (off2_eq ⟨n, hn⟩) rfl _ _ (fun y => congrArg _ (eq_ix2 y)), Finset.sum_range_succ, ← add_assoc, ← ih (by omega)]
    by_cases h : 256 * n ≤ u.val ∧ u.val < 256 * n + 768
    · rw [dif_pos h, if_pos h, pay4_apply, rowsK_apply]
      congr 1
      · congr 2
        exact Fin.ext (by simp only; omega)
      · refine Finset.sum_congr rfl fun r _ => ?_
        rw [dscore_eq B hr hs, pay9_apply, rowsQ_apply, B.q]
    · rw [dif_neg h, if_neg h, add_zero]

/-- What the trips before `n` add to the values' gradient at a padded row. -/
theorem dv_iter (s : St Ideal) (n : ℕ) (hn : n ≤ k0_t1_loop.trips) (u : Fin 4608) (j : Fin 128) :
    (iter (k0_pay20 x3) k0_pay21 0#32 1#32 x0 x4 (kpad x1) (vpad x2) s n).dv (ix2 u j) = s.dv (ix2 u j) +
      ∑ k ∈ Finset.range n, if 256 * k ≤ u.val ∧ u.val < 256 * k + 768 then ∑ r : Fin 256, spread H.prob k r (u.val - 256 * k) * H.D (256 * k + r.val) j else 0 := by
  induction n with
  | zero => simp [iter]
  | succ n ih =>
    have hlt := hn
    rw [trips_eq] at hlt
    rw [iter_succ _ _ _ _ _ _ _ _ _ n hn]
    unfold step
    simp only
    rw [put_rows _ (256 * n) _ _ (off2_eq ⟨n, hn⟩) rfl _ _ (fun y => congrArg _ (eq_ix2 y)), Finset.sum_range_succ, ← add_assoc, ← ih (by omega)]
    by_cases h : 256 * n ≤ u.val ∧ u.val < 256 * n + 768
    · rw [dif_pos h, if_pos h, pay5_apply, rowsK_apply]
      congr 1
      · congr 2
        exact Fin.ext (by simp only; omega)
      · refine Finset.sum_congr rfl fun r _ => ?_
        rw [probs_eq B hr hs, rowsQ_apply, B.o]
    · rw [dif_neg h, if_neg h, add_zero]

/-- The sum of the gradients of the scores over the trips before `n`, by row and lane. -/
theorem db_iter (s : St Ideal) (n : ℕ) (hn : n ≤ k0_t1_loop.trips) (r : Fin 256) (c : Fin 768) :
    (iter (k0_pay20 x3) k0_pay21 0#32 1#32 x0 x4 (kpad x1) (vpad x2) s n).db (ix2 r c) = s.db (ix2 r c) +
      ∑ k ∈ Finset.range n, spread H.ds k r c := by
  induction n with
  | zero => simp [iter]
  | succ n ih =>
    rw [iter_succ _ _ _ _ _ _ _ _ _ n hn]
    unfold step
    simp only
    rw [pay12_apply, Finset.sum_range_succ, ← add_assoc, ih (by omega)]
    congr 1
    exact dscore_eq B hr hs ⟨n, hn⟩ r c

end Values

/-- The blocks' sums at a padded row, as a sum over the chunks whose band holds it. -/
theorem sum_blocks (f : ℕ → ℕ → ℕ → EReal) (g : ℕ → ℕ → ℕ → EReal) (X : ℕ → EReal) (hg : ∀ k r c, g k r c = spread f k r c * X (256 * k + r)) (u : ℕ) :
    (∑ k ∈ Finset.range 16, if 256 * k ≤ u ∧ u < 256 * k + 768 then ∑ r : Fin 256, g k r (u - 256 * k) else 0) =
      ∑ c : Fin 64, ∑ q : Fin 64, if 64 * c.val ≤ u ∧ u < 64 * c.val + 576 then f c q (u - 64 * c.val) * X (64 * c.val + q.val) else 0 := by
  have h1 := sum_runs 16 4 (fun c => ∑ q : Fin 64, if 64 * c ≤ u ∧ u < 64 * c + 576 then f c q (u - 64 * c) * X (64 * c + q.val) else 0)
  refine Eq.trans ?_ h1.symm
  rw [Finset.sum_range]
  refine Finset.sum_congr rfl fun k _ => ?_
  have h2 := sum_runs 4 64 (fun r => g k r (u - 256 * k.val))
  have h3 : (∑ r : Fin 256, g k r (u - 256 * k.val)) = ∑ a : Fin 4, ∑ b : Fin 64, g k (64 * a.val + b.val) (u - 256 * k.val) := h2
  rw [h3]
  by_cases h : 256 * k.val ≤ u ∧ u < 256 * k.val + 768
  · rw [if_pos h]
    refine Finset.sum_congr rfl fun a _ => Finset.sum_congr rfl fun b _ => ?_
    rw [hg]
    unfold spread
    have e1 : (64 * a.val + b.val) / 64 = a.val := by omega
    have e2 : (64 * a.val + b.val) % 64 = b.val := by omega
    rw [e1, e2]
    by_cases hc : 64 * (4 * k.val + a.val) ≤ u ∧ u < 64 * (4 * k.val + a.val) + 576
    · rw [if_pos hc, if_pos (by omega)]
      congr 2 <;> omega
    · rw [if_neg hc, if_neg (by omega), zero_mul]
  · rw [if_neg h]
    symm
    refine Finset.sum_eq_zero fun a _ => Finset.sum_eq_zero fun b _ => if_neg ?_
    omega

section Values

variable {H : Head} {x0 x1 x2 : Vec Ideal S4096x128 .f32} {x3 : Vec Ideal S1x1x768 .f32} {x4 : Vec Ideal S4096x128 .bf16}
  (B : Blocks H x0 x1 x2 x3 x4) (hr : H.Real) (hs : ∃ x : ℝ, scale = x)

include B hr hs

/-- The block of the keys' gradient. -/
theorem dk_eq (d0 : Vec Ideal S4096x128 .bf16) (n : Fin 4096) (j : Fin 128) :
    outDk (fin x0 x1 x2 x3 x4 d0) (ix2 n j) = H.dK (512 + n.val) j := by
  unfold outDk
  rw [pay6_apply]
  refine (window_rows _ 512 _ _ rfl n j (by omega)).trans ?_
  unfold fin
  rw [dk_iter B hr hs _ _ le_rfl]
  show k0_pay17 (F := Ideal) (ix2 ⟨512 + n.val, by omega⟩ j) + _ = _
  rw [pay17_apply, zero_add, trips_eq]
  exact sum_blocks (fun c q k => H.ds c q k * scale) (fun k r c => spread H.ds k r c * scale * H.Q (256 * k + r) j) (fun n => H.Q n j)
    (fun k r c => by unfold spread; split_ifs <;> simp) _

/-- The block of the values' gradient. -/
theorem dv_eq (d0 : Vec Ideal S4096x128 .bf16) (n : Fin 4096) (j : Fin 128) :
    outDv (fin x0 x1 x2 x3 x4 d0) (ix2 n j) = H.dV (512 + n.val) j := by
  unfold outDv
  rw [pay7_apply]
  refine (window_rows _ 512 _ _ rfl n j (by omega)).trans ?_
  unfold fin
  rw [dv_iter B hr hs _ _ le_rfl]
  show k0_pay18 (F := Ideal) (ix2 ⟨512 + n.val, by omega⟩ j) + _ = _
  rw [pay18_apply, zero_add, trips_eq]
  exact sum_blocks H.prob (fun k r c => spread H.prob k r c * H.D (256 * k + r) j) (fun n => H.D n j) (fun k r c => rfl) _

/-- The sum of the gradients of the scores, by row and lane. -/
theorem db_eq (d0 : Vec Ideal S4096x128 .bf16) (r : Fin 256) (c : Fin 768) :
    (fin x0 x1 x2 x3 x4 d0).db (ix2 r c) = ∑ k : Fin 16, spread H.ds k r c := by
  unfold fin
  rw [db_iter B hr hs _ _ le_rfl]
  show k0_pay19 (F := Ideal) (ix2 r c) + _ = _
  rw [pay19_apply, zero_add, trips_eq, Finset.sum_range]

end Values

end Cert.KernelIdeal.Att

end
-- ==== Proof.KerRead.lean ====
module

public import proofs.«01_k».proof.Proof.LaunchRun
public import proofs.«01_k».proof.Proof.HeadVal
public import Idealize.ShloMosaic.Lib.Claim
public import Idealize.ShloMosaic.Lib.Pipeline.ValueKit
public import Idealize.ShloMosaic.Lib.StableHlo.Run

@[expose] public section

set_option maxRecDepth 16384

noncomputable section

namespace Cert.KernelIdeal.Att

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.Band

variable (m : (ℓ : Loc nD τ sig) → Buf (Elt Ideal) ℓ)

/-- A head of the arguments as launched. -/
def hd (c : Dev nD) (h : Fin 8) : Head := headOf (m ((c.tc : Thread nD τ).loc main_arg0)) (m ((c.tc : Thread nD τ).loc main_arg1)) (m ((c.tc : Thread nD τ).loc main_arg2)) h

/-- The head of a grid point. -/
def pt (t : Fin cfg0.N) : Fin 8 := ⟨t.val, lt_of_lt_of_eq t.isLt N_0⟩

theorem index_q : ∀ t : Fin grid0.N, win0_0.index t 0 = 0 ∧ win0_0.index t 1 = 16 + t.val := by decide +kernel
theorem index_k : ∀ t : Fin grid0.N, win0_1.index t 0 = 0 ∧ win0_1.index t 1 = 24 + t.val := by decide +kernel
theorem index_v : ∀ t : Fin grid0.N, win0_2.index t 0 = 0 ∧ win0_2.index t 1 = 32 + t.val := by decide +kernel
theorem index_b : ∀ t : Fin grid0.N, win0_3.index t 0 = t.val ∧ win0_3.index t 1 = 0 ∧ win0_3.index t 2 = 0 := by decide +kernel
theorem index_o : ∀ t : Fin grid0.N, win0_4.index t 0 = 0 ∧ win0_4.index t 1 = t.val := by decide +kernel
theorem index_dq : ∀ t : Fin grid0.N, win0_5.index t 0 = 0 ∧ win0_5.index t 1 = t.val := by decide +kernel
theorem index_dk : ∀ t : Fin grid0.N, win0_6.index t 0 = 0 ∧ win0_6.index t 1 = t.val := by decide +kernel
theorem index_dv : ∀ t : Fin grid0.N, win0_7.index t 0 = 0 ∧ win0_7.index t 1 = t.val := by decide +kernel
theorem index_db : ∀ t : Fin grid0.N, win0_8.index t 0 = t.val ∧ win0_8.index t 1 = 0 ∧ win0_8.index t 2 = 0 := by decide +kernel

theorem block_q (c : Dev nD) (t : Fin cfg0.N) (n : Fin 4096) (d : Fin 128) :
    @Eq EReal (iblk m c 0 t (ix2 n d)) ((hd m c (pt t)).Q n d) := by
  have h := index_q t
  show _ = dite _ _ _
  rw [dif_pos n.isLt, ← V_main_arg0 m c]
  blk_ext [iblk, h.1, h.2, pt]

theorem block_k (c : Dev nD) (t : Fin cfg0.N) (n : Fin 4096) (d : Fin 128) :
    @Eq EReal (iblk m c 1 t (ix2 n d)) ((hd m c (pt t)).K n d) := by
  have h := index_k t
  show _ = dite _ _ _
  rw [dif_pos n.isLt, ← V_main_arg0 m c]
  blk_ext [iblk, h.1, h.2, pt]

theorem block_v (c : Dev nD) (t : Fin cfg0.N) (n : Fin 4096) (d : Fin 128) :
    @Eq EReal (iblk m c 2 t (ix2 n d)) ((hd m c (pt t)).V n d) := by
  have h := index_v t
  show _ = dite _ _ _
  rw [dif_pos n.isLt, ← V_main_arg0 m c]
  blk_ext [iblk, h.1, h.2, pt]

theorem block_o (c : Dev nD) (t : Fin cfg0.N) (n : Fin 4096) (d : Fin 128) :
    @Eq EReal (iblk m c 4 t (ix2 n d)) ((hd m c (pt t)).D n d) := by
  have h := index_o t
  show _ = dite _ _ _
  rw [dif_pos n.isLt, ← V_main_arg2 m c]
  blk_ext [iblk, h.1, h.2, pt]

/-- The rows of the bias, by lane, that the host builds from the table. -/
def biasRows (x : Vec Ideal S8x257 .f32) : Vec Ideal S8x1x768 .f32 :=
  broadcastInDim S8x1x768 ![0, 2] bcast_S8x768_S8x1x768_0_2
    (concatenate S8x768 1 [⟨S8x448, broadcastInDim S8x448 ![0, 1] bcast_S8x1_S8x448_0_1 (extractStridedSlice S8x1 ![0, 256] x slices_S8x257_S8x1_0_256)⟩,
      ⟨S8x191, Host.reverse [1] (extractStridedSlice S8x191 ![0, 65] x slices_S8x257_S8x191_0_65)⟩,
      ⟨S8x129, broadcastInDim S8x129 ![] bcast_S_S8x129 (constant (F := Ideal) S_ .f32 0x00000000#32)⟩] concatenates_S8x448_S8x191_S8x129_S8x768_d1)

theorem bias_term (c : Dev nD) : V m c main_v7 = biasRows (m ((c.tc : Thread nD τ).loc main_arg1)) := by
  unfold V V0
  simp only [List.flatten_cons, List.flatten_nil, List.append_nil]
  after_results_simp
  all_goals rfl

theorem biasRows_apply (x : Vec Ideal S8x257 .f32) (h : Fin 8) (o : Fin 768) (ho : o.val < 639) :
    biasRows x (ix3 h 0 o) = x (ix2 h ⟨min (703 - o.val) 256, by omega⟩) := by
  pointwise [biasRows]
  by_cases h1 : o.val < 448
  · rw [dif_pos h1]
    exact congrArg (fun k => x (ix2 h k)) (Fin.ext (by show 256 = min (703 - o.val) 256; omega))
  · rw [dif_neg h1, dif_pos (show o.val - 448 < 191 by omega)]
    refine congrArg₂ (fun a b => x (ix2 a b)) (if_neg (by decide)) (Fin.ext ?_)
    refine (congrArg (fun k => 65 + Fin.val k) (if_pos (by decide))).trans ?_
    show 65 + (191 - (o.val - 448 + 1)) = min (703 - o.val) 256
    omega

theorem bias_row (c : Dev nD) (h : Fin 8) (o : Fin 768) (ho : o.val < 639) :
    @Eq EReal (V m c main_v7 (ix3 h 0 o)) (m ((c.tc : Thread nD τ).loc main_arg1) (ix2 h ⟨min (703 - o.val) 256, by omega⟩)) :=
  (congrFun (bias_term m c) _).trans (biasRows_apply _ h o ho)

/-- The blocks of a grid point hold its head. -/
theorem blocks (c : Dev nD) (t : Fin cfg0.N) : Blocks (hd m c (pt t)) (iblk m c 0 t) (iblk m c 1 t) (iblk m c 2 t) (iblk m c 3 t) (iblk m c 4 t) where
  q := block_q m c t
  k := block_k m c t
  v := block_v m c t
  b q k hk := by
    have h := index_b t
    refine Eq.trans ?_ ((bias_row m c (pt t) ⟨k.val + 63 - q.val, hk⟩ (by simp only; omega)).trans ?_)
    · blk_ext [iblk, h.1, h.2.1, h.2.2, pt]
    · exact congrArg (fun k => m ((c.tc : Thread nD τ).loc main_arg1) (ix2 (pt t) k)) (Fin.ext (by show min (703 - (k.val + 63 - q.val)) 256 = min (640 + q.val - k.val) 256; omega))
  o := block_o m c t

/-- The head that a column of a result belongs to, and its place there. -/
def colHead (i : Fin 1024) : Fin 8 := ⟨i.val / 128, by omega⟩
def colAt (i : Fin 1024) : Fin 128 := ⟨i.val % 128, by omega⟩

section Real
variable (hr : ∀ c h, (hd m c h).Real) (hs : ∃ x : ℝ, scale = x)
include hr hs

/-- The array of the queries' gradient after the run. -/
theorem arr_dq (c : Dev nD) : (dats m 0 c).arrAt 5 cfg0.N = fun i => (hd m c (colHead (i 1))).dQ ((i 0).val / 64) ((i 0).val % 64) (colAt (i 1)) := by
  refine (dats m 0 c).arrAt_eq_of_covers 5 _ (by decide +kernel) fun t _ y => ?_
  have h := index_dq t
  have e : ∀ z : S4096x128.Idx, (stAt m c t).dq z = (hd m c (pt t)).dQ ((z 0).val / 64) ((z 0).val % 64) (z 1) := fun z => by
    rw [eq_ix2 z]
    exact dq_eq (blocks m c t) (hr c _) hs _ _ _
  have hy : (y 1).val < 128 := (y 1).isLt
  have e1 : colHead (((cfg0.win 5).blk t).view.emb y 1) = pt t := Fin.ext (by
    show (((cfg0.win 5).blk t).view.emb y 1).val / 128 = t.val
    blk_simp [h.1, h.2]
    omega)
  have e2 : colAt (((cfg0.win 5).blk t).view.emb y 1) = y 1 := Fin.ext (by
    show (((cfg0.win 5).blk t).view.emb y 1).val % 128 = (y 1).val
    blk_simp [h.1, h.2]
    omega)
  have e0 : (((cfg0.win 5).blk t).view.emb y 0).val = (y 0).val := by
    blk_simp [h.1, h.2]
  refine (e y).trans ?_
  show _ = (hd m c (colHead (((cfg0.win 5).blk t).view.emb y 1))).dQ ((((cfg0.win 5).blk t).view.emb y 0).val / 64) ((((cfg0.win 5).blk t).view.emb y 0).val % 64) (colAt (((cfg0.win 5).blk t).view.emb y 1))
  rw [e1, e2, e0]

/-- The array of the keys' gradient after the run. -/
theorem arr_dk (c : Dev nD) : (dats m 0 c).arrAt 6 cfg0.N = fun i => (hd m c (colHead (i 1))).dK (512 + (i 0).val) (colAt (i 1)) := by
  refine (dats m 0 c).arrAt_eq_of_covers 6 _ (by decide +kernel) fun t _ y => ?_
  have h := index_dk t
  have e : ∀ z : S4096x128.Idx, outDk (stAt m c t) z = (hd m c (pt t)).dK (512 + (z 0).val) (z 1) := fun z => by
    rw [eq_ix2 z]
    exact dk_eq (blocks m c t) (hr c _) hs _ _ _
  have hy : (y 1).val < 128 := (y 1).isLt
  have e1 : colHead (((cfg0.win 6).blk t).view.emb y 1) = pt t := Fin.ext (by
    show (((cfg0.win 6).blk t).view.emb y 1).val / 128 = t.val
    blk_simp [h.1, h.2]
    omega)
  have e2 : colAt (((cfg0.win 6).blk t).view.emb y 1) = y 1 := Fin.ext (by
    show (((cfg0.win 6).blk t).view.emb y 1).val % 128 = (y 1).val
    blk_simp [h.1, h.2]
    omega)
  have e0 : (((cfg0.win 6).blk t).view.emb y 0).val = (y 0).val := by
    blk_simp [h.1, h.2]
  refine (e y).trans ?_
  show _ = (hd m c (colHead (((cfg0.win 6).blk t).view.emb y 1))).dK (512 + (((cfg0.win 6).blk t).view.emb y 0).val) (colAt (((cfg0.win 6).blk t).view.emb y 1))
  rw [e1, e2, e0]

/-- The array of the values' gradient after the run. -/
theorem arr_dv (c : Dev nD) : (dats m 0 c).arrAt 7 cfg0.N = fun i => (hd m c (colHead (i 1))).dV (512 + (i 0).val) (colAt (i 1)) := by
  refine (dats m 0 c).arrAt_eq_of_covers 7 _ (by decide +kernel) fun t _ y => ?_
  have h := index_dv t
  have e : ∀ z : S4096x128.Idx, outDv (stAt m c t) z = (hd m c (pt t)).dV (512 + (z 0).val) (z 1) := fun z => by
    rw [eq_ix2 z]
    exact dv_eq (blocks m c t) (hr c _) hs _ _ _
  have hy : (y 1).val < 128 := (y 1).isLt
  have e1 : colHead (((cfg0.win 7).blk t).view.emb y 1) = pt t := Fin.ext (by
    show (((cfg0.win 7).blk t).view.emb y 1).val / 128 = t.val
    blk_simp [h.1, h.2]
    omega)
  have e2 : colAt (((cfg0.win 7).blk t).view.emb y 1) = y 1 := Fin.ext (by
    show (((cfg0.win 7).blk t).view.emb y 1).val % 128 = (y 1).val
    blk_simp [h.1, h.2]
    omega)
  have e0 : (((cfg0.win 7).blk t).view.emb y 0).val = (y 0).val := by
    blk_simp [h.1, h.2]
  refine (e y).trans ?_
  show _ = (hd m c (colHead (((cfg0.win 7).blk t).view.emb y 1))).dV (512 + (((cfg0.win 7).blk t).view.emb y 0).val) (colAt (((cfg0.win 7).blk t).view.emb y 1))
  rw [e1, e2, e0]

end Real

end Cert.KernelIdeal.Att

end
-- ==== Proof.KerDrel.lean ====
module

public import proofs.«01_k».proof.Proof.KerRead

@[expose] public section

set_option maxRecDepth 16384

noncomputable section

namespace Cert.KernelIdeal.Att

open Idealize.ShloMosaic Idealize.ShloMosaic.TcCoe Idealize.ShloMosaic.Tactic
open Idealize.SL.Sem
open Idealize.ShloMosaic.Pipeline (Dat Cfg Window)
open Cert.KernelIdeal Cert.KernelIdeal.Gen Cert.Band

/-- The sum over the queries and the places of their bands that lie on one diagonal. -/
def diag (H : Head) (o : ℕ) : EReal := ∑ q : Fin 64, ∑ k : Fin 576, if k.val + 63 = o + q.val then ∑ c : Fin 64, H.ds c q k else 0

/-- The sum over the places of one query on a diagonal has at most one term. -/
theorem diag_place (f : ℕ → EReal) (o q : ℕ) :
    (∑ k : Fin 576, if k.val + 63 = o + q then f k else 0) = if 63 ≤ o + q ∧ o + q - 63 < 576 then f (o + q - 63) else 0 := by
  by_cases h : 63 ≤ o + q ∧ o + q - 63 < 576
  · rw [if_pos h, Finset.sum_eq_single ⟨o + q - 63, h.2⟩]
    · exact if_pos (by simp only; omega)
    · intro b _ hb
      refine if_neg fun e => hb (Fin.ext ?_)
      simp only
      omega
    · intro hh
      exact absurd (Finset.mem_univ _) hh
  · rw [if_neg h]
    exact Finset.sum_eq_zero fun k _ => if_neg (by have := k.isLt; omega)

/-- The rows of the sum over the diagonals, by query of a chunk. -/
theorem diag_rows (H : Head) (o : ℕ) :
    (∑ r : Fin 256, if 63 ≤ o + r.val ∧ o + r.val - 63 < 768 then ∑ b : Fin 16, spread H.ds b r (o + r.val - 63) else 0) = diag H o := by
  unfold diag
  have h2 := sum_runs 4 64 (fun r => if 63 ≤ o + r ∧ o + r - 63 < 768 then ∑ b : Fin 16, spread H.ds b r (o + r - 63) else 0)
  refine Eq.trans h2 ?_
  rw [Finset.sum_comm]
  refine Finset.sum_congr rfl fun q _ => ?_
  rw [diag_place (fun k => ∑ c : Fin 64, H.ds c q k)]
  by_cases h : 63 ≤ o + q.val ∧ o + q.val - 63 < 576
  · rw [if_pos h]
    have h3 := sum_runs 16 4 (fun c => H.ds c q (o + q.val - 63))
    refine Eq.trans ?_ h3.symm
    rw [Finset.sum_comm (s := (Finset.univ : Finset (Fin 16)))]
    refine Finset.sum_congr rfl fun a _ => ?_
    rw [if_pos (by omega)]
    refine Finset.sum_congr rfl fun b _ => ?_
    unfold spread
    rw [if_pos (by omega)]
    congr 1 <;> omega
  · rw [if_neg h]
    refine Finset.sum_eq_zero fun a _ => ?_
    by_cases h' : 63 ≤ o + (64 * a.val + q.val) ∧ o + (64 * a.val + q.val) - 63 < 768
    · rw [if_pos h']
      refine Finset.sum_eq_zero fun b _ => if_neg ?_
      omega
    · rw [if_neg h']

/-- The entries of the table whose positions are not clipped. -/
theorem rel_diag (H : Head) (n : Fin 257) (h0 : 65 ≤ n.val) (h1 : n.val < 256) :
    diag H (703 - n.val) = ∑ q : Fin 64, ∑ k : Fin 576, if rel q k = n then ∑ c : Fin 64, H.ds c q k else 0 := by
  refine Finset.sum_congr rfl fun q _ => Finset.sum_congr rfl fun k _ => ?_
  have e : (k.val + 63 = 703 - n.val + q.val) ↔ rel q k = n := by
    rw [Fin.ext_iff]
    show _ ↔ min (640 + q.val - k.val) 256 = n.val
    omega
  simp only [e]

/-- The entry of the table that every clipped position reads. -/
theorem rel_last (H : Head) (n : Fin 257) (h : n.val = 256) :
    (∑ o : Fin 448, diag H o) = ∑ q : Fin 64, ∑ k : Fin 576, if rel q k = n then ∑ c : Fin 64, H.ds c q k else 0 := by
  unfold diag
  rw [Finset.sum_comm]
  refine Finset.sum_congr rfl fun q _ => ?_
  rw [Finset.sum_comm]
  refine Finset.sum_congr rfl fun k _ => ?_
  by_cases e : rel q k = n
  · rw [if_pos e]
    rw [Fin.ext_iff] at e
    replace e : min (640 + q.val - k.val) 256 = n.val := e
    rw [Finset.sum_eq_single ⟨k.val + 63 - q.val, by omega⟩]
    · exact if_pos (by simp only; omega)
    · intro b _ hb
      refine if_neg fun e => hb (Fin.ext ?_)
      simp only
      omega
    · intro hh
      exact absurd (Finset.mem_univ _) hh
  · rw [if_neg e]
    refine Finset.sum_eq_zero fun o _ => if_neg fun e' => e (Fin.ext ?_)
    show min (640 + q.val - k.val) 256 = n.val
    have := o.isLt
    omega

/-- The entries of the table that no position reads. -/
theorem rel_none (H : Head) (n : Fin 257) (h : n.val < 65) :
    (0 : EReal) = ∑ q : Fin 64, ∑ k : Fin 576, if rel q k = n then ∑ c : Fin 64, H.ds c q k else 0 := by
  refine (Finset.sum_eq_zero fun q _ => Finset.sum_eq_zero fun k _ => if_neg fun e => ?_).symm
  rw [Fin.ext_iff] at e
  replace e : min (640 + q.val - k.val) 256 = n.val := e
  omega

/-- The table that the host folds the rows of diagonal sums into. -/
def foldRows (x : Vec Ideal S8x1x768 .f32) : Vec Ideal S8x257 .f32 :=
  addf (pad S8x257 ![0, 65] ![0, 1] ![0, 0] (Host.reverse [1] (extractStridedSlice S8x191 ![0, 448] (Host.reduceAdd x (constant (F := Ideal) S_ .f32 0x00000000#32) reducesTo_S8x1x768_S8x768_d1 h_S_) slices_S8x768_S8x191_0_448))
      (constant (F := Ideal) S_ .f32 0x00000000#32) pads_S8x191_S8x257_000_6510 h_S_)
    (pad S8x257 ![0, 256] ![0, 0] ![0, 0] (broadcastInDim S8x1 ![0] bcast_S8_S8x1_0 (Host.reduceAdd (extractStridedSlice S8x448 ![0, 0] (Host.reduceAdd x (constant (F := Ideal) S_ .f32 0x00000000#32) reducesTo_S8x1x768_S8x768_d1 h_S_) slices_S8x768_S8x448_0_0)
      (constant (F := Ideal) S_ .f32 0x00000000#32) reducesTo_S8x448_S8_d1 h_S_)) (constant (F := Ideal) S_ .f32 0x00000000#32) pads_S8x1_S8x257_000_25600 h_S_)

/-- That table at an index. -/
theorem foldRows_apply (x : Vec Ideal S8x1x768 .f32) (h : Fin 8) (n : Fin 257) :
    foldRows x (ix2 h n) = if h0 : 65 ≤ n.val ∧ n.val < 256 then x (ix3 h 0 ⟨703 - n.val, by omega⟩) else if n.val = 256 then ∑ o : Fin 448, x (ix3 h 0 ⟨o.val, by omega⟩) else 0 := by
  pointwise [foldRows]
  by_cases h0 : 65 ≤ n.val ∧ n.val < 256
  · rw [dif_pos h0, dif_pos (show 65 ≤ n.val ∧ n.val - 65 < 191 by omega), dif_neg (show ¬ (256 ≤ n.val ∧ n.val - 256 < 1) by omega), add_zero]
    refine (Fintype.sum_unique _).trans ?_
    refine congrArg₂ (fun a b => x (ix3 a 0 b)) (if_neg (by decide)) (Fin.ext ?_)
    refine (congrArg (fun k => 448 + Fin.val k) (if_pos (by decide))).trans ?_
    show 448 + (191 - (n.val - 65 + 1)) = 703 - n.val
    omega
  · rw [dif_neg h0, dif_neg (show ¬ (65 ≤ n.val ∧ n.val - 65 < 191) by omega), zero_add]
    by_cases h1 : n.val = 256
    · rw [if_pos h1, dif_pos (show 256 ≤ n.val ∧ n.val - 256 < 1 by omega)]
      exact Finset.sum_congr rfl fun o _ => Fintype.sum_unique _
    · rw [if_neg h1, dif_neg (show ¬ (256 ≤ n.val ∧ n.val - 256 < 1) by omega)]

/-- The last result is the table folded from the rows that the pipeline leaves. -/
theorem fold_term (m : (ℓ : Loc nD τ sig) → Buf (Elt Ideal) ℓ) (c : Dev nD) :
    Pipeline.afterTail₀ cfgs (dats m) 0 (V0 m) [hostOps1] c main_v18 = foldRows ((dats m 0 c).arrAt 8 cfg0.N) := by
  unfold Pipeline.afterTail₀
  simp only [List.flatten_cons, List.flatten_nil, List.append_nil]
  after_results_simp
  rw [show Pipeline.withArrays (cfgs 0).spec c (V0 m c) (fun w => (dats m 0 c).arrAt w (cfgs 0).N) (Proc.devRef .tc main_v8_3) = (dats m 0 c).arrAt 8 cfg0.N from
    Pipeline.withArrays_arr_shared spec0 c (V0 m c) (fun w => (dats m 0 c).arrAt w cfg0.N) ((dats m 0 c).arrAt_sharedIn (by decide +kernel) (V0 m c) (fun _ => rfl) cfg0.N) 8]
  rfl

section Real
variable (m : (ℓ : Loc nD τ sig) → Buf (Elt Ideal) ℓ) (ρ : Dev nD → PrngReg)
variable (hr : ∀ c h, (hd m c h).Real) (hs : ∃ x : ℝ, scale = x)
include hr hs

/-- The block of diagonal sums at a grid point. -/
theorem db_block (c : Dev nD) (t : Fin cfg0.N) (o : Fin 768) : outDb (stAt m c t) (ix3 0 0 o) = diag (hd m c (pt t)) o.val := by
  unfold outDb
  rw [pay8_apply, ← diag_rows]
  refine Finset.sum_congr rfl fun r _ => ?_
  by_cases h : 63 ≤ o.val + r.val ∧ o.val + r.val - 63 < 768
  · rw [dif_pos h, if_pos h]
    exact db_eq (blocks m c t) (hr c _) hs _ _ _
  · rw [dif_neg h, if_neg h]

/-- The array of diagonal sums after the run. -/
theorem arr_db (c : Dev nD) : (dats m 0 c).arrAt 8 cfg0.N = fun i => diag (hd m c (i 0)) (i 2).val := by
  refine (dats m 0 c).arrAt_eq_of_covers 8 _ (by decide +kernel) fun t _ y => ?_
  have h := index_db t
  have e : ∀ z : S1x1x768.Idx, outDb (stAt m c t) z = diag (hd m c (pt t)) (z 2).val := fun z => by
    rw [eq_ix3 z, show z 0 = (0 : Fin 1) from Subsingleton.elim (α := Fin 1) _ _, show z 1 = (0 : Fin 1) from Subsingleton.elim (α := Fin 1) _ _]
    exact db_block m hr hs c t _
  have h0 : (y 0).val < 1 := (y 0).isLt
  have e0 : (((cfg0.win 8).blk t).view.emb y 0 : Fin 8) = pt t := Fin.ext (by
    show (((cfg0.win 8).blk t).view.emb y 0).val = t.val
    blk_simp [h.1, h.2.1, h.2.2])
  have e2 : (((cfg0.win 8).blk t).view.emb y 2).val = (y 2).val := by
    blk_simp [h.1, h.2.1, h.2.2]
  refine (e y).trans ?_
  show _ = diag (hd m c (((cfg0.win 8).blk t).view.emb y 0 : Fin 8)) (((cfg0.win 8).blk t).view.emb y 2).val
  rw [e0, e2]

/-- The gradient of the table of biases. -/
def tabled (c : Dev nD) (h : Fin 8) (n : Fin 257) : EReal := ∑ q : Fin 64, ∑ k : Fin 576, if rel q k = n then ∑ a : Fin 64, (hd m c h).ds a q k else 0

/-- The last result after the run. -/
theorem res_db (c : Dev nD) : Pipeline.afterTail₀ cfgs (dats m) 0 (V0 m) [hostOps1] c main_v18 = fun i => tabled m c (i 0) (i 1) := by
  rw [fold_term, arr_db m hr hs]
  have e : ∀ (h : Fin 8) (n : Fin 257), foldRows (fun i => diag (hd m c (i 0)) (i 2).val) (ix2 h n) = tabled m c h n := by
    intro h n
    rw [foldRows_apply]
    by_cases h0 : 65 ≤ n.val ∧ n.val < 256
    · rw [dif_pos h0]
      exact rel_diag (hd m c h) n h0.1 h0.2
    · rw [dif_neg h0]
      by_cases h1 : n.val = 256
      · rw [if_pos h1]
        exact rel_last (hd m c h) n h1
      · rw [if_neg h1]
        exact rel_none (hd m c h) n (by omega)
  funext i
  rw [eq_ix2 i]
  exact e _ _

/-- Every run ends with the four results at the head's gradients and the arguments unchanged. -/
theorem run_values : θ_run defs (onTc (τ := τ) (main (F := Ideal))) ⟨m, fun _ => 0, ρ⟩ fun r => ∀ c : Dev nD,
    (r.2.mem ((c.tc : Thread nD τ).loc main_v8_0) = fun i => (hd m c (colHead (i 1))).dQ ((i 0).val / 64) ((i 0).val % 64) (colAt (i 1)))
    ∧ (r.2.mem ((c.tc : Thread nD τ).loc main_v8_1) = fun i => (hd m c (colHead (i 1))).dK (512 + (i 0).val) (colAt (i 1)))
    ∧ (r.2.mem ((c.tc : Thread nD τ).loc main_v8_2) = fun i => (hd m c (colHead (i 1))).dV (512 + (i 0).val) (colAt (i 1)))
    ∧ (r.2.mem ((c.tc : Thread nD τ).loc main_v18) = fun i => tabled m c (i 0) (i 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨((h.1 c).1 5).trans (arr_dq m hr hs c), ((h.1 c).1 6).trans (arr_dk m hr hs c), ((h.1 c).1 7).trans (arr_dv m hr hs c),
    ((h.1 c).2 main_v18 (Pipeline.mem_restRefs_of main_v18 (by decide) (by decide))).trans (res_db m hr hs c), h.2 c⟩)
    (θ_run_and (run_main m ρ) (unchanged m ρ))

end Real

end Cert.KernelIdeal.Att

end
-- ==== Proof.Index.lean ====
module

public import proofs.«01_k».proof.Proof.Gen.ReferenceIdeal
public import Idealize.ShloMosaic.Lib.Pointwise
public import Idealize.ShloMosaic.Lib.Routing.OpsPair

@[expose] public section

set_option maxRecDepth 16384

noncomputable section

namespace Cert.ReferenceIdeal.Att

open Idealize.ShloMosaic
open Cert.ReferenceIdeal Cert.ReferenceIdeal.Gen

section General

variable {s si t : Shape}

/-- The offset coordinate of a gather, once the axis it is read off is known. -/
theorem offCoord_of (d : GatherDims s si t) (j : t.Idx) (a : Fin s.rank) (X : Fin t.rank) (ha : a ∈ d.sKept)
    (hX : d.offsetDims[d.sKept.idxOf a]? = some X) : d.offCoord j a = (j X).val := by
  unfold GatherDims.offCoord
  rw [dif_pos ha]
  have := (List.getElem?_eq_some_iff.1 hX).2
  rw [this]

/-- The start index of a gather by one index word, once the place of the word is known. -/
theorem start_of (d : GatherDims s si t) {w : ℕ} (j : t.Idx) (idx : IVec si w) (a : Fin s.rank) (y : si.Idx) (ha : a ∈ d.startIndexMap)
    (hy : ∀ b : Fin si.rank, if b.val = d.indexVectorDim then (y b).val = d.startIndexMap.idxOf a
      else ∃ X, d.batchDims[d.siKept.idxOf b]? = some X ∧ (j X).val = (y b).val) :
    d.start j idx a = min (idx y).toInt.toNat (s.size a - d.sliceSizes a) := by
  unfold GatherDims.start
  rw [dif_pos ha]
  have : d.siIdx j ⟨d.startIndexMap.idxOf a, List.idxOf_lt_length_iff.2 ha⟩ = y := by
    funext b
    apply Fin.ext
    have hb := hy b
    unfold GatherDims.siIdx
    by_cases h : b.val = d.indexVectorDim
    · rw [if_pos h] at hb
      rw [dif_pos h, hb]
    · rw [if_neg h] at hb
      obtain ⟨X, hX, hjX⟩ := hb
      rw [dif_neg h, ← hjX]
      unfold GatherDims.siCoord
      simp only [Fin.val_cast]
      have := (List.getElem?_eq_some_iff.1 hX).2
      rw [this]
  rw [this]

/-- The window coordinate of a scatter, once the axis it is read off is known. -/
theorem window_of (d : ScatterDims s si t) (j : t.Idx) (a : Fin s.rank) (X : Fin t.rank) (ha : a ∈ d.sKept)
    (hX : d.updateWindowDims[d.sKept.idxOf a]? = some X) : d.window j a = (j X).val := by
  unfold ScatterDims.window
  rw [dif_pos ha]
  have := (List.getElem?_eq_some_iff.1 hX).2
  rw [this]

/-- The start index of a scatter by one index word, once the place of the word is known. -/
theorem sstart_of (d : ScatterDims s si t) {w : ℕ} (j : t.Idx) (idx : IVec si w) (a : Fin s.rank) (y : si.Idx) (ha : a ∈ d.scatterDimsToOperandDims)
    (hy : ∀ b : Fin si.rank, if b.val = d.indexVectorDim then (y b).val = d.scatterDimsToOperandDims.idxOf a
      else ∃ X, d.uScatter[d.siKept.idxOf b]? = some X ∧ (j X).val = (y b).val) :
    d.start j idx a = (idx y).toInt := by
  unfold ScatterDims.start
  rw [dif_pos ha]
  have : d.siIdx j ⟨d.scatterDimsToOperandDims.idxOf a, List.idxOf_lt_length_iff.2 ha⟩ = y := by
    funext b
    apply Fin.ext
    have hb := hy b
    unfold ScatterDims.siIdx
    by_cases h : b.val = d.indexVectorDim
    · rw [if_pos h] at hb
      rw [dif_pos h, hb]
    · rw [if_neg h] at hb
      obtain ⟨X, hX, hjX⟩ := hb
      rw [dif_neg h, ← hjX]
      unfold ScatterDims.siCoord
      simp only [Fin.val_cast]
      have := (List.getElem?_eq_some_iff.1 hX).2
      rw [this]
  rw [this]

end General

/-- A small natural number as a word, read signed. -/
theorem toInt_small (n : ℕ) (h : n < 2 ^ 31) : (BitVec.ofNat 32 n).toInt = n := by
  rw [BitVec.toInt_ofNat', Int.bmod_def]
  norm_num
  omega

/-- The dimension numbers of the gather of the bands. -/
abbrev GB := gather_S1x72x64x8x128_S64x9x1_S1x64x9x64x8x128_0345_1_n_n_1_2_11648128

/-- The gather of the bands reads, at place `j` of chunk `c`'s band, the chunk that its index word names. -/
theorem gather_band (x : FVec Ideal S1x72x64x8x128 .f32) (idx : IVec S64x9x1 32) (c : Fin 64) (j : Fin 9) (i : Fin 64) (h : Fin 8) (d : Fin 128)
    (n : Fin 72) (hn : idx (ix3 c j 0) = BitVec.ofNat 32 n.val) :
    Host.gather GB x idx (ix6 0 c j i h d) = x (ix5 0 n i h d) := by
  unfold Host.gather
  refine congrArg x (funext fun a => Fin.ext ?_)
  match a with
  | ⟨0, _⟩ =>
    show GB.start _ idx 0 + GB.batchCoord _ 0 + GB.offCoord _ 0 = 0
    rw [offCoord_of GB _ 0 0 (by decide) (by decide), GB.batchCoord_eq_zero _ _ (by decide)]
    unfold GatherDims.start
    rw [dif_neg (by decide)]
    rfl
  | ⟨1, _⟩ =>
    show GB.start _ idx 1 + GB.batchCoord _ 1 + GB.offCoord _ 1 = n.val
    rw [GB.offCoord_eq_zero _ _ (by decide), GB.batchCoord_eq_zero _ _ (by decide), start_of GB _ idx 1 (ix3 c j 0) (by decide) ?_, hn, toInt_small _ (by omega)]
    · show min (Int.toNat n.val) 71 + 0 + 0 = n.val
      have := n.isLt
      omega
    · intro b
      match b with
      | ⟨0, _⟩ => exact ⟨1, (by decide : GB.batchDims[GB.siKept.idxOf 0]? = some 1), rfl⟩
      | ⟨1, _⟩ => exact ⟨2, (by decide : GB.batchDims[GB.siKept.idxOf 1]? = some 2), rfl⟩
      | ⟨2, _⟩ => rfl
  | ⟨2, _⟩ =>
    show GB.start _ idx 2 + GB.batchCoord _ 2 + GB.offCoord _ 2 = i.val
    rw [offCoord_of GB _ 2 3 (by decide) (by decide), GB.batchCoord_eq_zero _ _ (by decide)]
    unfold GatherDims.start
    rw [dif_neg (by decide)]
    exact Nat.zero_add _
  | ⟨3, _⟩ =>
    show GB.start _ idx 3 + GB.batchCoord _ 3 + GB.offCoord _ 3 = h.val
    rw [offCoord_of GB _ 3 4 (by decide) (by decide), GB.batchCoord_eq_zero _ _ (by decide)]
    unfold GatherDims.start
    rw [dif_neg (by decide)]
    exact Nat.zero_add _
  | ⟨4, _⟩ =>
    show GB.start _ idx 4 + GB.batchCoord _ 4 + GB.offCoord _ 4 = d.val
    rw [offCoord_of GB _ 4 5 (by decide) (by decide), GB.batchCoord_eq_zero _ _ (by decide)]
    unfold GatherDims.start
    rw [dif_neg (by decide)]
    exact Nat.zero_add _

/-- The dimension numbers of the gather of the bias table. -/
abbrev GR := gather_S8x257_S64x576x1_S8x64x576_0_1_n_n_1_2_81

/-- The gather of the bias reads the table's column that its index word names. -/
theorem gather_bias (x : FVec Ideal S8x257 .f32) (idx : IVec S64x576x1 32) (h : Fin 8) (q : Fin 64) (k : Fin 576)
    (n : Fin 257) (hn : idx (ix3 q k 0) = BitVec.ofNat 32 n.val) :
    Host.gather GR x idx (ix3 h q k) = x (ix2 h n) := by
  unfold Host.gather
  refine congrArg x (funext fun a => Fin.ext ?_)
  match a with
  | ⟨0, _⟩ =>
    show GR.start _ idx 0 + GR.batchCoord _ 0 + GR.offCoord _ 0 = h.val
    rw [offCoord_of GR _ 0 0 (by decide) (by decide), GR.batchCoord_eq_zero _ _ (by decide)]
    unfold GatherDims.start
    rw [dif_neg (by decide)]
    exact Nat.zero_add _
  | ⟨1, _⟩ =>
    show GR.start _ idx 1 + GR.batchCoord _ 1 + GR.offCoord _ 1 = n.val
    rw [GR.offCoord_eq_zero _ _ (by decide), GR.batchCoord_eq_zero _ _ (by decide), start_of GR _ idx 1 (ix3 q k 0) (by decide) ?_, hn, toInt_small _ (by omega)]
    · show min (Int.toNat n.val) 256 + 0 + 0 = n.val
      have := n.isLt
      omega
    · intro b
      match b with
      | ⟨0, _⟩ => exact ⟨1, (by decide : GR.batchDims[GR.siKept.idxOf 0]? = some 1), rfl⟩
      | ⟨1, _⟩ => exact ⟨2, (by decide : GR.batchDims[GR.siKept.idxOf 1]? = some 2), rfl⟩
      | ⟨2, _⟩ => rfl

/-- The dimension numbers of the scatter of the bands. -/
abbrev SB := scatter_S1x72x64x8x128_S64x9x1_S1x64x9x64x8x128_0345_1_1_2

/-- Where an update of the scatter of the bands lands. -/
theorem lands_band (idx : IVec S64x9x1 32) (hidx : ∀ c j, idx (ix3 c j 0) = BitVec.ofNat 32 (c.val + j.val))
    (a : Fin 1) (c : Fin 64) (j : Fin 9) (i : Fin 64) (h : Fin 8) (d : Fin 128)
    (n : Fin 72) (i' : Fin 64) (h' : Fin 8) (d' : Fin 128) :
    SB.resultIdx? (ix6 a c j i h d) idx = some (ix5 0 n i' h' d') ↔ (c.val + j.val = n.val ∧ i = i' ∧ h = h' ∧ d = d') := by
  have s0 (b : Fin 5) (hb : b ∉ SB.scatterDimsToOperandDims) : SB.start (ix6 a c j i h d) idx b = 0 := by
    unfold ScatterDims.start
    rw [dif_neg hb]
  have s1 : SB.start (ix6 a c j i h d) idx 1 = ((c.val + j.val : ℕ) : ℤ) := by
    rw [sstart_of SB _ idx 1 (ix3 c j 0) (by decide) ?_, hidx, toInt_small _ (by omega)]
    intro b
    match b with
    | ⟨0, _⟩ => exact ⟨1, (by decide : SB.uScatter[SB.siKept.idxOf 0]? = some 1), rfl⟩
    | ⟨1, _⟩ => exact ⟨2, (by decide : SB.uScatter[SB.siKept.idxOf 1]? = some 2), rfl⟩
    | ⟨2, _⟩ => rfl
  have w1 : SB.window (ix6 a c j i h d) 1 = 0 := by
    unfold ScatterDims.window
    rw [dif_neg (by decide)]
  have w0 : SB.window (ix6 a c j i h d) 0 = a.val := window_of SB _ 0 0 (by decide) (by decide)
  have w2 : SB.window (ix6 a c j i h d) 2 = i.val := window_of SB _ 2 3 (by decide) (by decide)
  have w3 : SB.window (ix6 a c j i h d) 3 = h.val := window_of SB _ 3 4 (by decide) (by decide)
  have w4 : SB.window (ix6 a c j i h d) 4 = d.val := window_of SB _ 4 5 (by decide) (by decide)
  rw [Routing.resultIdx?_eq_some]
  constructor
  · intro q
    have q1 := q 1
    have q2 := q 2
    have q3 := q 3
    have q4 := q 4
    rw [s1, w1] at q1
    rw [s0 2 (by decide), w2] at q2
    rw [s0 3 (by decide), w3] at q3
    rw [s0 4 (by decide), w4] at q4
    refine ⟨?_, Fin.ext ?_, Fin.ext ?_, Fin.ext ?_⟩
    · have : ((c.val + j.val : ℕ) : ℤ) = n.val := by simpa using q1
      exact_mod_cast this
    · have : (i.val : ℤ) = i'.val := by simpa using q2
      exact_mod_cast this
    · have : (h.val : ℤ) = h'.val := by simpa using q3
      exact_mod_cast this
    · have : (d.val : ℤ) = d'.val := by simpa using q4
      exact_mod_cast this
  · rintro ⟨q1, rfl, rfl, rfl⟩ b
    match b with
    | ⟨0, _⟩ =>
      show SB.start (ix6 a c j i h d) idx 0 + (SB.window (ix6 a c j i h d) 0 : ℤ) = 0
      rw [s0 0 (by decide), w0]
      have := a.isLt
      omega
    | ⟨1, _⟩ =>
      show SB.start (ix6 a c j i h d) idx 1 + (SB.window (ix6 a c j i h d) 1 : ℤ) = n.val
      rw [s1, w1, q1]
      simp
    | ⟨2, _⟩ =>
      show SB.start (ix6 a c j i h d) idx 2 + (SB.window (ix6 a c j i h d) 2 : ℤ) = i.val
      rw [s0 2 (by decide), w2, zero_add]
    | ⟨3, _⟩ =>
      show SB.start (ix6 a c j i h d) idx 3 + (SB.window (ix6 a c j i h d) 3 : ℤ) = h.val
      rw [s0 3 (by decide), w3, zero_add]
    | ⟨4, _⟩ =>
      show SB.start (ix6 a c j i h d) idx 4 + (SB.window (ix6 a c j i h d) 4 : ℤ) = d.val
      rw [s0 4 (by decide), w4, zero_add]

/-- The scatter of the bands, read at one element: the sum of the bands' places that name its chunk. -/
theorem scatter_band (x : FVec Ideal S1x72x64x8x128 .f32) (idx : IVec S64x9x1 32) (hidx : ∀ c j, idx (ix3 c j 0) = BitVec.ofNat 32 (c.val + j.val))
    (upd : FVec Ideal S1x64x9x64x8x128 .f32) (n : Fin 72) (i : Fin 64) (h : Fin 8) (d : Fin 128) :
    Host.scatterAdd SB x idx upd (ix5 0 n i h d) = x (ix5 0 n i h d) +
      ∑ c : Fin 64, ∑ j : Fin 9, if c.val + j.val = n.val then upd (ix6 0 c j i h d) else 0 := by
  show x _ + _ = _
  congr 1
  rw [← Finset.sum_product', Finset.univ_product_univ, ← Finset.sum_filter]
  refine Finset.sum_bij' (fun j _ => (j 1, j 2)) (fun p _ => ix6 0 p.1 p.2 i h d) ?_ ?_ ?_ ?_ ?_
  · intro j hj
    rw [← ix6_eta j] at hj
    have := (lands_band idx hidx _ _ _ _ _ _ _ _ _ _).1 (Finset.mem_filter.1 hj).2
    exact Finset.mem_filter.2 ⟨Finset.mem_univ _, this.1⟩
  · intro p hp
    exact Finset.mem_filter.2 ⟨Finset.mem_univ _, (lands_band idx hidx _ _ _ _ _ _ _ _ _ _).2 ⟨(Finset.mem_filter.1 hp).2, rfl, rfl, rfl⟩⟩
  · intro j hj
    have hj' := hj
    rw [← ix6_eta j] at hj'
    obtain ⟨_, e1, e2, e3⟩ := (lands_band idx hidx _ _ _ _ _ _ _ _ _ _).1 (Finset.mem_filter.1 hj').2
    rw [← e1, ← e2, ← e3, show (0 : Fin 1) = j 0 from Subsingleton.elim _ _]
    exact ix6_eta j
  · intro p hp
    rfl
  · intro j hj
    have hj' := hj
    rw [← ix6_eta j] at hj'
    obtain ⟨_, e1, e2, e3⟩ := (lands_band idx hidx _ _ _ _ _ _ _ _ _ _).1 (Finset.mem_filter.1 hj').2
    rw [← e1, ← e2, ← e3, show (0 : Fin 1) = j 0 from Subsingleton.elim _ _]
    exact congrArg upd (ix6_eta j).symm

/-- The dimension numbers of the scatter into the bias table. -/
abbrev SR := scatter_S8x257_S64x576x1_S8x64x576_0_1_1_2

/-- Where an update of the scatter into the bias table lands. -/
theorem lands_bias (idx : IVec S64x576x1 32) (f : Fin 64 → Fin 576 → Fin 257) (hidx : ∀ q k, idx (ix3 q k 0) = BitVec.ofNat 32 (f q k).val)
    (h : Fin 8) (q : Fin 64) (k : Fin 576) (h' : Fin 8) (n : Fin 257) :
    SR.resultIdx? (ix3 h q k) idx = some (ix2 h' n) ↔ (h = h' ∧ f q k = n) := by
  have s0 : SR.start (ix3 h q k) idx 0 = 0 := by
    unfold ScatterDims.start
    rw [dif_neg (by decide)]
  have s1 : SR.start (ix3 h q k) idx 1 = ((f q k).val : ℤ) := by
    rw [sstart_of SR _ idx 1 (ix3 q k 0) (by decide) ?_, hidx, toInt_small _ (by omega)]
    intro b
    match b with
    | ⟨0, _⟩ => exact ⟨1, (by decide : SR.uScatter[SR.siKept.idxOf 0]? = some 1), rfl⟩
    | ⟨1, _⟩ => exact ⟨2, (by decide : SR.uScatter[SR.siKept.idxOf 1]? = some 2), rfl⟩
    | ⟨2, _⟩ => rfl
  have w1 : SR.window (ix3 h q k) 1 = 0 := by
    unfold ScatterDims.window
    rw [dif_neg (by decide)]
  have w0 : SR.window (ix3 h q k) 0 = h.val := window_of SR _ 0 0 (by decide) (by decide)
  rw [Routing.resultIdx?_eq_some]
  constructor
  · intro p
    have p0 := p 0
    have p1 := p 1
    rw [s0, w0] at p0
    rw [s1, w1] at p1
    refine ⟨Fin.ext ?_, Fin.ext ?_⟩
    · have : (h.val : ℤ) = h'.val := by simpa using p0
      exact_mod_cast this
    · have : ((f q k).val : ℤ) = n.val := by simpa using p1
      exact_mod_cast this
  · rintro ⟨rfl, rfl⟩ b
    match b with
    | ⟨0, _⟩ =>
      show SR.start (ix3 h q k) idx 0 + (SR.window (ix3 h q k) 0 : ℤ) = h.val
      rw [s0, w0, zero_add]
    | ⟨1, _⟩ =>
      show SR.start (ix3 h q k) idx 1 + (SR.window (ix3 h q k) 1 : ℤ) = (f q k).val
      rw [s1, w1]
      simp

/-- The scatter into the bias table, read at one element: the sum of the places that name its column. -/
theorem scatter_bias (x : FVec Ideal S8x257 .f32) (idx : IVec S64x576x1 32) (f : Fin 64 → Fin 576 → Fin 257)
    (hidx : ∀ q k, idx (ix3 q k 0) = BitVec.ofNat 32 (f q k).val) (upd : FVec Ideal S8x64x576 .f32) (h : Fin 8) (n : Fin 257) :
    Host.scatterAdd SR x idx upd (ix2 h n) = x (ix2 h n) +
      ∑ q : Fin 64, ∑ k : Fin 576, if f q k = n then upd (ix3 h q k) else 0 := by
  show x _ + _ = _
  congr 1
  rw [← Finset.sum_product', Finset.univ_product_univ, ← Finset.sum_filter]
  refine Finset.sum_bij' (fun j _ => (j 1, j 2)) (fun p _ => ix3 h p.1 p.2) ?_ ?_ ?_ ?_ ?_
  · intro j hj
    rw [← ix3_eta j] at hj
    have := (lands_bias idx f hidx _ _ _ _ _).1 (Finset.mem_filter.1 hj).2
    exact Finset.mem_filter.2 ⟨Finset.mem_univ _, this.2⟩
  · intro p hp
    exact Finset.mem_filter.2 ⟨Finset.mem_univ _, (lands_bias idx f hidx _ _ _ _ _).2 ⟨rfl, (Finset.mem_filter.1 hp).2⟩⟩
  · intro j hj
    have hj' := hj
    rw [← ix3_eta j] at hj'
    obtain ⟨e1, _⟩ := (lands_bias idx f hidx _ _ _ _ _).1 (Finset.mem_filter.1 hj').2
    rw [← e1]
    exact ix3_eta j
  · intro p hp
    rfl
  · intro j hj
    have hj' := hj
    rw [← ix3_eta j] at hj'
    obtain ⟨e1, _⟩ := (lands_bias idx f hidx _ _ _ _ _).1 (Finset.mem_filter.1 hj').2
    rw [← e1]
    exact congrArg upd (ix3_eta j).symm

/-- A sum over two axes of one entry each has one term. -/
theorem reduce_unit (x : S1x64x8x64x1.Idx → EReal) (i : EReal) (c : Fin 64) (h : Fin 8) (q : Fin 64) :
    Ideal.hostReduceAdd reducesTo_S1x64x8x64x1_S64x8x64_d0_4 x i (ix3 c h q) = i + x (ix5 0 c h q 0) := by
  unfold Ideal.hostReduceAdd
  congr 1
  refine Finset.sum_eq_single_of_mem _ ?_ ?_
  · refine Finset.mem_filter.2 ⟨Finset.mem_univ _, ?_⟩
    funext a
    match a with
    | ⟨0, _⟩ => rfl
    | ⟨1, _⟩ => rfl
    | ⟨2, _⟩ => rfl
  · intro y hy hne
    refine absurd ?_ hne
    have e := (Finset.mem_filter.1 hy).2
    rw [← ix5_eta y, show y 0 = (0 : Fin 1) from @Subsingleton.elim (Fin 1) _ _ _, show y 4 = (0 : Fin 1) from @Subsingleton.elim (Fin 1) _ _ _,
      show y 1 = c from congrFun e 0, show y 2 = h from congrFun e 1, show y 3 = q from congrFun e 2]

/-- A sum over two leading axes of one entry each has one term. -/
theorem reduce_unit' (x : S1x1x8x64x576.Idx → EReal) (i : EReal) (h : Fin 8) (q : Fin 64) (k : Fin 576) :
    Ideal.hostReduceAdd reducesTo_S1x1x8x64x576_S8x64x576_d0_1 x i (ix3 h q k) = i + x (ix5 0 0 h q k) := by
  unfold Ideal.hostReduceAdd
  congr 1
  refine Finset.sum_eq_single_of_mem _ ?_ ?_
  · refine Finset.mem_filter.2 ⟨Finset.mem_univ _, ?_⟩
    funext a
    match a with
    | ⟨0, _⟩ => rfl
    | ⟨1, _⟩ => rfl
    | ⟨2, _⟩ => rfl
  · intro y hy hne
    refine absurd ?_ hne
    have e := (Finset.mem_filter.1 hy).2
    rw [← ix5_eta y, show y 0 = (0 : Fin 1) from @Subsingleton.elim (Fin 1) _ _ _, show y 1 = (0 : Fin 1) from @Subsingleton.elim (Fin 1) _ _ _,
      show y 2 = h from congrFun e 0, show y 3 = q from congrFun e 1, show y 4 = k from congrFun e 2]

/-- A number no less than 512 at place `k` of chunk `c`'s band, as the reference's words decide it. -/
theorem word_valid (c : Fin 64) (k : Fin 576) :
    IntOp.cmpi .sge (IntOp.addi (IntOp.muli (IntOp.subi (BitVec.ofNat 32 c.val) 8#32) 64#32) (BitVec.ofNat 32 k.val)) 0#32 =
      BitVec.ofBool (decide (512 ≤ 64 * c.val + k.val)) := by
  have h1 : IntOp.muli (IntOp.subi (BitVec.ofNat 32 c.val) 8#32) 64#32 = BitVec.ofInt 32 (64 * c.val - 512) := by
    revert c; decide +kernel
  rw [h1]
  have h2 : IntOp.addi (BitVec.ofInt 32 (64 * c.val - 512)) (BitVec.ofNat 32 k.val) = BitVec.ofInt 32 (64 * c.val + k.val - 512) := by
    show BitVec.ofInt 32 (64 * c.val - 512) + BitVec.ofNat 32 k.val = _
    rw [← BitVec.ofInt_natCast, ← BitVec.ofInt_add]
    congr 1; ring
  rw [h2]
  show BitVec.ofBool (decide ((0#32).toInt ≤ (BitVec.ofInt 32 (64 * (c.val : ℤ) + k.val - 512)).toInt)) = _
  have h3 : (BitVec.ofInt 32 (64 * (c.val : ℤ) + k.val - 512)).toInt = 64 * (c.val : ℤ) + k.val - 512 := by
    rw [BitVec.toInt_ofInt, Int.bmod_def]
    norm_num
    omega
  rw [h3]
  congr 1
  apply decide_eq_decide.2
  show (0 : ℤ) ≤ _ ↔ _
  omega

end Cert.ReferenceIdeal.Att

end
-- ==== Proof.RefRead.lean ====
module

public import proofs.«01_k».proof.Proof.Gen.ReferenceIdeal.Run
public import proofs.«01_k».proof.Proof.Index
public import proofs.«01_k».proof.Proof.Band
public import Idealize.ShloMosaic.Lib.Pointwise

@[expose] public section

set_option maxRecDepth 16384
set_option pp.deepTerms false
set_option pp.maxSteps 1500

noncomputable section

namespace Cert.ReferenceIdeal.Att

open Idealize.ShloMosaic Idealize.ShloMosaic.TcCoe Idealize.ShloMosaic.StableHlo
open Cert.ReferenceIdeal Cert.ReferenceIdeal.Gen Cert.ReferenceIdeal.Value
open Cert.Band

/-- The word of negative infinity. -/
theorem ofBits_bot : Ideal.ofBits .f32 0xFF800000#32 = ⊥ := by
  simp [Ideal.ofBits, Ideal.ieee]

/-- The factor of the scores is a real number. -/
theorem scale_real : ∃ x : ℝ, scale = x := by
  unfold scale Ideal.ofBits Ideal.ieee
  simp only
  rw [if_neg (by decide), if_neg (by decide)]
  exact ⟨_, rfl⟩

variable (V : Valuation τ sig (Elt Ideal))

/-- Head `h` of the program's arguments. -/
def hd (h : Fin 8) : Head := headOf (V (Proc.devRef .tc main_arg0)) (V (Proc.devRef .tc main_arg1)) (V (Proc.devRef .tc main_arg2)) h

theorem read_v6 (c : Fin 64) (q : Fin 64) (h : Fin 8) (d : Fin 128) :
    res_main_v6 V (ix5 0 c q h d) = (hd V h).Q (64 * c.val + q.val) d := by
  unfold res_main_v6
  pointwise
  unfold hd headOf
  simp only
  rw [dif_pos (by omega)]
  congr 3
  omega

theorem read_v20 (c : Fin 64) (j : Fin 9) : res_main_v20 V (ix2 c j) = BitVec.ofNat 32 (c.val + j.val) := by
  unfold res_main_v20
  pointwise
  exact (BitVec.ofNat_add c.val j.val).symm

theorem word_wrap (n : ℕ) (h : n < 1000) (w : BitVec 32) : Scalar.select (IntOp.cmpi CmpIPredicate.slt (BitVec.ofNat 32 n) 0#32) w (BitVec.ofNat 32 n) = BitVec.ofNat 32 n := by
  have : IntOp.cmpi CmpIPredicate.slt (BitVec.ofNat 32 n) 0#32 = 0#1 := by
    show BitVec.ofBool (decide ((BitVec.ofNat 32 n).toInt < (0#32).toInt)) = _
    rw [toInt_small n (by omega)]
    have : ¬ ((n : ℤ) < (0#32).toInt) := by
      show ¬ ((n : ℤ) < 0)
      omega
    rw [decide_eq_false this]
    rfl
  rw [this]
  rfl

theorem read_v26 (c : Fin 64) (j : Fin 9) : res_main_v26 V (ix3 c j 0) = BitVec.ofNat 32 (c.val + j.val) := by
  unfold res_main_v26
  pointwise
  rw [read_v20]
  exact word_wrap _ (by omega) _

theorem read_v34 (c : Fin 64) (j : Fin 9) : res_main_v34 V (ix3 c j 0) = BitVec.ofNat 32 (c.val + j.val) := by
  unfold res_main_v34
  pointwise
  rw [read_v20]
  exact word_wrap _ (by omega) _

/-- The reference's words for the column of the bias table, by the difference of the query's and the key's places. -/
theorem word_clip : ∀ m : Fin 1151, IntOp.addi (IntOp.minsi 128#32 (IntOp.maxsi 4294967168#32 (IntOp.subi (BitVec.ofNat 32 m.val) 575#32))) 128#32 =
    BitVec.ofNat 32 (min (m.val - 447) 256) := by
  decide +kernel

theorem word_rel (q : Fin 64) (k : Fin 576) :
    IntOp.addi (IntOp.minsi 128#32 (IntOp.maxsi 4294967168#32 (IntOp.subi (IntOp.addi (512#32) (BitVec.ofNat 32 q.val)) (BitVec.ofNat 32 k.val)))) 128#32 =
      BitVec.ofNat 32 (rel q k).val := by
  have h : IntOp.subi (IntOp.addi (512#32) (BitVec.ofNat 32 q.val)) (BitVec.ofNat 32 k.val) = IntOp.subi (BitVec.ofNat 32 (1087 + q.val - k.val)) 575#32 := by
    show BitVec.ofNat 32 512 + BitVec.ofNat 32 q.val - BitVec.ofNat 32 k.val = BitVec.ofNat 32 (1087 + q.val - k.val) - BitVec.ofNat 32 575
    apply BitVec.eq_of_toNat_eq
    simp only [BitVec.toNat_sub, BitVec.toNat_add, BitVec.toNat_ofNat]
    omega
  rw [h, word_clip ⟨1087 + q.val - k.val, by omega⟩]
  show _ = BitVec.ofNat 32 (min (640 + q.val - k.val) 256)
  congr 1
  simp only
  omega

theorem read_v57 (q : Fin 64) (k : Fin 576) : res_main_v57 V (ix3 q k 0) = BitVec.ofNat 32 (rel q k).val := by
  unfold res_main_v57
  pointwise
  have : res_main_v51 V (ix2 q k) = BitVec.ofNat 32 (rel q k).val := by
    unfold res_main_v51 res_main_v43
    pointwise
    exact word_rel q k
  rw [this]
  exact word_wrap _ (by omega) _

theorem read_v28 (c : Fin 64) (k : Fin 576) (h : Fin 8) (d : Fin 128) :
    res_main_v28 V (ix5 0 c k h d) = padRows (hd V h).K (64 * c.val + k.val) d := by
  unfold res_main_v28
  pointwise
  rw [gather_band _ _ c _ _ h d ⟨c.val + k.val / 64, by omega⟩ (read_v26 V c _)]
  unfold res_main_v7
  pointwise
  unfold padRows hd headOf
  simp only
  by_cases hc : 64 * c.val + k.val < 512
  · rw [if_pos hc]
    exact dif_pos (show c.val + k.val / 64 < 8 by omega)
  · rw [if_neg hc, dif_pos (show 64 * c.val + k.val - 512 < 4096 by omega)]
    refine (dif_neg (show ¬ c.val + k.val / 64 < 8 by omega)).trans ?_
    congr 2
    exact Fin.ext (by show (c.val + k.val / 64 - 8) * 64 + k.val % 64 = 64 * c.val + k.val - 512; omega)

theorem read_v36 (c : Fin 64) (k : Fin 576) (h : Fin 8) (d : Fin 128) :
    res_main_v36 V (ix5 0 c k h d) = padRows (hd V h).V (64 * c.val + k.val) d := by
  unfold res_main_v36
  pointwise
  rw [gather_band _ _ c _ _ h d ⟨c.val + k.val / 64, by omega⟩ (read_v34 V c _)]
  unfold res_main_v7
  pointwise
  unfold padRows hd headOf
  simp only
  by_cases hc : 64 * c.val + k.val < 512
  · rw [if_pos hc]
    exact dif_pos (show c.val + k.val / 64 < 8 by omega)
  · rw [if_neg hc, dif_pos (show 64 * c.val + k.val - 512 < 4096 by omega)]
    refine (dif_neg (show ¬ c.val + k.val / 64 < 8 by omega)).trans ?_
    congr 2
    exact Fin.ext (by show (c.val + k.val / 64 - 8) * 64 + k.val % 64 = 64 * c.val + k.val - 512; omega)

theorem read_v75_1 (c : Fin 64) (h : Fin 8) (q : Fin 64) (k : Fin 576) :
    res_main_v75_1 V (ix5 0 c h q k) = BitVec.ofBool (decide (512 ≤ 64 * c.val + k.val)) := by
  unfold res_main_v75_1 res_main_v43
  pointwise
  exact word_valid c k

theorem select_ofBool {α : Type} (p : Prop) [Decidable p] (x y : α) : Scalar.select (BitVec.ofBool (decide p)) x y = if p then x else y := by
  by_cases h : p <;> simp [h, Scalar.select]

theorem read_v75_0 (c : Fin 64) (h : Fin 8) (q : Fin 64) (k : Fin 576) :
    res_main_v75_0 V (ix5 0 c h q k) = (hd V h).logit c q k := by
  unfold res_main_v75_0
  pointwise
  rw [read_v75_1, gather_bias _ _ h q k (rel q k) (read_v57 V q k), select_ofBool]
  simp only [read_v6, read_v28]
  unfold Head.logit
  split_ifs with hk
  · rfl
  · exact ofBits_bot

/-- The greatest entry along the last of five axes, at any extents. -/
theorem reduce_top {n0 n1 n2 n3 n4 : ℕ} {u : Shape} (A : FVec Ideal (⟨5, ![n0, n1, n2, n3, n4]⟩ : Shape) .f32) (init : FVec Ideal u .f32)
    (h : (⟨5, ![n0, n1, n2, n3, n4]⟩ : Shape).ReducesTo [4] ⟨4, ![n0, n1, n2, n3]⟩) (hu : 0 < u.numel) (a : Fin n0) (b : Fin n1) (c : Fin n2) (d : Fin n3) :
    Host.reduce FloatOps.maximumf A init h hu (ix4 a b c d) = Finset.univ.fold max (init (Shape.Idx.first hu)) (fun k : Fin n4 => A (ix5 a b c d k)) := by
  rw [Host.reduce_eq_fold, Shape.ReducesTo.fold_fiber_r5_a4]
  rfl

/-- The greatest score of each query, read at one element. -/
theorem top_shape (A : FVec Ideal S1x64x8x64x576 .f32) (c : Fin 64) (h : Fin 8) (q : Fin 64) :
    Host.reduce FloatOps.maximumf A (constant S_ .f32 0xFF800000#32) reducesTo_S1x64x8x64x576_S1x64x8x64_d4 h_S_ (ix4 0 c h q) = Finset.univ.fold max (constant (F := Ideal) S_ .f32 0xFF800000#32 (Shape.Idx.first h_S_)) (fun k : Fin 576 => A (ix5 0 c h q k)) :=
  reduce_top A _ _ _ 0 c h q

/-- The exponentials of an array of scores less a number for each query. -/
theorem exp_free (A : FVec Ideal S1x64x8x64x576 .f32) (M : FVec Ideal S1x64x8x64 .f32) (c : Fin 64) (h : Fin 8) (q : Fin 64) (k : Fin 576) :
    Host.exp (subf A (broadcastInDim S1x64x8x64x576 ![0, 1, 2, 3, 4] bcast_S1x64x8x64x1_S1x64x8x64x576_0_1_2_3_4 (broadcastInDim S1x64x8x64x1 ![0, 1, 2, 3] bcast_S1x64x8x64_S1x64x8x64x1_0_1_2_3 (maximumf (broadcastInDim S1x64x8x64 ![] bcast_S_S1x64x8x64 (constant S_ .f32 0xFF800000#32)) M)))) (ix5 0 c h q k)
    = Ideal.exp (A (ix5 0 c h q k) - max (Ideal.ofBits .f32 0xFF800000#32) (M (ix4 0 c h q))) := by
  pointwise

theorem const_first : constant (F := Ideal) S_ .f32 0xFF800000#32 (Shape.Idx.first h_S_) = Ideal.ofBits .f32 0xFF800000#32 := rfl

theorem read_v76 (c : Fin 64) (h : Fin 8) (q : Fin 64) : res_main_v76 V (ix4 0 c h q) = (hd V h).top c q := by
  refine (top_shape (res_main_v75_0 V) c h q).trans ?_
  rw [const_first, ofBits_bot]
  simp only [read_v75_0]
  rfl

theorem read_v96 (c : Fin 64) (h : Fin 8) (q : Fin 64) (k : Fin 576) :
    res_main_v96 V (ix5 0 c h q k) = (hd V h).ex c q k := by
  refine (exp_free (res_main_v75_0 V) (res_main_v76 V) c h q k).trans ?_
  rw [read_v75_0, read_v76, ofBits_bot, max_eq_right bot_le]
  rfl

theorem read_v98 (c : Fin 64) (h : Fin 8) (q : Fin 64) :
    res_main_v98 V (ix5 0 c h q 0) = (hd V h).tot c q := by
  unfold res_main_v98
  pointwise
  simp only [read_v96]
  rfl

theorem read_v100 (c : Fin 64) (h : Fin 8) (q : Fin 64) (k : Fin 576) :
    res_main_v100 V (ix5 0 c h q k) = (hd V h).prob c q k := by
  unfold res_main_v100
  pointwise
  rw [read_v96, read_v98]
  rfl

theorem read_v110 (c : Fin 64) (h : Fin 8) (q : Fin 64) (d : Fin 128) :
    res_main_v110 V (ix5 0 c h d q) = (hd V h).D (64 * c.val + q.val) d := by
  unfold res_main_v110
  pointwise
  unfold hd headOf
  simp only
  rw [dif_pos (by omega)]
  congr 3
  omega

theorem read_v111 (c : Fin 64) (h : Fin 8) (q : Fin 64) (k : Fin 576) :
    res_main_v111 V (ix5 0 c h q k) = (hd V h).dp c q k := by
  unfold res_main_v111
  pointwise
  simp only [read_v110, read_v36]
  rfl

theorem read_v127 (c : Fin 64) (h : Fin 8) (q : Fin 64) (k : Fin 576) (hr : (hd V h).Real) :
    res_main_v127 V (ix5 0 c h q k) = (hd V h).ds c q k := by
  unfold res_main_v127
  pointwise
  rw [reduce_unit]
  pointwise
  rw [read_v75_1, select_ofBool]
  simp only [read_v111, read_v98, read_v96]
  split_ifs with hk
  · exact Head.ds_quotient hr scale_real c q k hk
  · unfold Head.ds
    rw [Head.prob_zero hr scale_real c q k hk, zero_mul]

theorem read_v134 (c : Fin 64) (h : Fin 8) (q : Fin 64) (k : Fin 576) (hr : (hd V h).Real) :
    res_main_v134 V (ix5 0 c h q k) = (hd V h).ds c q k * scale := by
  unfold res_main_v134
  pointwise
  rw [read_v127 V c h q k hr]
  rfl

/-- The gradient of the queries. -/
theorem read_dq (n : Fin 4096) (h : Fin 8) (d : Fin 128) (hr : (hd V h).Real) :
    (truncf .bf16 (shapeCast _ (shapeCast _ (transpose S1x64x64x8x128 [0, 1, 3, 2, 4] (Host.dotGeneral (φ₁ := .f32) (φ₂ := .f32) dot_S1x64x8x64x576_S1x64x576x8x128_S1x64x8x64x128_4_2_3_4_012_013 none (res_main_v134 V) (res_main_v28 V)) transposes_S1x64x8x64x128_S1x64x64x8x128_0_1_3_2_4) shapeCasts_S1x64x64x8x128_S1x4096x1024) shapeCasts_S1x4096x1024_S4096x1024) bitsLt_bf16_f32 : FVec Ideal S4096x1024 .bf16)
      (ix2 n ⟨h.val * 128 + d.val, by omega⟩) = (hd V h).dQ (n.val / 64) (n.val % 64) d := by
  pointwise
  unfold Head.dQ
  refine Finset.sum_congr rfl fun k _ => ?_
  have e := read_v134 V ⟨n.val / 64, by omega⟩ h ⟨n.val % 64, by omega⟩ k hr
  have e' := read_v28 V ⟨n.val / 64, by omega⟩ k h d
  exact congrArg₂ (· * ·) e e'

/-- A sum over the places of the bands that name a chunk is a sum over the chunks whose band holds the row. -/
theorem sum_bands (f : ℕ → ℕ → EReal) (u n i : ℕ) (hi : i < 64) (hu : u = 64 * n + i) :
    (∑ c : Fin 64, ∑ j : Fin 9, if c.val + j.val = n then f c (64 * j.val + i) else 0) =
      ∑ c : Fin 64, if 64 * c.val ≤ u ∧ u < 64 * c.val + 576 then f c (u - 64 * c.val) else 0 := by
  refine Finset.sum_congr rfl fun c _ => ?_
  by_cases h : 64 * c.val ≤ u ∧ u < 64 * c.val + 576
  · rw [if_pos h, Finset.sum_eq_single (⟨n - c.val, by omega⟩ : Fin 9)]
    · simp only
      rw [if_pos (by omega)]
      congr 1
      omega
    · intro j _ hj
      refine if_neg fun e => hj (Fin.ext ?_)
      show j.val = n - c.val
      omega
    · intro h
      exact absurd (Finset.mem_univ _) h
  · rw [if_neg h]
    refine Finset.sum_eq_zero fun j _ => if_neg fun e => h ?_
    omega

theorem read_v144 (n : Fin 72) (i : Fin 64) (h : Fin 8) (d : Fin 128) (hr : (hd V h).Real) :
    res_main_v144 V (ix5 0 n i h d) = (hd V h).dK (64 * n.val + i.val) d := by
  unfold res_main_v144
  rw [scatter_band _ _ (read_v26 V)]
  pointwise
  simp only [read_v134 V _ _ _ _ hr, read_v6]
  have e := sum_bands (fun c k => ∑ q : Fin 64, (hd V h).ds c q k * scale * (hd V h).Q (64 * c + q.val) d) (64 * n.val + i.val) n i i.isLt rfl
  simp only [mul_comm 64 (_ : ℕ)] at e ⊢
  refine e.trans ?_
  unfold Head.dK
  refine Finset.sum_congr rfl fun c _ => ?_
  simp only [mul_comm 64 (_ : ℕ)]
  split_ifs with hc
  · rfl
  · exact Finset.sum_const_zero.symm

theorem read_v141 (n : Fin 72) (i : Fin 64) (h : Fin 8) (d : Fin 128) :
    res_main_v141 V (ix5 0 n i h d) = (hd V h).dV (64 * n.val + i.val) d := by
  unfold res_main_v141
  rw [scatter_band _ _ (read_v34 V)]
  pointwise
  simp only [read_v100, read_v110]
  have e := sum_bands (fun c k => ∑ q : Fin 64, (hd V h).D (64 * c + q.val) d * (hd V h).prob c q k) (64 * n.val + i.val) n i i.isLt rfl
  simp only [mul_comm 64 (_ : ℕ)] at e ⊢
  refine e.trans ?_
  unfold Head.dV
  refine Finset.sum_congr rfl fun c _ => ?_
  simp only [mul_comm 64 (_ : ℕ)]
  split_ifs with hc
  · exact Finset.sum_congr rfl fun q _ => mul_comm _ _
  · exact Finset.sum_const_zero.symm

/-- The gradient of the keys. -/
theorem read_dk (n : Fin 4096) (h : Fin 8) (d : Fin 128) (hr : (hd V h).Real) :
    (truncf .bf16 (shapeCast _ (shapeCast _ (extractStridedSlice S1x64x64x8x128 ![0, 8, 0, 0, 0] (res_main_v144 V : FVec Ideal S1x72x64x8x128 .f32) slices_S1x72x64x8x128_S1x64x64x8x128_0_8_0_0_0) shapeCasts_S1x64x64x8x128_S1x4096x1024) shapeCasts_S1x4096x1024_S4096x1024) bitsLt_bf16_f32 : FVec Ideal S4096x1024 .bf16)
      (ix2 n ⟨h.val * 128 + d.val, by omega⟩) = (hd V h).dK (512 + n.val) d := by
  pointwise
  refine (read_v144 V _ _ h d hr).trans ?_
  congr 1
  show 64 * (8 + n.val / 64) + n.val % 64 = 512 + n.val
  omega

/-- The gradient of the values. -/
theorem read_dv (n : Fin 4096) (h : Fin 8) (d : Fin 128) :
    (truncf .bf16 (shapeCast _ (shapeCast _ (extractStridedSlice S1x64x64x8x128 ![0, 8, 0, 0, 0] (res_main_v141 V : FVec Ideal S1x72x64x8x128 .f32) slices_S1x72x64x8x128_S1x64x64x8x128_0_8_0_0_0) shapeCasts_S1x64x64x8x128_S1x4096x1024) shapeCasts_S1x4096x1024_S4096x1024) bitsLt_bf16_f32 : FVec Ideal S4096x1024 .bf16)
      (ix2 n ⟨h.val * 128 + d.val, by omega⟩) = (hd V h).dV (512 + n.val) d := by
  pointwise
  refine (read_v141 V _ _ h d).trans ?_
  congr 1
  show 64 * (8 + n.val / 64) + n.val % 64 = 512 + n.val
  omega

/-- The gradient of the bias table. -/
theorem read_drel (h : Fin 8) (n : Fin 257) (hr : (hd V h).Real) :
    (Host.scatterAdd (φ := .f32) scatter_S8x257_S64x576x1_S8x64x576_0_1_1_2 (broadcastInDim S8x257 ![] bcast_S_S8x257 (constant S_ .f32 0x00000000#32)) (res_main_v57 V) (Host.reduceAdd (shapeCast _ (Host.reduceAdd (φ := .f32) (res_main_v127 V) (constant S_ .f32 0x00000000#32) reducesTo_S1x64x8x64x576_S1x8x64x576_d1 h_S_) shapeCasts_S1x8x64x576_S1x1x8x64x576) (constant S_ .f32 0x00000000#32) reducesTo_S1x1x8x64x576_S8x64x576_d0_1 h_S_) : FVec Ideal S8x257 .f32)
      (ix2 h n) = ∑ q : Fin 64, ∑ k : Fin 576, if rel q k = n then ∑ c : Fin 64, (hd V h).ds c q k else 0 := by
  rw [scatter_bias _ _ (fun q k => rel q k) (read_v57 V)]
  pointwise
  simp only [reduce_unit']
  pointwise
  simp only [read_v127 V _ _ _ _ hr]

end Cert.ReferenceIdeal.Att

end
-- ==== Proof.Finite.lean ====
module

public import proofs.«01_k».proof.Pre_finite
public import proofs.«01_k».proof.Proof.Band
public import Idealize.ShloMosaic.Lib.Pointwise

@[expose] public section

set_option maxRecDepth 16384

noncomputable section

namespace Cert.Pre_finite

open Idealize.ShloMosaic Cert.Band

/-- The shape relations of the precondition's operations. -/
theorem facts : Facts := ⟨by decide, by decide, by decide⟩

attribute [local instance] facts
open Facts

/-- The word of positive infinity. -/
theorem ofBits_top : Ideal.ofBits .f32 0x7F800000#32 = ⊤ := by
  simp [Ideal.ofBits, Ideal.ieee]

/-- A number whose absolute value is below infinity is real. -/
theorem real_of_lt (x : EReal) (h : Ideal.cmp .olt (max x (-x)) ⊤ = 1#1) : ∃ a : ℝ, x = a := by
  induction x using EReal.rec with
  | bot => exact absurd h (by simp [Ideal.cmp])
  | top => exact absurd h (by simp [Ideal.cmp])
  | coe a => exact ⟨a, rfl⟩

/-- The precondition makes every head real. -/
theorem real_of (x : FVec Ideal S4096x12288 .f32) (b : FVec Ideal S8x257 .f32) (o : FVec Ideal S4096x1024 .bf16)
    (h1 : (fn (F := Ideal) x b o).1 = fun _ => 1#1) (h2 : (fn (F := Ideal) x b o).2 = fun _ => 1#1) (h : Fin 8) : (headOf x b o h).Real := by
  have hx : ∀ (n : Fin 4096) (j : Fin 2048), ∃ a : ℝ, x (ix2 n ⟨2048 + j.val, by omega⟩) = a := by
    intro n j
    have e := congrFun h1 (ix2 n j)
    revert e
    unfold fn
    pointwise
    intro e
    exact real_of_lt _ (by rw [← ofBits_top]; exact e)
  have hb : ∀ (n : Fin 8) (j : Fin 257), ∃ a : ℝ, b (ix2 n j) = a := by
    intro n j
    have e := congrFun h2 (ix2 n j)
    revert e
    unfold fn
    pointwise
    intro e
    exact real_of_lt _ (by rw [← ofBits_top]; exact e)
  refine ⟨fun n d => ?_, fun n d => ?_, fun q k => hb _ _⟩
  · by_cases hn : n < 4096
    · obtain ⟨a, e⟩ := hx ⟨n, hn⟩ ⟨h.val * 128 + d.val, by omega⟩
      exact ⟨a, (dif_pos hn).trans e⟩
    · exact ⟨0, (dif_neg hn).trans EReal.coe_zero.symm⟩
  · by_cases hn : n < 4096
    · obtain ⟨a, e⟩ := hx ⟨n, hn⟩ ⟨1024 + (h.val * 128 + d.val), by omega⟩
      refine ⟨a, (dif_pos hn).trans (Eq.trans ?_ e)⟩
      exact congrArg (fun k => x (ix2 ⟨n, hn⟩ k)) (Fin.ext (by show 3072 + (h.val * 128 + d.val) = 2048 + (1024 + (h.val * 128 + d.val)); omega))
    · exact ⟨0, (dif_neg hn).trans EReal.coe_zero.symm⟩

end Cert.Pre_finite

end
-- ==== Proof.Agree.lean ====
module

public import proofs.«01_k».proof.Proof.KerDrel
public import proofs.«01_k».proof.Proof.RefRead
public import proofs.«01_k».proof.Proof.Finite

@[expose] public section

set_option maxRecDepth 16384

noncomputable section

namespace Cert.Agree

open Idealize.ShloMosaic Idealize.ShloMosaic.TcCoe Idealize.SL.Sem
open Cert.Band Cert.KernelIdeal.Att

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' arguments on one device agree. -/
def Args (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)

/-- Agreeing arguments have the same heads. -/
theorem hd_eq (c : Dev Cert.KernelIdeal.nD) (h : Args m m' c) (i : Fin 8) : Cert.ReferenceIdeal.Att.hd (StableHlo.launchContents m' c) i = hd m c i := by
  show headOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) i = _
  rw [h.1, h.2.1, h.2.2]
  rfl

/-- A column of a result is a place of its head. -/
theorem col_eq (i : Fin 1024) : (⟨(colHead i).val * 128 + (colAt i).val, by have := (colHead i).isLt; have := (colAt i).isLt; omega⟩ : Fin 1024) = i :=
  Fin.ext (by show i.val / 128 * 128 + i.val % 128 = i.val; omega)

variable (hr : ∀ c h, (hd m c h).Real) (ha : ∀ c, Args m m' c)
include hr ha

/-- The reference's run ends with the same four results and its arguments unchanged. -/
theorem run_reference (ρ : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ⟩ fun r => ∀ c : Dev Cert.ReferenceIdeal.nD,
      (r.2.mem ((c.tc : Thread Cert.ReferenceIdeal.nD Cert.ReferenceIdeal.τ).loc Cert.ReferenceIdeal.main_v153) = fun i => (hd m c (colHead (i 1))).dQ ((i 0).val / 64) ((i 0).val % 64) (colAt (i 1)))
      ∧ (r.2.mem ((c.tc : Thread Cert.ReferenceIdeal.nD Cert.ReferenceIdeal.τ).loc Cert.ReferenceIdeal.main_v155) = fun i => (hd m c (colHead (i 1))).dK (512 + (i 0).val) (colAt (i 1)))
      ∧ (r.2.mem ((c.tc : Thread Cert.ReferenceIdeal.nD Cert.ReferenceIdeal.τ).loc Cert.ReferenceIdeal.main_v157) = fun i => (hd m c (colHead (i 1))).dV (512 + (i 0).val) (colAt (i 1)))
      ∧ (r.2.mem ((c.tc : Thread Cert.ReferenceIdeal.nD Cert.ReferenceIdeal.τ).loc Cert.ReferenceIdeal.main_v132) = fun i => tabled m c (i 0) (i 1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2) := by
  refine (θ_run Cert.ReferenceIdeal.defs _ _).mono (fun _ h c => ?_) (Cert.ReferenceIdeal.Value.run (F := Ideal) m' ρ)
  obtain ⟨h0, h1, h2, h3, h4⟩ := h c
  have hh := fun i => hd_eq m m' c (ha c) i
  refine ⟨h0.trans (funext fun i => ?_), h1.trans (funext fun i => ?_), h2.trans (funext fun i => ?_), h3.trans (funext fun i => ?_), h4⟩
  · obtain ⟨a, b, rfl⟩ : ∃ a b, i = ix2 a b := ⟨i 0, i 1, eq_ix2 i⟩
    have e := Cert.ReferenceIdeal.Att.read_dq (StableHlo.launchContents m' c) a (colHead b) (colAt b) (by rw [hh]; exact hr _ _)
    rw [col_eq, hh] at e
    exact e
  · obtain ⟨a, b, rfl⟩ : ∃ a b, i = ix2 a b := ⟨i 0, i 1, eq_ix2 i⟩
    have e := Cert.ReferenceIdeal.Att.read_dk (StableHlo.launchContents m' c) a (colHead b) (colAt b) (by rw [hh]; exact hr _ _)
    rw [col_eq, hh] at e
    exact e
  · obtain ⟨a, b, rfl⟩ : ∃ a b, i = ix2 a b := ⟨i 0, i 1, eq_ix2 i⟩
    have e := Cert.ReferenceIdeal.Att.read_dv (StableHlo.launchContents m' c) a (colHead b) (colAt b)
    rw [col_eq, hh] at e
    exact e
  · obtain ⟨a, b, rfl⟩ : ∃ a b, i = ix2 a b := ⟨i 0, i 1, eq_ix2 i⟩
    have e := Cert.ReferenceIdeal.Att.read_drel (StableHlo.launchContents m' c) a b (by rw [hh]; exact hr _ _)
    rw [hh] at e
    exact e

end Cert.Agree

end
-- ==== Proof.FfnSpec.lean ====
module

public import Idealize.ShloMosaic.PureOps.Ideal

@[expose] public section

noncomputable section

namespace Cert.Ffn

open Idealize.ShloMosaic

/-- The activation of one element: the gate through the sigmoid-weighted unit, times the up projection. -/
def actv (g u : EReal) : EReal := g * Ideal.logistic g * u

/-- The gradient of one element of the gate projection. -/
def dgv (g u d : EReal) : EReal := d * u * Ideal.logistic g + g * (d * u) * (Ideal.logistic g * (1 - Ideal.logistic g))

/-- The gradient of one element of the up projection. -/
def duv (g d : EReal) : EReal := g * Ideal.logistic g * d

/-- The data of one gated feed-forward layer on one device: the residual `x`, the normed input `h`, the three weights, and
    the gradient `dy` of the layer's result. -/
structure Layer where
  x : Fin 4096 → Fin 2048 → EReal
  h : Fin 4096 → Fin 2048 → EReal
  wg : Fin 2048 → Fin 5632 → EReal
  wu : Fin 2048 → Fin 5632 → EReal
  wd : Fin 5632 → Fin 2048 → EReal
  dy : Fin 4096 → Fin 2048 → EReal

namespace Layer

variable (L : Layer)

/-- The gate projection. -/
def gate (i : Fin 4096) (j : Fin 5632) : EReal := ∑ k, L.h i k * L.wg k j
/-- The up projection. -/
def up (i : Fin 4096) (j : Fin 5632) : EReal := ∑ k, L.h i k * L.wu k j
/-- The activation. -/
def act (i : Fin 4096) (j : Fin 5632) : EReal := actv (L.gate i j) (L.up i j)
/-- The layer's result: the down projection added to the residual. -/
def y (i : Fin 4096) (j : Fin 2048) : EReal := (∑ k, L.act i k * L.wd k j) + L.x i j
/-- The gradient of the down weights. -/
def dwd (i : Fin 5632) (j : Fin 2048) : EReal := ∑ k, L.act k i * L.dy k j
/-- The gradient of the activation. -/
def da (i : Fin 4096) (j : Fin 5632) : EReal := ∑ k, L.dy i k * L.wd j k
/-- The gradient of the gate projection. -/
def dg (i : Fin 4096) (j : Fin 5632) : EReal := dgv (L.gate i j) (L.up i j) (L.da i j)
/-- The gradient of the up projection. -/
def du (i : Fin 4096) (j : Fin 5632) : EReal := duv (L.gate i j) (L.da i j)
/-- The gradient of the gate weights. -/
def dwg (i : Fin 2048) (j : Fin 5632) : EReal := ∑ k, L.h k i * L.dg k j
/-- The gradient of the up weights. -/
def dwu (i : Fin 2048) (j : Fin 5632) : EReal := ∑ k, L.h k i * L.du k j
/-- The gradient of the normed input through the gate. -/
def dhg (i : Fin 4096) (j : Fin 2048) : EReal := ∑ k, L.dg i k * L.wg j k
/-- The gradient of the normed input. -/
def dh (i : Fin 4096) (j : Fin 2048) : EReal := (∑ k, L.du i k * L.wu j k) + L.dhg i j

end Layer

end Cert.Ffn

end
-- ==== Proof.FfnAct.lean ====
module

public import proofs.«01_k».proof.Proof.Gen.Kernel2Ideal.Frame.Region2
public import proofs.«01_k».proof.Proof.Gen.Kernel2Ideal.Frame.Region6
public import proofs.«01_k».proof.Proof.FfnSpec
public import Idealize.ShloMosaic.Lib.Pipeline.ReadBack
public import Idealize.ShloMosaic.Lib.Pipeline.ValueKit

@[expose] public section

set_option maxRecDepth 16384

noncomputable section

namespace Cert.Kernel2Ideal.Ffn

open Idealize.ShloMosaic Idealize.ShloMosaic.TcCoe
open Cert.Kernel2Ideal Cert.Kernel2Ideal.Gen Cert.Ffn

/-- A load through a whole memref that holds `x` gives the elements of `x` under the rectangle. -/
theorem rdAt {s : Shape} (m : Memref sig .tc .vmem s .bf16) (hm : m.IsWhole) (x : Vec Ideal s .bf16) (r : Rect s) (j : r.shape.Idx) :
    View.readAt (Elt Ideal) m.view r.toLoadRect (hm.unread x) j = x (r.emb j) :=
  congrFun (hm.read_unread x) (r.emb j)

section Fwd
variable (c : Dev nD) (bd : Option Variants.none.V) (i : grid2.Coords) (arg1 : Memref sig .tc .vmem S256x5632 .bf16) (harg1 : arg1.IsWhole) (arg2 : Memref sig .tc .vmem S256x5632 .bf16) (harg2 : arg2.IsWhole) (arg3 : Memref sig .tc .vmem S256x5632 .bf16) (harg3 : arg3.IsWhole) (x0 x1 : Vec Ideal S256x5632 .bf16)

set_option maxHeartbeats 4000000 in
/-- Every store of one trip into the activation holds the activation at its own elements. -/
theorem trip_act (k : Fin k2_t1_loop.trips) : View.PiecesOf (fun y => actv (x0 y) (x1 y))
    (trip_k2_t1 (F := Ideal) Variants.none c bd i arg1 harg1 arg2 harg2 arg3 harg3 (harg1.unread x0) (harg2.unread x1) k).1 := by
  unfold trip_k2_t1
  sl_unfold_words
  dsimp only [View.PiecesOf]
  repeat' refine And.intro (fun x => ?_) ?_
  all_goals first
    | trivial
    | (simp only [← rdAt arg1 harg1 x0, ← rdAt arg2 harg2 x1]
       generalize View.readAt _ arg1.view _ _ = a
       generalize View.readAt _ arg2.view _ _ = b
       pointwise [k2_pay1, k2_pay2, k2_pay3, k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24]
       rfl)

/-- So do all the stores of the trips before any trip. -/
theorem trips_fwd : ∀ n : ℕ, n ≤ k2_t1_loop.trips →
    ∀ p ∈ pb_k2_t1 (F := Ideal) Variants.none c bd i arg1 harg1 arg2 harg2 arg3 harg3 (harg1.unread x0) (harg2.unread x1) n, ∀ x : p.1.shape.Idx, p.2 x = actv (x0 (p.1.emb x)) (x1 (p.1.emb x))
  | 0, _ => fun _ h => absurd h List.not_mem_nil
  | n + 1, hn => by
    have ih := trips_fwd n (by omega)
    rw [pb_k2_t1_succ Variants.none c bd i arg1 harg1 arg2 harg2 arg3 harg3 _ _ ⟨n, hn⟩]
    intro p hp
    rcases List.mem_append.1 hp with h | h
    · exact (trip_act c bd i arg1 harg1 arg2 harg2 arg3 harg3 x0 x1 ⟨n, hn⟩).mem p h
    · exact ih p h

/-- The block of the activation after the body. -/
theorem out_act (y : S256x5632.Idx) :
    out2_A_2 (F := Ideal) c i arg1 harg1 arg2 harg2 arg3 harg3 x0 x1 y = actv (x0 y) (x1 y) := by
  unfold out2_A_2
  rw [View.read_writes_junk_eq_canon]
  refine View.canon_apply_of_pieces (fun y => actv (x0 y) (x1 y)) _ ?_ y (cover2_A_2 c i arg1 harg1 arg2 harg2 arg3 harg3 x0 x1 y)
  unfold kernelRun2_A
  exact trips_fwd c none i arg1 harg1 arg2 harg2 arg3 harg3 x0 x1 _ le_rfl

end Fwd

section Bwd
variable (c : Dev nD) (bd : Option Variants.none.V) (i : grid6.Coords) (arg1 : Memref sig .tc .vmem S128x5632 .bf16) (harg1 : arg1.IsWhole) (arg2 : Memref sig .tc .vmem S128x5632 .bf16) (harg2 : arg2.IsWhole) (arg3 : Memref sig .tc .vmem S128x5632 .bf16) (harg3 : arg3.IsWhole) (arg4 : Memref sig .tc .vmem S128x5632 .bf16) (harg4 : arg4.IsWhole) (arg5 : Memref sig .tc .vmem S128x5632 .bf16) (harg5 : arg5.IsWhole) (x0 x1 x2 : Vec Ideal S128x5632 .bf16)

set_option maxHeartbeats 4000000 in
/-- Every store of one trip into the gate's gradient holds that gradient at its own elements. -/
theorem trip_dg (k : Fin k6_t1_loop.trips) : View.PiecesOf (fun y => dgv (x0 y) (x1 y) (x2 y))
    (trip_k6_t1 (F := Ideal) Variants.none c bd i arg1 harg1 arg2 harg2 arg3 harg3 arg4 harg4 arg5 harg5 (harg1.unread x0) (harg2.unread x1) (harg3.unread x2) k).1 := by
  unfold trip_k6_t1
  sl_unfold_words
  dsimp only [View.PiecesOf]
  repeat' refine And.intro (fun x => ?_) ?_
  all_goals first
    | trivial
    | (simp only [← rdAt arg1 harg1 x0, ← rdAt arg2 harg2 x1, ← rdAt arg3 harg3 x2]
       generalize View.readAt _ arg1.view _ _ = a
       generalize View.readAt _ arg2.view _ _ = b
       generalize View.readAt _ arg3.view _ _ = d
       pointwise [k6_pay1, k6_pay2, k6_pay3, k6_pay4, k6_pay5, k6_pay6, k6_pay7, k6_pay8, k6_pay9, k6_pay10, k6_pay11, k6_pay12, k6_pay13, k6_pay14, k6_pay15, k6_pay16, k6_pay17, k6_pay18, k6_pay19, k6_pay20, k6_pay21, k6_pay22, k6_pay23, k6_pay24, k6_pay25, k6_pay26, k6_pay27, k6_pay28, k6_pay29, k6_pay30, k6_pay31, k6_pay32, k6_pay33, k6_pay34, k6_pay35, k6_pay36, k6_pay37, k6_pay38, k6_pay39, k6_pay40, k6_pay41, k6_pay42, k6_pay43, k6_pay44, k6_pay45, k6_pay46, k6_pay47, k6_pay48, k6_pay49, k6_pay50, k6_pay51, k6_pay52, k6_pay53, k6_pay54, k6_pay55, k6_pay56, k6_pay57, k6_pay58, k6_pay59, k6_pay60, k6_pay61, k6_pay62, k6_pay63, k6_pay64, k6_pay65, k6_pay66, k6_pay67, k6_pay68, k6_pay69, k6_pay70, k6_pay71, k6_pay72, k6_pay73, k6_pay74, k6_pay75, k6_pay76, k6_pay77, k6_pay78, k6_pay79, k6_pay80, k6_pay81, k6_pay82, k6_pay83, k6_pay84, k6_pay85, k6_pay86, k6_pay87, k6_pay88, k6_pay89, k6_pay90, k6_pay91, k6_pay92, k6_pay93, k6_pay94, k6_pay95, k6_pay96, k6_pay97, k6_pay98, k6_pay99, k6_pay100, k6_pay101, k6_pay102, k6_pay103, k6_pay104, k6_pay105, k6_pay106, k6_pay107, k6_pay108, k6_pay109, k6_pay110, k6_pay111, k6_pay112, k6_pay113, k6_pay114, k6_pay115, k6_pay116, k6_pay117, k6_pay118, k6_pay119, k6_pay120, k6_pay121, k6_pay122, k6_pay123, k6_pay124, k6_pay125, k6_pay126]
       rfl)

set_option maxHeartbeats 4000000 in
/-- Every store of one trip into the up projection's gradient holds that gradient at its own elements. -/
theorem trip_du (k : Fin k6_t1_loop.trips) : View.PiecesOf (fun y => duv (x0 y) (x2 y))
    (trip_k6_t1 (F := Ideal) Variants.none c bd i arg1 harg1 arg2 harg2 arg3 harg3 arg4 harg4 arg5 harg5 (harg1.unread x0) (harg2.unread x1) (harg3.unread x2) k).2.1 := by
  unfold trip_k6_t1
  sl_unfold_words
  dsimp only [View.PiecesOf]
  repeat' refine And.intro (fun x => ?_) ?_
  all_goals first
    | trivial
    | (simp only [← rdAt arg1 harg1 x0, ← rdAt arg3 harg3 x2]
       generalize View.readAt _ arg1.view _ _ = a
       generalize View.readAt _ arg3.view _ _ = d
       pointwise [k6_pay1, k6_pay2, k6_pay3, k6_pay4, k6_pay5, k6_pay6, k6_pay7, k6_pay8, k6_pay9, k6_pay10, k6_pay11, k6_pay12, k6_pay13, k6_pay14, k6_pay15, k6_pay16, k6_pay17, k6_pay18, k6_pay19, k6_pay20, k6_pay21, k6_pay22, k6_pay23, k6_pay24, k6_pay25, k6_pay26, k6_pay27, k6_pay28, k6_pay29, k6_pay30, k6_pay31, k6_pay32, k6_pay33, k6_pay34, k6_pay35, k6_pay36, k6_pay37, k6_pay38, k6_pay39, k6_pay40, k6_pay41, k6_pay42, k6_pay43, k6_pay44, k6_pay45, k6_pay46, k6_pay47, k6_pay48, k6_pay49, k6_pay50, k6_pay51, k6_pay52, k6_pay53, k6_pay54, k6_pay55, k6_pay56, k6_pay57, k6_pay58, k6_pay59, k6_pay60, k6_pay61, k6_pay62, k6_pay63, k6_pay64, k6_pay65, k6_pay66, k6_pay67, k6_pay68, k6_pay69, k6_pay70, k6_pay71, k6_pay72, k6_pay73, k6_pay74, k6_pay75, k6_pay76, k6_pay77, k6_pay78, k6_pay79, k6_pay80, k6_pay81, k6_pay82, k6_pay83, k6_pay84, k6_pay85, k6_pay86, k6_pay87, k6_pay88, k6_pay89, k6_pay90, k6_pay91, k6_pay92, k6_pay93, k6_pay94, k6_pay95, k6_pay96, k6_pay97, k6_pay98, k6_pay99, k6_pay100, k6_pay101, k6_pay102, k6_pay103, k6_pay104, k6_pay105, k6_pay106, k6_pay107, k6_pay108, k6_pay109, k6_pay110, k6_pay111, k6_pay112, k6_pay113, k6_pay114, k6_pay115, k6_pay116, k6_pay117, k6_pay118, k6_pay119, k6_pay120, k6_pay121, k6_pay122, k6_pay123, k6_pay124, k6_pay125, k6_pay126]
       rfl)

/-- So do all the stores of the trips before any trip. -/
theorem trips_bwd : ∀ n : ℕ, n ≤ k6_t1_loop.trips →
    (∀ p ∈ (pb_k6_t1 (F := Ideal) Variants.none c bd i arg1 harg1 arg2 harg2 arg3 harg3 arg4 harg4 arg5 harg5 (harg1.unread x0) (harg2.unread x1) (harg3.unread x2) n).1, ∀ x : p.1.shape.Idx, p.2 x = dgv (x0 (p.1.emb x)) (x1 (p.1.emb x)) (x2 (p.1.emb x)))
    ∧ ∀ p ∈ (pb_k6_t1 (F := Ideal) Variants.none c bd i arg1 harg1 arg2 harg2 arg3 harg3 arg4 harg4 arg5 harg5 (harg1.unread x0) (harg2.unread x1) (harg3.unread x2) n).2, ∀ x : p.1.shape.Idx, p.2 x = duv (x0 (p.1.emb x)) (x2 (p.1.emb x))
  | 0, _ => ⟨fun _ h => absurd h List.not_mem_nil, fun _ h => absurd h List.not_mem_nil⟩
  | n + 1, hn => by
    have ih := trips_bwd n (by omega)
    rw [pb_k6_t1_succ Variants.none c bd i arg1 harg1 arg2 harg2 arg3 harg3 arg4 harg4 arg5 harg5 _ _ _ ⟨n, hn⟩]
    refine ⟨fun p hp => ?_, fun p hp => ?_⟩
    · rcases List.mem_append.1 hp with h | h
      · exact (trip_dg c bd i arg1 harg1 arg2 harg2 arg3 harg3 arg4 harg4 arg5 harg5 x0 x1 x2 ⟨n, hn⟩).mem p h
      · exact ih.1 p h
    · rcases List.mem_append.1 hp with h | h
      · exact (trip_du c bd i arg1 harg1 arg2 harg2 arg3 harg3 arg4 harg4 arg5 harg5 x0 x1 x2 ⟨n, hn⟩).mem p h
      · exact ih.2 p h

/-- The block of the gate's gradient after the body. -/
theorem out_dg (y : S128x5632.Idx) :
    out6_A_3 (F := Ideal) c i arg1 harg1 arg2 harg2 arg3 harg3 arg4 harg4 arg5 harg5 x0 x1 x2 y = dgv (x0 y) (x1 y) (x2 y) := by
  unfold out6_A_3
  rw [View.read_writes_junk_eq_canon]
  refine View.canon_apply_of_pieces (fun y => dgv (x0 y) (x1 y) (x2 y)) _ ?_ y (cover6_A_3 c i arg1 harg1 arg2 harg2 arg3 harg3 arg4 harg4 arg5 harg5 x0 x1 x2 y)
  unfold kernelRun6_A
  exact (trips_bwd c none i arg1 harg1 arg2 harg2 arg3 harg3 arg4 harg4 arg5 harg5 x0 x1 x2 _ le_rfl).1

/-- The block of the up projection's gradient after the body. -/
theorem out_du (y : S128x5632.Idx) :
    out6_A_4 (F := Ideal) c i arg1 harg1 arg2 harg2 arg3 harg3 arg4 harg4 arg5 harg5 x0 x1 x2 y = duv (x0 y) (x2 y) := by
  unfold out6_A_4
  rw [View.read_writes_junk_eq_canon]
  refine View.canon_apply_of_pieces (fun y => duv (x0 y) (x2 y)) _ ?_ y (cover6_A_4 c i arg1 harg1 arg2 harg2 arg3 harg3 arg4 harg4 arg5 harg5 x0 x1 x2 y)
  unfold kernelRun6_A
  exact (trips_bwd c none i arg1 harg1 arg2 harg2 arg3 harg3 arg4 harg4 arg5 harg5 x0 x1 x2 _ le_rfl).2

end Bwd

end Cert.Kernel2Ideal.Ffn

end
-- ==== Proof.FfnActArr.lean ====
module

public import proofs.«01_k».proof.Proof.FfnAct
public import Idealize.ShloMosaic.Lib.Pipeline.ValueKit

@[expose] public section

set_option maxRecDepth 16384

noncomputable section

namespace Cert.Kernel2Ideal.Ffn

open Idealize.ShloMosaic Idealize.ShloMosaic.TcCoe Idealize.ShloMosaic.Tactic
open Cert.Kernel2Ideal Cert.Kernel2Ideal.Gen Cert.Ffn

variable (V : (c : Dev nD) → (b : Ref sig .tc) → Buf (Elt Ideal) ((c : Thread nD τ).loc b))

/-- Where the blocks of call 2 (counting from 0) lie in their arrays, against the block written, at each grid point. -/
theorem ind2 : ∀ t : Fin grid2.N, (win2_0.index t 0 = win2_2.index t 0 ∧ win2_0.index t 1 = win2_2.index t 1)
    ∧ win2_1.index t 0 = win2_2.index t 0 ∧ win2_1.index t 1 = win2_2.index t 1 := by decide +kernel

/-- The array of the activation after its call. -/
theorem arr2 (c : Dev nD) (A B : S4096x5632.Idx → EReal) (hA : V c main_v0 = A) (hB : V c main_v1 = B) :
    (dat2 V c).arrAt 2 cfg2.N = (fun i => actv (A i) (B i) : S4096x5632.Idx → EReal) := by
  generalize hG : (fun i => actv (A i) (B i) : S4096x5632.Idx → EReal) = G
  refine (dat2 V c).arrAt_eq_of_covers 2 _ (by decide +kernel) fun t _ y => ?_
  have h := ind2 t
  rw [after2_2]
  have e : ∀ z : S256x5632.Idx, outsAt2 V c t z = G (((cfg2.win 2).blk t).view.emb z) := fun z => by
    obtain ⟨r, j, rfl⟩ : ∃ a b, z = ix2 a b := ⟨z 0, z 1, eq_ix2 z⟩
    rw [← hG]
    unfold outsAt2
    refine (out_act c _ _ _ _ _ _ _ _ _ _).trans (congrArg₂ actv ?_ ?_)
    · rw [← hA]; blk_ext [iblk2, h.1.1, h.1.2]
    · rw [← hB]; blk_ext [iblk2, h.2.1, h.2.2]
  generalize outsAt2 V c t = o at e ⊢
  exact e y

/-- Where the blocks of call 6 (counting from 0) lie in their arrays, against the block written, at each grid point. -/
theorem ind6 : ∀ t : Fin grid6.N, ((win6_0.index t 0 = t.val ∧ win6_0.index t 1 = 0) ∧ (win6_1.index t 0 = t.val ∧ win6_1.index t 1 = 0) ∧ win6_2.index t 0 = t.val ∧ win6_2.index t 1 = 0)
    ∧ (win6_3.index t 0 = t.val ∧ win6_3.index t 1 = 0) ∧ win6_4.index t 0 = t.val ∧ win6_4.index t 1 = 0 := by decide +kernel

section Bwd
variable (c : Dev nD) (A B D : S4096x5632.Idx → EReal) (hA : V c main_v0 = A) (hB : V c main_v1 = B) (hD : V c main_v6 = D)
include hA hD

/-- The array of the up projection's gradient after its call. -/
theorem arr6_4 : (dat6 V c).arrAt 4 cfg6.N = (fun i => duv (A i) (D i) : S4096x5632.Idx → EReal) := by
  generalize hG : (fun i => duv (A i) (D i) : S4096x5632.Idx → EReal) = G
  refine (dat6 V c).arrAt_eq_of_covers 4 _ (by decide +kernel) fun t _ y => ?_
  have h := ind6 t
  rw [after6_4]
  have e : ∀ z : S128x5632.Idx, (outsAt6 V c t).2 z = G (((cfg6.win 4).blk t).view.emb z) := fun z => by
    obtain ⟨r, j, rfl⟩ : ∃ a b, z = ix2 a b := ⟨z 0, z 1, eq_ix2 z⟩
    rw [← hG]
    unfold outsAt6
    refine (out_du c _ _ _ _ _ _ _ _ _ _ _ _ _ _ _).trans (congrArg₂ duv ?_ ?_)
    · rw [← hA]; blk_ext [iblk6, h.1.1.1, h.1.1.2, h.2.2.1, h.2.2.2]
    · rw [← hD]; blk_ext [iblk6, h.1.2.2.1, h.1.2.2.2, h.2.2.1, h.2.2.2]
  generalize outsAt6 V c t = o at e ⊢
  exact e y

include hB

/-- The array of the gate projection's gradient after its call. -/
theorem arr6_3 : (dat6 V c).arrAt 3 cfg6.N = (fun i => dgv (A i) (B i) (D i) : S4096x5632.Idx → EReal) := by
  generalize hG : (fun i => dgv (A i) (B i) (D i) : S4096x5632.Idx → EReal) = G
  refine (dat6 V c).arrAt_eq_of_covers 3 _ (by decide +kernel) fun t _ y => ?_
  have h := ind6 t
  rw [after6_3]
  have e : ∀ z : S128x5632.Idx, (outsAt6 V c t).1 z = G (((cfg6.win 3).blk t).view.emb z) := fun z => by
    obtain ⟨r, j, rfl⟩ : ∃ a b, z = ix2 a b := ⟨z 0, z 1, eq_ix2 z⟩
    rw [← hG]
    unfold outsAt6
    refine (out_dg c _ _ _ _ _ _ _ _ _ _ _ _ _ _ _).trans (congr (congrArg₂ dgv ?_ ?_) ?_)
    · rw [← hA]; blk_ext [iblk6, h.1.1.1, h.1.1.2, h.2.1.1, h.2.1.2]
    · rw [← hB]; blk_ext [iblk6, h.1.2.1.1, h.1.2.1.2, h.2.1.1, h.2.1.2]
    · rw [← hD]; blk_ext [iblk6, h.1.2.2.1, h.1.2.2.2, h.2.1.1, h.2.1.2]
  generalize outsAt6 V c t = o at e ⊢
  exact e y

end Bwd

end Cert.Kernel2Ideal.Ffn

end
-- ==== Proof.FfnProd.lean ====
module

public import proofs.«01_k».proof.Proof.Gen.Kernel2Ideal.Frame.Fold0
public import Idealize.ShloMosaic.Lib.Pipeline.ValueKit
public import Idealize.ShloMosaic.Lib.Pointwise

@[expose] public section

set_option maxRecDepth 16384
set_option pp.deepTerms false
set_option pp.maxSteps 1500

noncomputable section

namespace Cert.Kernel2Ideal.Ffn

open Idealize.ShloMosaic Idealize.ShloMosaic.TcCoe Idealize.ShloMosaic.Tactic
open Cert.Kernel2Ideal Cert.Kernel2Ideal.Gen

theorem zz : (![0, 0] : Fin 2 → ℕ) = fun _ => 0 := funext fun a => by fin_cases a <;> rfl
theorem zzz : (![0, 0, 0] : Fin 3 → ℕ) = fun _ => 0 := funext fun a => by fin_cases a <;> rfl

variable (V : (c : Dev nD) → (b : Ref sig .tc) → Buf (Elt Ideal) ((c : Thread nD τ).loc b))

/-- One element of the block of the gate projection. -/
theorem pay0 (a : Vec Ideal S1024x2048 .bf16) (b : Vec Ideal S1x2048x1408 .bf16) (r : Fin 1024) (j : Fin 1408) :
    k0_pay1 a b (ix2 r j) = (∑ k : Fin 2048, a (ix2 r k) * b (ix3 0 k j)) := by
  pointwise [k0_pay1]

/-- Where the blocks of call 0 (counting from 0) lie in their arrays, against the block written, at each grid point. -/
theorem ind0 : ∀ t : Fin grid0.N, (win0_0.index t 1 = 0 ∧ win0_0.index t 0 = win0_2.index t 0) ∧ (win0_1.index t 0 = 3 ∧ win0_1.index t 1 = 0 ∧ win0_1.index t 2 = win0_2.index t 1) ∧ True := by decide +kernel

/-- The array of the gate projection after its call. -/
theorem arr0 (c : Dev nD) (A : S4096x2048.Idx → EReal) (B : S4x2048x5632.Idx → EReal) (hA : V c main_arg1 = A) (hB : V c main_arg2 = B) :
    (dat0 V c).arrAt 2 cfg0.N = (fun i => (∑ k : Fin 2048, A (ix2 (i 0) k) * B (ix3 3 k (i 1))) : S4096x5632.Idx → EReal) := by
  generalize hG : (fun i => (∑ k : Fin 2048, A (ix2 (i 0) k) * B (ix3 3 k (i 1))) : S4096x5632.Idx → EReal) = G
  refine (dat0 V c).arrAt_eq_of_covers 2 _ (by decide +kernel) fun t _ y => ?_
  have h := ind0 t
  rw [after0_2]
  have e : ∀ z : S1024x1408.Idx, out0_2 (iblk0 V c 0 t) (iblk0 V c 1 t) z = G (((cfg0.win 2).blk t).view.emb z) := fun z => by
    obtain ⟨r, j, rfl⟩ : ∃ a b, z = ix2 a b := ⟨z 0, z 1, eq_ix2 z⟩
    rw [← hG]
    unfold out0_2
    rw [View.canon_unit_zero zz, View.ld_unit_zero zz, View.ld_unit_zero zzz, pay0]
    refine Finset.sum_congr rfl fun k _ => congrArg₂ (· * ·) ?_ ?_
    · rw [← hA]; blk_ext [iblk0, h.1.1, h.1.2, h.2.1.1, h.2.1.2.1, h.2.1.2.2]
    · rw [← hB]; blk_ext [iblk0, h.1.1, h.1.2, h.2.1.1, h.2.1.2.1, h.2.1.2.2]
  generalize out0_2 (iblk0 V c 0 t) (iblk0 V c 1 t) = o at e ⊢
  exact e y

/-- One element of the block of the up projection. -/
theorem pay1 (a : Vec Ideal S1024x2048 .bf16) (b : Vec Ideal S1x2048x1408 .bf16) (r : Fin 1024) (j : Fin 1408) :
    k1_pay1 a b (ix2 r j) = (∑ k : Fin 2048, a (ix2 r k) * b (ix3 0 k j)) := by
  pointwise [k1_pay1]

/-- Where the blocks of call 1 (counting from 0) lie in their arrays, against the block written, at each grid point. -/
theorem ind1 : ∀ t : Fin grid1.N, (win1_0.index t 1 = 0 ∧ win1_0.index t 0 = win1_2.index t 0) ∧ (win1_1.index t 0 = 3 ∧ win1_1.index t 1 = 0 ∧ win1_1.index t 2 = win1_2.index t 1) ∧ True := by decide +kernel

/-- The array of the up projection after its call. -/
theorem arr1 (c : Dev nD) (A : S4096x2048.Idx → EReal) (B : S4x2048x5632.Idx → EReal) (hA : V c main_arg1 = A) (hB : V c main_arg3 = B) :
    (dat1 V c).arrAt 2 cfg1.N = (fun i => (∑ k : Fin 2048, A (ix2 (i 0) k) * B (ix3 3 k (i 1))) : S4096x5632.Idx → EReal) := by
  generalize hG : (fun i => (∑ k : Fin 2048, A (ix2 (i 0) k) * B (ix3 3 k (i 1))) : S4096x5632.Idx → EReal) = G
  refine (dat1 V c).arrAt_eq_of_covers 2 _ (by decide +kernel) fun t _ y => ?_
  have h := ind1 t
  rw [after1_2]
  have e : ∀ z : S1024x1408.Idx, out1_2 (iblk1 V c 0 t) (iblk1 V c 1 t) z = G (((cfg1.win 2).blk t).view.emb z) := fun z => by
    obtain ⟨r, j, rfl⟩ : ∃ a b, z = ix2 a b := ⟨z 0, z 1, eq_ix2 z⟩
    rw [← hG]
    unfold out1_2
    rw [View.canon_unit_zero zz, View.ld_unit_zero zz, View.ld_unit_zero zzz, pay1]
    refine Finset.sum_congr rfl fun k _ => congrArg₂ (· * ·) ?_ ?_
    · rw [← hA]; blk_ext [iblk1, h.1.1, h.1.2, h.2.1.1, h.2.1.2.1, h.2.1.2.2]
    · rw [← hB]; blk_ext [iblk1, h.1.1, h.1.2, h.2.1.1, h.2.1.2.1, h.2.1.2.2]
  generalize out1_2 (iblk1 V c 0 t) (iblk1 V c 1 t) = o at e ⊢
  exact e y

/-- One element of the block of the down projection added to the residual. -/
theorem pay3 (a : Vec Ideal S512x5632 .bf16) (b : Vec Ideal S1x5632x1024 .bf16) (d : Vec Ideal S512x1024 .f32) (r : Fin 512) (j : Fin 1024) :
    k3_pay1 a b d (ix2 r j) = (∑ k : Fin 5632, a (ix2 r k) * b (ix3 0 k j)) + d (ix2 r j) := by
  pointwise [k3_pay1]

/-- Where the blocks of call 3 (counting from 0) lie in their arrays, against the block written, at each grid point. -/
theorem ind3 : ∀ t : Fin grid3.N, (win3_0.index t 1 = 0 ∧ win3_0.index t 0 = win3_3.index t 0) ∧ (win3_1.index t 0 = 3 ∧ win3_1.index t 1 = 0 ∧ win3_1.index t 2 = win3_3.index t 1) ∧ win3_2.index t 0 = win3_3.index t 0 ∧ win3_2.index t 1 = win3_3.index t 1 := by decide +kernel

/-- The array of the down projection added to the residual after its call. -/
theorem arr3 (c : Dev nD) (A : S4096x5632.Idx → EReal) (B : S4x5632x2048.Idx → EReal) (R : S4096x2048.Idx → EReal) (hA : V c main_v2 = A) (hB : V c main_arg4 = B) (hR : V c main_arg0 = R) :
    (dat3 V c).arrAt 3 cfg3.N = (fun i => (∑ k : Fin 5632, A (ix2 (i 0) k) * B (ix3 3 k (i 1))) + R (ix2 (i 0) (i 1)) : S4096x2048.Idx → EReal) := by
  generalize hG : (fun i => (∑ k : Fin 5632, A (ix2 (i 0) k) * B (ix3 3 k (i 1))) + R (ix2 (i 0) (i 1)) : S4096x2048.Idx → EReal) = G
  refine (dat3 V c).arrAt_eq_of_covers 3 _ (by decide +kernel) fun t _ y => ?_
  have h := ind3 t
  rw [after3_3]
  have e : ∀ z : S512x1024.Idx, out3_3 (iblk3 V c 0 t) (iblk3 V c 1 t) (iblk3 V c 2 t) z = G (((cfg3.win 3).blk t).view.emb z) := fun z => by
    obtain ⟨r, j, rfl⟩ : ∃ a b, z = ix2 a b := ⟨z 0, z 1, eq_ix2 z⟩
    rw [← hG]
    unfold out3_3
    rw [View.canon_unit_zero zz, View.ld_unit_zero zz, View.ld_unit_zero zzz, View.ld_unit_zero zz, pay3]
    refine congrArg₂ (· + ·) (Finset.sum_congr rfl fun k _ => congrArg₂ (· * ·) ?_ ?_) ?_
    · rw [← hA]; blk_ext [iblk3, h.1.1, h.1.2, h.2.1.1, h.2.1.2.1, h.2.1.2.2, h.2.2.1, h.2.2.2]
    · rw [← hB]; blk_ext [iblk3, h.1.1, h.1.2, h.2.1.1, h.2.1.2.1, h.2.1.2.2, h.2.2.1, h.2.2.2]
    · rw [← hR]; blk_ext [iblk3, h.1.1, h.1.2, h.2.1.1, h.2.1.2.1, h.2.1.2.2, h.2.2.1, h.2.2.2]
  generalize out3_3 (iblk3 V c 0 t) (iblk3 V c 1 t) (iblk3 V c 2 t) = o at e ⊢
  exact e y

/-- One element of the block of the down weights' gradient. -/
theorem pay4 (a : Vec Ideal S4096x512 .bf16) (b : Vec Ideal S4096x1024 .bf16) (r : Fin 512) (j : Fin 1024) :
    k4_pay1 a b (ix2 r j) = (∑ k : Fin 4096, a (ix2 k r) * b (ix2 k j)) := by
  pointwise [k4_pay1]

/-- Where the blocks of call 4 (counting from 0) lie in their arrays, against the block written, at each grid point. -/
theorem ind4 : ∀ t : Fin grid4.N, (win4_0.index t 0 = 0 ∧ win4_0.index t 1 = win4_2.index t 0) ∧ (win4_1.index t 0 = 0 ∧ win4_1.index t 1 = win4_2.index t 1 ∧ True) ∧ True := by decide +kernel

/-- The array of the down weights' gradient after its call. -/
theorem arr4 (c : Dev nD) (A : S4096x5632.Idx → EReal) (B : S4096x2048.Idx → EReal) (hA : V c main_v2 = A) (hB : V c main_v4 = B) :
    (dat4 V c).arrAt 2 cfg4.N = (fun i => (∑ k : Fin 4096, A (ix2 k (i 0)) * B (ix2 k (i 1))) : S5632x2048.Idx → EReal) := by
  generalize hG : (fun i => (∑ k : Fin 4096, A (ix2 k (i 0)) * B (ix2 k (i 1))) : S5632x2048.Idx → EReal) = G
  refine (dat4 V c).arrAt_eq_of_covers 2 _ (by decide +kernel) fun t _ y => ?_
  have h := ind4 t
  rw [after4_2]
  have e : ∀ z : S512x1024.Idx, out4_2 (iblk4 V c 0 t) (iblk4 V c 1 t) z = G (((cfg4.win 2).blk t).view.emb z) := fun z => by
    obtain ⟨r, j, rfl⟩ : ∃ a b, z = ix2 a b := ⟨z 0, z 1, eq_ix2 z⟩
    rw [← hG]
    unfold out4_2
    rw [View.canon_unit_zero zz, View.ld_unit_zero zz, View.ld_unit_zero zz, pay4]
    refine Finset.sum_congr rfl fun k _ => congrArg₂ (· * ·) ?_ ?_
    · rw [← hA]; blk_ext [iblk4, h.1.1, h.1.2, h.2.1.1, h.2.1.2.1]
    · rw [← hB]; blk_ext [iblk4, h.1.1, h.1.2, h.2.1.1, h.2.1.2.1]
  generalize out4_2 (iblk4 V c 0 t) (iblk4 V c 1 t) = o at e ⊢
  exact e y

/-- One element of the block of the activation's gradient. -/
theorem pay5 (a : Vec Ideal S1024x2048 .bf16) (b : Vec Ideal S1x1408x2048 .bf16) (r : Fin 1024) (j : Fin 1408) :
    k5_pay1 a b (ix2 r j) = (∑ k : Fin 2048, a (ix2 r k) * b (ix3 0 j k)) := by
  pointwise [k5_pay1]

/-- Where the blocks of call 5 (counting from 0) lie in their arrays, against the block written, at each grid point. -/
theorem ind5 : ∀ t : Fin grid5.N, (win5_0.index t 1 = 0 ∧ win5_0.index t 0 = win5_2.index t 0) ∧ (win5_1.index t 0 = 3 ∧ win5_1.index t 2 = 0 ∧ win5_1.index t 1 = win5_2.index t 1) ∧ True := by decide +kernel

/-- The array of the activation's gradient after its call. -/
theorem arr5 (c : Dev nD) (A : S4096x2048.Idx → EReal) (B : S4x5632x2048.Idx → EReal) (hA : V c main_v4 = A) (hB : V c main_arg4 = B) :
    (dat5 V c).arrAt 2 cfg5.N = (fun i => (∑ k : Fin 2048, A (ix2 (i 0) k) * B (ix3 3 (i 1) k)) : S4096x5632.Idx → EReal) := by
  generalize hG : (fun i => (∑ k : Fin 2048, A (ix2 (i 0) k) * B (ix3 3 (i 1) k)) : S4096x5632.Idx → EReal) = G
  refine (dat5 V c).arrAt_eq_of_covers 2 _ (by decide +kernel) fun t _ y => ?_
  have h := ind5 t
  rw [after5_2]
  have e : ∀ z : S1024x1408.Idx, out5_2 (iblk5 V c 0 t) (iblk5 V c 1 t) z = G (((cfg5.win 2).blk t).view.emb z) := fun z => by
    obtain ⟨r, j, rfl⟩ : ∃ a b, z = ix2 a b := ⟨z 0, z 1, eq_ix2 z⟩
    rw [← hG]
    unfold out5_2
    rw [View.canon_unit_zero zz, View.ld_unit_zero zz, View.ld_unit_zero zzz, pay5]
    refine Finset.sum_congr rfl fun k _ => congrArg₂ (· * ·) ?_ ?_
    · rw [← hA]; blk_ext [iblk5, h.1.1, h.1.2, h.2.1.1, h.2.1.2.1, h.2.1.2.2]
    · rw [← hB]; blk_ext [iblk5, h.1.1, h.1.2, h.2.1.1, h.2.1.2.1, h.2.1.2.2]
  generalize out5_2 (iblk5 V c 0 t) (iblk5 V c 1 t) = o at e ⊢
  exact e y

/-- One element of the block of the gate weights' gradient. -/
theorem pay7 (a : Vec Ideal S4096x512 .bf16) (b : Vec Ideal S4096x1408 .bf16) (r : Fin 512) (j : Fin 1408) :
    k7_pay1 a b (ix2 r j) = (∑ k : Fin 4096, a (ix2 k r) * b (ix2 k j)) := by
  pointwise [k7_pay1]

/-- Where the blocks of call 7 (counting from 0) lie in their arrays, against the block written, at each grid point. -/
theorem ind7 : ∀ t : Fin grid7.N, (win7_0.index t 0 = 0 ∧ win7_0.index t 1 = win7_2.index t 0) ∧ (win7_1.index t 0 = 0 ∧ win7_1.index t 1 = win7_2.index t 1 ∧ True) ∧ True := by decide +kernel

/-- The array of the gate weights' gradient after its call. -/
theorem arr7 (c : Dev nD) (A : S4096x2048.Idx → EReal) (B : S4096x5632.Idx → EReal) (hA : V c main_arg1 = A) (hB : V c main_v7_0 = B) :
    (dat7 V c).arrAt 2 cfg7.N = (fun i => (∑ k : Fin 4096, A (ix2 k (i 0)) * B (ix2 k (i 1))) : S2048x5632.Idx → EReal) := by
  generalize hG : (fun i => (∑ k : Fin 4096, A (ix2 k (i 0)) * B (ix2 k (i 1))) : S2048x5632.Idx → EReal) = G
  refine (dat7 V c).arrAt_eq_of_covers 2 _ (by decide +kernel) fun t _ y => ?_
  have h := ind7 t
  rw [after7_2]
  have e : ∀ z : S512x1408.Idx, out7_2 (iblk7 V c 0 t) (iblk7 V c 1 t) z = G (((cfg7.win 2).blk t).view.emb z) := fun z => by
    obtain ⟨r, j, rfl⟩ : ∃ a b, z = ix2 a b := ⟨z 0, z 1, eq_ix2 z⟩
    rw [← hG]
    unfold out7_2
    rw [View.canon_unit_zero zz, View.ld_unit_zero zz, View.ld_unit_zero zz, pay7]
    refine Finset.sum_congr rfl fun k _ => congrArg₂ (· * ·) ?_ ?_
    · rw [← hA]; blk_ext [iblk7, h.1.1, h.1.2, h.2.1.1, h.2.1.2.1]
    · rw [← hB]; blk_ext [iblk7, h.1.1, h.1.2, h.2.1.1, h.2.1.2.1]
  generalize out7_2 (iblk7 V c 0 t) (iblk7 V c 1 t) = o at e ⊢
  exact e y

/-- One element of the block of the up weights' gradient. -/
theorem pay8 (a : Vec Ideal S4096x512 .bf16) (b : Vec Ideal S4096x1408 .bf16) (r : Fin 512) (j : Fin 1408) :
    k8_pay1 a b (ix2 r j) = (∑ k : Fin 4096, a (ix2 k r) * b (ix2 k j)) := by
  pointwise [k8_pay1]

/-- Where the blocks of call 8 (counting from 0) lie in their arrays, against the block written, at each grid point. -/
theorem ind8 : ∀ t : Fin grid8.N, (win8_0.index t 0 = 0 ∧ win8_0.index t 1 = win8_2.index t 0) ∧ (win8_1.index t 0 = 0 ∧ win8_1.index t 1 = win8_2.index t 1 ∧ True) ∧ True := by decide +kernel

/-- The array of the up weights' gradient after its call. -/
theorem arr8 (c : Dev nD) (A : S4096x2048.Idx → EReal) (B : S4096x5632.Idx → EReal) (hA : V c main_arg1 = A) (hB : V c main_v7_1 = B) :
    (dat8 V c).arrAt 2 cfg8.N = (fun i => (∑ k : Fin 4096, A (ix2 k (i 0)) * B (ix2 k (i 1))) : S2048x5632.Idx → EReal) := by
  generalize hG : (fun i => (∑ k : Fin 4096, A (ix2 k (i 0)) * B (ix2 k (i 1))) : S2048x5632.Idx → EReal) = G
  refine (dat8 V c).arrAt_eq_of_covers 2 _ (by decide +kernel) fun t _ y => ?_
  have h := ind8 t
  rw [after8_2]
  have e : ∀ z : S512x1408.Idx, out8_2 (iblk8 V c 0 t) (iblk8 V c 1 t) z = G (((cfg8.win 2).blk t).view.emb z) := fun z => by
    obtain ⟨r, j, rfl⟩ : ∃ a b, z = ix2 a b := ⟨z 0, z 1, eq_ix2 z⟩
    rw [← hG]
    unfold out8_2
    rw [View.canon_unit_zero zz, View.ld_unit_zero zz, View.ld_unit_zero zz, pay8]
    refine Finset.sum_congr rfl fun k _ => congrArg₂ (· * ·) ?_ ?_
    · rw [← hA]; blk_ext [iblk8, h.1.1, h.1.2, h.2.1.1, h.2.1.2.1]
    · rw [← hB]; blk_ext [iblk8, h.1.1, h.1.2, h.2.1.1, h.2.1.2.1]
  generalize out8_2 (iblk8 V c 0 t) (iblk8 V c 1 t) = o at e ⊢
  exact e y

/-- One element of the block of the input's gradient through the gate. -/
theorem pay9 (a : Vec Ideal S512x5632 .bf16) (b : Vec Ideal S1x1024x5632 .bf16) (r : Fin 512) (j : Fin 1024) :
    k9_pay1 a b (ix2 r j) = (∑ k : Fin 5632, a (ix2 r k) * b (ix3 0 j k)) := by
  pointwise [k9_pay1]

/-- Where the blocks of call 9 (counting from 0) lie in their arrays, against the block written, at each grid point. -/
theorem ind9 : ∀ t : Fin grid9.N, (win9_0.index t 1 = 0 ∧ win9_0.index t 0 = win9_2.index t 0) ∧ (win9_1.index t 0 = 3 ∧ win9_1.index t 2 = 0 ∧ win9_1.index t 1 = win9_2.index t 1) ∧ True := by decide +kernel

/-- The array of the input's gradient through the gate after its call. -/
theorem arr9 (c : Dev nD) (A : S4096x5632.Idx → EReal) (B : S4x2048x5632.Idx → EReal) (hA : V c main_v7_0 = A) (hB : V c main_arg2 = B) :
    (dat9 V c).arrAt 2 cfg9.N = (fun i => (∑ k : Fin 5632, A (ix2 (i 0) k) * B (ix3 3 (i 1) k)) : S4096x2048.Idx → EReal) := by
  generalize hG : (fun i => (∑ k : Fin 5632, A (ix2 (i 0) k) * B (ix3 3 (i 1) k)) : S4096x2048.Idx → EReal) = G
  refine (dat9 V c).arrAt_eq_of_covers 2 _ (by decide +kernel) fun t _ y => ?_
  have h := ind9 t
  rw [after9_2]
  have e : ∀ z : S512x1024.Idx, out9_2 (iblk9 V c 0 t) (iblk9 V c 1 t) z = G (((cfg9.win 2).blk t).view.emb z) := fun z => by
    obtain ⟨r, j, rfl⟩ : ∃ a b, z = ix2 a b := ⟨z 0, z 1, eq_ix2 z⟩
    rw [← hG]
    unfold out9_2
    rw [View.canon_unit_zero zz, View.ld_unit_zero zz, View.ld_unit_zero zzz, pay9]
    refine Finset.sum_congr rfl fun k _ => congrArg₂ (· * ·) ?_ ?_
    · rw [← hA]; blk_ext [iblk9, h.1.1, h.1.2, h.2.1.1, h.2.1.2.1, h.2.1.2.2]
    · rw [← hB]; blk_ext [iblk9, h.1.1, h.1.2, h.2.1.1, h.2.1.2.1, h.2.1.2.2]
  generalize out9_2 (iblk9 V c 0 t) (iblk9 V c 1 t) = o at e ⊢
  exact e y

/-- One element of the block of the input's gradient through the up projection, added to the one through the gate. -/
theorem pay10 (a : Vec Ideal S512x5632 .bf16) (b : Vec Ideal S1x1024x5632 .bf16) (d : Vec Ideal S512x1024 .f32) (r : Fin 512) (j : Fin 1024) :
    k10_pay1 a b d (ix2 r j) = (∑ k : Fin 5632, a (ix2 r k) * b (ix3 0 j k)) + d (ix2 r j) := by
  pointwise [k10_pay1]

/-- Where the blocks of call 10 (counting from 0) lie in their arrays, against the block written, at each grid point. -/
theorem ind10 : ∀ t : Fin grid10.N, (win10_0.index t 1 = 0 ∧ win10_0.index t 0 = win10_3.index t 0) ∧ (win10_1.index t 0 = 3 ∧ win10_1.index t 2 = 0 ∧ win10_1.index t 1 = win10_3.index t 1) ∧ win10_2.index t 0 = win10_3.index t 0 ∧ win10_2.index t 1 = win10_3.index t 1 := by decide +kernel

/-- The array of the input's gradient through the up projection, added to the one through the gate after its call. -/
theorem arr10 (c : Dev nD) (A : S4096x5632.Idx → EReal) (B : S4x2048x5632.Idx → EReal) (R : S4096x2048.Idx → EReal) (hA : V c main_v7_1 = A) (hB : V c main_arg3 = B) (hR : V c main_v10 = R) :
    (dat10 V c).arrAt 3 cfg10.N = (fun i => (∑ k : Fin 5632, A (ix2 (i 0) k) * B (ix3 3 (i 1) k)) + R (ix2 (i 0) (i 1)) : S4096x2048.Idx → EReal) := by
  generalize hG : (fun i => (∑ k : Fin 5632, A (ix2 (i 0) k) * B (ix3 3 (i 1) k)) + R (ix2 (i 0) (i 1)) : S4096x2048.Idx → EReal) = G
  refine (dat10 V c).arrAt_eq_of_covers 3 _ (by decide +kernel) fun t _ y => ?_
  have h := ind10 t
  rw [after10_3]
  have e : ∀ z : S512x1024.Idx, out10_3 (iblk10 V c 0 t) (iblk10 V c 1 t) (iblk10 V c 2 t) z = G (((cfg10.win 3).blk t).view.emb z) := fun z => by
    obtain ⟨r, j, rfl⟩ : ∃ a b, z = ix2 a b := ⟨z 0, z 1, eq_ix2 z⟩
    rw [← hG]
    unfold out10_3
    rw [View.canon_unit_zero zz, View.ld_unit_zero zz, View.ld_unit_zero zzz, View.ld_unit_zero zz, pay10]
    refine congrArg₂ (· + ·) (Finset.sum_congr rfl fun k _ => congrArg₂ (· * ·) ?_ ?_) ?_
    · rw [← hA]; blk_ext [iblk10, h.1.1, h.1.2, h.2.1.1, h.2.1.2.1, h.2.1.2.2, h.2.2.1, h.2.2.2]
    · rw [← hB]; blk_ext [iblk10, h.1.1, h.1.2, h.2.1.1, h.2.1.2.1, h.2.1.2.2, h.2.2.1, h.2.2.2]
    · rw [← hR]; blk_ext [iblk10, h.1.1, h.1.2, h.2.1.1, h.2.1.2.1, h.2.1.2.2, h.2.2.1, h.2.2.2]
  generalize out10_3 (iblk10 V c 0 t) (iblk10 V c 1 t) (iblk10 V c 2 t) = o at e ⊢
  exact e y

end Cert.Kernel2Ideal.Ffn

end
-- ==== Proof.FfnRun.lean ====
module

public import proofs.«01_k».proof.Proof.Gen.Kernel2Ideal.Frame
public import proofs.«01_k».proof.Proof.FfnActArr
public import proofs.«01_k».proof.Proof.FfnProd
public import Idealize.ShloMosaic.Lib.Pointwise

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen Cert.Ffn

local notation "𝕄" => MT nD τ sig Unit (Elt Ideal) ℕ (UR sig nD τ) ℕ

variable (m : (ℓ : Loc nD τ sig) → Buf (Elt Ideal) ℓ) (ρ : Dev nD → PrngReg)

/-- The layer of the program's arguments on one device: the stacked weights at layer index 3. -/
def layer (c : Dev nD) : Layer where
  x := fun i j => (m ((c : Thread nD τ).loc main_arg0) : S4096x2048.Idx → EReal) (ix2 i j)
  h := fun i j => (m ((c : Thread nD τ).loc main_arg1) : S4096x2048.Idx → EReal) (ix2 i j)
  wg := fun i j => (m ((c : Thread nD τ).loc main_arg2) : S4x2048x5632.Idx → EReal) (ix3 3 i j)
  wu := fun i j => (m ((c : Thread nD τ).loc main_arg3) : S4x2048x5632.Idx → EReal) (ix3 3 i j)
  wd := fun i j => (m ((c : Thread nD τ).loc main_arg4) : S4x5632x2048.Idx → EReal) (ix3 3 i j)
  dy := fun i j => (m ((c : Thread nD τ).loc main_arg5) : S4096x2048.Idx → EReal) (ix2 i j)

variable (c : Dev nD)

/-- Argument 0 as launched. -/
abbrev a0 : S4096x2048.Idx → EReal := m ((c : Thread nD τ).loc main_arg0)

/-- Argument 1 as launched. -/
abbrev a1 : S4096x2048.Idx → EReal := m ((c : Thread nD τ).loc main_arg1)

/-- Argument 2 as launched. -/
abbrev a2 : S4x2048x5632.Idx → EReal := m ((c : Thread nD τ).loc main_arg2)

/-- Argument 3 as launched. -/
abbrev a3 : S4x2048x5632.Idx → EReal := m ((c : Thread nD τ).loc main_arg3)

/-- Argument 4 as launched. -/
abbrev a4 : S4x5632x2048.Idx → EReal := m ((c : Thread nD τ).loc main_arg4)

/-- Argument 5 as launched. -/
abbrev a5 : S4096x2048.Idx → EReal := m ((c : Thread nD τ).loc main_arg5)

/-- The gate projection after its call. -/
theorem w1_v0 : V1 m ρ c main_v0 = (fun i => (layer m c).gate (i 0) (i 1) : S4096x5632.Idx → EReal) :=
  (W1_arr m ρ c 2).trans (arr0 (V0 m ρ) c (a1 m c) (a2 m c) (W0_args m ρ c main_arg1 (by decide) : V0 m ρ c main_arg1 = a1 m c) (W0_args m ρ c main_arg2 (by decide) : V0 m ρ c main_arg2 = a2 m c))

/-- The up projection after its call. -/
theorem w2_v1 : V2 m ρ c main_v1 = (fun i => (layer m c).up (i 0) (i 1) : S4096x5632.Idx → EReal) :=
  (W2_arr m ρ c 2).trans (arr1 (V1 m ρ) c (a1 m c) (a3 m c) (W1_args m ρ c main_arg1 (by decide) : V1 m ρ c main_arg1 = a1 m c) (W1_args m ρ c main_arg3 (by decide) : V1 m ρ c main_arg3 = a3 m c))

/-- It is still there at boundary 2. -/
theorem w2_v0 : V2 m ρ c main_v0 = (fun i => (layer m c).gate (i 0) (i 1) : S4096x5632.Idx → EReal) :=
  (W2_of m ρ c main_v0 (by decide)).trans (w1_v0 m ρ c)

/-- The activation after its call. -/
theorem w3_v2 : V3 m ρ c main_v2 = (fun i => (layer m c).act (i 0) (i 1) : S4096x5632.Idx → EReal) :=
  (W3_arr m ρ c 2).trans (arr2 (V2 m ρ) c _ _ (w2_v0 m ρ c) (w2_v1 m ρ c))

/-- The layer's result after its call. -/
theorem w4_v3 : V4 m ρ c main_v3 = (fun i => (layer m c).y (i 0) (i 1) : S4096x2048.Idx → EReal) :=
  (W4_arr m ρ c 3).trans (arr3 (V3 m ρ) c _ (a4 m c) (a0 m c) (w3_v2 m ρ c) (W3_args m ρ c main_arg4 (by decide) : V3 m ρ c main_arg4 = a4 m c) (W3_args m ρ c main_arg0 (by decide) : V3 m ρ c main_arg0 = a0 m c))

/-- It is still there at boundary 3. -/
theorem w3_v0 : V3 m ρ c main_v0 = (fun i => (layer m c).gate (i 0) (i 1) : S4096x5632.Idx → EReal) :=
  (W3_of m ρ c main_v0 (by decide)).trans (w2_v0 m ρ c)

/-- It is still there at boundary 4. -/
theorem w4_v0 : V4 m ρ c main_v0 = (fun i => (layer m c).gate (i 0) (i 1) : S4096x5632.Idx → EReal) :=
  (W4_of m ρ c main_v0 (by decide)).trans (w3_v0 m ρ c)

/-- It is still there at boundary 5. -/
theorem w5_v0 : V5 m ρ c main_v0 = (fun i => (layer m c).gate (i 0) (i 1) : S4096x5632.Idx → EReal) :=
  (W5_of m ρ c main_v0 (by decide)).trans (w4_v0 m ρ c)

/-- It is still there at boundary 6. -/
theorem w6_v0 : V6 m ρ c main_v0 = (fun i => (layer m c).gate (i 0) (i 1) : S4096x5632.Idx → EReal) :=
  (W6_of m ρ c main_v0 (by decide)).trans (w5_v0 m ρ c)

/-- It is still there at boundary 7. -/
theorem w7_v0 : V7 m ρ c main_v0 = (fun i => (layer m c).gate (i 0) (i 1) : S4096x5632.Idx → EReal) :=
  (W7_of m ρ c main_v0 (by decide)).trans (w6_v0 m ρ c)

/-- It is still there at boundary 3. -/
theorem w3_v1 : V3 m ρ c main_v1 = (fun i => (layer m c).up (i 0) (i 1) : S4096x5632.Idx → EReal) :=
  (W3_of m ρ c main_v1 (by decide)).trans (w2_v1 m ρ c)

/-- It is still there at boundary 4. -/
theorem w4_v1 : V4 m ρ c main_v1 = (fun i => (layer m c).up (i 0) (i 1) : S4096x5632.Idx → EReal) :=
  (W4_of m ρ c main_v1 (by decide)).trans (w3_v1 m ρ c)

/-- It is still there at boundary 5. -/
theorem w5_v1 : V5 m ρ c main_v1 = (fun i => (layer m c).up (i 0) (i 1) : S4096x5632.Idx → EReal) :=
  (W5_of m ρ c main_v1 (by decide)).trans (w4_v1 m ρ c)

/-- It is still there at boundary 6. -/
theorem w6_v1 : V6 m ρ c main_v1 = (fun i => (layer m c).up (i 0) (i 1) : S4096x5632.Idx → EReal) :=
  (W6_of m ρ c main_v1 (by decide)).trans (w5_v1 m ρ c)

/-- It is still there at boundary 7. -/
theorem w7_v1 : V7 m ρ c main_v1 = (fun i => (layer m c).up (i 0) (i 1) : S4096x5632.Idx → EReal) :=
  (W7_of m ρ c main_v1 (by decide)).trans (w6_v1 m ρ c)

/-- It is still there at boundary 4. -/
theorem w4_v2 : V4 m ρ c main_v2 = (fun i => (layer m c).act (i 0) (i 1) : S4096x5632.Idx → EReal) :=
  (W4_of m ρ c main_v2 (by decide)).trans (w3_v2 m ρ c)

/-- It is still there at boundary 5. -/
theorem w5_v2 : V5 m ρ c main_v2 = (fun i => (layer m c).act (i 0) (i 1) : S4096x5632.Idx → EReal) :=
  (W5_of m ρ c main_v2 (by decide)).trans (w4_v2 m ρ c)

/-- The gradient of the result, in the narrow format. -/
theorem w5_v4 : V5 m ρ c main_v4 = (fun i => (layer m c).dy (i 0) (i 1) : S4096x2048.Idx → EReal) := by
  have e : V5 m ρ c main_v4 = (truncf (F := Ideal) .bf16 (W4 m ρ c (Proc.devRef .tc main_arg5)) bitsLt_bf16_f32 : FVec Ideal S4096x2048 .bf16) := by
    show StableHlo.after hostOps4 (W4 m ρ c) (Proc.devRef .tc main_v4) = _
    after_results_simp
    all_goals rfl
  rw [e, W4_args m ρ c main_arg5 (by decide)]
  funext i
  exact congrArg (a5 m c) (eq_ix2 i)

/-- The gradient of the down weights after its call. -/
theorem w6_v5 : V6 m ρ c main_v5 = (fun i => (layer m c).dwd (i 0) (i 1) : S5632x2048.Idx → EReal) :=
  (W6_arr m ρ c 2).trans (arr4 (V5 m ρ) c _ (fun i => (layer m c).dy (i 0) (i 1) : S4096x2048.Idx → EReal) (w5_v2 m ρ c) (w5_v4 m ρ c))

/-- It is still there at boundary 6. -/
theorem w6_v4 : V6 m ρ c main_v4 = (fun i => (layer m c).dy (i 0) (i 1) : S4096x2048.Idx → EReal) :=
  (W6_of m ρ c main_v4 (by decide)).trans (w5_v4 m ρ c)

/-- The gradient of the activation after its call. -/
theorem w7_v6 : V7 m ρ c main_v6 = (fun i => (layer m c).da (i 0) (i 1) : S4096x5632.Idx → EReal) :=
  (W7_arr m ρ c 2).trans (arr5 (V6 m ρ) c (fun i => (layer m c).dy (i 0) (i 1) : S4096x2048.Idx → EReal) (a4 m c) (w6_v4 m ρ c) (W6_args m ρ c main_arg4 (by decide) : V6 m ρ c main_arg4 = a4 m c))

/-- The gradient of the gate projection after its call. -/
theorem w8_v7_0 : V8 m ρ c main_v7_0 = (fun i => (layer m c).dg (i 0) (i 1) : S4096x5632.Idx → EReal) :=
  (W8_arr m ρ c 3).trans (arr6_3 (V7 m ρ) c _ _ _ (w7_v0 m ρ c) (w7_v1 m ρ c) (w7_v6 m ρ c))

/-- The gradient of the up projection after its call. -/
theorem w8_v7_1 : V8 m ρ c main_v7_1 = (fun i => (layer m c).du (i 0) (i 1) : S4096x5632.Idx → EReal) :=
  (W8_arr m ρ c 4).trans (arr6_4 (V7 m ρ) c _ _ (w7_v0 m ρ c) (w7_v6 m ρ c))

/-- The gradient of the gate weights after its call. -/
theorem w9_v8 : V9 m ρ c main_v8 = (fun i => (layer m c).dwg (i 0) (i 1) : S2048x5632.Idx → EReal) :=
  (W9_arr m ρ c 2).trans (arr7 (V8 m ρ) c (a1 m c) _ (W8_args m ρ c main_arg1 (by decide) : V8 m ρ c main_arg1 = a1 m c) (w8_v7_0 m ρ c))

/-- It is still there at boundary 9. -/
theorem w9_v7_1 : V9 m ρ c main_v7_1 = (fun i => (layer m c).du (i 0) (i 1) : S4096x5632.Idx → EReal) :=
  (W9_of m ρ c main_v7_1 (by decide)).trans (w8_v7_1 m ρ c)

/-- The gradient of the up weights after its call. -/
theorem w10_v9 : V10 m ρ c main_v9 = (fun i => (layer m c).dwu (i 0) (i 1) : S2048x5632.Idx → EReal) :=
  (W10_arr m ρ c 2).trans (arr8 (V9 m ρ) c (a1 m c) _ (W9_args m ρ c main_arg1 (by decide) : V9 m ρ c main_arg1 = a1 m c) (w9_v7_1 m ρ c))

/-- It is still there at boundary 9. -/
theorem w9_v7_0 : V9 m ρ c main_v7_0 = (fun i => (layer m c).dg (i 0) (i 1) : S4096x5632.Idx → EReal) :=
  (W9_of m ρ c main_v7_0 (by decide)).trans (w8_v7_0 m ρ c)

/-- It is still there at boundary 10. -/
theorem w10_v7_0 : V10 m ρ c main_v7_0 = (fun i => (layer m c).dg (i 0) (i 1) : S4096x5632.Idx → EReal) :=
  (W10_of m ρ c main_v7_0 (by decide)).trans (w9_v7_0 m ρ c)

/-- The gradient of the normed input through the gate, after its call. -/
theorem w11_v10 : V11 m ρ c main_v10 = (fun i => (layer m c).dhg (i 0) (i 1) : S4096x2048.Idx → EReal) :=
  (W11_arr m ρ c 2).trans (arr9 (V10 m ρ) c _ (a2 m c) (w10_v7_0 m ρ c) (W10_args m ρ c main_arg2 (by decide) : V10 m ρ c main_arg2 = a2 m c))

/-- It is still there at boundary 10. -/
theorem w10_v7_1 : V10 m ρ c main_v7_1 = (fun i => (layer m c).du (i 0) (i 1) : S4096x5632.Idx → EReal) :=
  (W10_of m ρ c main_v7_1 (by decide)).trans (w9_v7_1 m ρ c)

/-- It is still there at boundary 11. -/
theorem w11_v7_1 : V11 m ρ c main_v7_1 = (fun i => (layer m c).du (i 0) (i 1) : S4096x5632.Idx → EReal) :=
  (W11_of m ρ c main_v7_1 (by decide)).trans (w10_v7_1 m ρ c)

/-- The gradient of the normed input after its call. -/
theorem w12_v11 : V12 m ρ c main_v11 = (fun i => (layer m c).dh (i 0) (i 1) : S4096x2048.Idx → EReal) :=
  (W12_arr m ρ c 3).trans (arr10 (V11 m ρ) c _ (a3 m c) _ (w11_v7_1 m ρ c) (W11_args m ρ c main_arg3 (by decide) : V11 m ρ c main_arg3 = a3 m c) (w11_v10 m ρ c))

/-- It is still there at boundary 5. -/
theorem w5_v3 : V5 m ρ c main_v3 = (fun i => (layer m c).y (i 0) (i 1) : S4096x2048.Idx → EReal) :=
  (W5_of m ρ c main_v3 (by decide)).trans (w4_v3 m ρ c)

/-- It is still there at boundary 6. -/
theorem w6_v3 : V6 m ρ c main_v3 = (fun i => (layer m c).y (i 0) (i 1) : S4096x2048.Idx → EReal) :=
  (W6_of m ρ c main_v3 (by decide)).trans (w5_v3 m ρ c)

/-- It is still there at boundary 7. -/
theorem w7_v3 : V7 m ρ c main_v3 = (fun i => (layer m c).y (i 0) (i 1) : S4096x2048.Idx → EReal) :=
  (W7_of m ρ c main_v3 (by decide)).trans (w6_v3 m ρ c)

/-- It is still there at boundary 8. -/
theorem w8_v3 : V8 m ρ c main_v3 = (fun i => (layer m c).y (i 0) (i 1) : S4096x2048.Idx → EReal) :=
  (W8_of m ρ c main_v3 (by decide)).trans (w7_v3 m ρ c)

/-- It is still there at boundary 9. -/
theorem w9_v3 : V9 m ρ c main_v3 = (fun i => (layer m c).y (i 0) (i 1) : S4096x2048.Idx → EReal) :=
  (W9_of m ρ c main_v3 (by decide)).trans (w8_v3 m ρ c)

/-- It is still there at boundary 10. -/
theorem w10_v3 : V10 m ρ c main_v3 = (fun i => (layer m c).y (i 0) (i 1) : S4096x2048.Idx → EReal) :=
  (W10_of m ρ c main_v3 (by decide)).trans (w9_v3 m ρ c)

/-- It is still there at boundary 11. -/
theorem w11_v3 : V11 m ρ c main_v3 = (fun i => (layer m c).y (i 0) (i 1) : S4096x2048.Idx → EReal) :=
  (W11_of m ρ c main_v3 (by decide)).trans (w10_v3 m ρ c)

/-- It is still there at boundary 12. -/
theorem w12_v3 : V12 m ρ c main_v3 = (fun i => (layer m c).y (i 0) (i 1) : S4096x2048.Idx → EReal) :=
  (W12_of m ρ c main_v3 (by decide)).trans (w11_v3 m ρ c)

/-- It is still there at boundary 7. -/
theorem w7_v5 : V7 m ρ c main_v5 = (fun i => (layer m c).dwd (i 0) (i 1) : S5632x2048.Idx → EReal) :=
  (W7_of m ρ c main_v5 (by decide)).trans (w6_v5 m ρ c)

/-- It is still there at boundary 8. -/
theorem w8_v5 : V8 m ρ c main_v5 = (fun i => (layer m c).dwd (i 0) (i 1) : S5632x2048.Idx → EReal) :=
  (W8_of m ρ c main_v5 (by decide)).trans (w7_v5 m ρ c)

/-- It is still there at boundary 9. -/
theorem w9_v5 : V9 m ρ c main_v5 = (fun i => (layer m c).dwd (i 0) (i 1) : S5632x2048.Idx → EReal) :=
  (W9_of m ρ c main_v5 (by decide)).trans (w8_v5 m ρ c)

/-- It is still there at boundary 10. -/
theorem w10_v5 : V10 m ρ c main_v5 = (fun i => (layer m c).dwd (i 0) (i 1) : S5632x2048.Idx → EReal) :=
  (W10_of m ρ c main_v5 (by decide)).trans (w9_v5 m ρ c)

/-- It is still there at boundary 11. -/
theorem w11_v5 : V11 m ρ c main_v5 = (fun i => (layer m c).dwd (i 0) (i 1) : S5632x2048.Idx → EReal) :=
  (W11_of m ρ c main_v5 (by decide)).trans (w10_v5 m ρ c)

/-- It is still there at boundary 12. -/
theorem w12_v5 : V12 m ρ c main_v5 = (fun i => (layer m c).dwd (i 0) (i 1) : S5632x2048.Idx → EReal) :=
  (W12_of m ρ c main_v5 (by decide)).trans (w11_v5 m ρ c)

/-- It is still there at boundary 10. -/
theorem w10_v8 : V10 m ρ c main_v8 = (fun i => (layer m c).dwg (i 0) (i 1) : S2048x5632.Idx → EReal) :=
  (W10_of m ρ c main_v8 (by decide)).trans (w9_v8 m ρ c)

/-- It is still there at boundary 11. -/
theorem w11_v8 : V11 m ρ c main_v8 = (fun i => (layer m c).dwg (i 0) (i 1) : S2048x5632.Idx → EReal) :=
  (W11_of m ρ c main_v8 (by decide)).trans (w10_v8 m ρ c)

/-- It is still there at boundary 12. -/
theorem w12_v8 : V12 m ρ c main_v8 = (fun i => (layer m c).dwg (i 0) (i 1) : S2048x5632.Idx → EReal) :=
  (W12_of m ρ c main_v8 (by decide)).trans (w11_v8 m ρ c)

/-- It is still there at boundary 11. -/
theorem w11_v9 : V11 m ρ c main_v9 = (fun i => (layer m c).dwu (i 0) (i 1) : S2048x5632.Idx → EReal) :=
  (W11_of m ρ c main_v9 (by decide)).trans (w10_v9 m ρ c)

/-- It is still there at boundary 12. -/
theorem w12_v9 : V12 m ρ c main_v9 = (fun i => (layer m c).dwu (i 0) (i 1) : S2048x5632.Idx → EReal) :=
  (W12_of m ρ c main_v9 (by decide)).trans (w11_v9 m ρ c)

/-- A run of the whole program from any contents with every counter at zero ends with the contents of the last boundary. -/
theorem run_last : θ_run defs (onTc (τ := τ) (main (F := Ideal))) ⟨m, fun _ => 0, ρ⟩ (fun r => ∀ c : Dev nD, ∀ b ∈ Pipeline.ucRefs τ sig,
      r.2.mem (((c : Thread nD τ)).1, b) = W12 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by repeat' refine And.intro (fun _ => .rfl) ?_
               exact fun _ => .rfl)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => h)

/-- A run of the whole program ends with the layer's result and its four gradients, the arguments unchanged. -/
theorem run_values : θ_run defs (onTc (τ := τ) (main (F := Ideal))) ⟨m, fun _ => 0, ρ⟩ (fun r => ∀ c : Dev nD,
      r.2.mem ((c : Thread nD τ).loc main_v3) = (fun i => (layer m c).y (i 0) (i 1) : S4096x2048.Idx → EReal)
      ∧ r.2.mem ((c : Thread nD τ).loc main_v5) = (fun i => (layer m c).dwd (i 0) (i 1) : S5632x2048.Idx → EReal)
      ∧ r.2.mem ((c : Thread nD τ).loc main_v8) = (fun i => (layer m c).dwg (i 0) (i 1) : S2048x5632.Idx → EReal)
      ∧ r.2.mem ((c : Thread nD τ).loc main_v9) = (fun i => (layer m c).dwu (i 0) (i 1) : S2048x5632.Idx → EReal)
      ∧ r.2.mem ((c : Thread nD τ).loc main_v11) = (fun i => (layer m c).dh (i 0) (i 1) : S4096x2048.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c => ⟨(h c _ (mem_uc main_v3 (by decide))).trans (w12_v3 m ρ c),
    (h c _ (mem_uc main_v5 (by decide))).trans (w12_v5 m ρ c),
    (h c _ (mem_uc main_v8 (by decide))).trans (w12_v8 m ρ c),
    (h c _ (mem_uc main_v9 (by decide))).trans (w12_v9 m ρ c),
    (h c _ (mem_uc main_v11 (by decide))).trans (w12_v11 m ρ c),
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c)⟩) (run_last m ρ)

end Cert.Kernel2Ideal.Ffn

end
-- ==== Proof.FfnRef.lean ====
module

public import proofs.«01_k».proof.Proof.FfnSpec
public import proofs.«01_k».proof.Proof.Gen.Reference2Ideal.Read
public import Idealize.ShloMosaic.Lib.Pointwise

@[expose] public section

set_option maxRecDepth 16384

noncomputable section

namespace Cert.Reference2Ideal.Ffn

open Idealize.ShloMosaic Idealize.ShloMosaic.TcCoe Idealize.ShloMosaic.StableHlo
open Cert.Reference2Ideal Cert.Reference2Ideal.Gen Cert.Reference2Ideal.Read Cert.Ffn

variable (x0 x5 : (⟨S4096x2048, .f32⟩ : BufTy).Contents (Elt Ideal)) (x1 : (⟨S4096x2048, .bf16⟩ : BufTy).Contents (Elt Ideal))
  (x2 x3 : (⟨S4x2048x5632, .bf16⟩ : BufTy).Contents (Elt Ideal)) (x4 : (⟨S4x5632x2048, .bf16⟩ : BufTy).Contents (Elt Ideal))

/-- The layer of the program's arguments: the stacked weights at layer index 3. -/
def layer : Layer :=
  ⟨fun i j => x0 (ix2 i j), fun i j => x1 (ix2 i j), fun i j => x2 (ix3 3 i j), fun i j => x3 (ix3 3 i j), fun i j => x4 (ix3 3 i j), fun i j => x5 (ix2 i j)⟩

/-- The gate weights, sliced off the stack. -/
theorem read_v3 (i : Fin 2048) (j : Fin 5632) : val_main_v3 (F := Ideal) x2 (ix2 i j) = x2 (ix3 3 i j) := by
  unfold val_main_v3 val_main_v2 val_main_v1; pointwise
/-- The up weights, sliced off the stack. -/
theorem read_v6 (i : Fin 2048) (j : Fin 5632) : val_main_v6 (F := Ideal) x3 (ix2 i j) = x3 (ix3 3 i j) := by
  unfold val_main_v6 val_main_v5 val_main_v4; pointwise
/-- The down weights, sliced off the stack. -/
theorem read_v9 (i : Fin 5632) (j : Fin 2048) : val_main_v9 (F := Ideal) x4 (ix2 i j) = x4 (ix3 3 i j) := by
  unfold val_main_v9 val_main_v8 val_main_v7; pointwise
/-- The gradient of the result, reshaped to its own shape. -/
theorem read_v16 (i : Fin 4096) (j : Fin 2048) : val_main_v16 (F := Ideal) x5 (ix2 i j) = x5 (ix2 i j) := by
  unfold val_main_v16; pointwise

/-- The gate projection. -/
theorem read_v10 (i : Fin 4096) (j : Fin 5632) : val_main_v10 (F := Ideal) x1 x2 (ix2 i j) = (layer x0 x5 x1 x2 x3 x4).gate i j := by
  unfold val_main_v10 val_main_v0; pointwise
  exact Finset.sum_congr rfl fun k _ => by rw [read_v3]; rfl
/-- The up projection. -/
theorem read_v12 (i : Fin 4096) (j : Fin 5632) : val_main_v12 (F := Ideal) x1 x3 (ix2 i j) = (layer x0 x5 x1 x2 x3 x4).up i j := by
  unfold val_main_v12 val_main_v0; pointwise
  exact Finset.sum_congr rfl fun k _ => by rw [read_v6]; rfl

/-- The sigmoid of the gate projection. -/
theorem read_v11_2 (i : Fin 4096) (j : Fin 5632) : val_main_v11_2 (F := Ideal) x1 x2 (ix2 i j) = Ideal.logistic ((layer x0 x5 x1 x2 x3 x4).gate i j) := by
  unfold val_main_v11_2 val_main_call0_v4 val_main_call0_cst_0 val_main_call0_v3 val_main_call0_v2 val_main_call0_cst val_main_call0_v1 val_main_call0_v0
  pointwise
  rw [read_v10 x0 x5 x1 x2 x3 x4]
  rfl
/-- The activation. -/
theorem read_v13 (i : Fin 4096) (j : Fin 5632) : val_main_v13 (F := Ideal) x1 x2 x3 (ix2 i j) = (layer x0 x5 x1 x2 x3 x4).act i j := by
  unfold val_main_v13 val_main_v11_0; pointwise
  rw [read_v10 x0 x5 x1 x2 x3 x4, read_v11_2 x0 x5 x1 x2 x3 x4, read_v12 x0 x5 x1 x2 x3 x4]
  rfl
/-- The layer's result. -/
theorem read_v15 (i : Fin 4096) (j : Fin 2048) : val_main_v15 (F := Ideal) x0 x1 x2 x3 x4 (ix2 i j) = (layer x0 x5 x1 x2 x3 x4).y i j := by
  unfold val_main_v15 val_main_v14; pointwise
  refine (add_comm _ _).trans (congrArg (· + _) (Finset.sum_congr rfl fun k _ => ?_))
  rw [read_v13 x0 x5 x1 x2 x3 x4, read_v9]; rfl
/-- The gradient of the down weights. -/
theorem read_v18 (i : Fin 5632) (j : Fin 2048) : val_main_v18 (F := Ideal) x1 x2 x3 x5 (ix2 i j) = (layer x0 x5 x1 x2 x3 x4).dwd i j := by
  unfold val_main_v18 val_main_v17; pointwise
  refine Finset.sum_congr rfl fun k _ => ?_
  rw [read_v13 x0 x5 x1 x2 x3 x4, read_v16]; exact mul_comm _ _
/-- The gradient of the activation. -/
theorem read_v19 (i : Fin 4096) (j : Fin 5632) : val_main_v19 (F := Ideal) x4 x5 (ix2 i j) = (layer x0 x5 x1 x2 x3 x4).da i j := by
  unfold val_main_v19; pointwise
  refine Finset.sum_congr rfl fun k _ => ?_
  rw [read_v16, read_v9]; rfl
/-- The gradient of the up projection. -/
theorem read_v20 (i : Fin 4096) (j : Fin 5632) : val_main_v20 (F := Ideal) x1 x2 x4 x5 (ix2 i j) = (layer x0 x5 x1 x2 x3 x4).du i j := by
  unfold val_main_v20 val_main_v11_0; pointwise
  rw [read_v10 x0 x5 x1 x2 x3 x4, read_v11_2 x0 x5 x1 x2 x3 x4, read_v19 x0 x5 x1 x2 x3 x4]
  rfl
/-- The gradient of the gate projection. -/
theorem read_v25 (i : Fin 4096) (j : Fin 5632) : val_main_v25 (F := Ideal) x1 x2 x3 x4 x5 (ix2 i j) = (layer x0 x5 x1 x2 x3 x4).dg i j := by
  unfold val_main_v25 val_main_call1_v1 val_main_call1_v2 val_main_call1_v0 val_main_v21 val_main_v11_1 val_main_call0_v7 val_main_call0_v6 val_main_call0_cst_1
  pointwise
  rw [read_v10 x0 x5 x1 x2 x3 x4, read_v11_2 x0 x5 x1 x2 x3 x4, read_v19 x0 x5 x1 x2 x3 x4, read_v12 x0 x5 x1 x2 x3 x4]
  rfl
/-- The gradient of the up weights. -/
theorem read_v23 (i : Fin 2048) (j : Fin 5632) : val_main_v23 (F := Ideal) x1 x2 x4 x5 (ix2 i j) = (layer x0 x5 x1 x2 x3 x4).dwu i j := by
  unfold val_main_v23 val_main_v22 val_main_v0; pointwise
  refine Finset.sum_congr rfl fun k _ => ?_
  rw [read_v20 x0 x5 x1 x2 x3 x4]; exact mul_comm _ _
/-- The gradient of the gate weights. -/
theorem read_v27 (i : Fin 2048) (j : Fin 5632) : val_main_v27 (F := Ideal) x1 x2 x3 x4 x5 (ix2 i j) = (layer x0 x5 x1 x2 x3 x4).dwg i j := by
  unfold val_main_v27 val_main_v26 val_main_v0; pointwise
  refine Finset.sum_congr rfl fun k _ => ?_
  rw [read_v25 x0 x5 x1 x2 x3 x4]; exact mul_comm _ _
/-- The gradient of the normed input. -/
theorem read_v30 (i : Fin 4096) (j : Fin 2048) : val_main_v30 (F := Ideal) x1 x2 x3 x4 x5 (ix2 i j) = (layer x0 x5 x1 x2 x3 x4).dh i j := by
  unfold val_main_v30 val_main_v29 val_main_v24 val_main_v28; pointwise
  refine congrArg₂ (· + ·) (Finset.sum_congr rfl fun k _ => ?_) (Finset.sum_congr rfl fun k _ => ?_)
  · rw [read_v20 x0 x5 x1 x2 x3 x4, read_v6]; rfl
  · rw [read_v25 x0 x5 x1 x2 x3 x4, read_v3]; rfl

end Cert.Reference2Ideal.Ffn

end
-- ==== Proof.FfnAgree.lean ====
module

public import proofs.«01_k».proof.Proof.FfnRun
public import proofs.«01_k».proof.Proof.FfnRef
public import proofs.«01_k».proof.Proof.Gen.Reference2Ideal.Run

@[expose] public section

set_option maxRecDepth 16384

noncomputable section

namespace Cert.Ffn

open Idealize.ShloMosaic Idealize.ShloMosaic.TcCoe Idealize.SL.Sem
open Cert.Kernel2Ideal.Ffn

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)

/-- The two programs' arguments on one device agree. -/
def Args (c : Dev Cert.Kernel2Ideal.nD) : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
  ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
  ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
  ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)

/-- The layer of the reference's arguments on one device. -/
abbrev refLayer (c : Dev Cert.Reference2Ideal.nD) : Layer :=
  Cert.Reference2Ideal.Ffn.layer (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))

/-- Agreeing arguments have the same layer. -/
theorem layer_eq (c : Dev Cert.Kernel2Ideal.nD) (h : Args m m' c) : refLayer m' c = layer m c := by
  unfold refLayer
  rw [h.1, h.2.1, h.2.2.1, h.2.2.2.1, h.2.2.2.2.1, h.2.2.2.2.2]
  rfl

/-- The reference's run ends with the layer's result and its four gradients, its arguments unchanged. -/
theorem run_reference (ha : ∀ c, Args m m' c) (ρ : Dev Cert.Reference2Ideal.nD → PrngReg) :
    θ_run (Cert.Reference2Ideal.defs (F := Ideal)) (onTc (τ := Cert.Reference2Ideal.τ) (Cert.Reference2Ideal.main (F := Ideal))) ⟨m', fun _ => 0, ρ⟩ fun r => ∀ c : Dev Cert.Reference2Ideal.nD,
      (r.2.mem ((c.tc : Thread Cert.Reference2Ideal.nD Cert.Reference2Ideal.τ).loc Cert.Reference2Ideal.main_v15) = (fun i => (layer m c).y (i 0) (i 1) : Cert.Reference2Ideal.S4096x2048.Idx → EReal))
      ∧ (r.2.mem ((c.tc : Thread Cert.Reference2Ideal.nD Cert.Reference2Ideal.τ).loc Cert.Reference2Ideal.main_v18) = (fun i => (layer m c).dwd (i 0) (i 1) : Cert.Reference2Ideal.S5632x2048.Idx → EReal))
      ∧ (r.2.mem ((c.tc : Thread Cert.Reference2Ideal.nD Cert.Reference2Ideal.τ).loc Cert.Reference2Ideal.main_v27) = (fun i => (layer m c).dwg (i 0) (i 1) : Cert.Reference2Ideal.S2048x5632.Idx → EReal))
      ∧ (r.2.mem ((c.tc : Thread Cert.Reference2Ideal.nD Cert.Reference2Ideal.τ).loc Cert.Reference2Ideal.main_v23) = (fun i => (layer m c).dwu (i 0) (i 1) : Cert.Reference2Ideal.S2048x5632.Idx → EReal))
      ∧ (r.2.mem ((c.tc : Thread Cert.Reference2Ideal.nD Cert.Reference2Ideal.τ).loc Cert.Reference2Ideal.main_v30) = (fun i => (layer m c).dh (i 0) (i 1) : Cert.Reference2Ideal.S4096x2048.Idx → EReal))
      ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5) := by
  refine (θ_run Cert.Reference2Ideal.defs _ _).mono (fun _ h c => ?_) (Cert.Reference2Ideal.Value.run (F := Ideal) m' ρ)
  obtain ⟨h0, h1, h2, h3, h4, h5⟩ := h c
  have hh := layer_eq m m' c (ha c)
  refine ⟨h0.trans (funext fun i => ?_), h1.trans (funext fun i => ?_), h2.trans (funext fun i => ?_), h3.trans (funext fun i => ?_), h4.trans (funext fun i => ?_), h5⟩
  · obtain ⟨a, b, rfl⟩ : ∃ a b, i = ix2 a b := ⟨i 0, i 1, eq_ix2 i⟩
    rw [← hh]
    exact Cert.Reference2Ideal.Ffn.read_v15 (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) a b
  · obtain ⟨a, b, rfl⟩ : ∃ a b, i = ix2 a b := ⟨i 0, i 1, eq_ix2 i⟩
    rw [← hh]
    exact Cert.Reference2Ideal.Ffn.read_v18 (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) a b
  · obtain ⟨a, b, rfl⟩ : ∃ a b, i = ix2 a b := ⟨i 0, i 1, eq_ix2 i⟩
    rw [← hh]
    exact Cert.Reference2Ideal.Ffn.read_v27 (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) a b
  · obtain ⟨a, b, rfl⟩ : ∃ a b, i = ix2 a b := ⟨i 0, i 1, eq_ix2 i⟩
    rw [← hh]
    exact Cert.Reference2Ideal.Ffn.read_v23 (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) a b
  · obtain ⟨a, b, rfl⟩ : ∃ a b, i = ix2 a b := ⟨i 0, i 1, eq_ix2 i⟩
    rw [← hh]
    refine (congrFun (Cert.Reference2Ideal.Read.val_main_v30_eq m' c) _).trans ?_
    exact Cert.Reference2Ideal.Ffn.read_v30 (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) a b

end Cert.Ffn

end
-- ==== Proof.ProjProd.lean ====
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Kernel3Ideal.Proj

open Idealize.ShloMosaic Idealize.ShloMosaic.TcCoe Idealize.ShloMosaic.Tactic
open Cert.Kernel3Ideal Cert.Kernel3Ideal.Gen

/-- The start of a rectangle of two axes that begins at the origin. -/
theorem zz : (![0, 0] : Fin 2 → ℕ) = fun _ => 0 := funext fun a => by fin_cases a <;> rfl
/-- The start of a rectangle of three axes that begins at the origin. -/
theorem zzz : (![0, 0, 0] : Fin 3 → ℕ) = fun _ => 0 := funext fun a => by fin_cases a <;> rfl

variable (V : (c : Dev nD) → (b : Ref sig .tc) → Buf (Elt Ideal) ((c : Thread nD τ).loc b))

/-- One element of the block of the input projection. -/
theorem pay0 (a : Vec Ideal S1024x2048 .bf16) (b : Vec Ideal S1x2048x1024 .bf16) (r : Fin 1024) (j : Fin 1024) :
    k0_pay1 a b (ix2 r j) = (∑ k : Fin 2048, a (ix2 r k) * b (ix3 0 k j)) := by
  pointwise [k0_pay1]

/-- Where the blocks of call 0 (counting from 0) lie in their arrays, against the block written, at each grid point. -/
theorem ind0 : ∀ t : Fin grid0.N, (win0_0.index t 1 = 0 ∧ win0_0.index t 0 = win0_2.index t 0) ∧ (win0_1.index t 0 = 3 ∧ win0_1.index t 1 = 0 ∧ win0_1.index t 2 = win0_2.index t 1) ∧ True := by decide +kernel

/-- The array of the input projection after its call. -/
theorem arr0 (c : Dev nD) (A : S4096x2048.Idx → EReal) (B : S4x2048x12288.Idx → EReal) (hA : V c main_arg0 = A) (hB : V c main_arg1 = B) :
    (dat0 V c).arrAt 2 cfg0.N = (fun i => (∑ k : Fin 2048, A (ix2 (i 0) k) * B (ix3 3 k (i 1))) : S4096x12288.Idx → EReal) := by
  generalize hG : (fun i => (∑ k : Fin 2048, A (ix2 (i 0) k) * B (ix3 3 k (i 1))) : S4096x12288.Idx → EReal) = G
  refine (dat0 V c).arrAt_eq_of_covers 2 _ (by decide +kernel) fun t _ y => ?_
  have h := ind0 t
  rw [after0_2]
  have e : ∀ z : S1024x1024.Idx, out0_2 (iblk0 V c 0 t) (iblk0 V c 1 t) z = G (((cfg0.win 2).blk t).view.emb z) := fun z => by
    obtain ⟨r, j, rfl⟩ : ∃ a b, z = ix2 a b := ⟨z 0, z 1, eq_ix2 z⟩
    rw [← hG]
    unfold out0_2
    rw [View.canon_unit_zero zz, View.ld_unit_zero zz, View.ld_unit_zero zzz, pay0]
    refine Finset.sum_congr rfl fun k _ => congrArg₂ (· * ·) ?_ ?_
    · rw [← hA]; blk_ext [iblk0, h.1.1, h.1.2, h.2.1.1, h.2.1.2.1, h.2.1.2.2]
    · rw [← hB]; blk_ext [iblk0, h.1.1, h.1.2, h.2.1.1, h.2.1.2.1, h.2.1.2.2]
  generalize out0_2 (iblk0 V c 0 t) (iblk0 V c 1 t) = o at e ⊢
  exact e y

/-- One element of the block of the weights' gradient. -/
theorem pay1 (a : Vec Ideal S4096x1024 .bf16) (b : Vec Ideal S4096x1024 .bf16) (r : Fin 1024) (j : Fin 1024) :
    k1_pay1 a b (ix2 r j) = (∑ k : Fin 4096, a (ix2 k r) * b (ix2 k j)) := by
  pointwise [k1_pay1]

/-- Where the blocks of call 1 (counting from 0) lie in their arrays, against the block written, at each grid point. -/
theorem ind1 : ∀ t : Fin grid1.N, (win1_0.index t 0 = 0 ∧ win1_0.index t 1 = win1_2.index t 0) ∧ (win1_1.index t 0 = 0 ∧ win1_1.index t 1 = win1_2.index t 1 ∧ True) ∧ True := by decide +kernel

/-- The array of the weights' gradient after its call. -/
theorem arr1 (c : Dev nD) (A : S4096x2048.Idx → EReal) (B : S4096x12288.Idx → EReal) (hA : V c main_arg0 = A) (hB : V c main_arg2 = B) :
    (dat1 V c).arrAt 2 cfg1.N = (fun i => (∑ k : Fin 4096, A (ix2 k (i 0)) * B (ix2 k (i 1))) : S2048x12288.Idx → EReal) := by
  generalize hG : (fun i => (∑ k : Fin 4096, A (ix2 k (i 0)) * B (ix2 k (i 1))) : S2048x12288.Idx → EReal) = G
  refine (dat1 V c).arrAt_eq_of_covers 2 _ (by decide +kernel) fun t _ y => ?_
  have h := ind1 t
  rw [after1_2]
  have e : ∀ z : S1024x1024.Idx, out1_2 (iblk1 V c 0 t) (iblk1 V c 1 t) z = G (((cfg1.win 2).blk t).view.emb z) := fun z => by
    obtain ⟨r, j, rfl⟩ : ∃ a b, z = ix2 a b := ⟨z 0, z 1, eq_ix2 z⟩
    rw [← hG]
    unfold out1_2
    rw [View.canon_unit_zero zz, View.ld_unit_zero zz, View.ld_unit_zero zz, pay1]
    refine Finset.sum_congr rfl fun k _ => congrArg₂ (· * ·) ?_ ?_
    · rw [← hA]; blk_ext [iblk1, h.1.1, h.1.2, h.2.1.1, h.2.1.2.1]
    · rw [← hB]; blk_ext [iblk1, h.1.1, h.1.2, h.2.1.1, h.2.1.2.1]
  generalize out1_2 (iblk1 V c 0 t) (iblk1 V c 1 t) = o at e ⊢
  exact e y

end Cert.Kernel3Ideal.Proj

end
-- ==== Proof.ProjSpec.lean ====
module

public import Idealize.ShloMosaic.PureOps.Ideal

@[expose] public section

noncomputable section

namespace Cert.Proj

open Idealize.ShloMosaic

/-- The data of the input projection of one layer on one device: the normed input `h`, the weights `w`, and the gradient `dp` of
    the projection. -/
structure Data where
  h : Fin 4096 → Fin 2048 → EReal
  w : Fin 2048 → Fin 12288 → EReal
  dp : Fin 4096 → Fin 12288 → EReal

namespace Data

variable (L : Data)

/-- The projection. -/
def proj (i : Fin 4096) (j : Fin 12288) : EReal := ∑ k, L.h i k * L.w k j
/-- The gradient of the weights. -/
def dw (i : Fin 2048) (j : Fin 12288) : EReal := ∑ k, L.h k i * L.dp k j

end Data

end Cert.Proj

end
-- ==== Proof.ProjRun.lean ====
module

public import proofs.«01_k».proof.Proof.ProjProd
public import proofs.«01_k».proof.Proof.ProjSpec
public import Idealize.ShloMosaic.Lib.Pointwise

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3Ideal Cert.Kernel3Ideal.Gen Cert.Proj

local notation "𝕄" => MT nD τ sig Unit (Elt Ideal) ℕ (UR sig nD τ) ℕ

variable (m : (ℓ : Loc nD τ sig) → Buf (Elt Ideal) ℓ) (ρ : Dev nD → PrngReg)

/-- The data of the program's arguments on one device. -/
def data (c : Dev nD) : Data where
  h := fun i j => (m ((c : Thread nD τ).loc main_arg0) : S4096x2048.Idx → EReal) (ix2 i j)
  w := fun i j => (m ((c : Thread nD τ).loc main_arg1) : S4x2048x12288.Idx → EReal) (ix3 3 i j)
  dp := fun i j => (m ((c : Thread nD τ).loc main_arg2) : S4096x12288.Idx → EReal) (ix2 i j)

variable (c : Dev nD)

/-- Argument 0 as launched. -/
abbrev a0 : S4096x2048.Idx → EReal := m ((c : Thread nD τ).loc main_arg0)

/-- Argument 1 as launched. -/
abbrev a1 : S4x2048x12288.Idx → EReal := m ((c : Thread nD τ).loc main_arg1)

/-- Argument 2 as launched. -/
abbrev a2 : S4096x12288.Idx → EReal := m ((c : Thread nD τ).loc main_arg2)

/-- The projection after its call. -/
theorem w1_v0 : V1 m ρ c main_v0 = (fun i => (data m c).proj (i 0) (i 1) : S4096x12288.Idx → EReal) :=
  (W1_arr m ρ c 2).trans (arr0 (V0 m ρ) c (a0 m c) (a1 m c)  (W0_args m ρ c main_arg0 (by decide) : V0 m ρ c main_arg0 = a0 m c) (W0_args m ρ c main_arg1 (by decide) : V0 m ρ c main_arg1 = a1 m c) )

/-- The gradient of the weights after its call. -/
theorem w2_v1 : V2 m ρ c main_v1 = (fun i => (data m c).dw (i 0) (i 1) : S2048x12288.Idx → EReal) :=
  (W2_arr m ρ c 2).trans (arr1 (V1 m ρ) c (a0 m c) (a2 m c)  (W1_args m ρ c main_arg0 (by decide) : V1 m ρ c main_arg0 = a0 m c) (W1_args m ρ c main_arg2 (by decide) : V1 m ρ c main_arg2 = a2 m c) )

/-- It is still there at boundary 2. -/
theorem w2_v0 : V2 m ρ c main_v0 = (fun i => (data m c).proj (i 0) (i 1) : S4096x12288.Idx → EReal) :=
  (W2_of m ρ c main_v0 (by decide)).trans (w1_v0 m ρ c)

/-- A run of the whole program from any contents with every counter at zero ends with the contents of the last boundary. -/
theorem run_last : θ_run defs (onTc (τ := τ) (main (F := Ideal))) ⟨m, fun _ => 0, ρ⟩ (fun r => ∀ c : Dev nD, ∀ b ∈ Pipeline.ucRefs τ sig,
      r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by repeat' refine And.intro (fun _ => .rfl) ?_
               exact fun _ => .rfl)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => h)

/-- A run of the whole program ends with the projection and the gradient of its weights, the arguments unchanged. -/
theorem run_values : θ_run defs (onTc (τ := τ) (main (F := Ideal))) ⟨m, fun _ => 0, ρ⟩ (fun r => ∀ c : Dev nD,
      r.2.mem ((c : Thread nD τ).loc main_v0) = (fun i => (data m c).proj (i 0) (i 1) : S4096x12288.Idx → EReal)
      ∧ r.2.mem ((c : Thread nD τ).loc main_v1) = (fun i => (data m c).dw (i 0) (i 1) : S2048x12288.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h c _ (mem_uc main_v0 (by decide))).trans (w2_v0 m ρ c),
    (h c _ (mem_uc main_v1 (by decide))).trans (w2_v1 m ρ c),
    (h c _ (mem_uc main_arg0 (by decide))).trans (W2_main_arg0 m ρ c),
    (h c _ (mem_uc main_arg1 (by decide))).trans (W2_main_arg1 m ρ c),
    (h c _ (mem_uc main_arg2 (by decide))).trans (W2_main_arg2 m ρ c)⟩) (run_last m ρ)

end Cert.Kernel3Ideal.Proj

end
-- ==== Proof.ProjRef.lean ====
module

public import proofs.«01_k».proof.Proof.ProjSpec
public import proofs.«01_k».proof.Proof.Gen.Reference3Ideal.Read
public import Idealize.ShloMosaic.Lib.Pointwise

@[expose] public section

set_option maxRecDepth 16384

noncomputable section

namespace Cert.Reference3Ideal.Proj

open Idealize.ShloMosaic Idealize.ShloMosaic.TcCoe Idealize.ShloMosaic.StableHlo
open Cert.Reference3Ideal Cert.Reference3Ideal.Gen Cert.Reference3Ideal.Read Cert.Proj

variable (x0 : (⟨S4096x2048, .bf16⟩ : BufTy).Contents (Elt Ideal))
  (x1 : (⟨S4x2048x12288, .bf16⟩ : BufTy).Contents (Elt Ideal))
  (x2 : (⟨S4096x12288, .bf16⟩ : BufTy).Contents (Elt Ideal))

/-- The data of the program's arguments. -/
def data : Data where
  h := fun i j => x0 (ix2 i j)
  w := fun i j => x1 (ix3 3 i j)
  dp := fun i j => x2 (ix2 i j)

/-- The weights, sliced off the stack. -/
theorem read_v3 (i : Fin 2048) (j : Fin 12288) : val_main_v3 (F := Ideal) x1 (ix2 i j) = x1 (ix3 3 i j) := by
  unfold val_main_v3 val_main_v2 val_main_v1; pointwise

/-- The projection. -/
theorem read_v4 (i : Fin 4096) (j : Fin 12288) : val_main_v4 (F := Ideal) x0 x1 (ix2 i j) = (data x0 x1 x2).proj i j := by
  unfold val_main_v4 val_main_v0; pointwise
  exact Finset.sum_congr rfl fun k _ => by rw [read_v3]; rfl

/-- The gradient of the weights. -/
theorem read_v7 (i : Fin 2048) (j : Fin 12288) : val_main_v7 (F := Ideal) x0 x2 (ix2 i j) = (data x0 x1 x2).dw i j := by
  unfold val_main_v7 val_main_v6 val_main_v5 val_main_v0; pointwise
  exact Finset.sum_congr rfl fun k _ => mul_comm _ _

end Cert.Reference3Ideal.Proj

end
-- ==== Proof.ProjAgree.lean ====
module

public import proofs.«01_k».proof.Proof.ProjRun
public import proofs.«01_k».proof.Proof.ProjRef
public import proofs.«01_k».proof.Proof.Gen.Reference3Ideal.Run

@[expose] public section

set_option maxRecDepth 16384

noncomputable section

namespace Cert.Proj

open Idealize.ShloMosaic Idealize.ShloMosaic.TcCoe Idealize.SL.Sem
open Cert.Kernel3Ideal.Proj

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)

/-- The two programs' arguments on one device agree. -/
def Args (c : Dev Cert.Kernel3Ideal.nD) : Prop :=
  m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
  ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
  ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)

/-- The data of the reference's arguments on one device. -/
abbrev refData (c : Dev Cert.Reference3Ideal.nD) : Data :=
  Cert.Reference3Ideal.Proj.data (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2))

/-- Agreeing arguments have the same data. -/
theorem data_eq (c : Dev Cert.Kernel3Ideal.nD) (h : Args m m' c) : refData m' c = data m c := by
  unfold refData
  obtain ⟨h0, h1, h2⟩ := h
  rw [h0, h1, h2]
  rfl

/-- The reference's run leaves every array as the projection and the gradient of its weights, its arguments unchanged. -/
theorem run_reference (ha : ∀ c, Args m m' c) (ρ : Dev Cert.Reference3Ideal.nD → PrngReg) :
    θ_run (Cert.Reference3Ideal.defs (F := Ideal)) (onTc (τ := Cert.Reference3Ideal.τ) (Cert.Reference3Ideal.main (F := Ideal))) ⟨m', fun _ => 0, ρ⟩ fun r => ∀ c : Dev Cert.Reference3Ideal.nD,
      (r.2.mem ((c.tc : Thread Cert.Reference3Ideal.nD Cert.Reference3Ideal.τ).loc Cert.Reference3Ideal.main_v4) = (fun i => (data m c).proj (i 0) (i 1) : Cert.Reference3Ideal.S4096x12288.Idx → EReal))
      ∧ (r.2.mem ((c.tc : Thread Cert.Reference3Ideal.nD Cert.Reference3Ideal.τ).loc Cert.Reference3Ideal.main_v7) = (fun i => (data m c).dw (i 0) (i 1) : Cert.Reference3Ideal.S2048x12288.Idx → EReal))
      ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2) := by
  refine (θ_run Cert.Reference3Ideal.defs _ _).mono (fun _ h c => ?_) (Cert.Reference3Ideal.Value.run (F := Ideal) m' ρ)
  obtain ⟨h0, h1, h2⟩ := h c
  have hh := data_eq m m' c (ha c)
  refine ⟨h0.trans (funext fun i => ?_), h1.trans (funext fun i => ?_), h2⟩
  · obtain ⟨a, b, rfl⟩ : ∃ a b, i = ix2 a b := ⟨i 0, i 1, eq_ix2 i⟩
    rw [← hh]
    exact Cert.Reference3Ideal.Proj.read_v4 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) a b
  · obtain ⟨a, b, rfl⟩ : ∃ a b, i = ix2 a b := ⟨i 0, i 1, eq_ix2 i⟩
    rw [← hh]
    exact Cert.Reference3Ideal.Proj.read_v7 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) a b

end Cert.Proj

end
-- ==== Proof.DhSpec.lean ====
module

public import Idealize.ShloMosaic.PureOps.Ideal

@[expose] public section

noncomputable section

namespace Cert.Dh

open Idealize.ShloMosaic

/-- The data of the input gradient of the input projection of one layer on one device: the gradient `dp` of the projection and the
    weights `w`. -/
structure Data where
  dp : Fin 4096 → Fin 12288 → EReal
  w : Fin 2048 → Fin 12288 → EReal

namespace Data

variable (L : Data)

/-- The gradient of the normed input. -/
def dh (i : Fin 4096) (j : Fin 2048) : EReal := ∑ k, L.dp i k * L.w j k

end Data

end Cert.Dh

end
-- ==== Proof.DhRun.lean ====
module

public import proofs.«01_k».proof.Proof.DhSpec
public import proofs.«01_k».proof.Proof.Gen.Kernel4Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Dh

open Idealize.ShloMosaic Idealize.ShloMosaic.TcCoe Idealize.ShloMosaic.Tactic
open Idealize.SL.Sem
open Cert.Kernel4Ideal Cert.Kernel4Ideal.Gen Cert.Dh

/-- One element of the block that the first step stores into the accumulator. -/
theorem pay_first (a : Vec Ideal S1024x2048 .bf16) (b : Vec Ideal S1x1024x2048 .bf16) (r j : Fin 1024) :
    k0_pay1 a b (ix2 r j) = ∑ k : Fin 2048, a (ix2 r k) * b (ix3 0 j k) := by
  pointwise [k0_pay1]

/-- One element of the block that a middle step stores into the accumulator. -/
theorem pay_middle (s : Vec Ideal S1024x1024 .f32) (a : Vec Ideal S1024x2048 .bf16) (b : Vec Ideal S1x1024x2048 .bf16) (r j : Fin 1024) :
    k0_pay2 s a b (ix2 r j) = s (ix2 r j) + ∑ k : Fin 2048, a (ix2 r k) * b (ix3 0 j k) := by
  pointwise [k0_pay2]

/-- One element of the block that the last step writes out. -/
theorem pay_last (s : Vec Ideal S1024x1024 .f32) (a : Vec Ideal S1024x2048 .bf16) (b : Vec Ideal S1x1024x2048 .bf16) (r j : Fin 1024) :
    k0_pay3 s a b (ix2 r j) = s (ix2 r j) + ∑ k : Fin 2048, a (ix2 r k) * b (ix3 0 j k) := by
  pointwise [k0_pay3]

/-- Where the blocks lie in their arrays at each grid point: the row of blocks, the column of blocks and the step of the sum. -/
theorem ind : ∀ t : Fin grid0.N, (win0_0.index t 0 = t.val / 12 ∧ win0_0.index t 1 = t.val % 6)
    ∧ (win0_1.index t 0 = 3 ∧ win0_1.index t 1 = t.val / 6 % 2 ∧ win0_1.index t 2 = t.val % 6)
    ∧ win0_2.index t 0 = t.val / 12 ∧ win0_2.index t 1 = t.val / 6 % 2 := by decide +kernel

variable (m : (ℓ : Loc nD τ sig) → Buf (Elt Ideal) ℓ) (ρ : Dev nD → PrngReg)

/-- The data of the program's arguments on one device. -/
def data (c : Dev nD) : Data where
  dp := fun i j => (m ((c : Thread nD τ).loc main_arg0) : S4096x12288.Idx → EReal) (ix2 i j)
  w := fun i j => (m ((c : Thread nD τ).loc main_arg1) : S4x2048x12288.Idx → EReal) (ix3 3 i j)

variable (c : Dev nD)

/-- The row of the result that row `r` of the block at point `n` is. -/
def row (n : ℕ) (hn : n < 48) (r : Fin 1024) : Fin 4096 := ⟨n / 12 * 1024 + r.val, by omega⟩
/-- The column of the result that column `j` of the block at point `n` is. -/
def col (n : ℕ) (hn : n < 48) (j : Fin 1024) : Fin 2048 := ⟨n / 6 % 2 * 1024 + j.val, by omega⟩

/-- The summand at position `k` of the sum for one element, zero past its end. -/
def term (i : Fin 4096) (j : Fin 2048) (k : ℕ) : EReal :=
  if h : k < 12288 then (data m c).dp i ⟨k, h⟩ * (data m c).w j ⟨k, h⟩ else 0

/-- The block of the projection's gradient at a grid point. -/
def blkA (t : Fin cfg0.N) : Vec Ideal S1024x2048 .bf16 := iblk m c 0 t
/-- The block of the weights at a grid point. -/
def blkB (t : Fin cfg0.N) : Vec Ideal S1x1024x2048 .bf16 := iblk m c 1 t

/-- The sum over one step's blocks is the sum over that step's range of positions. -/
theorem step_sum (t : Fin cfg0.N) (ht : t.val < 48) (r j : Fin 1024) :
    ∑ k : Fin 2048, blkA m c t (ix2 r k) * blkB m c t (ix3 0 j k)
      = ∑ k ∈ Finset.range 2048, term m c (row t.val ht r) (col t.val ht j) (t.val % 6 * 2048 + k) := by
  have h := ind t
  rw [Finset.sum_range]
  refine Finset.sum_congr rfl fun k _ => ?_
  have hk : t.val % 6 * 2048 + k.val < 12288 := by omega
  have e0 : blkA m c t (ix2 r k)
      = (m ((c : Thread nD τ).loc main_arg0) : S4096x12288.Idx → EReal) (ix2 (row t.val ht r) ⟨t.val % 6 * 2048 + k.val, hk⟩) := by
    unfold blkA
    blk_ext [iblk, row, h.1.1, h.1.2]
  have e1 : blkB m c t (ix3 0 j k)
      = (m ((c : Thread nD τ).loc main_arg1) : S4x2048x12288.Idx → EReal) (ix3 3 (col t.val ht j) ⟨t.val % 6 * 2048 + k.val, hk⟩) := by
    unfold blkB
    blk_ext [iblk, col, h.2.1.1, h.2.1.2.1, h.2.1.2.2]
  rw [e0, e1, term, dif_pos hk]
  rfl

/-- The accumulator after point `n` holds the sum over the positions of every step so far. -/
theorem acc : ∀ (n : ℕ) (hn : n < cfg0.N) (h48 : n < 48) (_ : n % 6 ≠ 5) (r j : Fin 1024),
    (outsAt0 m c n hn).2 (ix2 r j) = ∑ k ∈ Finset.range (n % 6 * 2048 + 2048), term m c (row n h48 r) (col n h48 j) k := by
  intro n
  induction n using Nat.strong_induction_on with
  | _ n ih =>
  intro hn h48 h5 r j
  by_cases h0 : n % 6 = 0
  · have e := outsAt0_A m c ⟨n, hn⟩ h0 (by show ¬(1 ≤ n % 6 ∧ n % 6 ≤ 4); omega) h5
    dsimp only at e
    rw [e]
    frame_out
    rw [pay_first]
    show ∑ k : Fin 2048, blkA m c ⟨n, hn⟩ (ix2 r k) * blkB m c ⟨n, hn⟩ (ix3 0 j k) = _
    rw [step_sum m c ⟨n, hn⟩ h48 r j]
    dsimp only
    rw [h0, Nat.zero_mul, Nat.zero_add]
    exact Finset.sum_congr rfl fun k _ => by rw [Nat.zero_add]
  · have e := outsAt0_B m c ⟨n, hn⟩ h0 (by show 1 ≤ n % 6 ∧ n % 6 ≤ 4; omega) h5
    dsimp only at e
    rw [e]
    frame_out
    rw [pay_middle, read_unread_whole, ih (n - 1) (by omega) _ (by omega) (by omega) r j]
    show _ + ∑ k : Fin 2048, blkA m c ⟨n, hn⟩ (ix2 r k) * blkB m c ⟨n, hn⟩ (ix3 0 j k) = _
    rw [step_sum m c ⟨n, hn⟩ h48 r j]
    dsimp only
    · have e1 : (n - 1) % 6 * 2048 + 2048 = n % 6 * 2048 := by omega
      have e2 : row (n - 1) (by omega) r = row n h48 r := Fin.ext (by show (n - 1) / 12 * 1024 + r.val = n / 12 * 1024 + r.val; omega)
      have e3 : col (n - 1) (by omega) j = col n h48 j := Fin.ext (by show (n - 1) / 6 % 2 * 1024 + j.val = n / 6 % 2 * 1024 + j.val; omega)
      rw [e1, e2, e3, Finset.sum_range_add]

/-- The block written out at the last step of its sum holds the gradient. -/
theorem out_last (t : Fin cfg0.N) (h5 : t.val % 6 = 5) (ht : t.val < 48) (r j : Fin 1024) :
    (outsAt0 m c t.val t.isLt).1 (ix2 r j) = (data m c).dh (row t.val ht r) (col t.val ht j) := by
  rw [outsAt0_C m c t (by omega) (by omega) h5]
  frame_out
  rw [pay_last, read_unread_whole, acc m c (t.val - 1) _ (by omega) (by omega) r j]
  show _ + ∑ k : Fin 2048, blkA m c t (ix2 r k) * blkB m c t (ix3 0 j k) = _
  rw [step_sum m c t ht r j]
  have e1 : (t.val - 1) % 6 * 2048 + 2048 = t.val % 6 * 2048 := by omega
  have e2 : row (t.val - 1) (by omega) r = row t.val ht r := Fin.ext (by show (t.val - 1) / 12 * 1024 + r.val = t.val / 12 * 1024 + r.val; omega)
  have e3 : col (t.val - 1) (by omega) j = col t.val ht j := Fin.ext (by show (t.val - 1) / 6 % 2 * 1024 + j.val = t.val / 6 % 2 * 1024 + j.val; omega)
  rw [e1, e2, e3, ← Finset.sum_range_add, h5, Finset.sum_range]
  exact Finset.sum_congr rfl fun k _ => dif_pos k.isLt

/-- The array of the gradient after the call. -/
theorem arr : (dats m 0 c).arrAt 2 cfg0.N = (fun i => (data m c).dh (i 0) (i 1) : S4096x2048.Idx → EReal) := by
  generalize hG : (fun i => (data m c).dh (i 0) (i 1) : S4096x2048.Idx → EReal) = G
  refine (dats m 0 c).arrAt_eq_of_covers 2 _ (by decide +kernel) fun t hf y => ?_
  have h5 := (flush0_2 t).mp hf
  have ht : t.val < 48 := lt_of_lt_of_eq t.isLt N_0
  have h := ind t
  rw [after0_2]
  have e : ∀ z : S1024x1024.Idx, (outsAt0 m c t.val t.isLt).1 z = G (((cfg0.win 2).blk t).view.emb z) := fun z => by
    obtain ⟨r, j, rfl⟩ : ∃ a b, z = ix2 a b := ⟨z 0, z 1, eq_ix2 z⟩
    rw [out_last m c t h5 ht r j, ← hG]
    refine congrArg₂ (data m c).dh (Fin.ext ?_) (Fin.ext ?_)
    · blk_simp [h.2.2.1]; rfl
    · blk_simp [h.2.2.2]; rfl
  generalize (outsAt0 m c t.val t.isLt).1 = o at e ⊢
  exact e y

/-- A run of the whole program ends with the gradient of the normed input, the arguments unchanged. -/
theorem run_values : θ_run defs (onTc (τ := τ) (main (F := Ideal))) ⟨m, fun _ => 0, ρ⟩ (fun r => ∀ c : Dev nD,
      r.2.mem ((c : Thread nD τ).loc main_v0) = (fun i => (data m c).dh (i 0) (i 1) : S4096x2048.Idx → EReal)
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨((h.1 c).1 2).trans (arr m c), (h.2 c).1, (h.2 c).2⟩)
    (θ_run_and (run_main m ρ) (unchanged m ρ))

end Cert.Kernel4Ideal.Dh

end
-- ==== Proof.DhAgree.lean ====
module

public import proofs.«01_k».proof.Proof.DhRun
public import proofs.«01_k».proof.Proof.Gen.Reference4Ideal.Read
public import proofs.«01_k».proof.Proof.Gen.Reference4Ideal.Run
public import Idealize.ShloMosaic.Lib.Pointwise

@[expose] public section

set_option maxRecDepth 16384

noncomputable section

namespace Cert.Reference4Ideal.Dh

open Idealize.ShloMosaic Idealize.ShloMosaic.TcCoe Idealize.ShloMosaic.StableHlo
open Cert.Reference4Ideal Cert.Reference4Ideal.Gen Cert.Reference4Ideal.Read Cert.Dh

variable (x0 : (⟨S4096x12288, .bf16⟩ : BufTy).Contents (Elt Ideal))
  (x1 : (⟨S4x2048x12288, .bf16⟩ : BufTy).Contents (Elt Ideal))

/-- The data of the program's arguments. -/
def data : Data where
  dp := fun i j => x0 (ix2 i j)
  w := fun i j => x1 (ix3 3 i j)

/-- The weights, sliced off the stack. -/
theorem read_v2 (i : Fin 2048) (j : Fin 12288) : val_main_v2 (F := Ideal) x1 (ix2 i j) = x1 (ix3 3 i j) := by
  unfold val_main_v2 val_main_v1 val_main_v0; pointwise

/-- The gradient of the normed input. -/
theorem read_v5 (i : Fin 4096) (j : Fin 2048) : val_main_v5 (F := Ideal) x0 x1 (ix2 i j) = (data x0 x1).dh i j := by
  unfold val_main_v5 val_main_v4 val_main_v3; pointwise
  exact Finset.sum_congr rfl fun k _ => by rw [read_v2]; rfl

end Cert.Reference4Ideal.Dh

namespace Cert.Dh

open Idealize.ShloMosaic Idealize.ShloMosaic.TcCoe Idealize.SL.Sem
open Cert.Kernel4Ideal.Dh

variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ)

/-- The two programs' arguments on one device agree. -/
def Args (c : Dev Cert.Kernel4Ideal.nD) : Prop :=
  m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
  ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)

/-- The data of the reference's arguments on one device. -/
abbrev refData (c : Dev Cert.Reference4Ideal.nD) : Data :=
  Cert.Reference4Ideal.Dh.data (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))

/-- Agreeing arguments have the same data. -/
theorem data_eq (c : Dev Cert.Kernel4Ideal.nD) (h : Args m m' c) : refData m' c = data m c := by
  unfold refData
  obtain ⟨h0, h1⟩ := h
  rw [h0, h1]
  rfl

/-- The reference's run leaves the gradient of the normed input, its arguments unchanged. -/
theorem run_reference (ha : ∀ c, Args m m' c) (ρ : Dev Cert.Reference4Ideal.nD → PrngReg) :
    θ_run (Cert.Reference4Ideal.defs (F := Ideal)) (onTc (τ := Cert.Reference4Ideal.τ) (Cert.Reference4Ideal.main (F := Ideal))) ⟨m', fun _ => 0, ρ⟩ fun r => ∀ c : Dev Cert.Reference4Ideal.nD,
      (r.2.mem ((c.tc : Thread Cert.Reference4Ideal.nD Cert.Reference4Ideal.τ).loc Cert.Reference4Ideal.main_v5) = (fun i => (data m c).dh (i 0) (i 1) : Cert.Reference4Ideal.S4096x2048.Idx → EReal))
      ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1) := by
  refine (θ_run Cert.Reference4Ideal.defs _ _).mono (fun _ h c => ?_) (Cert.Reference4Ideal.Value.run (F := Ideal) m' ρ)
  obtain ⟨h0, h1⟩ := h c
  have hh := data_eq m m' c (ha c)
  refine ⟨h0.trans (funext fun i => ?_), h1⟩
  obtain ⟨a, b, rfl⟩ : ∃ a b, i = ix2 a b := ⟨i 0, i 1, eq_ix2 i⟩
  rw [← hh]
  exact Cert.Reference4Ideal.Dh.read_v5 (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) a b

end Cert.Dh

end
-- ==== Proof.MergeProd.lean ====
module

public import proofs.«01_k».proof.Proof.Gen.Kernel5Ideal.Frame
public import Idealize.ShloMosaic.Lib.Pipeline.ValueKit
public import Idealize.ShloMosaic.Lib.Pointwise

@[expose] public section

set_option maxRecDepth 16384

noncomputable section

namespace Cert.Kernel5Ideal.Merge

open Idealize.ShloMosaic Idealize.ShloMosaic.TcCoe Idealize.ShloMosaic.Tactic
open Cert.Kernel5Ideal Cert.Kernel5Ideal.Gen

/-- The start of a rectangle of two axes that begins at the origin. -/
theorem zz : (![0, 0] : Fin 2 → ℕ) = fun _ => 0 := funext fun a => by fin_cases a <;> rfl
/-- The start of a rectangle of three axes that begins at the origin. -/
theorem zzz : (![0, 0, 0] : Fin 3 → ℕ) = fun _ => 0 := funext fun a => by fin_cases a <;> rfl

variable (V : (c : Dev nD) → (b : Ref sig .tc) → Buf (Elt Ideal) ((c : Thread nD τ).loc b))

/-- One element of the block of the first branch. -/
theorem pay0 (a : Vec Ideal S1024x1024 .bf16) (b : Vec Ideal S1x1024x1024 .bf16) (r : Fin 1024) (j : Fin 1024) :
    k0_pay1 a b (ix2 r j) = (∑ k : Fin 1024, a (ix2 r k) * b (ix3 0 k j)) := by
  pointwise [k0_pay1]

/-- Where the blocks of call 0 (counting from 0) lie in their arrays, against the block written, at each grid point. -/
theorem ind0 : ∀ t : Fin grid0.N, (win0_0.index t 1 = 0 ∧ win0_0.index t 0 = win0_2.index t 0) ∧ (win0_1.index t 0 = 9 ∧ win0_1.index t 1 = 0 ∧ win0_1.index t 2 = win0_2.index t 1) ∧ True := by decide +kernel

/-- The array of the first branch after its call. -/
theorem arr0 (c : Dev nD) (A : S4096x1024.Idx → EReal) (B : S12x1024x2048.Idx → EReal) (hA : V c main_arg0 = A) (hB : V c main_arg5 = B) :
    (dat0 V c).arrAt 2 cfg0.N = (fun i => (∑ k : Fin 1024, A (ix2 (i 0) k) * B (ix3 9 k (i 1))) : S4096x2048.Idx → EReal) := by
  generalize hG : (fun i => (∑ k : Fin 1024, A (ix2 (i 0) k) * B (ix3 9 k (i 1))) : S4096x2048.Idx → EReal) = G
  refine (dat0 V c).arrAt_eq_of_covers 2 _ (by decide +kernel) fun t _ y => ?_
  have h := ind0 t
  rw [after0_2]
  have e : ∀ z : S1024x1024.Idx, out0_2 (iblk0 V c 0 t) (iblk0 V c 1 t) z = G (((cfg0.win 2).blk t).view.emb z) := fun z => by
    obtain ⟨r, j, rfl⟩ : ∃ a b, z = ix2 a b := ⟨z 0, z 1, eq_ix2 z⟩
    rw [← hG]
    unfold out0_2
    rw [View.canon_unit_zero zz, View.ld_unit_zero zz, View.ld_unit_zero zzz, pay0]
    refine Finset.sum_congr rfl fun k _ => congrArg₂ (· * ·) ?_ ?_
    · rw [← hA]; blk_ext [iblk0, h.1.1, h.1.2, h.2.1.1, h.2.1.2.1, h.2.1.2.2]
    · rw [← hB]; blk_ext [iblk0, h.1.1, h.1.2, h.2.1.1, h.2.1.2.1, h.2.1.2.2]
  generalize out0_2 (iblk0 V c 0 t) (iblk0 V c 1 t) = o at e ⊢
  exact e y

/-- One element of the block of the second branch. -/
theorem pay1 (a : Vec Ideal S1024x1024 .bf16) (b : Vec Ideal S1x1024x1024 .bf16) (r : Fin 1024) (j : Fin 1024) :
    k1_pay1 a b (ix2 r j) = (∑ k : Fin 1024, a (ix2 r k) * b (ix3 0 k j)) := by
  pointwise [k1_pay1]

/-- Where the blocks of call 1 (counting from 0) lie in their arrays, against the block written, at each grid point. -/
theorem ind1 : ∀ t : Fin grid1.N, (win1_0.index t 1 = 0 ∧ win1_0.index t 0 = win1_2.index t 0) ∧ (win1_1.index t 0 = 10 ∧ win1_1.index t 1 = 0 ∧ win1_1.index t 2 = win1_2.index t 1) ∧ True := by decide +kernel

/-- The array of the second branch after its call. -/
theorem arr1 (c : Dev nD) (A : S4096x1024.Idx → EReal) (B : S12x1024x2048.Idx → EReal) (hA : V c main_arg1 = A) (hB : V c main_arg5 = B) :
    (dat1 V c).arrAt 2 cfg1.N = (fun i => (∑ k : Fin 1024, A (ix2 (i 0) k) * B (ix3 10 k (i 1))) : S4096x2048.Idx → EReal) := by
  generalize hG : (fun i => (∑ k : Fin 1024, A (ix2 (i 0) k) * B (ix3 10 k (i 1))) : S4096x2048.Idx → EReal) = G
  refine (dat1 V c).arrAt_eq_of_covers 2 _ (by decide +kernel) fun t _ y => ?_
  have h := ind1 t
  rw [after1_2]
  have e : ∀ z : S1024x1024.Idx, out1_2 (iblk1 V c 0 t) (iblk1 V c 1 t) z = G (((cfg1.win 2).blk t).view.emb z) := fun z => by
    obtain ⟨r, j, rfl⟩ : ∃ a b, z = ix2 a b := ⟨z 0, z 1, eq_ix2 z⟩
    rw [← hG]
    unfold out1_2
    rw [View.canon_unit_zero zz, View.ld_unit_zero zz, View.ld_unit_zero zzz, pay1]
    refine Finset.sum_congr rfl fun k _ => congrArg₂ (· * ·) ?_ ?_
    · rw [← hA]; blk_ext [iblk1, h.1.1, h.1.2, h.2.1.1, h.2.1.2.1, h.2.1.2.2]
    · rw [← hB]; blk_ext [iblk1, h.1.1, h.1.2, h.2.1.1, h.2.1.2.1, h.2.1.2.2]
  generalize out1_2 (iblk1 V c 0 t) (iblk1 V c 1 t) = o at e ⊢
  exact e y

/-- One element of the block of the third branch before its gate. -/
theorem pay2 (a : Vec Ideal S1024x1024 .bf16) (b : Vec Ideal S1x1024x1024 .bf16) (r : Fin 1024) (j : Fin 1024) :
    k2_pay1 a b (ix2 r j) = (∑ k : Fin 1024, a (ix2 r k) * b (ix3 0 k j)) := by
  pointwise [k2_pay1]

/-- Where the blocks of call 2 (counting from 0) lie in their arrays, against the block written, at each grid point. -/
theorem ind2 : ∀ t : Fin grid2.N, (win2_0.index t 1 = 0 ∧ win2_0.index t 0 = win2_2.index t 0) ∧ (win2_1.index t 0 = 11 ∧ win2_1.index t 1 = 0 ∧ win2_1.index t 2 = win2_2.index t 1) ∧ True := by decide +kernel

/-- The array of the third branch before its gate after its call. -/
theorem arr2 (c : Dev nD) (A : S4096x1024.Idx → EReal) (B : S12x1024x2048.Idx → EReal) (hA : V c main_arg2 = A) (hB : V c main_arg5 = B) :
    (dat2 V c).arrAt 2 cfg2.N = (fun i => (∑ k : Fin 1024, A (ix2 (i 0) k) * B (ix3 11 k (i 1))) : S4096x2048.Idx → EReal) := by
  generalize hG : (fun i => (∑ k : Fin 1024, A (ix2 (i 0) k) * B (ix3 11 k (i 1))) : S4096x2048.Idx → EReal) = G
  refine (dat2 V c).arrAt_eq_of_covers 2 _ (by decide +kernel) fun t _ y => ?_
  have h := ind2 t
  rw [after2_2]
  have e : ∀ z : S1024x1024.Idx, out2_2 (iblk2 V c 0 t) (iblk2 V c 1 t) z = G (((cfg2.win 2).blk t).view.emb z) := fun z => by
    obtain ⟨r, j, rfl⟩ : ∃ a b, z = ix2 a b := ⟨z 0, z 1, eq_ix2 z⟩
    rw [← hG]
    unfold out2_2
    rw [View.canon_unit_zero zz, View.ld_unit_zero zz, View.ld_unit_zero zzz, pay2]
    refine Finset.sum_congr rfl fun k _ => congrArg₂ (· * ·) ?_ ?_
    · rw [← hA]; blk_ext [iblk2, h.1.1, h.1.2, h.2.1.1, h.2.1.2.1, h.2.1.2.2]
    · rw [← hB]; blk_ext [iblk2, h.1.1, h.1.2, h.2.1.1, h.2.1.2.1, h.2.1.2.2]
  generalize out2_2 (iblk2 V c 0 t) (iblk2 V c 1 t) = o at e ⊢
  exact e y

/-- One element of the block of the gate of the third branch. -/
theorem pay3 (a : Vec Ideal S1024x1024 .bf16) (b : Vec Ideal S1x1024x1024 .bf16) (r : Fin 1024) (j : Fin 1024) :
    k3_pay1 a b (ix2 r j) = (∑ k : Fin 1024, a (ix2 r k) * b (ix3 0 k j)) := by
  pointwise [k3_pay1]

/-- Where the blocks of call 3 (counting from 0) lie in their arrays, against the block written, at each grid point. -/
theorem ind3 : ∀ t : Fin grid3.N, (win3_0.index t 1 = 0 ∧ win3_0.index t 0 = win3_2.index t 0) ∧ (win3_1.index t 0 = 3 ∧ win3_1.index t 1 = 0 ∧ win3_1.index t 2 = win3_2.index t 1) ∧ True := by decide +kernel

/-- The array of the gate of the third branch after its call. -/
theorem arr3 (c : Dev nD) (A : S4096x1024.Idx → EReal) (B : S4x1024x2048.Idx → EReal) (hA : V c main_arg2 = A) (hB : V c main_arg6 = B) :
    (dat3 V c).arrAt 2 cfg3.N = (fun i => (∑ k : Fin 1024, A (ix2 (i 0) k) * B (ix3 3 k (i 1))) : S4096x2048.Idx → EReal) := by
  generalize hG : (fun i => (∑ k : Fin 1024, A (ix2 (i 0) k) * B (ix3 3 k (i 1))) : S4096x2048.Idx → EReal) = G
  refine (dat3 V c).arrAt_eq_of_covers 2 _ (by decide +kernel) fun t _ y => ?_
  have h := ind3 t
  rw [after3_2]
  have e : ∀ z : S1024x1024.Idx, out3_2 (iblk3 V c 0 t) (iblk3 V c 1 t) z = G (((cfg3.win 2).blk t).view.emb z) := fun z => by
    obtain ⟨r, j, rfl⟩ : ∃ a b, z = ix2 a b := ⟨z 0, z 1, eq_ix2 z⟩
    rw [← hG]
    unfold out3_2
    rw [View.canon_unit_zero zz, View.ld_unit_zero zz, View.ld_unit_zero zzz, pay3]
    refine Finset.sum_congr rfl fun k _ => congrArg₂ (· * ·) ?_ ?_
    · rw [← hA]; blk_ext [iblk3, h.1.1, h.1.2, h.2.1.1, h.2.1.2.1, h.2.1.2.2]
    · rw [← hB]; blk_ext [iblk3, h.1.1, h.1.2, h.2.1.1, h.2.1.2.1, h.2.1.2.2]
  generalize out3_2 (iblk3 V c 0 t) (iblk3 V c 1 t) = o at e ⊢
  exact e y

/-- One element of the block of the result. -/
theorem pay5 (a : Vec Ideal S1024x2048 .bf16) (b : Vec Ideal S1x2048x1024 .bf16) (d : Vec Ideal S1024x1024 .f32) (r : Fin 1024) (j : Fin 1024) :
    k5_pay1 a b d (ix2 r j) = (∑ k : Fin 2048, a (ix2 r k) * b (ix3 0 k j)) + d (ix2 r j) := by
  pointwise [k5_pay1]

/-- Where the blocks of call 5 (counting from 0) lie in their arrays, against the block written, at each grid point. -/
theorem ind5 : ∀ t : Fin grid5.N, (win5_0.index t 1 = 0 ∧ win5_0.index t 0 = win5_3.index t 0) ∧ (win5_1.index t 0 = 3 ∧ win5_1.index t 1 = 0 ∧ win5_1.index t 2 = win5_3.index t 1) ∧ win5_2.index t 0 = win5_3.index t 0 ∧ win5_2.index t 1 = win5_3.index t 1 := by decide +kernel

/-- The array of the result after its call. -/
theorem arr5 (c : Dev nD) (A : S4096x2048.Idx → EReal) (B : S4x2048x2048.Idx → EReal) (R : S4096x2048.Idx → EReal) (hA : V c main_v6 = A) (hB : V c main_arg8 = B) (hR : V c main_arg4 = R) :
    (dat5 V c).arrAt 3 cfg5.N = (fun i => (∑ k : Fin 2048, A (ix2 (i 0) k) * B (ix3 3 k (i 1))) + R (ix2 (i 0) (i 1)) : S4096x2048.Idx → EReal) := by
  generalize hG : (fun i => (∑ k : Fin 2048, A (ix2 (i 0) k) * B (ix3 3 k (i 1))) + R (ix2 (i 0) (i 1)) : S4096x2048.Idx → EReal) = G
  refine (dat5 V c).arrAt_eq_of_covers 3 _ (by decide +kernel) fun t _ y => ?_
  have h := ind5 t
  rw [after5_3]
  have e : ∀ z : S1024x1024.Idx, out5_3 (iblk5 V c 0 t) (iblk5 V c 1 t) (iblk5 V c 2 t) z = G (((cfg5.win 3).blk t).view.emb z) := fun z => by
    obtain ⟨r, j, rfl⟩ : ∃ a b, z = ix2 a b := ⟨z 0, z 1, eq_ix2 z⟩
    rw [← hG]
    unfold out5_3
    rw [View.canon_unit_zero zz, View.ld_unit_zero zz, View.ld_unit_zero zzz, View.ld_unit_zero zz, pay5]
    refine congrArg₂ (· + ·) (Finset.sum_congr rfl fun k _ => congrArg₂ (· * ·) ?_ ?_) ?_
    · rw [← hA]; blk_ext [iblk5, h.1.1, h.1.2, h.2.1.1, h.2.1.2.1, h.2.1.2.2, h.2.2.1, h.2.2.2]
    · rw [← hB]; blk_ext [iblk5, h.1.1, h.1.2, h.2.1.1, h.2.1.2.1, h.2.1.2.2, h.2.2.1, h.2.2.2]
    · rw [← hR]; blk_ext [iblk5, h.1.1, h.1.2, h.2.1.1, h.2.1.2.1, h.2.1.2.2, h.2.2.1, h.2.2.2]
  generalize out5_3 (iblk5 V c 0 t) (iblk5 V c 1 t) (iblk5 V c 2 t) = o at e ⊢
  exact e y

/-- One element of the block of the gradient of the output weights. -/
theorem pay6 (a : Vec Ideal S4096x1024 .bf16) (b : Vec Ideal S4096x1024 .bf16) (r : Fin 1024) (j : Fin 1024) :
    k6_pay1 a b (ix2 r j) = (∑ k : Fin 4096, a (ix2 k r) * b (ix2 k j)) := by
  pointwise [k6_pay1]

/-- Where the blocks of call 6 (counting from 0) lie in their arrays, against the block written, at each grid point. -/
theorem ind6 : ∀ t : Fin grid6.N, (win6_0.index t 0 = 0 ∧ win6_0.index t 1 = win6_2.index t 0) ∧ (win6_1.index t 0 = 0 ∧ win6_1.index t 1 = win6_2.index t 1 ∧ True) ∧ True := by decide +kernel

/-- The array of the gradient of the output weights after its call. -/
theorem arr6 (c : Dev nD) (A : S4096x2048.Idx → EReal) (B : S4096x2048.Idx → EReal) (hA : V c main_v6 = A) (hB : V c main_v8 = B) :
    (dat6 V c).arrAt 2 cfg6.N = (fun i => (∑ k : Fin 4096, A (ix2 k (i 0)) * B (ix2 k (i 1))) : S2048x2048.Idx → EReal) := by
  generalize hG : (fun i => (∑ k : Fin 4096, A (ix2 k (i 0)) * B (ix2 k (i 1))) : S2048x2048.Idx → EReal) = G
  refine (dat6 V c).arrAt_eq_of_covers 2 _ (by decide +kernel) fun t _ y => ?_
  have h := ind6 t
  rw [after6_2]
  have e : ∀ z : S1024x1024.Idx, out6_2 (iblk6 V c 0 t) (iblk6 V c 1 t) z = G (((cfg6.win 2).blk t).view.emb z) := fun z => by
    obtain ⟨r, j, rfl⟩ : ∃ a b, z = ix2 a b := ⟨z 0, z 1, eq_ix2 z⟩
    rw [← hG]
    unfold out6_2
    rw [View.canon_unit_zero zz, View.ld_unit_zero zz, View.ld_unit_zero zz, pay6]
    refine Finset.sum_congr rfl fun k _ => congrArg₂ (· * ·) ?_ ?_
    · rw [← hA]; blk_ext [iblk6, h.1.1, h.1.2, h.2.1.1, h.2.1.2.1]
    · rw [← hB]; blk_ext [iblk6, h.1.1, h.1.2, h.2.1.1, h.2.1.2.1]
  generalize out6_2 (iblk6 V c 0 t) (iblk6 V c 1 t) = o at e ⊢
  exact e y

/-- One element of the block of the gradient of the merged branches. -/
theorem pay7 (a : Vec Ideal S1024x2048 .bf16) (b : Vec Ideal S1x1024x2048 .bf16) (r : Fin 1024) (j : Fin 1024) :
    k7_pay1 a b (ix2 r j) = (∑ k : Fin 2048, a (ix2 r k) * b (ix3 0 j k)) := by
  pointwise [k7_pay1]

/-- Where the blocks of call 7 (counting from 0) lie in their arrays, against the block written, at each grid point. -/
theorem ind7 : ∀ t : Fin grid7.N, (win7_0.index t 1 = 0 ∧ win7_0.index t 0 = win7_2.index t 0) ∧ (win7_1.index t 0 = 3 ∧ win7_1.index t 2 = 0 ∧ win7_1.index t 1 = win7_2.index t 1) ∧ True := by decide +kernel

/-- The array of the gradient of the merged branches after its call. -/
theorem arr7 (c : Dev nD) (A : S4096x2048.Idx → EReal) (B : S4x2048x2048.Idx → EReal) (hA : V c main_v8 = A) (hB : V c main_arg8 = B) :
    (dat7 V c).arrAt 2 cfg7.N = (fun i => (∑ k : Fin 2048, A (ix2 (i 0) k) * B (ix3 3 (i 1) k)) : S4096x2048.Idx → EReal) := by
  generalize hG : (fun i => (∑ k : Fin 2048, A (ix2 (i 0) k) * B (ix3 3 (i 1) k)) : S4096x2048.Idx → EReal) = G
  refine (dat7 V c).arrAt_eq_of_covers 2 _ (by decide +kernel) fun t _ y => ?_
  have h := ind7 t
  rw [after7_2]
  have e : ∀ z : S1024x1024.Idx, out7_2 (iblk7 V c 0 t) (iblk7 V c 1 t) z = G (((cfg7.win 2).blk t).view.emb z) := fun z => by
    obtain ⟨r, j, rfl⟩ : ∃ a b, z = ix2 a b := ⟨z 0, z 1, eq_ix2 z⟩
    rw [← hG]
    unfold out7_2
    rw [View.canon_unit_zero zz, View.ld_unit_zero zz, View.ld_unit_zero zzz, pay7]
    refine Finset.sum_congr rfl fun k _ => congrArg₂ (· * ·) ?_ ?_
    · rw [← hA]; blk_ext [iblk7, h.1.1, h.1.2, h.2.1.1, h.2.1.2.1, h.2.1.2.2]
    · rw [← hB]; blk_ext [iblk7, h.1.1, h.1.2, h.2.1.1, h.2.1.2.1, h.2.1.2.2]
  generalize out7_2 (iblk7 V c 0 t) (iblk7 V c 1 t) = o at e ⊢
  exact e y

end Cert.Kernel5Ideal.Merge

end
-- ==== Proof.MergeSpec.lean ====
module

public import Idealize.ShloMosaic.PureOps.Ideal

@[expose] public section

noncomputable section

namespace Cert.Merge

open Idealize.ShloMosaic

/-- One element of the merged branches: the first two branches and the third, through its own gate, each times the sigmoid of
    its gate with its bias. -/
def mrg (a b c l g0 g1 g2 t0 t1 t2 : EReal) : EReal :=
  Ideal.logistic (g0 + t0) * a + Ideal.logistic (g1 + t1) * b + Ideal.logistic (g2 + t2) * (c * Ideal.logistic l)

/-- The column of the first gate in the projection. -/
abbrev cola (j : Fin 2048) : Fin 12288 := ⟨6144 + j.val, by omega⟩
/-- The column of the second gate in the projection. -/
abbrev colb (j : Fin 2048) : Fin 12288 := ⟨8192 + j.val, by omega⟩
/-- The column of the third gate in the projection. -/
abbrev colc (j : Fin 2048) : Fin 12288 := ⟨10240 + j.val, by omega⟩

/-- The data of the merge of the branches of one layer on one device: the branches' inputs `ya`, `yb`, `yc`, their weights `wa`,
    `wb`, `wc` and `wl` of the gate of the third, the gates' columns `ga`, `gb`, `gc` of the projection and their biases `ta`, `tb`,
    `tc`, the residual `x`, the output weights `wo`, and the gradient `dx` of the result. -/
structure Data where
  ya : Fin 4096 → Fin 1024 → EReal
  yb : Fin 4096 → Fin 1024 → EReal
  yc : Fin 4096 → Fin 1024 → EReal
  wa : Fin 1024 → Fin 2048 → EReal
  wb : Fin 1024 → Fin 2048 → EReal
  wc : Fin 1024 → Fin 2048 → EReal
  wl : Fin 1024 → Fin 2048 → EReal
  ga : Fin 4096 → Fin 2048 → EReal
  gb : Fin 4096 → Fin 2048 → EReal
  gc : Fin 4096 → Fin 2048 → EReal
  ta : Fin 2048 → EReal
  tb : Fin 2048 → EReal
  tc : Fin 2048 → EReal
  x : Fin 4096 → Fin 2048 → EReal
  wo : Fin 2048 → Fin 2048 → EReal
  dx : Fin 4096 → Fin 2048 → EReal

namespace Data

variable (L : Data)

/-- The first branch. -/
def pa (i : Fin 4096) (j : Fin 2048) : EReal := ∑ k, L.ya i k * L.wa k j
/-- The second branch. -/
def pb (i : Fin 4096) (j : Fin 2048) : EReal := ∑ k, L.yb i k * L.wb k j
/-- The third branch before its gate. -/
def pc (i : Fin 4096) (j : Fin 2048) : EReal := ∑ k, L.yc i k * L.wc k j
/-- The gate of the third branch. -/
def pl (i : Fin 4096) (j : Fin 2048) : EReal := ∑ k, L.yc i k * L.wl k j
/-- The merged branches. -/
def mg (i : Fin 4096) (j : Fin 2048) : EReal := mrg (L.pa i j) (L.pb i j) (L.pc i j) (L.pl i j) (L.ga i j) (L.gb i j) (L.gc i j) (L.ta j) (L.tb j) (L.tc j)
/-- The output projection added to the residual. -/
def y (i : Fin 4096) (j : Fin 2048) : EReal := (∑ k, L.mg i k * L.wo k j) + L.x i j
/-- The gradient of the output weights. -/
def dwo (i j : Fin 2048) : EReal := ∑ k, L.mg k i * L.dx k j
/-- The gradient of the merged branches. -/
def dm (i : Fin 4096) (j : Fin 2048) : EReal := ∑ k, L.dx i k * L.wo j k

end Data

end Cert.Merge

end
-- ==== Proof.MergeAct.lean ====
module

public import proofs.«01_k».proof.Proof.Gen.Kernel5Ideal.Frame
public import proofs.«01_k».proof.Proof.MergeSpec
public import Idealize.ShloMosaic.Lib.Pipeline.ReadBack
public import Idealize.ShloMosaic.Lib.Pipeline.ValueKit

@[expose] public section

set_option maxRecDepth 16384

noncomputable section

namespace Cert.Kernel5Ideal.Merge

open Idealize.ShloMosaic Idealize.ShloMosaic.TcCoe Idealize.ShloMosaic.Tactic
open Cert.Kernel5Ideal Cert.Kernel5Ideal.Gen Cert.Merge

/-- A load through a whole memref that holds `x` gives the elements of `x` under the rectangle. -/
theorem rdAt {s : Shape} {e : EltTy} (m : Memref sig .tc .vmem s e) (hm : m.IsWhole) (x : Vec Ideal s e) (r : Rect s) (j : r.shape.Idx) :
    View.readAt (Elt Ideal) m.view r.toLoadRect (hm.unread x) j = x (r.emb j) :=
  congrFun (hm.read_unread x) (r.emb j)

/-- The columns of a block of the stacked biases lie in the stack where those of the merged block lie. -/
theorem inb_bias {n o : ℕ} (h : ∀ a, (![n, o] : Fin 2 → ℕ) a + (![16, 256] : Fin 2 → ℕ) a ≤ S256x2048.size a) :
    ∀ a, (![0, o] : Fin 2 → ℕ) a + (![3, 256] : Fin 2 → ℕ) a ≤ S3x2048.size a := fun a => by
  have h1 : o + 256 ≤ 2048 := h 1
  fin_cases a
  · show 0 + 3 ≤ 3; omega
  · show o + 256 ≤ 2048; omega

/-- The bias at a column of the merged block is the one its loaded block holds. -/
theorem bias (m : Memref sig .tc .vmem S3x2048 .f32) (hm : m.IsWhole) (x : Vec Ideal S3x2048 .f32) (q : Fin 3) {n o : ℕ}
    (h : ∀ a, (![n, o] : Fin 2 → ℕ) a + (![16, 256] : Fin 2 → ℕ) a ≤ S256x2048.size a)
    (y : (Rect.unit (s := S256x2048) ![n, o] ![16, 256] h).shape.Idx) :
    x (ix2 q ((Rect.unit (s := S256x2048) ![n, o] ![16, 256] h).emb y 1))
      = View.readAt (Elt Ideal) m.view (Rect.unit (s := S3x2048) ![0, o] ![3, 256] (inb_bias h)).toLoadRect (hm.unread x) (ix2 q (y 1)) := by
  refine ((rdAt m hm x _ _).trans (congrArg x (funext fun a => Fin.ext ?_))).symm
  fin_cases a
  · show 0 + 1 * q.val = q.val; omega
  · rfl

/-- Equal biases give equal merged elements. -/
theorem mrg_bias {a b c l g0 g1 g2 t0 t1 t2 s0 s1 s2 : EReal} (h0 : t0 = s0) (h1 : t1 = s1) (h2 : t2 = s2) :
    mrg a b c l g0 g1 g2 t0 t1 t2 = mrg a b c l g0 g1 g2 s0 s1 s2 := by
  rw [h0, h1, h2]

section Body
variable (c : Dev nD) (bd : Option Variants.none.V) (i : grid4.Coords) (arg1 : Memref sig .tc .vmem S256x2048 .bf16) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S3x2048 .f32) (harg8 : arg8.IsWhole) (arg9 : Memref sig .tc .vmem S256x2048 .bf16) (harg9 : arg9.IsWhole) (x0 x1 x2 x3 : Vec Ideal S256x2048 .bf16) (x4 x5 x6 : Vec Ideal S256x2048 .f32) (x7 : Vec Ideal S3x2048 .f32)

set_option maxHeartbeats 4000000 in
/-- Every store of one trip holds the merged branches at its own elements. -/
theorem trip_mrg (k : Fin k4_t1_loop.trips) : View.PiecesOf (fun y => mrg (x0 y) (x1 y) (x2 y) (x3 y) (x4 y) (x5 y) (x6 y) (x7 (ix2 0 (y 1))) (x7 (ix2 1 (y 1))) (x7 (ix2 2 (y 1))))
    (trip_k4_t1 (F := Ideal) Variants.none c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) (harg7.unread x6) (harg8.unread x7) k).1 := by
  unfold trip_k4_t1
  sl_unfold_words
  dsimp only [View.PiecesOf]
  repeat' refine And.intro (fun x => ?_) ?_
  all_goals first
    | exact True.intro
    | (simp only [← rdAt arg1 harg1 x0, ← rdAt arg2 harg2 x1, ← rdAt arg3 harg3 x2, ← rdAt arg4 harg4 x3, ← rdAt arg5 harg5 x4, ← rdAt arg6 harg6 x5, ← rdAt arg7 harg7 x6]
       generalize View.readAt _ arg1.view _ _ = b1
       generalize View.readAt _ arg2.view _ _ = b2
       generalize View.readAt _ arg3.view _ _ = b3
       generalize View.readAt _ arg4.view _ _ = b4
       generalize View.readAt _ arg5.view _ _ = b5
       generalize View.readAt _ arg6.view _ _ = b6
       generalize View.readAt _ arg7.view _ _ = b7
       generalize hb : View.readAt _ arg8.view _ _ = b8
       obtain ⟨r, j, rfl⟩ : ∃ (r : Fin 16) (j : Fin 256), x = ix2 r j := ⟨x 0, x 1, eq_ix2 x⟩
       pointwise [k4_pay1, k4_pay2, k4_pay3, k4_pay4, k4_pay5, k4_pay6, k4_pay7, k4_pay8, k4_pay9, k4_pay10, k4_pay11, k4_pay12, k4_pay13, k4_pay14, k4_pay15, k4_pay16, k4_pay17, k4_pay18]
       refine (rfl : _ = mrg (b1 (ix2 r j)) (b2 (ix2 r j)) (b3 (ix2 r j)) (b4 (ix2 r j)) (b5 (ix2 r j)) (b6 (ix2 r j)) (b7 (ix2 r j)) (b8 (ix2 0 j)) (b8 (ix2 1 j)) (b8 (ix2 2 j))).trans (mrg_bias ?_ ?_ ?_)
       all_goals
         rw [← hb]
         exact (bias arg8 harg8 x7 _ _ (ix2 r j)).symm)

/-- So do all the stores of the trips before any trip. -/
theorem trips : ∀ n : ℕ, n ≤ k4_t1_loop.trips →
    ∀ p ∈ pb_k4_t1 (F := Ideal) Variants.none c bd i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) (harg7.unread x6) (harg8.unread x7) n, ∀ x : p.1.shape.Idx, p.2 x = (fun y : S256x2048.Idx => mrg (x0 y) (x1 y) (x2 y) (x3 y) (x4 y) (x5 y) (x6 y) (x7 (ix2 0 (y 1))) (x7 (ix2 1 (y 1))) (x7 (ix2 2 (y 1)))) (p.1.emb x)
  | 0, _ => fun _ h => absurd h List.not_mem_nil
  | n + 1, hn => by
    have ih := trips n (by omega)
    rw [pb_k4_t1_succ Variants.none c bd i arg1 harg1 arg2 harg2 arg3 harg3 arg4 harg4 arg5 harg5 arg6 harg6 arg7 harg7 arg8 harg8 arg9 harg9 _ _ _ _ _ _ _ _ ⟨n, hn⟩]
    intro p hp
    rcases List.mem_append.1 hp with h | h
    · exact (trip_mrg c bd i arg1 harg1 arg2 harg2 arg3 harg3 arg4 harg4 arg5 harg5 arg6 harg6 arg7 harg7 arg8 harg8 arg9 harg9 x0 x1 x2 x3 x4 x5 x6 x7 ⟨n, hn⟩).mem p h
    · exact ih p h

/-- The block of the merged branches after the body. -/
theorem out_mrg (y : S256x2048.Idx) :
    out4_A_8 (F := Ideal) c i arg1 harg1 arg2 harg2 arg3 harg3 arg4 harg4 arg5 harg5 arg6 harg6 arg7 harg7 arg8 harg8 arg9 harg9 x0 x1 x2 x3 x4 x5 x6 x7 y = mrg (x0 y) (x1 y) (x2 y) (x3 y) (x4 y) (x5 y) (x6 y) (x7 (ix2 0 (y 1))) (x7 (ix2 1 (y 1))) (x7 (ix2 2 (y 1))) := by
  unfold out4_A_8
  rw [View.read_writes_junk_eq_canon]
  refine View.canon_apply_of_pieces (fun y => mrg (x0 y) (x1 y) (x2 y) (x3 y) (x4 y) (x5 y) (x6 y) (x7 (ix2 0 (y 1))) (x7 (ix2 1 (y 1))) (x7 (ix2 2 (y 1)))) _ ?_ y (cover4_A_8 c i arg1 harg1 arg2 harg2 arg3 harg3 arg4 harg4 arg5 harg5 arg6 harg6 arg7 harg7 arg8 harg8 arg9 harg9 x0 x1 x2 x3 x4 x5 x6 x7 y)
  unfold kernelRun4_A
  exact trips c none i arg1 harg1 arg2 harg2 arg3 harg3 arg4 harg4 arg5 harg5 arg6 harg6 arg7 harg7 arg8 harg8 arg9 harg9 x0 x1 x2 x3 x4 x5 x6 x7 _ le_rfl

end Body

end Cert.Kernel5Ideal.Merge

end
-- ==== Proof.MergeArr.lean ====
module

public import proofs.«01_k».proof.Proof.MergeAct

@[expose] public section

set_option maxRecDepth 16384

noncomputable section

namespace Cert.Kernel5Ideal.Merge

open Idealize.ShloMosaic Idealize.ShloMosaic.TcCoe Idealize.ShloMosaic.Tactic
open Cert.Kernel5Ideal Cert.Kernel5Ideal.Gen Cert.Merge

variable (V : (c : Dev nD) → (b : Ref sig .tc) → Buf (Elt Ideal) ((c : Thread nD τ).loc b))

/-- Where the blocks of call 4 (counting from 0) lie in their arrays, against the block written, at each grid point. -/
theorem ind4 : ∀ t : Fin grid4.N, (win4_0.index t 0 = win4_8.index t 0 ∧ win4_0.index t 1 = 0) ∧ (win4_1.index t 0 = win4_8.index t 0 ∧ win4_1.index t 1 = 0) ∧ (win4_2.index t 0 = win4_8.index t 0 ∧ win4_2.index t 1 = 0) ∧ (win4_3.index t 0 = win4_8.index t 0 ∧ win4_3.index t 1 = 0) ∧ (win4_4.index t 0 = win4_8.index t 0 ∧ win4_4.index t 1 = 3) ∧ (win4_5.index t 0 = win4_8.index t 0 ∧ win4_5.index t 1 = 4) ∧ (win4_6.index t 0 = win4_8.index t 0 ∧ win4_6.index t 1 = 5) ∧ (win4_7.index t 0 = 0 ∧ win4_7.index t 1 = 0) ∧ win4_8.index t 1 = 0 ∧ win4_8.index t 0 < 16 := by decide +kernel

/-- Equal arguments give equal merged elements. -/
theorem mrg_congr {a b c l g0 g1 g2 t0 t1 t2 a' b' c' l' u0 u1 u2 s0 s1 s2 : EReal} (ha : a = a') (hb : b = b') (hc : c = c') (hl : l = l')
    (h0 : g0 = u0) (h1 : g1 = u1) (h2 : g2 = u2) (k0 : t0 = s0) (k1 : t1 = s1) (k2 : t2 = s2) :
    mrg a b c l g0 g1 g2 t0 t1 t2 = mrg a' b' c' l' u0 u1 u2 s0 s1 s2 := by
  rw [ha, hb, hc, hl, h0, h1, h2, k0, k1, k2]

set_option maxHeartbeats 2000000 in
/-- The array of the merged branches after its call. -/
theorem arr4 (c : Dev nD) (A B C E : S4096x2048.Idx → EReal) (P : S4096x12288.Idx → EReal) (T : S3x2048.Idx → EReal)
    (hA : V c main_v0 = A) (hB : V c main_v1 = B) (hC : V c main_v2 = C) (hE : V c main_v3 = E) (hP : V c main_arg3 = P) (hT : V c main_v5 = T) :
    (dat4 V c).arrAt 8 cfg4.N = (fun i => mrg (A i) (B i) (C i) (E i) (P (ix2 (i 0) (cola (i 1)))) (P (ix2 (i 0) (colb (i 1)))) (P (ix2 (i 0) (colc (i 1)))) (T (ix2 0 (i 1))) (T (ix2 1 (i 1))) (T (ix2 2 (i 1))) : S4096x2048.Idx → EReal) := by
  generalize hG : (fun i => mrg (A i) (B i) (C i) (E i) (P (ix2 (i 0) (cola (i 1)))) (P (ix2 (i 0) (colb (i 1)))) (P (ix2 (i 0) (colc (i 1)))) (T (ix2 0 (i 1))) (T (ix2 1 (i 1))) (T (ix2 2 (i 1))) : S4096x2048.Idx → EReal) = G
  refine (dat4 V c).arrAt_eq_of_covers 8 _ (by decide +kernel) fun t _ y => ?_
  obtain ⟨⟨a0, b0⟩, ⟨a1, b1⟩, ⟨a2, b2⟩, ⟨a3, b3⟩, ⟨a4, b4⟩, ⟨a5, b5⟩, ⟨a6, b6⟩, ⟨a7, b7⟩, b8, l8⟩ := ind4 t
  rw [after4_8]
  have e : ∀ z : S256x2048.Idx, outsAt4 V c t z = G (((cfg4.win 8).blk t).view.emb z) := fun z => by
    obtain ⟨r, j, rfl⟩ : ∃ a b, z = ix2 a b := ⟨z 0, z 1, eq_ix2 z⟩
    have hi : win4_8.index t 0 * 256 + r.val < 4096 := by omega
    have ez : ((cfg4.win 8).blk t).view.emb (ix2 r j) = (ix2 ⟨win4_8.index t 0 * 256 + r.val, hi⟩ j : S4096x2048.Idx) := by
      funext a
      fin_cases a
      · refine Fin.ext ?_; blk_simp; rfl
      · refine Fin.ext ?_; blk_simp [b8]; rfl
    rw [ez, ← hG]
    generalize hρ : (⟨win4_8.index t 0 * 256 + r.val, hi⟩ : Fin 4096) = ρ
    show _ = mrg (A (ix2 ρ j)) (B (ix2 ρ j)) (C (ix2 ρ j)) (E (ix2 ρ j)) (P (ix2 ρ (cola j))) (P (ix2 ρ (colb j))) (P (ix2 ρ (colc j)))
      (T (ix2 0 j)) (T (ix2 1 j)) (T (ix2 2 j))
    unfold outsAt4
    refine (out_mrg c _ _ _ _ _ _ _ _ _ _ _ _ _ _ _ _ _ _ _ _ _ _ _ _ _ _ _ _).trans (mrg_congr ?_ ?_ ?_ ?_ ?_ ?_ ?_ ?_ ?_ ?_)
    · rw [← hA, ← hρ]; blk_ext [iblk4, a0, b0]
    · rw [← hB, ← hρ]; blk_ext [iblk4, a1, b1]
    · rw [← hC, ← hρ]; blk_ext [iblk4, a2, b2]
    · rw [← hE, ← hρ]; blk_ext [iblk4, a3, b3]
    · rw [← hP, ← hρ]; blk_ext [iblk4, a4, b4, cola]
    · rw [← hP, ← hρ]; blk_ext [iblk4, a5, b5, colb]
    · rw [← hP, ← hρ]; blk_ext [iblk4, a6, b6, colc]
    · rw [← hT]; blk_ext [iblk4, a7, b7]
    · rw [← hT]; blk_ext [iblk4, a7, b7]
    · rw [← hT]; blk_ext [iblk4, a7, b7]
  generalize outsAt4 V c t = o at e ⊢
  exact e y

end Cert.Kernel5Ideal.Merge

end
-- ==== Proof.MergeRun.lean ====
module

public import proofs.«01_k».proof.Proof.MergeProd
public import proofs.«01_k».proof.Proof.MergeSpec
public import proofs.«01_k».proof.Proof.MergeArr
public import Idealize.ShloMosaic.Lib.Pointwise

@[expose] public section

set_option maxRecDepth 16384

noncomputable section

namespace Cert.Kernel5Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal Cert.Kernel5Ideal.Gen Cert.Merge

local notation "𝕄" => MT nD τ sig Unit (Elt Ideal) ℕ (UR sig nD τ) ℕ

variable (m : (ℓ : Loc nD τ sig) → Buf (Elt Ideal) ℓ) (ρ : Dev nD → PrngReg)

/-- The data of the program's arguments on one device. -/
def data (c : Dev nD) : Data where
  ya := fun i j => (m ((c : Thread nD τ).loc main_arg0) : S4096x1024.Idx → EReal) (ix2 i j)
  yb := fun i j => (m ((c : Thread nD τ).loc main_arg1) : S4096x1024.Idx → EReal) (ix2 i j)
  yc := fun i j => (m ((c : Thread nD τ).loc main_arg2) : S4096x1024.Idx → EReal) (ix2 i j)
  wa := fun i j => (m ((c : Thread nD τ).loc main_arg5) : S12x1024x2048.Idx → EReal) (ix3 9 i j)
  wb := fun i j => (m ((c : Thread nD τ).loc main_arg5) : S12x1024x2048.Idx → EReal) (ix3 10 i j)
  wc := fun i j => (m ((c : Thread nD τ).loc main_arg5) : S12x1024x2048.Idx → EReal) (ix3 11 i j)
  wl := fun i j => (m ((c : Thread nD τ).loc main_arg6) : S4x1024x2048.Idx → EReal) (ix3 3 i j)
  ga := fun i j => (m ((c : Thread nD τ).loc main_arg3) : S4096x12288.Idx → EReal) (ix2 i (cola j))
  gb := fun i j => (m ((c : Thread nD τ).loc main_arg3) : S4096x12288.Idx → EReal) (ix2 i (colb j))
  gc := fun i j => (m ((c : Thread nD τ).loc main_arg3) : S4096x12288.Idx → EReal) (ix2 i (colc j))
  ta := fun j => (m ((c : Thread nD τ).loc main_arg7) : S4x3x2048.Idx → EReal) (ix3 3 0 j)
  tb := fun j => (m ((c : Thread nD τ).loc main_arg7) : S4x3x2048.Idx → EReal) (ix3 3 1 j)
  tc := fun j => (m ((c : Thread nD τ).loc main_arg7) : S4x3x2048.Idx → EReal) (ix3 3 2 j)
  x := fun i j => (m ((c : Thread nD τ).loc main_arg4) : S4096x2048.Idx → EReal) (ix2 i j)
  wo := fun i j => (m ((c : Thread nD τ).loc main_arg8) : S4x2048x2048.Idx → EReal) (ix3 3 i j)
  dx := fun i j => (m ((c : Thread nD τ).loc main_arg9) : S4096x2048.Idx → EReal) (ix2 i j)

variable (c : Dev nD)

/-- Argument 0 as launched. -/
abbrev a0 : S4096x1024.Idx → EReal := m ((c : Thread nD τ).loc main_arg0)

/-- Argument 1 as launched. -/
abbrev a1 : S4096x1024.Idx → EReal := m ((c : Thread nD τ).loc main_arg1)

/-- Argument 2 as launched. -/
abbrev a2 : S4096x1024.Idx → EReal := m ((c : Thread nD τ).loc main_arg2)

/-- Argument 3 as launched. -/
abbrev a3 : S4096x12288.Idx → EReal := m ((c : Thread nD τ).loc main_arg3)

/-- Argument 4 as launched. -/
abbrev a4 : S4096x2048.Idx → EReal := m ((c : Thread nD τ).loc main_arg4)

/-- Argument 5 as launched. -/
abbrev a5 : S12x1024x2048.Idx → EReal := m ((c : Thread nD τ).loc main_arg5)

/-- Argument 6 as launched. -/
abbrev a6 : S4x1024x2048.Idx → EReal := m ((c : Thread nD τ).loc main_arg6)

/-- Argument 7 as launched. -/
abbrev a7 : S4x3x2048.Idx → EReal := m ((c : Thread nD τ).loc main_arg7)

/-- Argument 8 as launched. -/
abbrev a8 : S4x2048x2048.Idx → EReal := m ((c : Thread nD τ).loc main_arg8)

/-- Argument 9 as launched. -/
abbrev a9 : S4096x2048.Idx → EReal := m ((c : Thread nD τ).loc main_arg9)

/-- The first branch after its call. -/
theorem w1_v0 : V1 m ρ c main_v0 = (fun i => (data m c).pa (i 0) (i 1) : S4096x2048.Idx → EReal) :=
  (W1_arr m ρ c 2).trans (arr0 (V0 m ρ) c (a0 m c) (a5 m c)  (W0_args m ρ c main_arg0 (by decide) : V0 m ρ c main_arg0 = a0 m c) (W0_args m ρ c main_arg5 (by decide) : V0 m ρ c main_arg5 = a5 m c) )

/-- The second branch after its call. -/
theorem w2_v1 : V2 m ρ c main_v1 = (fun i => (data m c).pb (i 0) (i 1) : S4096x2048.Idx → EReal) :=
  (W2_arr m ρ c 2).trans (arr1 (V1 m ρ) c (a1 m c) (a5 m c)  (W1_args m ρ c main_arg1 (by decide) : V1 m ρ c main_arg1 = a1 m c) (W1_args m ρ c main_arg5 (by decide) : V1 m ρ c main_arg5 = a5 m c) )

/-- The third branch before its gate after its call. -/
theorem w3_v2 : V3 m ρ c main_v2 = (fun i => (data m c).pc (i 0) (i 1) : S4096x2048.Idx → EReal) :=
  (W3_arr m ρ c 2).trans (arr2 (V2 m ρ) c (a2 m c) (a5 m c)  (W2_args m ρ c main_arg2 (by decide) : V2 m ρ c main_arg2 = a2 m c) (W2_args m ρ c main_arg5 (by decide) : V2 m ρ c main_arg5 = a5 m c) )

/-- The gate of the third branch after its call. -/
theorem w4_v3 : V4 m ρ c main_v3 = (fun i => (data m c).pl (i 0) (i 1) : S4096x2048.Idx → EReal) :=
  (W4_arr m ρ c 2).trans (arr3 (V3 m ρ) c (a2 m c) (a6 m c)  (W3_args m ρ c main_arg2 (by decide) : V3 m ρ c main_arg2 = a2 m c) (W3_args m ρ c main_arg6 (by decide) : V3 m ρ c main_arg6 = a6 m c) )

/-- It is still there at boundary 2. -/
theorem w2_v0 : V2 m ρ c main_v0 = (fun i => (data m c).pa (i 0) (i 1) : S4096x2048.Idx → EReal) :=
  (W2_of m ρ c main_v0 (by decide)).trans (w1_v0 m ρ c)

/-- It is still there at boundary 3. -/
theorem w3_v0 : V3 m ρ c main_v0 = (fun i => (data m c).pa (i 0) (i 1) : S4096x2048.Idx → EReal) :=
  (W3_of m ρ c main_v0 (by decide)).trans (w2_v0 m ρ c)

/-- It is still there at boundary 4. -/
theorem w4_v0 : V4 m ρ c main_v0 = (fun i => (data m c).pa (i 0) (i 1) : S4096x2048.Idx → EReal) :=
  (W4_of m ρ c main_v0 (by decide)).trans (w3_v0 m ρ c)

/-- It is still there at boundary 3. -/
theorem w3_v1 : V3 m ρ c main_v1 = (fun i => (data m c).pb (i 0) (i 1) : S4096x2048.Idx → EReal) :=
  (W3_of m ρ c main_v1 (by decide)).trans (w2_v1 m ρ c)

/-- It is still there at boundary 4. -/
theorem w4_v1 : V4 m ρ c main_v1 = (fun i => (data m c).pb (i 0) (i 1) : S4096x2048.Idx → EReal) :=
  (W4_of m ρ c main_v1 (by decide)).trans (w3_v1 m ρ c)

/-- It is still there at boundary 4. -/
theorem w4_v2 : V4 m ρ c main_v2 = (fun i => (data m c).pc (i 0) (i 1) : S4096x2048.Idx → EReal) :=
  (W4_of m ρ c main_v2 (by decide)).trans (w3_v2 m ρ c)

/-- The bias rows of the gates, sliced off their stack. -/
theorem w5_v5 : V5 m ρ c main_v5 = (fun i => a7 m c (ix3 3 (i 0) (i 1)) : S3x2048.Idx → EReal) := by
  have e : V5 m ρ c main_v5 = (shapeCast S3x2048 (extractStridedSlice S1x3x2048 ![3, 0, 0] (W4 m ρ c (Proc.devRef .tc main_arg7)) slices_S4x3x2048_S1x3x2048_3_0_0) shapeCasts_S1x3x2048_S3x2048 : FVec Ideal S3x2048 .f32) := by
    show StableHlo.after hostOps4 (W4 m ρ c) (Proc.devRef .tc main_v5) = _
    after_results_simp
    all_goals rfl
  rw [e, W4_args m ρ c main_arg7 (by decide)]
  funext i
  obtain ⟨a, b, rfl⟩ : ∃ a b, i = ix2 a b := ⟨i 0, i 1, eq_ix2 i⟩
  pointwise

/-- It is still there at boundary 5. -/
theorem w5_v0 : V5 m ρ c main_v0 = (fun i => (data m c).pa (i 0) (i 1) : S4096x2048.Idx → EReal) :=
  (W5_of m ρ c main_v0 (by decide)).trans (w4_v0 m ρ c)

/-- It is still there at boundary 5. -/
theorem w5_v1 : V5 m ρ c main_v1 = (fun i => (data m c).pb (i 0) (i 1) : S4096x2048.Idx → EReal) :=
  (W5_of m ρ c main_v1 (by decide)).trans (w4_v1 m ρ c)

/-- It is still there at boundary 5. -/
theorem w5_v2 : V5 m ρ c main_v2 = (fun i => (data m c).pc (i 0) (i 1) : S4096x2048.Idx → EReal) :=
  (W5_of m ρ c main_v2 (by decide)).trans (w4_v2 m ρ c)

/-- It is still there at boundary 5. -/
theorem w5_v3 : V5 m ρ c main_v3 = (fun i => (data m c).pl (i 0) (i 1) : S4096x2048.Idx → EReal) :=
  (W5_of m ρ c main_v3 (by decide)).trans (w4_v3 m ρ c)

/-- The merged branches after their call. -/
theorem w6_v6 : V6 m ρ c main_v6 = (fun i => (data m c).mg (i 0) (i 1) : S4096x2048.Idx → EReal) :=
  (W6_arr m ρ c 8).trans (arr4 (V5 m ρ) c (fun i => (data m c).pa (i 0) (i 1) : S4096x2048.Idx → EReal) (fun i => (data m c).pb (i 0) (i 1) : S4096x2048.Idx → EReal) (fun i => (data m c).pc (i 0) (i 1) : S4096x2048.Idx → EReal) (fun i => (data m c).pl (i 0) (i 1) : S4096x2048.Idx → EReal) (a3 m c) (fun i => a7 m c (ix3 3 (i 0) (i 1)) : S3x2048.Idx → EReal) (w5_v0 m ρ c) (w5_v1 m ρ c) (w5_v2 m ρ c) (w5_v3 m ρ c) (W5_args m ρ c main_arg3 (by decide) : V5 m ρ c main_arg3 = a3 m c) (w5_v5 m ρ c))

/-- The result after its call. -/
theorem w7_v7 : V7 m ρ c main_v7 = (fun i => (data m c).y (i 0) (i 1) : S4096x2048.Idx → EReal) :=
  (W7_arr m ρ c 3).trans (arr5 (V6 m ρ) c (fun i => (data m c).mg (i 0) (i 1) : S4096x2048.Idx → EReal) (a8 m c) (a4 m c) (w6_v6 m ρ c) (W6_args m ρ c main_arg8 (by decide) : V6 m ρ c main_arg8 = a8 m c) (W6_args m ρ c main_arg4 (by decide) : V6 m ρ c main_arg4 = a4 m c))

/-- The gradient of the result, in the narrow format. -/
theorem w8_v8 : V8 m ρ c main_v8 = (fun i => (data m c).dx (i 0) (i 1) : S4096x2048.Idx → EReal) := by
  have e : V8 m ρ c main_v8 = (truncf (F := Ideal) .bf16 (W7 m ρ c (Proc.devRef .tc main_arg9)) bitsLt_bf16_f32 : FVec Ideal S4096x2048 .bf16) := by
    show StableHlo.after hostOps6 (W7 m ρ c) (Proc.devRef .tc main_v8) = _
    after_results_simp
    all_goals rfl
  rw [e, W7_args m ρ c main_arg9 (by decide)]
  funext i
  exact congrArg (a9 m c) (eq_ix2 i)

/-- It is still there at boundary 7. -/
theorem w7_v6 : V7 m ρ c main_v6 = (fun i => (data m c).mg (i 0) (i 1) : S4096x2048.Idx → EReal) :=
  (W7_of m ρ c main_v6 (by decide)).trans (w6_v6 m ρ c)

/-- It is still there at boundary 8. -/
theorem w8_v6 : V8 m ρ c main_v6 = (fun i => (data m c).mg (i 0) (i 1) : S4096x2048.Idx → EReal) :=
  (W8_of m ρ c main_v6 (by decide)).trans (w7_v6 m ρ c)

/-- The gradient of the output weights after its call. -/
theorem w9_v9 : V9 m ρ c main_v9 = (fun i => (data m c).dwo (i 0) (i 1) : S2048x2048.Idx → EReal) :=
  (W9_arr m ρ c 2).trans (arr6 (V8 m ρ) c (fun i => (data m c).mg (i 0) (i 1) : S4096x2048.Idx → EReal) (fun i => (data m c).dx (i 0) (i 1) : S4096x2048.Idx → EReal)  (w8_v6 m ρ c) (w8_v8 m ρ c) )

/-- It is still there at boundary 9. -/
theorem w9_v8 : V9 m ρ c main_v8 = (fun i => (data m c).dx (i 0) (i 1) : S4096x2048.Idx → EReal) :=
  (W9_of m ρ c main_v8 (by decide)).trans (w8_v8 m ρ c)

/-- The gradient of the merged branches after its call. -/
theorem w10_v10 : V10 m ρ c main_v10 = (fun i => (data m c).dm (i 0) (i 1) : S4096x2048.Idx → EReal) :=
  (W10_arr m ρ c 2).trans (arr7 (V9 m ρ) c (fun i => (data m c).dx (i 0) (i 1) : S4096x2048.Idx → EReal) (a8 m c)  (w9_v8 m ρ c) (W9_args m ρ c main_arg8 (by decide) : V9 m ρ c main_arg8 = a8 m c) )

/-- It is still there at boundary 8. -/
theorem w8_v7 : V8 m ρ c main_v7 = (fun i => (data m c).y (i 0) (i 1) : S4096x2048.Idx → EReal) :=
  (W8_of m ρ c main_v7 (by decide)).trans (w7_v7 m ρ c)

/-- It is still there at boundary 9. -/
theorem w9_v7 : V9 m ρ c main_v7 = (fun i => (data m c).y (i 0) (i 1) : S4096x2048.Idx → EReal) :=
  (W9_of m ρ c main_v7 (by decide)).trans (w8_v7 m ρ c)

/-- It is still there at boundary 10. -/
theorem w10_v7 : V10 m ρ c main_v7 = (fun i => (data m c).y (i 0) (i 1) : S4096x2048.Idx → EReal) :=
  (W10_of m ρ c main_v7 (by decide)).trans (w9_v7 m ρ c)

/-- It is still there at boundary 10. -/
theorem w10_v9 : V10 m ρ c main_v9 = (fun i => (data m c).dwo (i 0) (i 1) : S2048x2048.Idx → EReal) :=
  (W10_of m ρ c main_v9 (by decide)).trans (w9_v9 m ρ c)

/-- A run of the whole program from any contents with every counter at zero ends with the contents of the last boundary. -/
theorem run_last : θ_run defs (onTc (τ := τ) (main (F := Ideal))) ⟨m, fun _ => 0, ρ⟩ (fun r => ∀ c : Dev nD, ∀ b ∈ Pipeline.ucRefs τ sig,
      r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by repeat' refine And.intro (fun _ => .rfl) ?_
               exact fun _ => .rfl)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h _ => h)

/-- A run of the whole program ends with the result and the gradients of the output weights and of the merged branches, the arguments unchanged. -/
theorem run_values : θ_run defs (onTc (τ := τ) (main (F := Ideal))) ⟨m, fun _ => 0, ρ⟩ (fun r => ∀ c : Dev nD,
      r.2.mem ((c : Thread nD τ).loc main_v7) = (fun i => (data m c).y (i 0) (i 1) : S4096x2048.Idx → EReal)
      ∧ r.2.mem ((c : Thread nD τ).loc main_v9) = (fun i => (data m c).dwo (i 0) (i 1) : S2048x2048.Idx → EReal)
      ∧ r.2.mem ((c : Thread nD τ).loc main_v10) = (fun i => (data m c).dm (i 0) (i 1) : S4096x2048.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run defs _ _).mono (fun _ h c => ⟨(h c _ (mem_uc main_v7 (by decide))).trans (w10_v7 m ρ c),
    (h c _ (mem_uc main_v9 (by decide))).trans (w10_v9 m ρ c),
    (h c _ (mem_uc main_v10 (by decide))).trans (w10_v10 m ρ c),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c)⟩) (run_last m ρ)

end Cert.Kernel5Ideal.Merge

end
-- ==== Proof.MergeRef.lean ====
module

public import proofs.«01_k».proof.Proof.MergeSpec
public import proofs.«01_k».proof.Proof.Gen.Reference5Ideal.Read
public import Idealize.ShloMosaic.Lib.Pointwise

@[expose] public section

set_option maxRecDepth 16384

noncomputable section

namespace Cert.Reference5Ideal.Merge

open Idealize.ShloMosaic Idealize.ShloMosaic.TcCoe Idealize.ShloMosaic.StableHlo
open Cert.Reference5Ideal Cert.Reference5Ideal.Gen Cert.Reference5Ideal.Read Cert.Merge

variable (x0 : (⟨S4096x1024, .bf16⟩ : BufTy).Contents (Elt Ideal))
  (x1 : (⟨S4096x1024, .bf16⟩ : BufTy).Contents (Elt Ideal))
  (x2 : (⟨S4096x1024, .bf16⟩ : BufTy).Contents (Elt Ideal))
  (x3 : (⟨S4096x12288, .f32⟩ : BufTy).Contents (Elt Ideal))
  (x4 : (⟨S4096x2048, .f32⟩ : BufTy).Contents (Elt Ideal))
  (x5 : (⟨S12x1024x2048, .bf16⟩ : BufTy).Contents (Elt Ideal))
  (x6 : (⟨S4x1024x2048, .bf16⟩ : BufTy).Contents (Elt Ideal))
  (x7 : (⟨S4x3x2048, .f32⟩ : BufTy).Contents (Elt Ideal))
  (x8 : (⟨S4x2048x2048, .bf16⟩ : BufTy).Contents (Elt Ideal))
  (x9 : (⟨S4096x2048, .f32⟩ : BufTy).Contents (Elt Ideal))

/-- The data of the program's arguments. -/
def data : Data where
  ya := fun i j => x0 (ix2 i j)
  yb := fun i j => x1 (ix2 i j)
  yc := fun i j => x2 (ix2 i j)
  wa := fun i j => x5 (ix3 9 i j)
  wb := fun i j => x5 (ix3 10 i j)
  wc := fun i j => x5 (ix3 11 i j)
  wl := fun i j => x6 (ix3 3 i j)
  ga := fun i j => x3 (ix2 i (cola j))
  gb := fun i j => x3 (ix2 i (colb j))
  gc := fun i j => x3 (ix2 i (colc j))
  ta := fun j => x7 (ix3 3 0 j)
  tb := fun j => x7 (ix3 3 1 j)
  tc := fun j => x7 (ix3 3 2 j)
  x := fun i j => x4 (ix2 i j)
  wo := fun i j => x8 (ix3 3 i j)
  dx := fun i j => x9 (ix2 i j)

/-- The weights of the first branch, sliced off the stack. -/
theorem read_v5 (i : Fin 1024) (j : Fin 2048) : val_main_v5 (F := Ideal) x5 (ix2 i j) = x5 (ix3 9 i j) := by
  unfold val_main_v5 val_main_v4 val_main_v3; pointwise

/-- The weights of the second branch, sliced off the stack. -/
theorem read_v8 (i : Fin 1024) (j : Fin 2048) : val_main_v8 (F := Ideal) x5 (ix2 i j) = x5 (ix3 10 i j) := by
  unfold val_main_v8 val_main_v7 val_main_v6; pointwise

/-- The weights of the third branch, sliced off the stack. -/
theorem read_v11 (i : Fin 1024) (j : Fin 2048) : val_main_v11 (F := Ideal) x5 (ix2 i j) = x5 (ix3 11 i j) := by
  unfold val_main_v11 val_main_v10 val_main_v9; pointwise

/-- The weights of the gate of the third branch, sliced off the stack. -/
theorem read_v14 (i : Fin 1024) (j : Fin 2048) : val_main_v14 (F := Ideal) x6 (ix2 i j) = x6 (ix3 3 i j) := by
  unfold val_main_v14 val_main_v13 val_main_v12; pointwise

/-- The first branch. -/
theorem read_v15 (i : Fin 4096) (j : Fin 2048) : val_main_v15 (F := Ideal) x0 x5 (ix2 i j) = (data x0 x1 x2 x3 x4 x5 x6 x7 x8 x9).pa i j := by
  unfold val_main_v15 val_main_v0; pointwise
  exact Finset.sum_congr rfl fun k _ => by rw [read_v5]; rfl

/-- The second branch. -/
theorem read_v16 (i : Fin 4096) (j : Fin 2048) : val_main_v16 (F := Ideal) x1 x5 (ix2 i j) = (data x0 x1 x2 x3 x4 x5 x6 x7 x8 x9).pb i j := by
  unfold val_main_v16 val_main_v1; pointwise
  exact Finset.sum_congr rfl fun k _ => by rw [read_v8]; rfl

/-- The third branch before its gate. -/
theorem read_v17 (i : Fin 4096) (j : Fin 2048) : val_main_v17 (F := Ideal) x2 x5 (ix2 i j) = (data x0 x1 x2 x3 x4 x5 x6 x7 x8 x9).pc i j := by
  unfold val_main_v17 val_main_v2; pointwise
  exact Finset.sum_congr rfl fun k _ => by rw [read_v11]; rfl

/-- The gate of the third branch. -/
theorem read_v18 (i : Fin 4096) (j : Fin 2048) : val_main_v18 (F := Ideal) x2 x6 (ix2 i j) = (data x0 x1 x2 x3 x4 x5 x6 x7 x8 x9).pl i j := by
  unfold val_main_v18 val_main_v2; pointwise
  exact Finset.sum_congr rfl fun k _ => by rw [read_v14]; rfl

/-- The columns of the three gates, one row of columns each. -/
theorem read_v27 (i : Fin 4096) (q : Fin 3) (j : Fin 2048) : val_main_v27 (F := Ideal) x3 (ix3 i q j) = x3 (ix2 i ⟨6144 + q.val * 2048 + j.val, by omega⟩) := by
  rw [val_main_v27_apply, val_main_v26_apply]
  refine congrArg x3 (funext fun a => Fin.ext ?_)
  fin_cases a
  · show (((i.val * 3 + q.val) * 2048 + j.val) / 6144 : ℕ) = i.val
    omega
  · show (6144 + ((i.val * 3 + q.val) * 2048 + j.val) % 6144 : ℕ) = 6144 + q.val * 2048 + j.val
    omega

/-- The bias rows of the gates, over every row. -/
theorem read_v31 (i : Fin 4096) (q : Fin 3) (j : Fin 2048) : val_main_v31 (F := Ideal) x7 (ix3 i q j) = x7 (ix3 3 q j) := by
  unfold val_main_v31 val_main_v30 val_main_v29 val_main_v28; pointwise

/-- A gate: the sigmoid of a column of the projection with its bias. -/
theorem read_v38 (i : Fin 4096) (q : Fin 3) (j : Fin 2048) : val_main_v38 (F := Ideal) x3 x7 (ix3 i q j)
    = Ideal.logistic (x3 (ix2 i ⟨6144 + q.val * 2048 + j.val, by omega⟩) + x7 (ix3 3 q j)) := by
  unfold val_main_v38 val_main_v37 val_main_v36 val_main_v35 val_main_v34 val_main_v33 val_main_v32 val_main_cst_1 val_main_cst_2; pointwise
  rw [read_v27, read_v31]
  rfl

/-- The gate of the first branch. -/
theorem read_v40 (i : Fin 4096) (j : Fin 2048) : val_main_v40 (F := Ideal) x3 x7 (ix2 i j) = Ideal.logistic ((data x0 x1 x2 x3 x4 x5 x6 x7 x8 x9).ga i j + (data x0 x1 x2 x3 x4 x5 x6 x7 x8 x9).ta j) := by
  unfold val_main_v40 val_main_v39; pointwise
  exact read_v38 x3 x7 i 0 j

/-- The gate of the second branch. -/
theorem read_v43 (i : Fin 4096) (j : Fin 2048) : val_main_v43 (F := Ideal) x3 x7 (ix2 i j) = Ideal.logistic ((data x0 x1 x2 x3 x4 x5 x6 x7 x8 x9).gb i j + (data x0 x1 x2 x3 x4 x5 x6 x7 x8 x9).tb j) := by
  unfold val_main_v43 val_main_v42; pointwise
  exact read_v38 x3 x7 i 1 j

/-- The gate of the third branch. -/
theorem read_v47 (i : Fin 4096) (j : Fin 2048) : val_main_v47 (F := Ideal) x3 x7 (ix2 i j) = Ideal.logistic ((data x0 x1 x2 x3 x4 x5 x6 x7 x8 x9).gc i j + (data x0 x1 x2 x3 x4 x5 x6 x7 x8 x9).tc j) := by
  unfold val_main_v47 val_main_v46; pointwise
  exact read_v38 x3 x7 i 2 j

/-- The third branch through its gate. -/
theorem read_v25 (i : Fin 4096) (j : Fin 2048) : val_main_v25 (F := Ideal) x2 x5 x6 (ix2 i j) = (data x0 x1 x2 x3 x4 x5 x6 x7 x8 x9).pc i j * Ideal.logistic ((data x0 x1 x2 x3 x4 x5 x6 x7 x8 x9).pl i j) := by
  rw [← read_v17 x0 x1 x2 x3 x4 x5 x6 x7 x8 x9, ← read_v18 x0 x1 x2 x3 x4 x5 x6 x7 x8 x9]
  unfold val_main_v25 val_main_v24 val_main_v23 val_main_v22 val_main_v21 val_main_v20 val_main_v19 val_main_cst val_main_cst_0; pointwise
  rfl

/-- The merged branches. -/
theorem read_v49 (i : Fin 4096) (j : Fin 2048) : val_main_v49 (F := Ideal) x0 x1 x2 x3 x5 x6 x7 (ix2 i j) = (data x0 x1 x2 x3 x4 x5 x6 x7 x8 x9).mg i j := by
  unfold val_main_v49 val_main_v45 val_main_v41 val_main_v44 val_main_v48; pointwise
  rw [read_v40 x0 x1 x2 x3 x4 x5 x6 x7 x8 x9, read_v43 x0 x1 x2 x3 x4 x5 x6 x7 x8 x9, read_v47 x0 x1 x2 x3 x4 x5 x6 x7 x8 x9, read_v25 x0 x1 x2 x3 x4 x5 x6 x7 x8 x9, read_v15 x0 x1 x2 x3 x4 x5 x6 x7 x8 x9, read_v16 x0 x1 x2 x3 x4 x5 x6 x7 x8 x9]
  rfl

/-- The output weights, sliced off the stack. -/
theorem read_v52 (i j : Fin 2048) : val_main_v52 (F := Ideal) x8 (ix2 i j) = x8 (ix3 3 i j) := by
  unfold val_main_v52 val_main_v51 val_main_v50; pointwise

/-- The result. -/
theorem read_v54 (i : Fin 4096) (j : Fin 2048) : val_main_v54 (F := Ideal) x0 x1 x2 x3 x4 x5 x6 x7 x8 (ix2 i j) = (data x0 x1 x2 x3 x4 x5 x6 x7 x8 x9).y i j := by
  unfold val_main_v54 val_main_v53; pointwise
  rw [add_comm]
  refine congrArg₂ (· + ·) (Finset.sum_congr rfl fun k _ => ?_) rfl
  rw [read_v49 x0 x1 x2 x3 x4 x5 x6 x7 x8 x9, read_v52]; rfl

/-- The gradient of the result, as taken in. -/
theorem read_v55 (i : Fin 4096) (j : Fin 2048) : val_main_v55 (F := Ideal) x9 (ix2 i j) = x9 (ix2 i j) := by
  unfold val_main_v55; pointwise

/-- The gradient of the output weights. -/
theorem read_v57 (i j : Fin 2048) : val_main_v57 (F := Ideal) x0 x1 x2 x3 x5 x6 x7 x9 (ix2 i j) = (data x0 x1 x2 x3 x4 x5 x6 x7 x8 x9).dwo i j := by
  unfold val_main_v57 val_main_v56; pointwise
  refine Finset.sum_congr rfl fun k _ => ?_
  rw [read_v49 x0 x1 x2 x3 x4 x5 x6 x7 x8 x9, read_v55, mul_comm]; rfl

/-- The gradient of the merged branches. -/
theorem read_v59 (i : Fin 4096) (j : Fin 2048) : val_main_v59 (F := Ideal) x8 x9 (ix2 i j) = (data x0 x1 x2 x3 x4 x5 x6 x7 x8 x9).dm i j := by
  unfold val_main_v59 val_main_v58; pointwise
  refine Finset.sum_congr rfl fun k _ => ?_
  rw [read_v55, read_v52]; rfl

end Cert.Reference5Ideal.Merge

end
-- ==== Proof.MergeAgree.lean ====
module

public import proofs.«01_k».proof.Proof.MergeRun
public import proofs.«01_k».proof.Proof.MergeRef
public import proofs.«01_k».proof.Proof.Gen.Reference5Ideal.Run

@[expose] public section

set_option maxRecDepth 16384

noncomputable section

namespace Cert.Merge

open Idealize.ShloMosaic Idealize.ShloMosaic.TcCoe Idealize.SL.Sem
open Cert.Kernel5Ideal.Merge

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ)

/-- The two programs' arguments on one device agree. -/
def Args (c : Dev Cert.Kernel5Ideal.nD) : Prop :=
  m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
  ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
  ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
  ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
  ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
  ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
  ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
  ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
  ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
  ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)

/-- The data of the reference's arguments on one device. -/
abbrev refData (c : Dev Cert.Reference5Ideal.nD) : Data :=
  Cert.Reference5Ideal.Merge.data (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9))

/-- Agreeing arguments have the same data. -/
theorem data_eq (c : Dev Cert.Kernel5Ideal.nD) (h : Args m m' c) : refData m' c = data m c := by
  unfold refData
  obtain ⟨h0, h1, h2, h3, h4, h5, h6, h7, h8, h9⟩ := h
  rw [h0, h1, h2, h3, h4, h5, h6, h7, h8, h9]
  rfl

/-- The reference's run leaves every array as the result and the gradients of the output weights and of the merged branches, its arguments unchanged. -/
theorem run_reference (ha : ∀ c, Args m m' c) (ρ : Dev Cert.Reference5Ideal.nD → PrngReg) :
    θ_run (Cert.Reference5Ideal.defs (F := Ideal)) (onTc (τ := Cert.Reference5Ideal.τ) (Cert.Reference5Ideal.main (F := Ideal))) ⟨m', fun _ => 0, ρ⟩ fun r => ∀ c : Dev Cert.Reference5Ideal.nD,
      (r.2.mem ((c.tc : Thread Cert.Reference5Ideal.nD Cert.Reference5Ideal.τ).loc Cert.Reference5Ideal.main_v54) = (fun i => (data m c).y (i 0) (i 1) : Cert.Reference5Ideal.S4096x2048.Idx → EReal))
      ∧ (r.2.mem ((c.tc : Thread Cert.Reference5Ideal.nD Cert.Reference5Ideal.τ).loc Cert.Reference5Ideal.main_v57) = (fun i => (data m c).dwo (i 0) (i 1) : Cert.Reference5Ideal.S2048x2048.Idx → EReal))
      ∧ (r.2.mem ((c.tc : Thread Cert.Reference5Ideal.nD Cert.Reference5Ideal.τ).loc Cert.Reference5Ideal.main_v59) = (fun i => (data m c).dm (i 0) (i 1) : Cert.Reference5Ideal.S4096x2048.Idx → EReal))
      ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9) := by
  refine (θ_run Cert.Reference5Ideal.defs _ _).mono (fun _ h c => ?_) (Cert.Reference5Ideal.Value.run (F := Ideal) m' ρ)
  obtain ⟨h0, h1, h2, h3⟩ := h c
  have hh := data_eq m m' c (ha c)
  refine ⟨h0.trans (funext fun i => ?_), h1.trans (funext fun i => ?_), h2.trans (funext fun i => ?_), h3⟩
  · obtain ⟨a, b, rfl⟩ : ∃ a b, i = ix2 a b := ⟨i 0, i 1, eq_ix2 i⟩
    rw [← hh]
    refine (congrFun (Cert.Reference5Ideal.Read.val_main_v54_eq m' c) _).trans ?_
    exact Cert.Reference5Ideal.Merge.read_v54 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) a b
  · obtain ⟨a, b, rfl⟩ : ∃ a b, i = ix2 a b := ⟨i 0, i 1, eq_ix2 i⟩
    rw [← hh]
    refine (congrFun (Cert.Reference5Ideal.Read.val_main_v57_eq m' c) _).trans ?_
    exact Cert.Reference5Ideal.Merge.read_v57 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) a b
  · obtain ⟨a, b, rfl⟩ : ∃ a b, i = ix2 a b := ⟨i 0, i 1, eq_ix2 i⟩
    rw [← hh]
    exact Cert.Reference5Ideal.Merge.read_v59 (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) a b

end Cert.Merge

end
-- ==== Proof.BranchProd.lean ====
module

public import proofs.«01_k».proof.Proof.Gen.Kernel6Ideal.Frame
public import Idealize.ShloMosaic.Lib.Pipeline.ValueKit
public import Idealize.ShloMosaic.Lib.Pointwise

@[expose] public section

set_option maxRecDepth 16384

noncomputable section

namespace Cert.Kernel6Ideal.Branch

open Idealize.ShloMosaic Idealize.ShloMosaic.TcCoe Idealize.ShloMosaic.Tactic
open Cert.Kernel6Ideal Cert.Kernel6Ideal.Gen

/-- The start of a rectangle of two axes that begins at the origin. -/
theorem zz : (![0, 0] : Fin 2 → ℕ) = fun _ => 0 := funext fun a => by fin_cases a <;> rfl
/-- The start of a rectangle of three axes that begins at the origin. -/
theorem zzz : (![0, 0, 0] : Fin 3 → ℕ) = fun _ => 0 := funext fun a => by fin_cases a <;> rfl

variable (V : (c : Dev nD) → (b : Ref sig .tc) → Buf (Elt Ideal) ((c : Thread nD τ).loc b))

/-- One element of the block of the gradient of the weights of the first branch. -/
theorem pay0 (a : Vec Ideal S4096x1024 .bf16) (b : Vec Ideal S4096x1024 .bf16) (r : Fin 1024) (j : Fin 1024) :
    k0_pay1 a b (ix2 r j) = (∑ k : Fin 4096, a (ix2 k r) * b (ix2 k j)) := by
  pointwise [k0_pay1]

/-- Where the blocks of call 0 (counting from 0) lie in their arrays, against the block written, at each grid point. -/
theorem ind0 : ∀ t : Fin grid0.N, (win0_0.index t 0 = 0 ∧ win0_0.index t 1 = win0_2.index t 0) ∧ (win0_1.index t 0 = 0 ∧ win0_1.index t 1 = win0_2.index t 1 ∧ True) ∧ True := by decide +kernel

/-- The array of the gradient of the weights of the first branch after its call. -/
theorem arr0 (c : Dev nD) (A : S4096x1024.Idx → EReal) (B : S4096x2048.Idx → EReal) (hA : V c main_arg0 = A) (hB : V c main_arg5 = B) :
    (dat0 V c).arrAt 2 cfg0.N = (fun i => (∑ k : Fin 4096, A (ix2 k (i 0)) * B (ix2 k (i 1))) : S1024x2048.Idx → EReal) := by
  generalize hG : (fun i => (∑ k : Fin 4096, A (ix2 k (i 0)) * B (ix2 k (i 1))) : S1024x2048.Idx → EReal) = G
  refine (dat0 V c).arrAt_eq_of_covers 2 _ (by decide +kernel) fun t _ y => ?_
  have h := ind0 t
  rw [after0_2]
  have e : ∀ z : S1024x1024.Idx, out0_2 (iblk0 V c 0 t) (iblk0 V c 1 t) z = G (((cfg0.win 2).blk t).view.emb z) := fun z => by
    obtain ⟨r, j, rfl⟩ : ∃ a b, z = ix2 a b := ⟨z 0, z 1, eq_ix2 z⟩
    rw [← hG]
    unfold out0_2
    rw [View.canon_unit_zero zz, View.ld_unit_zero zz, View.ld_unit_zero zz, pay0]
    refine Finset.sum_congr rfl fun k _ => congrArg₂ (· * ·) ?_ ?_
    · rw [← hA]; blk_ext [iblk0, h.1.1, h.1.2, h.2.1.1, h.2.1.2.1]
    · rw [← hB]; blk_ext [iblk0, h.1.1, h.1.2, h.2.1.1, h.2.1.2.1]
  generalize out0_2 (iblk0 V c 0 t) (iblk0 V c 1 t) = o at e ⊢
  exact e y

/-- One element of the block of the gradient of the weights of the second branch. -/
theorem pay1 (a : Vec Ideal S4096x1024 .bf16) (b : Vec Ideal S4096x1024 .bf16) (r : Fin 1024) (j : Fin 1024) :
    k1_pay1 a b (ix2 r j) = (∑ k : Fin 4096, a (ix2 k r) * b (ix2 k j)) := by
  pointwise [k1_pay1]

/-- Where the blocks of call 1 (counting from 0) lie in their arrays, against the block written, at each grid point. -/
theorem ind1 : ∀ t : Fin grid1.N, (win1_0.index t 0 = 0 ∧ win1_0.index t 1 = win1_2.index t 0) ∧ (win1_1.index t 0 = 0 ∧ win1_1.index t 1 = win1_2.index t 1 ∧ True) ∧ True := by decide +kernel

/-- The array of the gradient of the weights of the second branch after its call. -/
theorem arr1 (c : Dev nD) (A : S4096x1024.Idx → EReal) (B : S4096x2048.Idx → EReal) (hA : V c main_arg1 = A) (hB : V c main_arg6 = B) :
    (dat1 V c).arrAt 2 cfg1.N = (fun i => (∑ k : Fin 4096, A (ix2 k (i 0)) * B (ix2 k (i 1))) : S1024x2048.Idx → EReal) := by
  generalize hG : (fun i => (∑ k : Fin 4096, A (ix2 k (i 0)) * B (ix2 k (i 1))) : S1024x2048.Idx → EReal) = G
  refine (dat1 V c).arrAt_eq_of_covers 2 _ (by decide +kernel) fun t _ y => ?_
  have h := ind1 t
  rw [after1_2]
  have e : ∀ z : S1024x1024.Idx, out1_2 (iblk1 V c 0 t) (iblk1 V c 1 t) z = G (((cfg1.win 2).blk t).view.emb z) := fun z => by
    obtain ⟨r, j, rfl⟩ : ∃ a b, z = ix2 a b := ⟨z 0, z 1, eq_ix2 z⟩
    rw [← hG]
    unfold out1_2
    rw [View.canon_unit_zero zz, View.ld_unit_zero zz, View.ld_unit_zero zz, pay1]
    refine Finset.sum_congr rfl fun k _ => congrArg₂ (· * ·) ?_ ?_
    · rw [← hA]; blk_ext [iblk1, h.1.1, h.1.2, h.2.1.1, h.2.1.2.1]
    · rw [← hB]; blk_ext [iblk1, h.1.1, h.1.2, h.2.1.1, h.2.1.2.1]
  generalize out1_2 (iblk1 V c 0 t) (iblk1 V c 1 t) = o at e ⊢
  exact e y

/-- One element of the block of the gradient of the weights of the third branch. -/
theorem pay2 (a : Vec Ideal S4096x1024 .bf16) (b : Vec Ideal S4096x1024 .bf16) (r : Fin 1024) (j : Fin 1024) :
    k2_pay1 a b (ix2 r j) = (∑ k : Fin 4096, a (ix2 k r) * b (ix2 k j)) := by
  pointwise [k2_pay1]

/-- Where the blocks of call 2 (counting from 0) lie in their arrays, against the block written, at each grid point. -/
theorem ind2 : ∀ t : Fin grid2.N, (win2_0.index t 0 = 0 ∧ win2_0.index t 1 = win2_2.index t 0) ∧ (win2_1.index t 0 = 0 ∧ win2_1.index t 1 = win2_2.index t 1 ∧ True) ∧ True := by decide +kernel

/-- The array of the gradient of the weights of the third branch after its call. -/
theorem arr2 (c : Dev nD) (A : S4096x1024.Idx → EReal) (B : S4096x2048.Idx → EReal) (hA : V c main_arg2 = A) (hB : V c main_arg7 = B) :
    (dat2 V c).arrAt 2 cfg2.N = (fun i => (∑ k : Fin 4096, A (ix2 k (i 0)) * B (ix2 k (i 1))) : S1024x2048.Idx → EReal) := by
  generalize hG : (fun i => (∑ k : Fin 4096, A (ix2 k (i 0)) * B (ix2 k (i 1))) : S1024x2048.Idx → EReal) = G
  refine (dat2 V c).arrAt_eq_of_covers 2 _ (by decide +kernel) fun t _ y => ?_
  have h := ind2 t
  rw [after2_2]
  have e : ∀ z : S1024x1024.Idx, out2_2 (iblk2 V c 0 t) (iblk2 V c 1 t) z = G (((cfg2.win 2).blk t).view.emb z) := fun z => by
    obtain ⟨r, j, rfl⟩ : ∃ a b, z = ix2 a b := ⟨z 0, z 1, eq_ix2 z⟩
    rw [← hG]
    unfold out2_2
    rw [View.canon_unit_zero zz, View.ld_unit_zero zz, View.ld_unit_zero zz, pay2]
    refine Finset.sum_congr rfl fun k _ => congrArg₂ (· * ·) ?_ ?_
    · rw [← hA]; blk_ext [iblk2, h.1.1, h.1.2, h.2.1.1, h.2.1.2.1]
    · rw [← hB]; blk_ext [iblk2, h.1.1, h.1.2, h.2.1.1, h.2.1.2.1]
  generalize out2_2 (iblk2 V c 0 t) (iblk2 V c 1 t) = o at e ⊢
  exact e y

/-- One element of the block of the gradient of the weights of the gate of the third branch. -/
theorem pay3 (a : Vec Ideal S4096x1024 .bf16) (b : Vec Ideal S4096x1024 .bf16) (r : Fin 1024) (j : Fin 1024) :
    k3_pay1 a b (ix2 r j) = (∑ k : Fin 4096, a (ix2 k r) * b (ix2 k j)) := by
  pointwise [k3_pay1]

/-- Where the blocks of call 3 (counting from 0) lie in their arrays, against the block written, at each grid point. -/
theorem ind3 : ∀ t : Fin grid3.N, (win3_0.index t 0 = 0 ∧ win3_0.index t 1 = win3_2.index t 0) ∧ (win3_1.index t 0 = 0 ∧ win3_1.index t 1 = win3_2.index t 1 ∧ True) ∧ True := by decide +kernel

/-- The array of the gradient of the weights of the gate of the third branch after its call. -/
theorem arr3 (c : Dev nD) (A : S4096x1024.Idx → EReal) (B : S4096x2048.Idx → EReal) (hA : V c main_arg2 = A) (hB : V c main_arg8 = B) :
    (dat3 V c).arrAt 2 cfg3.N = (fun i => (∑ k : Fin 4096, A (ix2 k (i 0)) * B (ix2 k (i 1))) : S1024x2048.Idx → EReal) := by
  generalize hG : (fun i => (∑ k : Fin 4096, A (ix2 k (i 0)) * B (ix2 k (i 1))) : S1024x2048.Idx → EReal) = G
  refine (dat3 V c).arrAt_eq_of_covers 2 _ (by decide +kernel) fun t _ y => ?_
  have h := ind3 t
  rw [after3_2]
  have e : ∀ z : S1024x1024.Idx, out3_2 (iblk3 V c 0 t) (iblk3 V c 1 t) z = G (((cfg3.win 2).blk t).view.emb z) := fun z => by
    obtain ⟨r, j, rfl⟩ : ∃ a b, z = ix2 a b := ⟨z 0, z 1, eq_ix2 z⟩
    rw [← hG]
    unfold out3_2
    rw [View.canon_unit_zero zz, View.ld_unit_zero zz, View.ld_unit_zero zz, pay3]
    refine Finset.sum_congr rfl fun k _ => congrArg₂ (· * ·) ?_ ?_
    · rw [← hA]; blk_ext [iblk3, h.1.1, h.1.2, h.2.1.1, h.2.1.2.1]
    · rw [← hB]; blk_ext [iblk3, h.1.1, h.1.2, h.2.1.1, h.2.1.2.1]
  generalize out3_2 (iblk3 V c 0 t) (iblk3 V c 1 t) = o at e ⊢
  exact e y

/-- One element of the block of the gradient of the input of the first branch. -/
theorem pay4 (a : Vec Ideal S1024x2048 .bf16) (b : Vec Ideal S1x1024x2048 .bf16) (r : Fin 1024) (j : Fin 1024) :
    k4_pay1 a b (ix2 r j) = (∑ k : Fin 2048, a (ix2 r k) * b (ix3 0 j k)) := by
  pointwise [k4_pay1]

/-- Where the blocks of call 4 (counting from 0) lie in their arrays, against the block written, at each grid point. -/
theorem ind4 : ∀ t : Fin grid4.N, (win4_0.index t 1 = 0 ∧ win4_0.index t 0 = win4_2.index t 0) ∧ (win4_1.index t 0 = 9 ∧ win4_1.index t 2 = 0 ∧ win4_1.index t 1 = win4_2.index t 1) ∧ True := by decide +kernel

/-- The array of the gradient of the input of the first branch after its call. -/
theorem arr4 (c : Dev nD) (A : S4096x2048.Idx → EReal) (B : S12x1024x2048.Idx → EReal) (hA : V c main_arg5 = A) (hB : V c main_arg3 = B) :
    (dat4 V c).arrAt 2 cfg4.N = (fun i => (∑ k : Fin 2048, A (ix2 (i 0) k) * B (ix3 9 (i 1) k)) : S4096x1024.Idx → EReal) := by
  generalize hG : (fun i => (∑ k : Fin 2048, A (ix2 (i 0) k) * B (ix3 9 (i 1) k)) : S4096x1024.Idx → EReal) = G
  refine (dat4 V c).arrAt_eq_of_covers 2 _ (by decide +kernel) fun t _ y => ?_
  have h := ind4 t
  rw [after4_2]
  have e : ∀ z : S1024x1024.Idx, out4_2 (iblk4 V c 0 t) (iblk4 V c 1 t) z = G (((cfg4.win 2).blk t).view.emb z) := fun z => by
    obtain ⟨r, j, rfl⟩ : ∃ a b, z = ix2 a b := ⟨z 0, z 1, eq_ix2 z⟩
    rw [← hG]
    unfold out4_2
    rw [View.canon_unit_zero zz, View.ld_unit_zero zz, View.ld_unit_zero zzz, pay4]
    refine Finset.sum_congr rfl fun k _ => congrArg₂ (· * ·) ?_ ?_
    · rw [← hA]; blk_ext [iblk4, h.1.1, h.1.2, h.2.1.1, h.2.1.2.1, h.2.1.2.2]
    · rw [← hB]; blk_ext [iblk4, h.1.1, h.1.2, h.2.1.1, h.2.1.2.1, h.2.1.2.2]
  generalize out4_2 (iblk4 V c 0 t) (iblk4 V c 1 t) = o at e ⊢
  exact e y

/-- One element of the block of the gradient of the input of the second branch. -/
theorem pay5 (a : Vec Ideal S1024x2048 .bf16) (b : Vec Ideal S1x1024x2048 .bf16) (r : Fin 1024) (j : Fin 1024) :
    k5_pay1 a b (ix2 r j) = (∑ k : Fin 2048, a (ix2 r k) * b (ix3 0 j k)) := by
  pointwise [k5_pay1]

/-- Where the blocks of call 5 (counting from 0) lie in their arrays, against the block written, at each grid point. -/
theorem ind5 : ∀ t : Fin grid5.N, (win5_0.index t 1 = 0 ∧ win5_0.index t 0 = win5_2.index t 0) ∧ (win5_1.index t 0 = 10 ∧ win5_1.index t 2 = 0 ∧ win5_1.index t 1 = win5_2.index t 1) ∧ True := by decide +kernel

/-- The array of the gradient of the input of the second branch after its call. -/
theorem arr5 (c : Dev nD) (A : S4096x2048.Idx → EReal) (B : S12x1024x2048.Idx → EReal) (hA : V c main_arg6 = A) (hB : V c main_arg3 = B) :
    (dat5 V c).arrAt 2 cfg5.N = (fun i => (∑ k : Fin 2048, A (ix2 (i 0) k) * B (ix3 10 (i 1) k)) : S4096x1024.Idx → EReal) := by
  generalize hG : (fun i => (∑ k : Fin 2048, A (ix2 (i 0) k) * B (ix3 10 (i 1) k)) : S4096x1024.Idx → EReal) = G
  refine (dat5 V c).arrAt_eq_of_covers 2 _ (by decide +kernel) fun t _ y => ?_
  have h := ind5 t
  rw [after5_2]
  have e : ∀ z : S1024x1024.Idx, out5_2 (iblk5 V c 0 t) (iblk5 V c 1 t) z = G (((cfg5.win 2).blk t).view.emb z) := fun z => by
    obtain ⟨r, j, rfl⟩ : ∃ a b, z = ix2 a b := ⟨z 0, z 1, eq_ix2 z⟩
    rw [← hG]
    unfold out5_2
    rw [View.canon_unit_zero zz, View.ld_unit_zero zz, View.ld_unit_zero zzz, pay5]
    refine Finset.sum_congr rfl fun k _ => congrArg₂ (· * ·) ?_ ?_
    · rw [← hA]; blk_ext [iblk5, h.1.1, h.1.2, h.2.1.1, h.2.1.2.1, h.2.1.2.2]
    · rw [← hB]; blk_ext [iblk5, h.1.1, h.1.2, h.2.1.1, h.2.1.2.1, h.2.1.2.2]
  generalize out5_2 (iblk5 V c 0 t) (iblk5 V c 1 t) = o at e ⊢
  exact e y

/-- One element of the block of the gradient of the input of the third branch, through its product alone. -/
theorem pay6 (a : Vec Ideal S1024x2048 .bf16) (b : Vec Ideal S1x1024x2048 .bf16) (r : Fin 1024) (j : Fin 1024) :
    k6_pay1 a b (ix2 r j) = (∑ k : Fin 2048, a (ix2 r k) * b (ix3 0 j k)) := by
  pointwise [k6_pay1]

/-- Where the blocks of call 6 (counting from 0) lie in their arrays, against the block written, at each grid point. -/
theorem ind6 : ∀ t : Fin grid6.N, (win6_0.index t 1 = 0 ∧ win6_0.index t 0 = win6_2.index t 0) ∧ (win6_1.index t 0 = 11 ∧ win6_1.index t 2 = 0 ∧ win6_1.index t 1 = win6_2.index t 1) ∧ True := by decide +kernel

/-- The array of the gradient of the input of the third branch, through its product alone after its call. -/
theorem arr6 (c : Dev nD) (A : S4096x2048.Idx → EReal) (B : S12x1024x2048.Idx → EReal) (hA : V c main_arg7 = A) (hB : V c main_arg3 = B) :
    (dat6 V c).arrAt 2 cfg6.N = (fun i => (∑ k : Fin 2048, A (ix2 (i 0) k) * B (ix3 11 (i 1) k)) : S4096x1024.Idx → EReal) := by
  generalize hG : (fun i => (∑ k : Fin 2048, A (ix2 (i 0) k) * B (ix3 11 (i 1) k)) : S4096x1024.Idx → EReal) = G
  refine (dat6 V c).arrAt_eq_of_covers 2 _ (by decide +kernel) fun t _ y => ?_
  have h := ind6 t
  rw [after6_2]
  have e : ∀ z : S1024x1024.Idx, out6_2 (iblk6 V c 0 t) (iblk6 V c 1 t) z = G (((cfg6.win 2).blk t).view.emb z) := fun z => by
    obtain ⟨r, j, rfl⟩ : ∃ a b, z = ix2 a b := ⟨z 0, z 1, eq_ix2 z⟩
    rw [← hG]
    unfold out6_2
    rw [View.canon_unit_zero zz, View.ld_unit_zero zz, View.ld_unit_zero zzz, pay6]
    refine Finset.sum_congr rfl fun k _ => congrArg₂ (· * ·) ?_ ?_
    · rw [← hA]; blk_ext [iblk6, h.1.1, h.1.2, h.2.1.1, h.2.1.2.1, h.2.1.2.2]
    · rw [← hB]; blk_ext [iblk6, h.1.1, h.1.2, h.2.1.1, h.2.1.2.1, h.2.1.2.2]
  generalize out6_2 (iblk6 V c 0 t) (iblk6 V c 1 t) = o at e ⊢
  exact e y

/-- One element of the block of the gradient of the input of the third branch. -/
theorem pay7 (a : Vec Ideal S1024x2048 .bf16) (b : Vec Ideal S1x1024x2048 .bf16) (d : Vec Ideal S1024x1024 .f32) (r : Fin 1024) (j : Fin 1024) :
    k7_pay1 a b d (ix2 r j) = (∑ k : Fin 2048, a (ix2 r k) * b (ix3 0 j k)) + d (ix2 r j) := by
  pointwise [k7_pay1]

/-- Where the blocks of call 7 (counting from 0) lie in their arrays, against the block written, at each grid point. -/
theorem ind7 : ∀ t : Fin grid7.N, (win7_0.index t 1 = 0 ∧ win7_0.index t 0 = win7_3.index t 0) ∧ (win7_1.index t 0 = 3 ∧ win7_1.index t 2 = 0 ∧ win7_1.index t 1 = win7_3.index t 1) ∧ win7_2.index t 0 = win7_3.index t 0 ∧ win7_2.index t 1 = win7_3.index t 1 := by decide +kernel

/-- The array of the gradient of the input of the third branch after its call. -/
theorem arr7 (c : Dev nD) (A : S4096x2048.Idx → EReal) (B : S4x1024x2048.Idx → EReal) (R : S4096x1024.Idx → EReal) (hA : V c main_arg8 = A) (hB : V c main_arg4 = B) (hR : V c main_v6 = R) :
    (dat7 V c).arrAt 3 cfg7.N = (fun i => (∑ k : Fin 2048, A (ix2 (i 0) k) * B (ix3 3 (i 1) k)) + R (ix2 (i 0) (i 1)) : S4096x1024.Idx → EReal) := by
  generalize hG : (fun i => (∑ k : Fin 2048, A (ix2 (i 0) k) * B (ix3 3 (i 1) k)) + R (ix2 (i 0) (i 1)) : S4096x1024.Idx → EReal) = G
  refine (dat7 V c).arrAt_eq_of_covers 3 _ (by decide +kernel) fun t _ y => ?_
  have h := ind7 t
  rw [after7_3]
  have e : ∀ z : S1024x1024.Idx, out7_3 (iblk7 V c 0 t) (iblk7 V c 1 t) (iblk7 V c 2 t) z = G (((cfg7.win 3).blk t).view.emb z) := fun z => by
    obtain ⟨r, j, rfl⟩ : ∃ a b, z = ix2 a b := ⟨z 0, z 1, eq_ix2 z⟩
    rw [← hG]
    unfold out7_3
    rw [View.canon_unit_zero zz, View.ld_unit_zero zz, View.ld_unit_zero zzz, View.ld_unit_zero zz, pay7]
    refine congrArg₂ (· + ·) (Finset.sum_congr rfl fun k _ => congrArg₂ (· * ·) ?_ ?_) ?_
    · rw [← hA]; blk_ext [iblk7, h.1.1, h.1.2, h.2.1.1, h.2.1.2.1, h.2.1.2.2, h.2.2.1, h.2.2.2]
    · rw [← hB]; blk_ext [iblk7, h.1.1, h.1.2, h.2.1.1, h.2.1.2.1, h.2.1.2.2, h.2.2.1, h.2.2.2]
    · rw [← hR]; blk_ext [iblk7, h.1.1, h.1.2, h.2.1.1, h.2.1.2.1, h.2.1.2.2, h.2.2.1, h.2.2.2]
  generalize out7_3 (iblk7 V c 0 t) (iblk7 V c 1 t) (iblk7 V c 2 t) = o at e ⊢
  exact e y

end Cert.Kernel6Ideal.Branch

end
-- ==== Proof.BranchSpec.lean ====
module

public import Idealize.ShloMosaic.PureOps.Ideal

@[expose] public section

noncomputable section

namespace Cert.Branch

open Idealize.ShloMosaic

/-- The data of the branch products of one layer on one device: the three inputs `ya`, `yb`, `yc`, the weights `wa`, `wb`, `wc` of
    the branches and `wl` of the gate of the third, and the gradients `da`, `db`, `dc`, `dl` of the four products. -/
structure Data where
  ya : Fin 4096 → Fin 1024 → EReal
  yb : Fin 4096 → Fin 1024 → EReal
  yc : Fin 4096 → Fin 1024 → EReal
  wa : Fin 1024 → Fin 2048 → EReal
  wb : Fin 1024 → Fin 2048 → EReal
  wc : Fin 1024 → Fin 2048 → EReal
  wl : Fin 1024 → Fin 2048 → EReal
  da : Fin 4096 → Fin 2048 → EReal
  db : Fin 4096 → Fin 2048 → EReal
  dc : Fin 4096 → Fin 2048 → EReal
  dl : Fin 4096 → Fin 2048 → EReal

namespace Data

variable (L : Data)

/-- The gradient of the weights of the first branch. -/
def dwa (i : Fin 1024) (j : Fin 2048) : EReal := ∑ k, L.ya k i * L.da k j
/-- The gradient of the weights of the second branch. -/
def dwb (i : Fin 1024) (j : Fin 2048) : EReal := ∑ k, L.yb k i * L.db k j
/-- The gradient of the weights of the third branch. -/
def dwc (i : Fin 1024) (j : Fin 2048) : EReal := ∑ k, L.yc k i * L.dc k j
/-- The gradient of the weights of the gate of the third branch. -/
def dwl (i : Fin 1024) (j : Fin 2048) : EReal := ∑ k, L.yc k i * L.dl k j
/-- The gradient of the input of the first branch. -/
def dya (i : Fin 4096) (j : Fin 1024) : EReal := ∑ k, L.da i k * L.wa j k
/-- The gradient of the input of the second branch. -/
def dyb (i : Fin 4096) (j : Fin 1024) : EReal := ∑ k, L.db i k * L.wb j k
/-- The gradient of the input of the third branch, through its product alone. -/
def dyp (i : Fin 4096) (j : Fin 1024) : EReal := ∑ k, L.dc i k * L.wc j k
/-- The gradient of the input of the third branch. -/
def dyc (i : Fin 4096) (j : Fin 1024) : EReal := (∑ k, L.dl i k * L.wl j k) + L.dyp i j

end Data

end Cert.Branch

end
-- ==== Proof.BranchRun.lean ====
module

public import proofs.«01_k».proof.Proof.BranchProd
public import proofs.«01_k».proof.Proof.BranchSpec
public import Idealize.ShloMosaic.Lib.Pointwise

@[expose] public section

set_option maxRecDepth 16384

noncomputable section

namespace Cert.Kernel6Ideal.Branch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel6Ideal Cert.Kernel6Ideal.Gen Cert.Branch

local notation "𝕄" => MT nD τ sig Unit (Elt Ideal) ℕ (UR sig nD τ) ℕ

variable (m : (ℓ : Loc nD τ sig) → Buf (Elt Ideal) ℓ) (ρ : Dev nD → PrngReg)

/-- The data of the program's arguments on one device. -/
def data (c : Dev nD) : Data where
  ya := fun i j => (m ((c : Thread nD τ).loc main_arg0) : S4096x1024.Idx → EReal) (ix2 i j)
  yb := fun i j => (m ((c : Thread nD τ).loc main_arg1) : S4096x1024.Idx → EReal) (ix2 i j)
  yc := fun i j => (m ((c : Thread nD τ).loc main_arg2) : S4096x1024.Idx → EReal) (ix2 i j)
  wa := fun i j => (m ((c : Thread nD τ).loc main_arg3) : S12x1024x2048.Idx → EReal) (ix3 9 i j)
  wb := fun i j => (m ((c : Thread nD τ).loc main_arg3) : S12x1024x2048.Idx → EReal) (ix3 10 i j)
  wc := fun i j => (m ((c : Thread nD τ).loc main_arg3) : S12x1024x2048.Idx → EReal) (ix3 11 i j)
  wl := fun i j => (m ((c : Thread nD τ).loc main_arg4) : S4x1024x2048.Idx → EReal) (ix3 3 i j)
  da := fun i j => (m ((c : Thread nD τ).loc main_arg5) : S4096x2048.Idx → EReal) (ix2 i j)
  db := fun i j => (m ((c : Thread nD τ).loc main_arg6) : S4096x2048.Idx → EReal) (ix2 i j)
  dc := fun i j => (m ((c : Thread nD τ).loc main_arg7) : S4096x2048.Idx → EReal) (ix2 i j)
  dl := fun i j => (m ((c : Thread nD τ).loc main_arg8) : S4096x2048.Idx → EReal) (ix2 i j)

variable (c : Dev nD)

/-- Argument 0 as launched. -/
abbrev a0 : S4096x1024.Idx → EReal := m ((c : Thread nD τ).loc main_arg0)

/-- Argument 1 as launched. -/
abbrev a1 : S4096x1024.Idx → EReal := m ((c : Thread nD τ).loc main_arg1)

/-- Argument 2 as launched. -/
abbrev a2 : S4096x1024.Idx → EReal := m ((c : Thread nD τ).loc main_arg2)

/-- Argument 3 as launched. -/
abbrev a3 : S12x1024x2048.Idx → EReal := m ((c : Thread nD τ).loc main_arg3)

/-- Argument 4 as launched. -/
abbrev a4 : S4x1024x2048.Idx → EReal := m ((c : Thread nD τ).loc main_arg4)

/-- Argument 5 as launched. -/
abbrev a5 : S4096x2048.Idx → EReal := m ((c : Thread nD τ).loc main_arg5)

/-- Argument 6 as launched. -/
abbrev a6 : S4096x2048.Idx → EReal := m ((c : Thread nD τ).loc main_arg6)

/-- Argument 7 as launched. -/
abbrev a7 : S4096x2048.Idx → EReal := m ((c : Thread nD τ).loc main_arg7)

/-- Argument 8 as launched. -/
abbrev a8 : S4096x2048.Idx → EReal := m ((c : Thread nD τ).loc main_arg8)

/-- The gradient of the weights of the first branch after its call. -/
theorem w1_v0 : V1 m ρ c main_v0 = (fun i => (data m c).dwa (i 0) (i 1) : S1024x2048.Idx → EReal) :=
  (W1_arr m ρ c 2).trans (arr0 (V0 m ρ) c (a0 m c) (a5 m c)  (W0_args m ρ c main_arg0 (by decide) : V0 m ρ c main_arg0 = a0 m c) (W0_args m ρ c main_arg5 (by decide) : V0 m ρ c main_arg5 = a5 m c) )

/-- The gradient of the weights of the second branch after its call. -/
theorem w2_v1 : V2 m ρ c main_v1 = (fun i => (data m c).dwb (i 0) (i 1) : S1024x2048.Idx → EReal) :=
  (W2_arr m ρ c 2).trans (arr1 (V1 m ρ) c (a1 m c) (a6 m c)  (W1_args m ρ c main_arg1 (by decide) : V1 m ρ c main_arg1 = a1 m c) (W1_args m ρ c main_arg6 (by decide) : V1 m ρ c main_arg6 = a6 m c) )

/-- The gradient of the weights of the third branch after its call. -/
theorem w3_v2 : V3 m ρ c main_v2 = (fun i => (data m c).dwc (i 0) (i 1) : S1024x2048.Idx → EReal) :=
  (W3_arr m ρ c 2).trans (arr2 (V2 m ρ) c (a2 m c) (a7 m c)  (W2_args m ρ c main_arg2 (by decide) : V2 m ρ c main_arg2 = a2 m c) (W2_args m ρ c main_arg7 (by decide) : V2 m ρ c main_arg7 = a7 m c) )

/-- The gradient of the weights of the gate of the third branch after its call. -/
theorem w4_v3 : V4 m ρ c main_v3 = (fun i => (data m c).dwl (i 0) (i 1) : S1024x2048.Idx → EReal) :=
  (W4_arr m ρ c 2).trans (arr3 (V3 m ρ) c (a2 m c) (a8 m c)  (W3_args m ρ c main_arg2 (by decide) : V3 m ρ c main_arg2 = a2 m c) (W3_args m ρ c main_arg8 (by decide) : V3 m ρ c main_arg8 = a8 m c) )

/-- The gradient of the input of the first branch, after its call. -/
theorem w5_v4 : V5 m ρ c main_v4 = (fun i => (data m c).dya (i 0) (i 1) : S4096x1024.Idx → EReal) :=
  (W5_arr m ρ c 2).trans (arr4 (V4 m ρ) c (a5 m c) (a3 m c)  (W4_args m ρ c main_arg5 (by decide) : V4 m ρ c main_arg5 = a5 m c) (W4_args m ρ c main_arg3 (by decide) : V4 m ρ c main_arg3 = a3 m c) )

/-- The gradient of the input of the second branch, after its call. -/
theorem w6_v5 : V6 m ρ c main_v5 = (fun i => (data m c).dyb (i 0) (i 1) : S4096x1024.Idx → EReal) :=
  (W6_arr m ρ c 2).trans (arr5 (V5 m ρ) c (a6 m c) (a3 m c)  (W5_args m ρ c main_arg6 (by decide) : V5 m ρ c main_arg6 = a6 m c) (W5_args m ρ c main_arg3 (by decide) : V5 m ρ c main_arg3 = a3 m c) )

/-- The gradient of the input of the third branch, through its product alone, after its call. -/
theorem w7_v6 : V7 m ρ c main_v6 = (fun i => (data m c).dyp (i 0) (i 1) : S4096x1024.Idx → EReal) :=
  (W7_arr m ρ c 2).trans (arr6 (V6 m ρ) c (a7 m c) (a3 m c)  (W6_args m ρ c main_arg7 (by decide) : V6 m ρ c main_arg7 = a7 m c) (W6_args m ρ c main_arg3 (by decide) : V6 m ρ c main_arg3 = a3 m c) )

/-- The gradient of the input of the third branch after its call. -/
theorem w8_v7 : V8 m ρ c main_v7 = (fun i => (data m c).dyc (i 0) (i 1) : S4096x1024.Idx → EReal) :=
  (W8_arr m ρ c 3).trans (arr7 (V7 m ρ) c (a8 m c) (a4 m c) (fun i => (data m c).dyp (i 0) (i 1) : S4096x1024.Idx → EReal) (W7_args m ρ c main_arg8 (by decide) : V7 m ρ c main_arg8 = a8 m c) (W7_args m ρ c main_arg4 (by decide) : V7 m ρ c main_arg4 = a4 m c) (w7_v6 m ρ c))

/-- It is still there at boundary 2. -/
theorem w2_v0 : V2 m ρ c main_v0 = (fun i => (data m c).dwa (i 0) (i 1) : S1024x2048.Idx → EReal) :=
  (W2_of m ρ c main_v0 (by decide)).trans (w1_v0 m ρ c)

/-- It is still there at boundary 3. -/
theorem w3_v0 : V3 m ρ c main_v0 = (fun i => (data m c).dwa (i 0) (i 1) : S1024x2048.Idx → EReal) :=
  (W3_of m ρ c main_v0 (by decide)).trans (w2_v0 m ρ c)

/-- It is still there at boundary 4. -/
theorem w4_v0 : V4 m ρ c main_v0 = (fun i => (data m c).dwa (i 0) (i 1) : S1024x2048.Idx → EReal) :=
  (W4_of m ρ c main_v0 (by decide)).trans (w3_v0 m ρ c)

/-- It is still there at boundary 5. -/
theorem w5_v0 : V5 m ρ c main_v0 = (fun i => (data m c).dwa (i 0) (i 1) : S1024x2048.Idx → EReal) :=
  (W5_of m ρ c main_v0 (by decide)).trans (w4_v0 m ρ c)

/-- It is still there at boundary 6. -/
theorem w6_v0 : V6 m ρ c main_v0 = (fun i => (data m c).dwa (i 0) (i 1) : S1024x2048.Idx → EReal) :=
  (W6_of m ρ c main_v0 (by decide)).trans (w5_v0 m ρ c)

/-- It is still there at boundary 7. -/
theorem w7_v0 : V7 m ρ c main_v0 = (fun i => (data m c).dwa (i 0) (i 1) : S1024x2048.Idx → EReal) :=
  (W7_of m ρ c main_v0 (by decide)).trans (w6_v0 m ρ c)

/-- It is still there at boundary 8. -/
theorem w8_v0 : V8 m ρ c main_v0 = (fun i => (data m c).dwa (i 0) (i 1) : S1024x2048.Idx → EReal) :=
  (W8_of m ρ c main_v0 (by decide)).trans (w7_v0 m ρ c)

/-- It is still there at boundary 3. -/
theorem w3_v1 : V3 m ρ c main_v1 = (fun i => (data m c).dwb (i 0) (i 1) : S1024x2048.Idx → EReal) :=
  (W3_of m ρ c main_v1 (by decide)).trans (w2_v1 m ρ c)

/-- It is still there at boundary 4. -/
theorem w4_v1 : V4 m ρ c main_v1 = (fun i => (data m c).dwb (i 0) (i 1) : S1024x2048.Idx → EReal) :=
  (W4_of m ρ c main_v1 (by decide)).trans (w3_v1 m ρ c)

/-- It is still there at boundary 5. -/
theorem w5_v1 : V5 m ρ c main_v1 = (fun i => (data m c).dwb (i 0) (i 1) : S1024x2048.Idx → EReal) :=
  (W5_of m ρ c main_v1 (by decide)).trans (w4_v1 m ρ c)

/-- It is still there at boundary 6. -/
theorem w6_v1 : V6 m ρ c main_v1 = (fun i => (data m c).dwb (i 0) (i 1) : S1024x2048.Idx → EReal) :=
  (W6_of m ρ c main_v1 (by decide)).trans (w5_v1 m ρ c)

/-- It is still there at boundary 7. -/
theorem w7_v1 : V7 m ρ c main_v1 = (fun i => (data m c).dwb (i 0) (i 1) : S1024x2048.Idx → EReal) :=
  (W7_of m ρ c main_v1 (by decide)).trans (w6_v1 m ρ c)

/-- It is still there at boundary 8. -/
theorem w8_v1 : V8 m ρ c main_v1 = (fun i => (data m c).dwb (i 0) (i 1) : S1024x2048.Idx → EReal) :=
  (W8_of m ρ c main_v1 (by decide)).trans (w7_v1 m ρ c)

/-- It is still there at boundary 4. -/
theorem w4_v2 : V4 m ρ c main_v2 = (fun i => (data m c).dwc (i 0) (i 1) : S1024x2048.Idx → EReal) :=
  (W4_of m ρ c main_v2 (by decide)).trans (w3_v2 m ρ c)

/-- It is still there at boundary 5. -/
theorem w5_v2 : V5 m ρ c main_v2 = (fun i => (data m c).dwc (i 0) (i 1) : S1024x2048.Idx → EReal) :=
  (W5_of m ρ c main_v2 (by decide)).trans (w4_v2 m ρ c)

/-- It is still there at boundary 6. -/
theorem w6_v2 : V6 m ρ c main_v2 = (fun i => (data m c).dwc (i 0) (i 1) : S1024x2048.Idx → EReal) :=
  (W6_of m ρ c main_v2 (by decide)).trans (w5_v2 m ρ c)

/-- It is still there at boundary 7. -/
theorem w7_v2 : V7 m ρ c main_v2 = (fun i => (data m c).dwc (i 0) (i 1) : S1024x2048.Idx → EReal) :=
  (W7_of m ρ c main_v2 (by decide)).trans (w6_v2 m ρ c)

/-- It is still there at boundary 8. -/
theorem w8_v2 : V8 m ρ c main_v2 = (fun i => (data m c).dwc (i 0) (i 1) : S1024x2048.Idx → EReal) :=
  (W8_of m ρ c main_v2 (by decide)).trans (w7_v2 m ρ c)

/-- It is still there at boundary 5. -/
theorem w5_v3 : V5 m ρ c main_v3 = (fun i => (data m c).dwl (i 0) (i 1) : S1024x2048.Idx → EReal) :=
  (W5_of m ρ c main_v3 (by decide)).trans (w4_v3 m ρ c)

/-- It is still there at boundary 6. -/
theorem w6_v3 : V6 m ρ c main_v3 = (fun i => (data m c).dwl (i 0) (i 1) : S1024x2048.Idx → EReal) :=
  (W6_of m ρ c main_v3 (by decide)).trans (w5_v3 m ρ c)

/-- It is still there at boundary 7. -/
theorem w7_v3 : V7 m ρ c main_v3 = (fun i => (data m c).dwl (i 0) (i 1) : S1024x2048.Idx → EReal) :=
  (W7_of m ρ c main_v3 (by decide)).trans (w6_v3 m ρ c)

/-- It is still there at boundary 8. -/
theorem w8_v3 : V8 m ρ c main_v3 = (fun i => (data m c).dwl (i 0) (i 1) : S1024x2048.Idx → EReal) :=
  (W8_of m ρ c main_v3 (by decide)).trans (w7_v3 m ρ c)

/-- It is still there at boundary 6. -/
theorem w6_v4 : V6 m ρ c main_v4 = (fun i => (data m c).dya (i 0) (i 1) : S4096x1024.Idx → EReal) :=
  (W6_of m ρ c main_v4 (by decide)).trans (w5_v4 m ρ c)

/-- It is still there at boundary 7. -/
theorem w7_v4 : V7 m ρ c main_v4 = (fun i => (data m c).dya (i 0) (i 1) : S4096x1024.Idx → EReal) :=
  (W7_of m ρ c main_v4 (by decide)).trans (w6_v4 m ρ c)

/-- It is still there at boundary 8. -/
theorem w8_v4 : V8 m ρ c main_v4 = (fun i => (data m c).dya (i 0) (i 1) : S4096x1024.Idx → EReal) :=
  (W8_of m ρ c main_v4 (by decide)).trans (w7_v4 m ρ c)

/-- It is still there at boundary 7. -/
theorem w7_v5 : V7 m ρ c main_v5 = (fun i => (data m c).dyb (i 0) (i 1) : S4096x1024.Idx → EReal) :=
  (W7_of m ρ c main_v5 (by decide)).trans (w6_v5 m ρ c)

/-- It is still there at boundary 8. -/
theorem w8_v5 : V8 m ρ c main_v5 = (fun i => (data m c).dyb (i 0) (i 1) : S4096x1024.Idx → EReal) :=
  (W8_of m ρ c main_v5 (by decide)).trans (w7_v5 m ρ c)

/-- A run of the whole program from any contents with every counter at zero ends with the contents of the last boundary. -/
theorem run_last : θ_run defs (onTc (τ := τ) (main (F := Ideal))) ⟨m, fun _ => 0, ρ⟩ (fun r => ∀ c : Dev nD, ∀ b ∈ Pipeline.ucRefs τ sig,
      r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by repeat' refine And.intro (fun _ => .rfl) ?_
               exact fun _ => .rfl)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- A run of the whole program ends with the gradients of the four branch products' weights and inputs, the arguments unchanged. -/
theorem run_values : θ_run defs (onTc (τ := τ) (main (F := Ideal))) ⟨m, fun _ => 0, ρ⟩ (fun r => ∀ c : Dev nD,
      r.2.mem ((c : Thread nD τ).loc main_v0) = (fun i => (data m c).dwa (i 0) (i 1) : S1024x2048.Idx → EReal)
      ∧ r.2.mem ((c : Thread nD τ).loc main_v1) = (fun i => (data m c).dwb (i 0) (i 1) : S1024x2048.Idx → EReal)
      ∧ r.2.mem ((c : Thread nD τ).loc main_v2) = (fun i => (data m c).dwc (i 0) (i 1) : S1024x2048.Idx → EReal)
      ∧ r.2.mem ((c : Thread nD τ).loc main_v3) = (fun i => (data m c).dwl (i 0) (i 1) : S1024x2048.Idx → EReal)
      ∧ r.2.mem ((c : Thread nD τ).loc main_v4) = (fun i => (data m c).dya (i 0) (i 1) : S4096x1024.Idx → EReal)
      ∧ r.2.mem ((c : Thread nD τ).loc main_v5) = (fun i => (data m c).dyb (i 0) (i 1) : S4096x1024.Idx → EReal)
      ∧ r.2.mem ((c : Thread nD τ).loc main_v7) = (fun i => (data m c).dyc (i 0) (i 1) : S4096x1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun _ h c => ⟨(h c _ (mem_uc main_v0 (by decide))).trans (w8_v0 m ρ c),
    (h c _ (mem_uc main_v1 (by decide))).trans (w8_v1 m ρ c),
    (h c _ (mem_uc main_v2 (by decide))).trans (w8_v2 m ρ c),
    (h c _ (mem_uc main_v3 (by decide))).trans (w8_v3 m ρ c),
    (h c _ (mem_uc main_v4 (by decide))).trans (w8_v4 m ρ c),
    (h c _ (mem_uc main_v5 (by decide))).trans (w8_v5 m ρ c),
    (h c _ (mem_uc main_v7 (by decide))).trans (w8_v7 m ρ c),
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c)⟩) (run_last m ρ)

end Cert.Kernel6Ideal.Branch

end
-- ==== Proof.BranchRef.lean ====
module

public import proofs.«01_k».proof.Proof.BranchSpec
public import proofs.«01_k».proof.Proof.Gen.Reference6Ideal.Read
public import Idealize.ShloMosaic.Lib.Pointwise

@[expose] public section

set_option maxRecDepth 16384

noncomputable section

namespace Cert.Reference6Ideal.Branch

open Idealize.ShloMosaic Idealize.ShloMosaic.TcCoe Idealize.ShloMosaic.StableHlo
open Cert.Reference6Ideal Cert.Reference6Ideal.Gen Cert.Reference6Ideal.Read Cert.Branch

variable (x0 : (⟨S4096x1024, .bf16⟩ : BufTy).Contents (Elt Ideal))
  (x1 : (⟨S4096x1024, .bf16⟩ : BufTy).Contents (Elt Ideal))
  (x2 : (⟨S4096x1024, .bf16⟩ : BufTy).Contents (Elt Ideal))
  (x3 : (⟨S12x1024x2048, .bf16⟩ : BufTy).Contents (Elt Ideal))
  (x4 : (⟨S4x1024x2048, .bf16⟩ : BufTy).Contents (Elt Ideal))
  (x5 : (⟨S4096x2048, .bf16⟩ : BufTy).Contents (Elt Ideal))
  (x6 : (⟨S4096x2048, .bf16⟩ : BufTy).Contents (Elt Ideal))
  (x7 : (⟨S4096x2048, .bf16⟩ : BufTy).Contents (Elt Ideal))
  (x8 : (⟨S4096x2048, .bf16⟩ : BufTy).Contents (Elt Ideal))

/-- The data of the program's arguments. -/
def data : Data where
  ya := fun i j => x0 (ix2 i j)
  yb := fun i j => x1 (ix2 i j)
  yc := fun i j => x2 (ix2 i j)
  wa := fun i j => x3 (ix3 9 i j)
  wb := fun i j => x3 (ix3 10 i j)
  wc := fun i j => x3 (ix3 11 i j)
  wl := fun i j => x4 (ix3 3 i j)
  da := fun i j => x5 (ix2 i j)
  db := fun i j => x6 (ix2 i j)
  dc := fun i j => x7 (ix2 i j)
  dl := fun i j => x8 (ix2 i j)

/-- The weights of the first branch, sliced off the stack. -/
theorem read_v5 (i : Fin 1024) (j : Fin 2048) : val_main_v5 (F := Ideal) x3 (ix2 i j) = x3 (ix3 9 i j) := by
  unfold val_main_v5 val_main_v4 val_main_v3; pointwise

/-- The weights of the second branch, sliced off the stack. -/
theorem read_v8 (i : Fin 1024) (j : Fin 2048) : val_main_v8 (F := Ideal) x3 (ix2 i j) = x3 (ix3 10 i j) := by
  unfold val_main_v8 val_main_v7 val_main_v6; pointwise

/-- The weights of the third branch, sliced off the stack. -/
theorem read_v11 (i : Fin 1024) (j : Fin 2048) : val_main_v11 (F := Ideal) x3 (ix2 i j) = x3 (ix3 11 i j) := by
  unfold val_main_v11 val_main_v10 val_main_v9; pointwise

/-- The weights of the gate of the third branch, sliced off the stack. -/
theorem read_v14 (i : Fin 1024) (j : Fin 2048) : val_main_v14 (F := Ideal) x4 (ix2 i j) = x4 (ix3 3 i j) := by
  unfold val_main_v14 val_main_v13 val_main_v12; pointwise

/-- The gradient of the weights of the gate of the third branch. -/
theorem read_v24 (i : Fin 1024) (j : Fin 2048) : val_main_v24 (F := Ideal) x2 x8 (ix2 i j) = (data x0 x1 x2 x3 x4 x5 x6 x7 x8).dwl i j := by
  unfold val_main_v24 val_main_v23 val_main_v22 val_main_v2; pointwise
  exact Finset.sum_congr rfl fun k _ => mul_comm _ _

/-- The gradient of the weights of the third branch. -/
theorem read_v27 (i : Fin 1024) (j : Fin 2048) : val_main_v27 (F := Ideal) x2 x7 (ix2 i j) = (data x0 x1 x2 x3 x4 x5 x6 x7 x8).dwc i j := by
  unfold val_main_v27 val_main_v26 val_main_v21 val_main_v2; pointwise
  exact Finset.sum_congr rfl fun k _ => mul_comm _ _

/-- The gradient of the weights of the second branch. -/
theorem read_v31 (i : Fin 1024) (j : Fin 2048) : val_main_v31 (F := Ideal) x1 x6 (ix2 i j) = (data x0 x1 x2 x3 x4 x5 x6 x7 x8).dwb i j := by
  unfold val_main_v31 val_main_v30 val_main_v20 val_main_v1; pointwise
  exact Finset.sum_congr rfl fun k _ => mul_comm _ _

/-- The gradient of the weights of the first branch. -/
theorem read_v34 (i : Fin 1024) (j : Fin 2048) : val_main_v34 (F := Ideal) x0 x5 (ix2 i j) = (data x0 x1 x2 x3 x4 x5 x6 x7 x8).dwa i j := by
  unfold val_main_v34 val_main_v33 val_main_v19 val_main_v0; pointwise
  exact Finset.sum_congr rfl fun k _ => mul_comm _ _

/-- The gradient of the input of the first branch. -/
theorem read_v35 (i : Fin 4096) (j : Fin 1024) : val_main_v35 (F := Ideal) x3 x5 (ix2 i j) = (data x0 x1 x2 x3 x4 x5 x6 x7 x8).dya i j := by
  unfold val_main_v35 val_main_v19; pointwise
  exact Finset.sum_congr rfl fun k _ => by rw [read_v5]; rfl

/-- The gradient of the input of the second branch. -/
theorem read_v36 (i : Fin 4096) (j : Fin 1024) : val_main_v36 (F := Ideal) x3 x6 (ix2 i j) = (data x0 x1 x2 x3 x4 x5 x6 x7 x8).dyb i j := by
  unfold val_main_v36 val_main_v32 val_main_v20; pointwise
  exact Finset.sum_congr rfl fun k _ => by rw [read_v8]; rfl

/-- The gradient of the input of the third branch. -/
theorem read_v29 (i : Fin 4096) (j : Fin 1024) : val_main_v29 (F := Ideal) x3 x4 x7 x8 (ix2 i j) = (data x0 x1 x2 x3 x4 x5 x6 x7 x8).dyc i j := by
  unfold val_main_v29 val_main_v25 val_main_v28 val_main_v21 val_main_v22; pointwise
  refine congrArg₂ (· + ·) (Finset.sum_congr rfl fun k _ => ?_) (Finset.sum_congr rfl fun k _ => ?_)
  · rw [read_v14]; rfl
  · rw [read_v11]; rfl

end Cert.Reference6Ideal.Branch

end
-- ==== Proof.BranchAgree.lean ====
module

public import proofs.«01_k».proof.Proof.BranchRun
public import proofs.«01_k».proof.Proof.BranchRef
public import proofs.«01_k».proof.Proof.Gen.Reference6Ideal.Run

@[expose] public section

set_option maxRecDepth 16384

noncomputable section

namespace Cert.Branch

open Idealize.ShloMosaic Idealize.ShloMosaic.TcCoe Idealize.SL.Sem
open Cert.Kernel6Ideal.Branch

variable (m : (ℓ : Loc Cert.Kernel6Ideal.nD Cert.Kernel6Ideal.τ Cert.Kernel6Ideal.sig) → Buf (Elt Ideal) ℓ)
  (m' : (ℓ : Loc Cert.Reference6Ideal.nD Cert.Reference6Ideal.τ Cert.Reference6Ideal.sig) → Buf (Elt Ideal) ℓ)

/-- The two programs' arguments on one device agree. -/
def Args (c : Dev Cert.Kernel6Ideal.nD) : Prop :=
  m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
  ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
  ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
  ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
  ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
  ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
  ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
  ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
  ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)

/-- The data of the reference's arguments on one device. -/
abbrev refData (c : Dev Cert.Reference6Ideal.nD) : Data :=
  Cert.Reference6Ideal.Branch.data (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8))

/-- Agreeing arguments have the same data. -/
theorem data_eq (c : Dev Cert.Kernel6Ideal.nD) (h : Args m m' c) : refData m' c = data m c := by
  unfold refData
  obtain ⟨h0, h1, h2, h3, h4, h5, h6, h7, h8⟩ := h
  rw [h0, h1, h2, h3, h4, h5, h6, h7, h8]
  rfl

/-- The reference's run leaves every array as the gradients of the four branch products' weights and inputs, its arguments unchanged. -/
theorem run_reference (ha : ∀ c, Args m m' c) (ρ : Dev Cert.Reference6Ideal.nD → PrngReg) :
    θ_run (Cert.Reference6Ideal.defs (F := Ideal)) (onTc (τ := Cert.Reference6Ideal.τ) (Cert.Reference6Ideal.main (F := Ideal))) ⟨m', fun _ => 0, ρ⟩ fun r => ∀ c : Dev Cert.Reference6Ideal.nD,
      (r.2.mem ((c.tc : Thread Cert.Reference6Ideal.nD Cert.Reference6Ideal.τ).loc Cert.Reference6Ideal.main_v34) = (fun i => (data m c).dwa (i 0) (i 1) : Cert.Reference6Ideal.S1024x2048.Idx → EReal))
      ∧ (r.2.mem ((c.tc : Thread Cert.Reference6Ideal.nD Cert.Reference6Ideal.τ).loc Cert.Reference6Ideal.main_v31) = (fun i => (data m c).dwb (i 0) (i 1) : Cert.Reference6Ideal.S1024x2048.Idx → EReal))
      ∧ (r.2.mem ((c.tc : Thread Cert.Reference6Ideal.nD Cert.Reference6Ideal.τ).loc Cert.Reference6Ideal.main_v27) = (fun i => (data m c).dwc (i 0) (i 1) : Cert.Reference6Ideal.S1024x2048.Idx → EReal))
      ∧ (r.2.mem ((c.tc : Thread Cert.Reference6Ideal.nD Cert.Reference6Ideal.τ).loc Cert.Reference6Ideal.main_v24) = (fun i => (data m c).dwl (i 0) (i 1) : Cert.Reference6Ideal.S1024x2048.Idx → EReal))
      ∧ (r.2.mem ((c.tc : Thread Cert.Reference6Ideal.nD Cert.Reference6Ideal.τ).loc Cert.Reference6Ideal.main_v35) = (fun i => (data m c).dya (i 0) (i 1) : Cert.Reference6Ideal.S4096x1024.Idx → EReal))
      ∧ (r.2.mem ((c.tc : Thread Cert.Reference6Ideal.nD Cert.Reference6Ideal.τ).loc Cert.Reference6Ideal.main_v36) = (fun i => (data m c).dyb (i 0) (i 1) : Cert.Reference6Ideal.S4096x1024.Idx → EReal))
      ∧ (r.2.mem ((c.tc : Thread Cert.Reference6Ideal.nD Cert.Reference6Ideal.τ).loc Cert.Reference6Ideal.main_v29) = (fun i => (data m c).dyc (i 0) (i 1) : Cert.Reference6Ideal.S4096x1024.Idx → EReal))
      ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8) := by
  refine (θ_run Cert.Reference6Ideal.defs _ _).mono (fun _ h c => ?_) (Cert.Reference6Ideal.Value.run (F := Ideal) m' ρ)
  obtain ⟨h0, h1, h2, h3, h4, h5, h6, h7⟩ := h c
  have hh := data_eq m m' c (ha c)
  refine ⟨h0.trans (funext fun i => ?_), h1.trans (funext fun i => ?_), h2.trans (funext fun i => ?_), h3.trans (funext fun i => ?_), h4.trans (funext fun i => ?_), h5.trans (funext fun i => ?_), h6.trans (funext fun i => ?_), h7⟩
  · obtain ⟨a, b, rfl⟩ : ∃ a b, i = ix2 a b := ⟨i 0, i 1, eq_ix2 i⟩
    rw [← hh]
    exact Cert.Reference6Ideal.Branch.read_v34 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8)) a b
  · obtain ⟨a, b, rfl⟩ : ∃ a b, i = ix2 a b := ⟨i 0, i 1, eq_ix2 i⟩
    rw [← hh]
    exact Cert.Reference6Ideal.Branch.read_v31 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8)) a b
  · obtain ⟨a, b, rfl⟩ : ∃ a b, i = ix2 a b := ⟨i 0, i 1, eq_ix2 i⟩
    rw [← hh]
    exact Cert.Reference6Ideal.Branch.read_v27 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8)) a b
  · obtain ⟨a, b, rfl⟩ : ∃ a b, i = ix2 a b := ⟨i 0, i 1, eq_ix2 i⟩
    rw [← hh]
    exact Cert.Reference6Ideal.Branch.read_v24 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8)) a b
  · obtain ⟨a, b, rfl⟩ : ∃ a b, i = ix2 a b := ⟨i 0, i 1, eq_ix2 i⟩
    rw [← hh]
    exact Cert.Reference6Ideal.Branch.read_v35 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8)) a b
  · obtain ⟨a, b, rfl⟩ : ∃ a b, i = ix2 a b := ⟨i 0, i 1, eq_ix2 i⟩
    rw [← hh]
    exact Cert.Reference6Ideal.Branch.read_v36 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8)) a b
  · obtain ⟨a, b, rfl⟩ : ∃ a b, i = ix2 a b := ⟨i 0, i 1, eq_ix2 i⟩
    rw [← hh]
    exact Cert.Reference6Ideal.Branch.read_v29 (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8)) a b

end Cert.Branch

end
-- ==== Proof.FwdFinite.lean ====
module

public import proofs.«01_k».proof.Pre_finite7
public import proofs.«01_k».proof.Proof.Finite

@[expose] public section

set_option maxRecDepth 16384

noncomputable section

namespace Cert.Pre_finite7

open Idealize.ShloMosaic Cert.Band
open Cert.Pre_finite (ofBits_top real_of_lt)

/-- The shape relations of the operations of the second precondition. -/
theorem facts : Facts := ⟨by decide, by decide, by decide⟩

attribute [local instance] facts
open Facts

/-- The precondition makes the keys and the biases of every head real. -/
theorem real_of (x : FVec Ideal S4096x12288 .f32) (b : FVec Ideal S8x257 .f32) (o : FVec Ideal (⟨2, ![4096, 1024]⟩ : Shape) .bf16)
    (h1 : (fn (F := Ideal) x b).1 = fun _ => 1#1) (h2 : (fn (F := Ideal) x b).2 = fun _ => 1#1) (h : Fin 8) : (headOf x b o h).Real := by
  have hx : ∀ (n : Fin 4096) (j : Fin 2048), ∃ a : ℝ, x (ix2 n ⟨2048 + j.val, by omega⟩) = a := by
    intro n j
    have e := congrFun h1 (ix2 n j)
    revert e
    unfold fn
    pointwise
    intro e
    exact real_of_lt _ (by rw [← ofBits_top]; exact e)
  have hb : ∀ (n : Fin 8) (j : Fin 257), ∃ a : ℝ, b (ix2 n j) = a := by
    intro n j
    have e := congrFun h2 (ix2 n j)
    revert e
    unfold fn
    pointwise
    intro e
    exact real_of_lt _ (by rw [← ofBits_top]; exact e)
  refine ⟨fun n d => ?_, fun n d => ?_, fun q k => hb _ _⟩
  · by_cases hn : n < 4096
    · obtain ⟨a, e⟩ := hx ⟨n, hn⟩ ⟨h.val * 128 + d.val, by omega⟩
      exact ⟨a, (dif_pos hn).trans e⟩
    · exact ⟨0, (dif_neg hn).trans EReal.coe_zero.symm⟩
  · by_cases hn : n < 4096
    · obtain ⟨a, e⟩ := hx ⟨n, hn⟩ ⟨1024 + (h.val * 128 + d.val), by omega⟩
      refine ⟨a, (dif_pos hn).trans (Eq.trans ?_ e)⟩
      exact congrArg (fun k => x (ix2 ⟨n, hn⟩ k)) (Fin.ext (by show 3072 + (h.val * 128 + d.val) = 2048 + (1024 + (h.val * 128 + d.val)); omega))
    · exact ⟨0, (dif_neg hn).trans EReal.coe_zero.symm⟩

end Cert.Pre_finite7

end
-- ==== Proof.FwdVal.lean ====
module

public import proofs.«01_k».proof.Proof.Gen.Kernel7Ideal.Frame
public import proofs.«01_k».proof.Proof.HeadVal
public import Idealize.ShloMosaic.Lib.Pipeline.ReadBack
public import Idealize.ShloMosaic.Lib.Pipeline.ValueKit
public import Idealize.ShloMosaic.Lib.Pointwise

@[expose] public section

set_option maxRecDepth 16384
set_option pp.deepTerms false
set_option pp.maxSteps 1500

noncomputable section

namespace Cert.Band

/-- The result of the attention: the values of a query's band by their weights. -/
def Head.O (H : Head) (c q : ℕ) (d : Fin 128) : EReal := ∑ k : Fin 576, H.prob c q k * padRows H.V (64 * c + k) d

end Cert.Band

namespace Cert.Kernel7Ideal.Fwd

open Idealize.ShloMosaic Idealize.ShloMosaic.TcCoe
open Cert.Kernel7Ideal Cert.Kernel7Ideal.Gen
open Cert.Band
open Cert.KernelIdeal.Att (toInt_nat cmpi_sge_nat cmpi_slt_nat andi_ofBool select_prop first_word bits_bot put_rows window_rows sum_lanes top_lanes)

/-- The loop has sixteen trips. -/
theorem trips_eq : k0_t1_loop.trips = 16 := by decide
/-- Trip `k` reads and writes the queries from row `256 k` on. -/
theorem off1_eq (k : Fin k0_t1_loop.trips) : k0_off1 k = ![256 * k.val, 0] := by
  revert k; decide
/-- Trip `k` reads the padded keys and values from row `256 k` on. -/
theorem off2_eq (k : Fin k0_t1_loop.trips) : k0_off2 k = ![256 * k.val, 0] := by
  revert k; decide

/-- The 256 rows of queries of a trip. -/
def rowsQ (x : Vec Ideal S4096x128 .f32) (k : Fin k0_t1_loop.trips) : Vec Ideal S256x128 .f32 :=
  VecWindow.window (s := S4096x128) x (k0_off1 k) S256x128.size (k0_off1_inb k)
/-- The 768 padded rows of a trip. -/
def rowsK (x : Vec Ideal S4608x128 .bf16) (k : Fin k0_t1_loop.trips) : Vec Ideal S768x128 .bf16 :=
  VecWindow.window (s := S4608x128) x (k0_off2 k) S768x128.size (k0_off2_inb k)

theorem rowsQ_apply (x : Vec Ideal S4096x128 .f32) (k : Fin k0_t1_loop.trips) (i : Fin 256) (j : Fin 128) :
    rowsQ x k (ix2 i j) = x (ix2 ⟨256 * k.val + i.val, by have := k.isLt.trans_eq trips_eq; omega⟩ j) :=
  window_rows x (256 * k.val) _ _ (off1_eq k) i j _

theorem rowsK_apply (x : Vec Ideal S4608x128 .bf16) (k : Fin k0_t1_loop.trips) (i : Fin 768) (j : Fin 128) :
    rowsK x k (ix2 i j) = x (ix2 ⟨256 * k.val + i.val, by have := k.isLt.trans_eq trips_eq; omega⟩ j) :=
  window_rows x (256 * k.val) _ _ (off2_eq k) i j _

/-- 512 rows over 4096 rows. -/
def padded (z : Vec Ideal S512x128 .bf16) (w : Vec Ideal S4096x128 .bf16) : Vec Ideal S4608x128 .bf16 :=
  VecWindow.put (VecWindow.put (s := S4608x128) (fun _ => (Scalar.ofBits .bf16 0x0000#16 : Ideal .bf16)) ![0, 0] S512x128.size z)
    ![512, 0] S4096x128.size w

/-- The padded keys and values of one head. -/
def kpad (x1 : Vec Ideal S4096x128 .f32) : Vec Ideal S4608x128 .bf16 := padded (k0_pay2 (F := Ideal)) (k0_pay4 x1)
def vpad (x2 : Vec Ideal S4096x128 .f32) : Vec Ideal S4608x128 .bf16 := padded (k0_pay3 (F := Ideal)) (k0_pay5 x2)

/-- What lay under the two stores that fill the padded rows does not matter. -/
theorem padded_base (x : Vec Ideal S4608x128 .bf16) (z : Vec Ideal S512x128 .bf16) (w : Vec Ideal S4096x128 .bf16) :
    VecWindow.put (VecWindow.put (s := S4608x128) x ![0, 0] S512x128.size z) ![512, 0] S4096x128.size w = padded z w := by
  funext y
  unfold padded VecWindow.put
  by_cases h : ∀ a : Fin S4608x128.rank, (![512, 0] : Fin 2 → ℕ) a ≤ (y a).val ∧ (y a).val < (![512, 0] : Fin 2 → ℕ) a + S4096x128.size a
  · rw [dif_pos h, dif_pos h]
  · rw [dif_neg h, dif_neg h]
    have h' : ∀ a : Fin S4608x128.rank, (![0, 0] : Fin 2 → ℕ) a ≤ (y a).val ∧ (y a).val < (![0, 0] : Fin 2 → ℕ) a + S512x128.size a := by
      have h0 : (y 0).val < 4608 := (y 0).isLt
      have h1 : (y 1).val < 128 := (y 1).isLt
      have : (y 0).val < 512 := by
        by_contra hc
        exact h (Fin.forall_fin_two.mpr ⟨⟨by show 512 ≤ _; omega, by show _ < 512 + 4096; omega⟩, ⟨Nat.zero_le _, by show _ < 0 + 128; omega⟩⟩)
      exact Fin.forall_fin_two.mpr ⟨⟨Nat.zero_le _, by show _ < 0 + 512; omega⟩, ⟨Nat.zero_le _, by show _ < 0 + 128; omega⟩⟩
    rw [dif_pos h', dif_pos h']

theorem pay2_apply (r : Fin 512) (c : Fin 128) : k0_pay2 (F := Ideal) (ix2 r c) = 0 := by
  pointwise [k0_pay2]
theorem pay3_apply (r : Fin 512) (c : Fin 128) : k0_pay3 (F := Ideal) (ix2 r c) = 0 := by
  pointwise [k0_pay3]
theorem pay4_apply (x : Vec Ideal S4096x128 .f32) (r : Fin 4096) (c : Fin 128) : k0_pay4 x (ix2 r c) = x (ix2 r c) := by
  pointwise [k0_pay4]
theorem pay5_apply (x : Vec Ideal S4096x128 .f32) (r : Fin 4096) (c : Fin 128) : k0_pay5 x (ix2 r c) = x (ix2 r c) := by
  pointwise [k0_pay5]

theorem pay6_apply (x : Vec Ideal S1x1x768 .f32) (r : Fin 256) (c : Fin 768) (h : c.val + 63 - r.val < 768) (hr : r.val ≤ c.val + 63) :
    k0_pay6 x (ix2 r c) = x (ix3 0 0 ⟨c.val + 63 - r.val, h⟩) := by
  pointwise [k0_pay6]
  have e : (c.val + 1024 - (961 + r.val) % 1024) % 1024 = c.val + 63 - r.val := by omega
  rw [dif_pos (by omega)]
  congr 2
  exact Fin.ext e

/-- The padded keys: 512 rows of zeros, then the rows. -/
theorem kpad_apply (x : Vec Ideal S4096x128 .f32) (X : ℕ → Fin 128 → EReal) (hX : ∀ (n : Fin 4096) d, x (ix2 n d) = X n d) (u : Fin 4608) (d : Fin 128) :
    kpad x (ix2 u d) = padRows X u d := by
  unfold kpad padded
  rw [put_rows _ 512 _ _ rfl rfl (k0_pay4 x) _ (fun y => congrArg (k0_pay4 x) (eq_ix2 y))]
  unfold padRows
  by_cases h : u.val < 512
  · rw [dif_neg (by omega), if_pos h, put_rows _ 0 _ _ rfl rfl (k0_pay2 (F := Ideal)) _ (fun y => congrArg (k0_pay2 (F := Ideal)) (eq_ix2 y)), dif_pos (by omega)]
    exact pay2_apply _ _
  · rw [dif_pos (by omega), if_neg h, pay4_apply, hX]

/-- The padded values: 512 rows of zeros, then the rows. -/
theorem vpad_apply (x : Vec Ideal S4096x128 .f32) (X : ℕ → Fin 128 → EReal) (hX : ∀ (n : Fin 4096) d, x (ix2 n d) = X n d) (u : Fin 4608) (d : Fin 128) :
    vpad x (ix2 u d) = padRows X u d := by
  unfold vpad padded
  rw [put_rows _ 512 _ _ rfl rfl (k0_pay5 x) _ (fun y => congrArg (k0_pay5 x) (eq_ix2 y))]
  unfold padRows
  by_cases h : u.val < 512
  · rw [dif_neg (by omega), if_pos h, put_rows _ 0 _ _ rfl rfl (k0_pay3 (F := Ideal)) _ (fun y => congrArg (k0_pay3 (F := Ideal)) (eq_ix2 y)), dif_pos (by omega)]
    exact pay3_apply _ _
  · rw [dif_pos (by omega), if_neg h, pay5_apply, hX]

/-- The word that cuts the lanes before the first key. -/
theorem cut_word (k : Fin k0_t1_loop.trips) (c : Fin 768) :
   IntOp.cmpi CmpIPredicate.sge (BitVec.ofNat 32 c.val) (Scalar.subi (512#32) (Scalar.muli (Scf.iv 0#32 1#32 k.val) 256#32))
     = BitVec.ofBool (decide (512 ≤ 256 * k.val + c.val)) := by
  have h : ∀ k : Fin k0_t1_loop.trips, (Scalar.subi (512#32) (Scalar.muli (Scf.iv 0#32 1#32 k.val) 256#32)).toInt = 512 - 256 * (k.val : ℤ) := by decide
  show BitVec.ofBool (decide ((Scalar.subi (512#32) (Scalar.muli (Scf.iv 0#32 1#32 k.val) 256#32)).toInt ≤ (BitVec.ofNat 32 c.val).toInt)) = _
  rw [h k, toInt_nat _ (by omega)]
  congr 1
  exact decide_eq_decide.2 (by omega)

/-- The lanes of a row's band. -/
theorem band_word (r : Fin 256) (c : Fin 768) :
    IntOp.andi (IntOp.cmpi CmpIPredicate.sge (BitVec.ofNat 32 c.val) (IntOp.muli (BitVec.ofNat 32 (r.val / 64)) 64#32))
      (IntOp.cmpi CmpIPredicate.slt (BitVec.ofNat 32 c.val) (IntOp.addi (IntOp.muli (BitVec.ofNat 32 (r.val / 64)) 64#32) 576#32)) =
    BitVec.ofBool (decide (64 * (r.val / 64) ≤ c.val ∧ c.val < 64 * (r.val / 64) + 576)) := by
  rw [show IntOp.muli (BitVec.ofNat 32 (r.val / 64)) 64#32 = BitVec.ofNat 32 (r.val / 64 * 64) from (BitVec.ofNat_mul _ _).symm,
    show IntOp.addi (BitVec.ofNat 32 (r.val / 64 * 64)) 576#32 = BitVec.ofNat 32 (r.val / 64 * 64 + 576) from (BitVec.ofNat_add _ _).symm,
    cmpi_sge_nat _ _ (by omega) (by omega), cmpi_slt_nat _ _ (by omega) (by omega), andi_ofBool]
  congr 1
  exact decide_eq_decide.2 (by omega)

/-- A row's score at a lane, off the band and before the first key `⊥`. -/
def lane (bias : FVec Ideal S256x768 .f32) (k : Fin k0_t1_loop.trips) (q : Vec Ideal S256x128 .f32) (kb : Vec Ideal S768x128 .bf16) (r : Fin 256) (c : Fin 768) : EReal :=
  if (64 * (r.val / 64) ≤ c.val ∧ c.val < 64 * (r.val / 64) + 576) ∧ 512 ≤ 256 * k.val + c.val then
    (∑ x : Fin 128, q (ix2 r x) * kb (ix2 c x)) * scale + bias (ix2 r c)
  else ⊥

/-- One trip's rows of the result. -/
abbrev step (x3 : Vec Ideal S1x1x768 .f32) (k : Fin k0_t1_loop.trips) (q : Vec Ideal S256x128 .f32) (kb vb : Vec Ideal S768x128 .bf16) : FVec Ideal S256x128 .bf16 :=
  k0_pay1 (k0_pay6 x3) (iota .tc S256x768 32 [0] iota_S256x768_d0_w32) 64#32 k0_pay7 k0_pay8 k0_pay9 k q kb vb

theorem step_apply (x3 : Vec Ideal S1x1x768 .f32) (k : Fin k0_t1_loop.trips) (q : Vec Ideal S256x128 .f32) (kb vb : Vec Ideal S768x128 .bf16) (r : Fin 256) (d : Fin 128) :
    step x3 k q kb vb (ix2 r d) =
      ∑ c : Fin 768, Ideal.div (Ideal.exp (lane (k0_pay6 x3) k q kb r c - Finset.univ.fold max ⊥ (fun x => lane (k0_pay6 x3) k q kb r x)))
        (∑ y : Fin 768, Ideal.exp (lane (k0_pay6 x3) k q kb r y - Finset.univ.fold max ⊥ (fun x => lane (k0_pay6 x3) k q kb r x))) * vb (ix2 c d) := by
  have hl : ∀ c : Fin 768, Scalar.select (IntOp.andi (IntOp.andi (IntOp.cmpi CmpIPredicate.sge (BitVec.ofNat 32 c.val) (IntOp.muli (BitVec.ofNat 32 (r.val / 64)) 64#32))
      (IntOp.cmpi CmpIPredicate.slt (BitVec.ofNat 32 c.val) (IntOp.addi (IntOp.muli (BitVec.ofNat 32 (r.val / 64)) 64#32) 576#32))) (IntOp.cmpi .sge (BitVec.ofNat 32 c.val) (Scalar.subi 512#32 (Scalar.muli (Scf.iv 0#32 1#32 k.val) 256#32))))
      ((∑ x : Fin 128, q (ix2 r x) * kb (ix2 c x)) * Ideal.ofBits .f32 0x3DB504F3#32 + k0_pay6 x3 (ix2 r c)) (Named.named (F := Ideal) (φ := .f32) κ "mask" 4048155338#32) = lane (k0_pay6 x3) k q kb r c := by
    intro c
    rw [band_word, cut_word, andi_ofBool, select_prop]
    rfl
  unfold step
  generalize k0_pay6 x3 = bias at hl ⊢
  pointwise [k0_pay1, k0_pay7, k0_pay8, k0_pay9]
  simp only [first_word]
  simp only [hl, bits_bot]

end Cert.Kernel7Ideal.Fwd

end
-- ==== Proof.FwdRun.lean ====
module

public import proofs.«01_k».proof.Proof.FwdVal
public import Idealize.ShloMosaic.Lib.Claim
public import Idealize.ShloMosaic.Lib.StableHlo.Run

@[expose] public section

set_option maxRecDepth 16384
set_option pp.deepTerms false
set_option pp.maxSteps 1500

noncomputable section

namespace Cert.Kernel7Ideal.Fwd

open Idealize.ShloMosaic Idealize.ShloMosaic.TcCoe Idealize.ShloMosaic.Tactic
open Idealize.SL.Sem
open Idealize.ShloMosaic.Pipeline (Dat Cfg Window)
open Cert.Kernel7Ideal Cert.Kernel7Ideal.Gen
open Cert.Band
open Cert.KernelIdeal.Att (sum_lanes top_lanes spread)

/-- The blocks that the kernel reads at one grid point hold one head. -/
structure Blocks (H : Head) (x0 x1 x2 : Vec Ideal S4096x128 .f32) (x3 : Vec Ideal S1x1x768 .f32) : Prop where
  q : ∀ (n : Fin 4096) d, x0 (ix2 n d) = H.Q n d
  k : ∀ (n : Fin 4096) d, x1 (ix2 n d) = H.K n d
  v : ∀ (n : Fin 4096) d, x2 (ix2 n d) = H.V n d
  b : ∀ (q : Fin 64) (k : Fin 576) (h : k.val + 63 - q.val < 768), x3 (ix3 0 0 ⟨k.val + 63 - q.val, h⟩) = H.B q k

/-- The result of one head, by row and column. -/
def headOut (H : Head) (y : S4096x128.Idx) : EReal := H.O ((y 0).val / 64) ((y 0).val % 64) (y 1)

section Values

variable {H : Head} {x0 x1 x2 : Vec Ideal S4096x128 .f32} {x3 : Vec Ideal S1x1x768 .f32}
  (B : Blocks H x0 x1 x2 x3) (hr : H.Real) (hs : ∃ x : ℝ, scale = x)

include B

theorem lane_eq (k : Fin k0_t1_loop.trips) (r : Fin 256) (c : Fin 768) :
    lane (k0_pay6 x3) k (rowsQ x0 k) (rowsK (kpad x1) k) r c =
      if 64 * (r.val / 64) ≤ c.val ∧ c.val < 64 * (r.val / 64) + 576 then H.logit (4 * k.val + r.val / 64) (r.val % 64) (c.val - 64 * (r.val / 64)) else ⊥ := by
  have hk := k.isLt.trans_eq trips_eq
  unfold lane
  by_cases hb : 64 * (r.val / 64) ≤ c.val ∧ c.val < 64 * (r.val / 64) + 576
  · rw [if_pos hb]
    unfold Head.logit
    by_cases hv : 512 ≤ 256 * k.val + c.val
    · rw [if_pos ⟨hb, hv⟩, if_pos (by omega), pay6_apply x3 r c (by omega) (by omega)]
      have e : (ix3 0 0 ⟨c.val + 63 - r.val, by omega⟩ : S1x1x768.Idx) = ix3 0 0 ⟨(c.val - 64 * (r.val / 64)) + 63 - r.val % 64, by omega⟩ := by
        congr 1
        exact Fin.ext (by show c.val + 63 - r.val = (c.val - 64 * (r.val / 64)) + 63 - r.val % 64; omega)
      rw [e, B.b ⟨r.val % 64, by omega⟩ ⟨c.val - 64 * (r.val / 64), by omega⟩]
      congr 2
      refine Finset.sum_congr rfl fun d _ => ?_
      rw [rowsQ_apply, rowsK_apply, B.q, kpad_apply x1 H.K B.k]
      congr 2
      · show 256 * k.val + r.val = _; omega
      · show 256 * k.val + c.val = _; omega
    · rw [if_neg (fun h => hv h.2), if_neg (by omega)]
  · rw [if_neg hb, if_neg (fun h => hb h.1)]

include hr hs

/-- The rows of the result that one trip computes. -/
theorem step_eq (k : Fin k0_t1_loop.trips) (r : Fin 256) (d : Fin 128) :
    step x3 k (rowsQ x0 k) (rowsK (kpad x1) k) (rowsK (vpad x2) k) (ix2 r d) = H.O (4 * k.val + r.val / 64) (r.val % 64) d := by
  have hk := k.isLt.trans_eq trips_eq
  rw [step_apply]
  have htop : Finset.univ.fold max ⊥ (fun x => lane (k0_pay6 x3) k (rowsQ x0 k) (rowsK (kpad x1) k) r x) = H.top (4 * k.val + r.val / 64) (r.val % 64) := by
    simp only [lane_eq B]
    exact top_lanes (r.val / 64) (by omega) (H.logit (4 * k.val + r.val / 64) (r.val % 64))
  rw [htop]
  have hex : ∀ c : Fin 768, Ideal.exp (lane (k0_pay6 x3) k (rowsQ x0 k) (rowsK (kpad x1) k) r c - H.top (4 * k.val + r.val / 64) (r.val % 64)) = spread H.ex k r c := by
    intro c
    rw [lane_eq B]
    unfold spread Head.ex
    split_ifs
    · rfl
    · rw [EReal.bot_sub, Ideal.exp_bot]
  simp only [hex]
  have htot : ∑ c : Fin 768, spread H.ex k r c = H.tot (4 * k.val + r.val / 64) (r.val % 64) :=
    sum_lanes (r.val / 64) (by omega) (H.ex (4 * k.val + r.val / 64) (r.val % 64))
  rw [htot]
  unfold Head.O
  rw [← sum_lanes (r.val / 64) (by omega) (fun j => H.prob (4 * k.val + r.val / 64) (r.val % 64) j * padRows H.V (64 * (4 * k.val + r.val / 64) + j) d)]
  refine Finset.sum_congr rfl fun c _ => ?_
  unfold spread
  by_cases h : 64 * (r.val / 64) ≤ c.val ∧ c.val < 64 * (r.val / 64) + 576
  · rw [if_pos h, if_pos h, rowsK_apply, vpad_apply x2 H.V B.v]
    have e3 : 256 * k.val + c.val = 64 * (4 * k.val + r.val / 64) + (c.val - 64 * (r.val / 64)) := by omega
    simp only
    rw [e3]
    rfl
  · rw [if_neg h, if_neg h]
    obtain ⟨S, hS, hS0⟩ := Head.tot_real hr hs (4 * k.val + r.val / 64) (r.val % 64)
    rw [hS, Ideal.div_coe hS0.ne', zero_mul, zero_mul]

section Body
variable (c : Dev nD) (bd : Option Variants.none.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x1x768 .f32) (harg4 : arg4.IsWhole) (arg5 : Memref sig .tc .vmem S4096x128 .bf16) (harg5 : arg5.IsWhole) (arg6 : Memref sig .tc .vmem S4608x128 .bf16) (harg6 : arg6.IsWhole) (arg7 : Memref sig .tc .vmem S4608x128 .bf16) (harg7 : arg7.IsWhole)
  (X1 : BufTy.Contents (Elt Ideal) arg1.view.ty) (X6 : BufTy.Contents (Elt Ideal) arg6.view.ty) (X7 : BufTy.Contents (Elt Ideal) arg7.view.ty)
  (h1 : arg1.view.read (Elt Ideal) X1 = x0) (h6 : arg6.view.read (Elt Ideal) X6 = kpad x1) (h7 : arg7.view.read (Elt Ideal) X7 = vpad x2)

include h1 h6 h7

/-- The store of one trip holds the head's result at its own elements. -/
theorem trip_out (k : Fin k0_t1_loop.trips) : View.PiecesOf (headOut H)
    (trip_k0_t1 (F := Ideal) Variants.none c bd i arg1 harg1 arg2 harg2 arg3 harg3 arg4 harg4 arg5 harg5 arg6 harg6 arg7 harg7 (k0_pay6 x3) (iota .tc S256x768 32 [0] iota_S256x768_d0_w32) 64#32 k0_pay7 k0_pay8 k0_pay9 X1 X6 X7 k).1 := by
  have r1 : View.readAt (Elt Ideal) arg1.view (Rect.unit (s := S4096x128) (k0_off1 k) S256x128.size (k0_off1_inb k)).toLoadRect X1 = rowsQ x0 k :=
    (View.readAt_unit _ _ _ rfl (k0_off1_inb k)).trans (congrArg (fun z => VecWindow.window (s := S4096x128) z (k0_off1 k) S256x128.size (k0_off1_inb k)) h1)
  have r6 : View.readAt (Elt Ideal) arg6.view (Rect.unit (s := S4608x128) (k0_off2 k) S768x128.size (k0_off2_inb k)).toLoadRect X6 = rowsK (kpad x1) k :=
    (View.readAt_unit _ _ _ rfl (k0_off2_inb k)).trans (congrArg (fun z => VecWindow.window (s := S4608x128) z (k0_off2 k) S768x128.size (k0_off2_inb k)) h6)
  have r7 : View.readAt (Elt Ideal) arg7.view (Rect.unit (s := S4608x128) (k0_off2 k) S768x128.size (k0_off2_inb k)).toLoadRect X7 = rowsK (vpad x2) k :=
    (View.readAt_unit _ _ _ rfl (k0_off2_inb k)).trans (congrArg (fun z => VecWindow.window (s := S4608x128) z (k0_off2 k) S768x128.size (k0_off2_inb k)) h7)
  have key : ∀ x : S256x128.Idx, step x3 k (View.readAt (Elt Ideal) arg1.view (Rect.unit (s := S4096x128) (k0_off1 k) S256x128.size (k0_off1_inb k)).toLoadRect X1)
      (View.readAt (Elt Ideal) arg6.view (Rect.unit (s := S4608x128) (k0_off2 k) S768x128.size (k0_off2_inb k)).toLoadRect X6)
      (View.readAt (Elt Ideal) arg7.view (Rect.unit (s := S4608x128) (k0_off2 k) S768x128.size (k0_off2_inb k)).toLoadRect X7) x = headOut H ((Rect.unit (s := S4096x128) (k0_off1 k) S256x128.size (k0_off1_inb k)).emb x) := by
    intro x
    rw [r1, r6, r7]
    obtain ⟨r, d, rfl⟩ : ∃ a b, x = ix2 a b := ⟨x 0, x 1, eq_ix2 x⟩
    rw [step_eq B hr hs]
    have hr' := r.isLt
    have e0 : ((Rect.unit (s := S4096x128) (k0_off1 k) S256x128.size (k0_off1_inb k)).emb (ix2 r d) 0).val = 256 * k.val + r.val := by
      show k0_off1 k 0 + 1 * r.val = _
      rw [off1_eq]
      show 256 * k.val + 1 * r.val = _
      omega
    have e1 : (Rect.unit (s := S4096x128) (k0_off1 k) S256x128.size (k0_off1_inb k)).emb (ix2 r d) 1 = d := Fin.ext (by
      show k0_off1 k 1 + 1 * d.val = _
      rw [off1_eq]
      show 0 + 1 * d.val = _
      omega)
    unfold headOut
    rw [e0, e1]
    congr 1
    · omega
    · omega
  unfold trip_k0_t1
  sl_unfold_words
  dsimp only [View.PiecesOf]
  exact And.intro key True.intro

/-- So do all the stores of the trips before any trip. -/
theorem trips_out : ∀ n : ℕ, n ≤ k0_t1_loop.trips →
    ∀ p ∈ pb_k0_t1 (F := Ideal) Variants.none c bd i arg1 harg1 arg2 harg2 arg3 harg3 arg4 harg4 arg5 harg5 arg6 harg6 arg7 harg7 (k0_pay6 x3) (iota .tc S256x768 32 [0] iota_S256x768_d0_w32) 64#32 k0_pay7 k0_pay8 k0_pay9 X1 X6 X7 n, ∀ x : p.1.shape.Idx, p.2 x = headOut H (p.1.emb x)
  | 0, _ => fun _ h => absurd h List.not_mem_nil
  | n + 1, hn => by
    have ih := trips_out n (by omega)
    rw [pb_k0_t1_succ Variants.none c bd i arg1 harg1 arg2 harg2 arg3 harg3 arg4 harg4 arg5 harg5 arg6 harg6 arg7 harg7 _ _ _ _ _ _ _ _ _ ⟨n, hn⟩]
    intro p hp
    rcases List.mem_append.1 hp with h | h
    · exact (trip_out B hr hs c bd i arg1 harg1 arg2 harg2 arg3 harg3 arg4 harg4 arg5 harg5 arg6 harg6 arg7 harg7 X1 X6 X7 h1 h6 h7 ⟨n, hn⟩).mem p h
    · exact ih p h

end Body

section Out
variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x1x768 .f32) (harg4 : arg4.IsWhole) (arg5 : Memref sig .tc .vmem S4096x128 .bf16) (harg5 : arg5.IsWhole) (arg6 : Memref sig .tc .vmem S4608x128 .bf16) (harg6 : arg6.IsWhole) (arg7 : Memref sig .tc .vmem S4608x128 .bf16) (harg7 : arg7.IsWhole)

/-- The block of the result after the body. -/
theorem out_eq (y : S4096x128.Idx) :
    out0_A_4 (F := Ideal) c i arg1 harg1 arg2 harg2 arg3 harg3 arg4 harg4 arg5 harg5 arg6 harg6 arg7 harg7 x0 x1 x2 x3 y = headOut H y := by
  unfold out0_A_4
  rw [View.read_writes_junk_eq_canon]
  refine View.canon_apply_of_pieces (headOut H) _ ?_ y (cover0_A_4 c i arg1 harg1 arg2 harg2 arg3 harg3 arg4 harg4 arg5 harg5 arg6 harg6 arg7 harg7 x0 x1 x2 x3 y)
  unfold kernelRun0_A
  dsimp only
  have hb : kernelRun0_A.sl.r c arg4 harg4 x3 = k0_pay6 x3 := by
    sl_unfold_words
    rw [View.readAt_full, harg4.read_unread]
  rw [hb]
  refine trips_out B hr hs c none i arg1 harg1 arg2 harg2 arg3 harg3 arg4 harg4 arg5 harg5 arg6 harg6 arg7 harg7 _ _ _ (harg1.read_unread x0) ?_ ?_ _ le_rfl
  · sl_unfold_words
    rw [View.read_writes_cons_put _ _ _ _ _ rfl, View.read_writes_cons_put _ _ _ _ _ rfl, View.writes_nil, View.readAt_full, harg2.read_unread]
    exact padded_base _ _ _
  · sl_unfold_words
    rw [View.read_writes_cons_put _ _ _ _ _ rfl, View.read_writes_cons_put _ _ _ _ _ rfl, View.writes_nil, View.readAt_full, harg3.read_unread]
    exact padded_base _ _ _

end Out

end Values

end Cert.Kernel7Ideal.Fwd

end
-- ==== Proof.FwdArr.lean ====
module

public import proofs.«01_k».proof.Proof.FwdRun
public import proofs.«01_k».proof.Proof.Gen.Kernel7Ideal.Frame
public import Idealize.ShloMosaic.Lib.Pipeline.ValueKit

@[expose] public section

set_option maxRecDepth 16384
set_option pp.deepTerms false
set_option pp.maxSteps 1500

noncomputable section

namespace Cert.Kernel7Ideal.Fwd

open Idealize.ShloMosaic Idealize.ShloMosaic.TcCoe Idealize.ShloMosaic.Tactic
open Idealize.SL.Sem
open Idealize.ShloMosaic.Pipeline (Dat Cfg Window)
open Cert.Kernel7Ideal Cert.Kernel7Ideal.Gen Cert.Band

variable (m : (ℓ : Loc nD τ sig) → Buf (Elt Ideal) ℓ)

/-- A head of the arguments as launched. -/
def hd (c : Dev nD) (h : Fin 8) : Head := headOf (m ((c.tc : Thread nD τ).loc main_arg0)) (m ((c.tc : Thread nD τ).loc main_arg1)) (fun _ => 0) h

/-- The head of a grid point. -/
def pt (t : Fin cfg0.N) : Fin 8 := ⟨t.val, lt_of_lt_of_eq t.isLt N_0⟩

theorem index_q : ∀ t : Fin grid0.N, win0_0.index t 0 = 0 ∧ win0_0.index t 1 = 16 + t.val := by decide +kernel
theorem index_k : ∀ t : Fin grid0.N, win0_1.index t 0 = 0 ∧ win0_1.index t 1 = 24 + t.val := by decide +kernel
theorem index_v : ∀ t : Fin grid0.N, win0_2.index t 0 = 0 ∧ win0_2.index t 1 = 32 + t.val := by decide +kernel
theorem index_b : ∀ t : Fin grid0.N, win0_3.index t 0 = t.val ∧ win0_3.index t 1 = 0 ∧ win0_3.index t 2 = 0 := by decide +kernel
theorem index_o : ∀ t : Fin grid0.N, win0_4.index t 0 = 0 ∧ win0_4.index t 1 = t.val := by decide +kernel

theorem block_q (c : Dev nD) (t : Fin cfg0.N) (n : Fin 4096) (d : Fin 128) :
    @Eq EReal (iblk m c 0 t (ix2 n d)) ((hd m c (pt t)).Q n d) := by
  have h := index_q t
  show _ = dite _ _ _
  rw [dif_pos n.isLt, ← V_main_arg0 m c]
  blk_ext [iblk, h.1, h.2, pt]

theorem block_k (c : Dev nD) (t : Fin cfg0.N) (n : Fin 4096) (d : Fin 128) :
    @Eq EReal (iblk m c 1 t (ix2 n d)) ((hd m c (pt t)).K n d) := by
  have h := index_k t
  show _ = dite _ _ _
  rw [dif_pos n.isLt, ← V_main_arg0 m c]
  blk_ext [iblk, h.1, h.2, pt]

theorem block_v (c : Dev nD) (t : Fin cfg0.N) (n : Fin 4096) (d : Fin 128) :
    @Eq EReal (iblk m c 2 t (ix2 n d)) ((hd m c (pt t)).V n d) := by
  have h := index_v t
  show _ = dite _ _ _
  rw [dif_pos n.isLt, ← V_main_arg0 m c]
  blk_ext [iblk, h.1, h.2, pt]

/-- The rows of the bias, by lane, that the host builds from the table. -/
def biasRows (x : Vec Ideal S8x257 .f32) : Vec Ideal S8x1x768 .f32 :=
  broadcastInDim S8x1x768 ![0, 2] bcast_S8x768_S8x1x768_0_2
    (concatenate S8x768 1 [⟨S8x448, broadcastInDim S8x448 ![0, 1] bcast_S8x1_S8x448_0_1 (extractStridedSlice S8x1 ![0, 256] x slices_S8x257_S8x1_0_256)⟩,
      ⟨S8x191, Host.reverse [1] (extractStridedSlice S8x191 ![0, 65] x slices_S8x257_S8x191_0_65)⟩,
      ⟨S8x129, broadcastInDim S8x129 ![] bcast_S_S8x129 (constant (F := Ideal) S_ .f32 0x00000000#32)⟩] concatenates_S8x448_S8x191_S8x129_S8x768_d1)

theorem bias_term (c : Dev nD) : V m c main_v6 = biasRows (m ((c.tc : Thread nD τ).loc main_arg1)) := by
  unfold V
  after_results_simp
  all_goals rfl

theorem biasRows_apply (x : Vec Ideal S8x257 .f32) (h : Fin 8) (o : Fin 768) (ho : o.val < 639) :
    biasRows x (ix3 h 0 o) = x (ix2 h ⟨min (703 - o.val) 256, by omega⟩) := by
  pointwise [biasRows]
  by_cases h1 : o.val < 448
  · rw [dif_pos h1]
    exact congrArg (fun k => x (ix2 h k)) (Fin.ext (by show 256 = min (703 - o.val) 256; omega))
  · rw [dif_neg h1, dif_pos (show o.val - 448 < 191 by omega)]
    refine congrArg₂ (fun a b => x (ix2 a b)) (if_neg (by decide)) (Fin.ext ?_)
    refine (congrArg (fun k => 65 + Fin.val k) (if_pos (by decide))).trans ?_
    show 65 + (191 - (o.val - 448 + 1)) = min (703 - o.val) 256
    omega

theorem bias_row (c : Dev nD) (h : Fin 8) (o : Fin 768) (ho : o.val < 639) :
    @Eq EReal (V m c main_v6 (ix3 h 0 o)) (m ((c.tc : Thread nD τ).loc main_arg1) (ix2 h ⟨min (703 - o.val) 256, by omega⟩)) :=
  (congrFun (bias_term m c) _).trans (biasRows_apply _ h o ho)

/-- The blocks of a grid point hold its head. -/
theorem blocks (c : Dev nD) (t : Fin cfg0.N) : Blocks (hd m c (pt t)) (iblk m c 0 t) (iblk m c 1 t) (iblk m c 2 t) (iblk m c 3 t) where
  q := block_q m c t
  k := block_k m c t
  v := block_v m c t
  b q k hk := by
    have h := index_b t
    refine Eq.trans ?_ ((bias_row m c (pt t) ⟨k.val + 63 - q.val, hk⟩ (by simp only; omega)).trans ?_)
    · blk_ext [iblk, h.1, h.2.1, h.2.2, pt]
    · exact congrArg (fun k => m ((c.tc : Thread nD τ).loc main_arg1) (ix2 (pt t) k)) (Fin.ext (by show min (703 - (k.val + 63 - q.val)) 256 = min (640 + q.val - k.val) 256; omega))

/-- The head that a column of a result belongs to, and its place there. -/
def colHead (i : Fin 1024) : Fin 8 := ⟨i.val / 128, by omega⟩
def colAt (i : Fin 1024) : Fin 128 := ⟨i.val % 128, by omega⟩

section Real
variable (hr : ∀ c h, (hd m c h).Real) (hs : ∃ x : ℝ, scale = x)
include hr hs

/-- The array of the attention's output after the run. -/
theorem arr_o (c : Dev nD) : (dats m 0 c).arrAt 4 cfg0.N = (fun i => (hd m c (colHead (i 1))).O ((i 0).val / 64) ((i 0).val % 64) (colAt (i 1)) : S4096x1024.Idx → EReal) := by
  refine (dats m 0 c).arrAt_eq_of_covers 4 _ (by decide +kernel) fun t _ y => ?_
  have h := index_o t
  rw [after0_4]
  have e : ∀ z : S4096x128.Idx, outsAt0 m c t z = headOut (hd m c (pt t)) z := fun z => by
    unfold outsAt0
    exact out_eq (blocks m c t) (hr c _) hs _ _ _ _ _ _ _ _ _ _ _ _ _ _ _ _ z
  generalize outsAt0 m c t = o at e ⊢
  have hy : (y 1).val < 128 := (y 1).isLt
  have e1 : colHead (((cfg0.win 4).blk t).view.emb y 1) = pt t := Fin.ext (by
    show (((cfg0.win 4).blk t).view.emb y 1).val / 128 = t.val
    blk_simp [h.1, h.2]
    omega)
  have e2 : colAt (((cfg0.win 4).blk t).view.emb y 1) = y 1 := Fin.ext (by
    show (((cfg0.win 4).blk t).view.emb y 1).val % 128 = (y 1).val
    blk_simp [h.1, h.2]
    omega)
  have e0 : (((cfg0.win 4).blk t).view.emb y 0).val = (y 0).val := by
    blk_simp [h.1, h.2]
  refine (e y).trans ?_
  show _ = (hd m c (colHead (((cfg0.win 4).blk t).view.emb y 1))).O ((((cfg0.win 4).blk t).view.emb y 0).val / 64) ((((cfg0.win 4).blk t).view.emb y 0).val % 64) (colAt (((cfg0.win 4).blk t).view.emb y 1))
  rw [e1, e2, e0]
  rfl

/-- The program's run ends with the attention's output and its arguments unchanged. -/
theorem run_values (ρ : Dev nD → PrngReg) : θ_run defs (onTc (τ := τ) (main (F := Ideal))) ⟨m, fun _ => 0, ρ⟩ fun r => ∀ c : Dev nD,
    (r.2.mem ((c.tc : Thread nD τ).loc main_v7) = (fun i => (hd m c (colHead (i 1))).O ((i 0).val / 64) ((i 0).val % 64) (colAt (i 1)) : S4096x1024.Idx → EReal))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h.1 c).1 4).trans (arr_o m hr hs c), h.2 c⟩)
    (θ_run_and (run_main m ρ) (unchanged m ρ))

end Real

end Cert.Kernel7Ideal.Fwd

end
-- ==== Proof.FwdRef.lean ====
module

public import proofs.«01_k».proof.Proof.Gen.Reference7Ideal.Read
public import proofs.«01_k».proof.Proof.RefRead
public import proofs.«01_k».proof.Proof.FwdVal

@[expose] public section

set_option maxRecDepth 16384
set_option pp.deepTerms false
set_option pp.maxSteps 1500

noncomputable section

namespace Cert.Reference7Ideal.Fwd

open Idealize.ShloMosaic Idealize.ShloMosaic.TcCoe Idealize.ShloMosaic.StableHlo
open Cert.Reference7Ideal Cert.Reference7Ideal.Gen Cert.Reference7Ideal.Read
open Cert.Band
open Cert.ReferenceIdeal.Att (word_wrap word_rel select_ofBool reduce_top ofBits_bot gather_band gather_bias word_valid)

variable (x : S4096x12288.Idx → EReal) (b : S8x257.Idx → EReal)

/-- Head `h` of the program's arguments. -/
def hd (h : Fin 8) : Head := headOf x b (fun _ => 0) h

theorem read_q (c : Fin 64) (q : Fin 64) (h : Fin 8) (d : Fin 128) :
    val_main_v6 (F := Ideal) x (ix5 0 c q h d) = (hd x b h).Q (64 * c.val + q.val) d := by
  unfold val_main_v6 val_main_v1 val_main_v0
  pointwise
  unfold hd headOf
  simp only
  rw [dif_pos (by omega)]
  congr 3
  omega

theorem read_v18 (c : Fin 64) (j : Fin 9) : val_main_v18 (F := Ideal) (ix2 c j) = BitVec.ofNat 32 (c.val + j.val) := by
  unfold val_main_v18 val_main_v17 val_main_v16 val_main_v15 val_main_v14 val_main_v13 val_main_v12
  pointwise
  exact (BitVec.ofNat_add c.val j.val).symm

theorem read_v24 (c : Fin 64) (j : Fin 9) : val_main_v24 (F := Ideal) (ix3 c j 0) = BitVec.ofNat 32 (c.val + j.val) := by
  unfold val_main_v24 val_main_v23 val_main_v22 val_main_v21 val_main_v20 val_main_v19 val_main_c val_main_c_0
  pointwise
  rw [read_v18]
  exact word_wrap _ (by omega) _

theorem read_v32 (c : Fin 64) (j : Fin 9) : val_main_v32 (F := Ideal) (ix3 c j 0) = BitVec.ofNat 32 (c.val + j.val) := by
  unfold val_main_v32 val_main_v31 val_main_v30 val_main_v29 val_main_v28 val_main_v27 val_main_c_1 val_main_c_2
  pointwise
  rw [read_v18]
  exact word_wrap _ (by omega) _

theorem read_v55 (q : Fin 64) (k : Fin 576) : val_main_v55 (F := Ideal) (ix3 q k 0) = BitVec.ofNat 32 (rel q k).val := by
  have e : val_main_v49 (F := Ideal) (ix2 q k) = BitVec.ofNat 32 (rel q k).val := by
    unfold val_main_v49 val_main_v48 val_main_c_7 val_main_v47 val_main_call0_v4 val_main_call0_v3 val_main_call0_v2 val_main_call0_v1 val_main_call0_v0 val_main_c_5 val_main_c_6
      val_main_v46 val_main_v45 val_main_v44 val_main_v43 val_main_v42 val_main_v41 val_main_v40 val_main_v39 val_main_c_4 val_main_v38
    pointwise
    exact word_rel q k
  unfold val_main_v55 val_main_v54 val_main_v53 val_main_v52 val_main_v51 val_main_v50 val_main_c_8 val_main_c_9
  pointwise
  rw [e]
  exact word_wrap _ (by omega) _

theorem read_v9 (n : Fin 72) (i : Fin 64) (h : Fin 8) (d : Fin 128) :
    val_main_v9 (F := Ideal) x (ix5 0 n i h d) = padRows (hd x b h).K (64 * n.val + i.val) d := by
  unfold val_main_v9 val_main_v8 val_main_v7 val_main_v3 val_main_v2 val_main_cst
  pointwise
  unfold padRows hd headOf
  simp only
  by_cases hc : 64 * n.val + i.val < 512
  · rw [if_pos hc]
    exact dif_pos (show n.val < 8 by omega)
  · rw [if_neg hc, dif_pos (show 64 * n.val + i.val - 512 < 4096 by omega)]
    refine (dif_neg (show ¬ n.val < 8 by omega)).trans ?_
    congr 2
    exact Fin.ext (by show (n.val - 8) * 64 + i.val = 64 * n.val + i.val - 512; omega)

theorem read_v11 (n : Fin 72) (i : Fin 64) (h : Fin 8) (d : Fin 128) :
    val_main_v11 (F := Ideal) x (ix5 0 n i h d) = padRows (hd x b h).V (64 * n.val + i.val) d := by
  unfold val_main_v11 val_main_v10 val_main_v7 val_main_v5 val_main_v4 val_main_cst
  pointwise
  unfold padRows hd headOf
  simp only
  by_cases hc : 64 * n.val + i.val < 512
  · rw [if_pos hc]
    exact dif_pos (show n.val < 8 by omega)
  · rw [if_neg hc, dif_pos (show 64 * n.val + i.val - 512 < 4096 by omega)]
    refine (dif_neg (show ¬ n.val < 8 by omega)).trans ?_
    congr 2
    exact Fin.ext (by show (n.val - 8) * 64 + i.val = 64 * n.val + i.val - 512; omega)

/-- The row of a chunk and a place in it, from a place of a band. -/
theorem band_row (c k : ℕ) : 64 * (c + k / 64) + k % 64 = 64 * c + k := by omega

theorem read_k (c : Fin 64) (k : Fin 576) (h : Fin 8) (d : Fin 128) :
    val_main_v26 (F := Ideal) x (ix5 0 c k h d) = padRows (hd x b h).K (64 * c.val + k.val) d := by
  unfold val_main_v26 val_main_v25
  pointwise
  refine (gather_band _ _ c _ _ h d ⟨c.val + k.val / 64, by omega⟩ (read_v24 c _)).trans ((read_v9 x b _ _ h d).trans ?_)
  exact congrArg (fun n => padRows (hd x b h).K n d) (band_row c.val k.val)

theorem read_v (c : Fin 64) (k : Fin 576) (h : Fin 8) (d : Fin 128) :
    val_main_v34 (F := Ideal) x (ix5 0 c k h d) = padRows (hd x b h).V (64 * c.val + k.val) d := by
  unfold val_main_v34 val_main_v33
  pointwise
  refine (gather_band _ _ c _ _ h d ⟨c.val + k.val / 64, by omega⟩ (read_v32 c _)).trans ((read_v11 x b _ _ h d).trans ?_)
  exact congrArg (fun n => padRows (hd x b h).V n d) (band_row c.val k.val)

theorem read_valid (c : Fin 64) (h : Fin 8) (q : Fin 64) (k : Fin 576) :
    val_main_call1_v1 (F := Ideal) (ix5 0 c h q k) = BitVec.ofBool (decide (512 ≤ 64 * c.val + k.val)) := by
  unfold val_main_call1_v1 val_main_v69 val_main_v68 val_main_v67 val_main_c_12 val_main_v66 val_main_v65 val_main_v64 val_main_v63 val_main_v62 val_main_v61 val_main_c_11
    val_main_v60 val_main_v59 val_main_c_10 val_main_v58 val_main_v57 val_main_v41
  pointwise
  exact word_valid c k

theorem read_score (c : Fin 64) (h : Fin 8) (q : Fin 64) (k : Fin 576) :
    val_main_v37 (F := Ideal) x (ix5 0 c h q k) = (∑ d : Fin 128, (hd x b h).Q (64 * c.val + q.val) d * padRows (hd x b h).K (64 * c.val + k.val) d) * scale := by
  unfold val_main_v37 val_main_v36 val_main_cst_3 val_main_v35
  pointwise
  simp only [read_q x b, read_k x b]
  rfl

theorem read_bias (c : Fin 64) (h : Fin 8) (q : Fin 64) (k : Fin 576) :
    val_main_v71 (F := Ideal) b (ix5 0 c h q k) = b (ix2 h (rel q k)) := by
  unfold val_main_v71 val_main_v70 val_main_v56
  pointwise
  exact gather_bias _ _ h q k (rel q k) (read_v55 q k)

theorem read_logit (c : Fin 64) (h : Fin 8) (q : Fin 64) (k : Fin 576) :
    val_main_v73 (F := Ideal) x b (ix5 0 c h q k) = (hd x b h).logit c q k := by
  unfold val_main_v73 val_main_v72 val_main_call1_v2 val_main_call1_v0 val_main_cst_13
  pointwise
  rw [read_valid, read_score x b, read_bias, select_ofBool]
  unfold Head.logit
  split_ifs with hk
  · rfl
  · exact ofBits_bot

/-- The greatest score of each query, from any array of scores. -/
theorem top_shape (A : FVec Ideal S1x64x8x64x576 .f32) (M : FVec Ideal S_ .f32) (hM : M (Shape.Idx.first h_S_) = (⊥ : EReal)) (c : Fin 64) (h : Fin 8) (q : Fin 64) :
    Host.reduce FloatOps.maximumf A M reducesTo_S1x64x8x64x576_S1x64x8x64_d4 h_S_ (ix4 0 c h q) = Finset.univ.fold max (⊥ : EReal) (fun k : Fin 576 => A (ix5 0 c h q k)) := by
  refine (reduce_top A M _ _ 0 c h q).trans ?_
  rw [hM]

theorem bot_first : val_main_cst_14 (F := Ideal) (Shape.Idx.first h_S_) = (⊥ : EReal) := ofBits_bot

theorem read_v74 (c : Fin 64) (h : Fin 8) (q : Fin 64) : val_main_v74 (F := Ideal) x b (ix4 0 c h q) = (hd x b h).top c q := by
  have hA := read_logit x b c h q
  unfold val_main_v74
  generalize val_main_v73 (F := Ideal) x b = A at hA ⊢
  refine (top_shape A _ bot_first c h q).trans ?_
  unfold Head.top
  exact congrArg (fun f : Fin 576 → EReal => Finset.univ.fold max ⊥ f) (funext hA)

theorem read_v75 (c : Fin 64) (h : Fin 8) (q : Fin 64) : val_main_v75 (F := Ideal) (ix4 0 c h q) = (⊥ : EReal) := by
  rw [val_main_v75_apply, val_main_cst_15_apply]
  exact ofBits_bot

/-- The greater of two entries of which the first is the least number. -/
theorem max_below (Z T : FVec Ideal S1x64x8x64 .f32) (i : S1x64x8x64.Idx) {t : EReal} (hZ : Z i = (⊥ : EReal)) (hT : T i = t) : maximumf Z T i = t := by
  have e : maximumf Z T i = max (Z i : EReal) (T i) := rfl
  rw [e, hZ, hT]
  exact max_eq_right bot_le

theorem read_top (c : Fin 64) (h : Fin 8) (q : Fin 64) : val_main_v76 (F := Ideal) x b (ix4 0 c h q) = (hd x b h).top c q := by
  unfold val_main_v76
  exact max_below _ _ _ (read_v75 c h q) (read_v74 x b c h q)

theorem read_ex (c : Fin 64) (h : Fin 8) (q : Fin 64) (k : Fin 576) :
    val_main_v80 (F := Ideal) x b (ix5 0 c h q k) = (hd x b h).ex c q k := by
  have e := read_logit x b c h q k
  have e' := read_top x b c h q
  unfold val_main_v80 val_main_v79 val_main_v78 val_main_v77
  generalize val_main_v73 (F := Ideal) x b = A at e ⊢
  generalize val_main_v76 (F := Ideal) x b = T at e' ⊢
  pointwise
  rw [e, e']
  rfl

theorem read_tot (c : Fin 64) (h : Fin 8) (q : Fin 64) : val_main_v81 (F := Ideal) x b (ix4 0 c h q) = (hd x b h).tot c q := by
  have e := read_ex x b c h q
  unfold val_main_v81 val_main_cst_16
  generalize val_main_v80 (F := Ideal) x b = A at e ⊢
  pointwise
  simp only [e]
  rfl

theorem read_prob (c : Fin 64) (h : Fin 8) (q : Fin 64) (k : Fin 576) :
    val_main_v84 (F := Ideal) x b (ix5 0 c h q k) = (hd x b h).prob c q k := by
  have e := read_ex x b c h q k
  have e' := read_tot x b c h q
  unfold val_main_v84 val_main_v83 val_main_v82
  generalize val_main_v80 (F := Ideal) x b = A at e ⊢
  generalize val_main_v81 (F := Ideal) x b = T at e' ⊢
  pointwise
  rw [e, e']
  rfl

/-- The attention's output. -/
theorem read_out (n : Fin 4096) (h : Fin 8) (d : Fin 128) :
    val_main_v89 (F := Ideal) x b (ix2 n ⟨h.val * 128 + d.val, by omega⟩) = (hd x b h).O (n.val / 64) (n.val % 64) d := by
  unfold val_main_v89 val_main_v88 val_main_v87 val_main_v86 val_main_v85
  pointwise
  unfold Head.O
  refine Finset.sum_congr rfl fun k _ => ?_
  have e := read_prob x b ⟨n.val / 64, by omega⟩ h ⟨n.val % 64, by omega⟩ k
  have e' := read_v x b ⟨n.val / 64, by omega⟩ k h d
  exact (mul_comm _ _).trans (congrArg₂ (· * ·) e e')

end Cert.Reference7Ideal.Fwd

end
-- ==== Proof.FwdAgree.lean ====
module

public import proofs.«01_k».proof.Proof.FwdArr
public import proofs.«01_k».proof.Proof.FwdRef

@[expose] public section

set_option maxRecDepth 16384

noncomputable section

namespace Cert.Fwd

open Idealize.ShloMosaic Idealize.ShloMosaic.TcCoe Idealize.SL.Sem
open Cert.Band Cert.Kernel7Ideal.Fwd

variable (m : (ℓ : Loc Cert.Kernel7Ideal.nD Cert.Kernel7Ideal.τ Cert.Kernel7Ideal.sig) → Buf (Elt Ideal) ℓ)
  (m' : (ℓ : Loc Cert.Reference7Ideal.nD Cert.Reference7Ideal.τ Cert.Reference7Ideal.sig) → Buf (Elt Ideal) ℓ)

/-- The two programs' arguments on one device agree. -/
def Args (c : Dev Cert.Kernel7Ideal.nD) : Prop :=
  m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
  ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)

/-- Agreeing arguments have the same heads. -/
theorem hd_eq (c : Dev Cert.Kernel7Ideal.nD) (h : Args m m' c) (i : Fin 8) :
    Cert.Reference7Ideal.Fwd.hd (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) i = hd m c i := by
  rw [h.1, h.2]
  rfl

/-- A column of the result is a place of its head. -/
theorem col_eq (i : Fin 1024) : (⟨(colHead i).val * 128 + (colAt i).val, by have := (colHead i).isLt; have := (colAt i).isLt; omega⟩ : Fin 1024) = i :=
  Fin.ext (by show i.val / 128 * 128 + i.val % 128 = i.val; omega)

/-- The reference's run ends with the same result and its arguments unchanged. -/
theorem run_reference (ha : ∀ c, Args m m' c) (ρ : Dev Cert.Reference7Ideal.nD → PrngReg) :
    θ_run (Cert.Reference7Ideal.defs (F := Ideal)) (onTc (τ := Cert.Reference7Ideal.τ) (Cert.Reference7Ideal.main (F := Ideal))) ⟨m', fun _ => 0, ρ⟩ fun r => ∀ c : Dev Cert.Reference7Ideal.nD,
      (r.2.mem ((c.tc : Thread Cert.Reference7Ideal.nD Cert.Reference7Ideal.τ).loc Cert.Reference7Ideal.main_v89) = (fun i => (hd m c (colHead (i 1))).O ((i 0).val / 64) ((i 0).val % 64) (colAt (i 1)) : Cert.Kernel7Ideal.S4096x1024.Idx → EReal))
      ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1) := by
  refine (θ_run Cert.Reference7Ideal.defs _ _).mono (fun _ h c => ?_) (Cert.Reference7Ideal.Value.run (F := Ideal) m' ρ)
  obtain ⟨h0, h1⟩ := h c
  refine ⟨h0.trans (funext fun i => ?_), h1⟩
  refine (congrFun (Cert.Reference7Ideal.Read.val_main_v89_eq m' c) _).trans ?_
  obtain ⟨a, b, rfl⟩ : ∃ a b, i = ix2 a b := ⟨i 0, i 1, eq_ix2 i⟩
  have e := Cert.Reference7Ideal.Fwd.read_out (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) a (colHead b) (colAt b)
  rw [col_eq, hd_eq m m' c (ha c)] at e
  exact e

end Cert.Fwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.WordsLaunchRun
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal

public import proofs.«01_k».proof.Proof.Gen.ReferenceIdeal.Run
public import proofs.«01_k».proof.Proof.Agree
public import proofs.«01_k».proof.Proof.Gen.Kernel2.Frame
public import proofs.«01_k».proof.Proof.Gen.Kernel2Ideal.Frame
public import proofs.«01_k».proof.Proof.FfnAgree
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel6.Frame
public import proofs.«01_k».proof.Proof.Gen.Kernel6Ideal.Frame
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.Gen.Reference6Ideal.Run
public import proofs.«01_k».proof.Proof.Gen.Reference6Ideal.Read
public import proofs.«01_k».proof.Proof.ProjAgree
public import proofs.«01_k».proof.Proof.DhAgree
public import proofs.«01_k».proof.Proof.MergeAgree
public import proofs.«01_k».proof.Proof.BranchAgree
public import proofs.«01_k».proof.Proof.Gen.Kernel7
public import proofs.«01_k».proof.Proof.Gen.Kernel7.Skeleton
public import proofs.«01_k».proof.Proof.Gen.Kernel7.Loops
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.FwdFinite
public import proofs.«01_k».proof.Proof.FwdAgree
public import Idealize.ShloMosaic.Adequacy
public import Idealize.ShloMosaic.Init

@[expose] public section

noncomputable section

namespace Cert.Proof

open Idealize.ShloMosaic Idealize.SL.Sem Cert.Kernel

/-- The precondition makes every head of the kernel's arguments real. -/
theorem real (m : (ℓ : Loc Cert.KernelIdeal.nD Cert.KernelIdeal.τ Cert.KernelIdeal.sig) → Buf (Elt Ideal) ℓ) (h : Cert.Pre_KernelIdeal_finite (hPre_finite := Cert.Pre_finite.facts) m)
    (c : Dev Cert.KernelIdeal.nD) (i : Fin 8) : (Cert.KernelIdeal.Att.hd m c i).Real :=
  Cert.Pre_finite.real_of _ _ _ (h c).1 (h c).2 i

/-- The reference's run leaves its arguments and every counter as they were. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2.2, Idealize.ShloMosaic.sem_eq_zero_of_no_sems (by decide) r.2⟩) (Cert.ReferenceIdeal.Value.run (F := Ideal) m ρ)

/-- The second reference's run leaves its arguments and every counter as they were. -/
theorem frame_reference2 (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run Cert.Reference2Ideal.defs _ _).mono (fun r h => ⟨fun c => (h c).2.2.2.2.2, Idealize.ShloMosaic.sem_eq_zero_of_no_sems (by decide) r.2⟩) (Cert.Reference2Ideal.Value.run (F := Ideal) m ρ)

/-- The third reference's run leaves its arguments and every counter as they were. -/
theorem frame_reference3 (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run Cert.Reference3Ideal.defs _ _).mono (fun r h => ⟨fun c => (h c).2.2, Idealize.ShloMosaic.sem_eq_zero_of_no_sems (by decide) r.2⟩) (Cert.Reference3Ideal.Value.run (F := Ideal) m ρ)

/-- The fourth reference's run leaves its arguments and every counter as they were. -/
theorem frame_reference4 (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run Cert.Reference4Ideal.defs _ _).mono (fun r h => ⟨fun c => (h c).2, Idealize.ShloMosaic.sem_eq_zero_of_no_sems (by decide) r.2⟩) (Cert.Reference4Ideal.Value.run (F := Ideal) m ρ)

/-- The fifth reference's run leaves its arguments and every counter as they were. -/
theorem frame_reference5 (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0) :=
  (θ_run Cert.Reference5Ideal.defs _ _).mono (fun r h => ⟨fun c => (h c).2.2.2, Idealize.ShloMosaic.sem_eq_zero_of_no_sems (by decide) r.2⟩) (Cert.Reference5Ideal.Value.run (F := Ideal) m ρ)

/-- The sixth reference's run leaves its arguments and every counter as they were. -/
theorem frame_reference6 (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0) :=
  (θ_run Cert.Reference6Ideal.defs _ _).mono (fun r h => ⟨fun c => (h c).2.2.2.2.2.2.2, Idealize.ShloMosaic.sem_eq_zero_of_no_sems (by decide) r.2⟩) (Cert.Reference6Ideal.Value.run (F := Ideal) m ρ)

/-- The precondition of the seventh program makes every head of its arguments real. -/
theorem real7 (m : (ℓ : Loc Cert.Kernel7Ideal.nD Cert.Kernel7Ideal.τ Cert.Kernel7Ideal.sig) → Buf (Elt Ideal) ℓ) (h : Cert.Pre_Kernel7Ideal_finite7 (hPre_finite7 := Cert.Pre_finite7.facts) m)
    (c : Dev Cert.Kernel7Ideal.nD) (i : Fin 8) : (Cert.Kernel7Ideal.Fwd.hd m c i).Real :=
  Cert.Pre_finite7.real_of _ _ _ (h c).1 (h c).2 i

/-- The seventh reference's run leaves its arguments and every counter as they were. -/
theorem frame_reference7 (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0) :=
  (θ_run Cert.Reference7Ideal.defs _ _).mono (fun r h => ⟨fun c => (h c).2, Idealize.ShloMosaic.sem_eq_zero_of_no_sems (by decide) r.2⟩) (Cert.Reference7Ideal.Value.run (F := Ideal) m ρ)

/-- Everything claimed of the programs. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.facts, Cert.Pre_finite7.facts, by
  refine ⟨fun m ρ _ => Cert.Kernel.Att.frame m ρ, fun m ρ _ => Cert.KernelIdeal.Att.frame m ρ, fun m ρ _ => Cert.KernelIdeal.Att.frame m ρ,
    fun m ρ _ => frame_reference m ρ, fun m ρ _ => frame_reference m ρ, fun m ρ _ => Cert.Kernel2.Gen.frame m ρ, fun m ρ _ => Cert.Kernel2Ideal.Gen.frame m ρ,
    fun m ρ _ => frame_reference2 m ρ,
    fun m ρ _ => Cert.Kernel3.Gen.frame m ρ, fun m ρ _ => Cert.Kernel3Ideal.Gen.frame m ρ, fun m ρ _ => frame_reference3 m ρ,
    fun m ρ _ => Cert.Kernel4.Gen.frame m ρ, fun m ρ _ => Cert.Kernel4Ideal.Gen.frame m ρ, fun m ρ _ => frame_reference4 m ρ,
    fun m ρ _ => Cert.Kernel5.Gen.frame m ρ, fun m ρ _ => Cert.Kernel5Ideal.Gen.frame m ρ, fun m ρ _ => frame_reference5 m ρ,
    fun m ρ _ => Cert.Kernel6.Gen.frame m ρ, fun m ρ _ => Cert.Kernel6Ideal.Gen.frame m ρ, fun m ρ _ => frame_reference6 m ρ,
    fun m ρ _ => Cert.Kernel7.Gen.frame m ρ, fun m ρ _ => Cert.Kernel7Ideal.Gen.frame m ρ, fun m ρ _ => Cert.Kernel7Ideal.Gen.frame m ρ,
    fun m ρ _ => frame_reference7 m ρ, fun m ρ _ => frame_reference7 m ρ,
    ?_, ?_, trivial, ?_, trivial, ?_, trivial, ?_, trivial, ?_, trivial, ?_, ?_, ?_⟩
  · exact IdealRules.named_const.statement Cert.KernelIdeal.κ "mask" .f32 0xF149F2CA#32 ⊥ rfl
  · intro m ρ m' ρ' hp ha
    exact ⟨_, _, _, _, Cert.KernelIdeal.Att.run_values m ρ (real m hp) Cert.ReferenceIdeal.Att.scale_real, Cert.Agree.run_reference m m' (real m hp) ha ρ'⟩
  · intro m ρ m' ρ' _ ha
    exact ⟨_, _, _, _, _, Cert.Kernel2Ideal.Ffn.run_values m ρ, Cert.Ffn.run_reference m m' ha ρ'⟩
  · intro m ρ m' ρ' _ ha
    exact ⟨_, _, Cert.Kernel3Ideal.Proj.run_values m ρ, Cert.Proj.run_reference m m' ha ρ'⟩
  · intro m ρ m' ρ' _ ha
    exact ⟨_, Cert.Kernel4Ideal.Dh.run_values m ρ, Cert.Dh.run_reference m m' ha ρ'⟩
  · intro m ρ m' ρ' _ ha
    exact ⟨_, _, _, Cert.Kernel5Ideal.Merge.run_values m ρ, Cert.Merge.run_reference m m' ha ρ'⟩
  · intro m ρ m' ρ' _ ha
    exact ⟨_, _, _, _, _, _, _, Cert.Kernel6Ideal.Branch.run_values m ρ, Cert.Branch.run_reference m m' ha ρ'⟩
  · exact IdealRules.named_const.statement Cert.Kernel7Ideal.κ "mask" .f32 0xF149F2CA#32 ⊥ rfl
  · intro m ρ m' ρ' hp ha
    exact ⟨_, Cert.Kernel7Ideal.Fwd.run_values m (real7 m hp) Cert.ReferenceIdeal.Att.scale_real ρ, Cert.Fwd.run_reference m m' ha ρ'⟩⟩

end Cert.Proof

end
